-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "q_scale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_v36) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4112x16x128 : Shape := ⟨4, ![2, 4112, 16, 128]⟩
abbrev S16 : Shape := ⟨1, ![16]⟩
abbrev S_ : Shape := ⟨0, ![]⟩
abbrev S2x4352x16x128 : Shape := ⟨4, ![2, 4352, 16, 128]⟩
abbrev S2x4352x2048 : Shape := ⟨3, ![2, 4352, 2048]⟩
abbrev S256x256 : Shape := ⟨2, ![256, 256]⟩
abbrev S1x256x1024 : Shape := ⟨3, ![1, 256, 1024]⟩
abbrev S1x4352x1024 : Shape := ⟨3, ![1, 4352, 1024]⟩
abbrev S8x256x128 : Shape := ⟨3, ![8, 256, 128]⟩
abbrev S1x256x128 : Shape := ⟨3, ![1, 256, 128]⟩
abbrev S256x128 : Shape := ⟨2, ![256, 128]⟩
abbrev S1 : Shape := ⟨1, ![1]⟩
abbrev S256x1 : Shape := ⟨2, ![256, 1]⟩
abbrev S8x16x128 : Shape := ⟨3, ![8, 16, 128]⟩
abbrev S1x16x128 : Shape := ⟨3, ![1, 16, 128]⟩
abbrev S16x128 : Shape := ⟨2, ![16, 128]⟩
abbrev S16x256 : Shape := ⟨2, ![16, 256]⟩
abbrev S16x1 : Shape := ⟨2, ![16, 1]⟩
abbrev S240x1024 : Shape := ⟨2, ![240, 1024]⟩
abbrev S1x240x1024 : Shape := ⟨3, ![1, 240, 1024]⟩

abbrev nBuf : Space → Nat
  | .hbm => 25
  | .vmem => 11
  | .smem => 1
  | _ => 0

abbrev bufTy : (tb : Table) → Fin (tcTables nBuf tb) → BufTy
  | .hbm, ⟨0, _⟩ => ⟨S2x4112x16x128, .f32⟩
  | .hbm, ⟨1, _⟩ => ⟨S2x4112x16x128, .f32⟩
  | .hbm, ⟨2, _⟩ => ⟨S2x4112x16x128, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S2x4352x16x128, .f32⟩
  | .hbm, ⟨7, _⟩ => ⟨S2x4352x2048, .f32⟩
  | .hbm, ⟨8, _⟩ => ⟨S2x4352x2048, .bf16⟩
  | .hbm, ⟨9, _⟩ => ⟨S_, .i32⟩
  | .hbm, ⟨10, _⟩ => ⟨S_, .f32⟩
  | .hbm, ⟨11, _⟩ => ⟨S2x4352x16x128, .f32⟩
  | .hbm, ⟨12, _⟩ => ⟨S2x4352x2048, .f32⟩
  | .hbm, ⟨13, _⟩ => ⟨S2x4352x2048, .bf16⟩
  | .hbm, ⟨14, _⟩ => ⟨S_, .i32⟩
  | .hbm, ⟨15, _⟩ => ⟨S_, .f32⟩
  | .hbm, ⟨16, _⟩ => ⟨S2x4352x16x128, .f32⟩
  | .hbm, ⟨17, _⟩ => ⟨S2x4352x2048, .f32⟩
  | .hbm, ⟨18, _⟩ => ⟨S2x4352x2048, .bf16⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .bf16⟩
  | .hbm, ⟨23, _⟩ => ⟨S256x256, .bf16⟩
  | .hbm, ⟨24, _⟩ => ⟨S2x4352x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x1024, .bf16⟩
  | .local _ .vmem, ⟨3, _⟩ => ⟨S1x4352x1024, .bf16⟩
  | .local _ .vmem, ⟨4, _⟩ => ⟨S1x4352x1024, .bf16⟩
  | .local _ .vmem, ⟨5, _⟩ => ⟨S1x4352x1024, .bf16⟩
  | .local _ .vmem, ⟨6, _⟩ => ⟨S256x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S8x256x128, .f32⟩
  | .local _ .vmem, ⟨10, _⟩ => ⟨S8x256x128, .f32⟩
  | .local _ .smem, ⟨0, _⟩ => ⟨S16, .f32⟩
  | _, _ => ⟨S2x4112x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 17], ![false, false, false]⟩

def k0_cond1 (i : grid0.Coords) : BitVec 1 :=
  let arg2 : BitVec 32 := BitVec.ofNat 32 (i 2).val
  let c16_i32 : BitVec 32 := 16#32
  let v2 : BitVec 1 := Scalar.cmpi .ne arg2 c16_i32
  let v3 : BitVec 32 := Scalar.extui v2
  let c0_i32 : BitVec 32 := 0#32
  let v4 : BitVec 1 := Scalar.cmpi .ne v3 c0_i32
  v4

def k0_mult1 (i : grid0.Coords) : BitVec 32 :=
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32 : BitVec 32 := 256#32
  let v18 : BitVec 32 := Scalar.muli v17 c256_i32
  v18
def k0_mult2 (i : grid0.Coords) : BitVec 32 :=
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  v20
def k0_off1 (i : grid0.Coords) : Fin 3 → Nat :=
  let c0_16 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v28 : Index := Scalar.indexCast v21
  let c0_17 : Index := 0#32
  ![0, v28.toNat, 0]
def k0_off2 (i : grid0.Coords) (c0_i32_19 : BitVec 32) : Fin 1 → Nat :=
  let arg1 : BitVec 32 := BitVec.ofNat 32 (i 1).val
  let c8_i32 : BitVec 32 := 8#32
  let v32 : BitVec 32 := Scalar.muli arg1 c8_i32
  let v33 : BitVec 32 := Scalar.addi v32 c0_i32_19
  let v34 : Index := Scalar.indexCast v33
  ![v34.toNat]
def k0_off3 (i : grid0.Coords) : Fin 3 → Nat :=
  let c0_24 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v45 : Index := Scalar.indexCast v21
  let c128_25 : Index := 128#32
  ![0, v45.toNat, 128]
def k0_off4 (i : grid0.Coords) : Fin 3 → Nat :=
  let c0_33 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v62 : Index := Scalar.indexCast v21
  let c256_34 : Index := 256#32
  ![0, v62.toNat, 256]
def k0_off5 (i : grid0.Coords) : Fin 3 → Nat :=
  let c0_41 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v79 : Index := Scalar.indexCast v21
  let c384_42 : Index := 384#32
  ![0, v79.toNat, 384]
def k0_off6 (i : grid0.Coords) : Fin 3 → Nat :=
  let c0_49 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v96 : Index := Scalar.indexCast v21
  let c512_50 : Index := 512#32
  ![0, v96.toNat, 512]
def k0_off7 (i : grid0.Coords) : Fin 3 → Nat :=
  let c0_57 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v113 : Index := Scalar.indexCast v21
  let c640_58 : Index := 640#32
  ![0, v113.toNat, 640]
def k0_off8 (i : grid0.Coords) : Fin 3 → Nat :=
  let c0_65 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v130 : Index := Scalar.indexCast v21
  let c768_66 : Index := 768#32
  ![0, v130.toNat, 768]
def k0_off9 (i : grid0.Coords) : Fin 3 → Nat :=
  let c0_73 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v147 : Index := Scalar.indexCast v21
  let c896_74 : Index := 896#32
  ![0, v147.toNat, 896]
@[reducible] def k0_t1_loop (i : grid0.Coords) : Scf.Loop 32 :=
  let c0_i32_252 : BitVec 32 := 0#32
  let arg2 : BitVec 32 := BitVec.ofNat 32 (i 2).val
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_254 : BitVec 32 := 1#32
  ⟨c0_i32_252, v508, c1_i32_254⟩
def k0_mult3 (i : grid0.Coords) (k0_t1 : Fin (k0_t1_loop i).trips) : BitVec 32 :=
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_306 : BitVec 32 := 256#32
  let v560 : BitVec 32 := Scalar.muli v559 c256_i32_306
  v560
def k0_mult4 (i : grid0.Coords) (k0_t1 : Fin (k0_t1_loop i).trips) : BitVec 32 :=
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  v562
def k0_off10 (i : grid0.Coords) (k0_t1 : Fin (k0_t1_loop i).trips) : Fin 3 → Nat :=
  let c0_312 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v570 : Index := Scalar.indexCast v563
  let c0_313 : Index := 0#32
  ![0, v570.toNat, 0]
def k0_off11 (i : grid0.Coords) (c0_i32_316 : BitVec 32) : Fin 1 → Nat :=
  let arg1 : BitVec 32 := BitVec.ofNat 32 (i 1).val
  let c8_i32_315 : BitVec 32 := 8#32
  let v574 : BitVec 32 := Scalar.muli arg1 c8_i32_315
  let v575 : BitVec 32 := Scalar.addi v574 c0_i32_316
  let v576 : Index := Scalar.indexCast v575
  ![v576.toNat]
def k0_off12 (i : grid0.Coords) (k0_t1 : Fin (k0_t1_loop i).trips) : Fin 3 → Nat :=
  let c0_322 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v587 : Index := Scalar.indexCast v563
  let c128_323 : Index := 128#32
  ![0, v587.toNat, 128]
def k0_off13 (i : grid0.Coords) (k0_t1 : Fin (k0_t1_loop i).trips) : Fin 3 → Nat :=
  let c0_332 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v604 : Index := Scalar.indexCast v563
  let c256_333 : Index := 256#32
  ![0, v604.toNat, 256]
def k0_off14 (i : grid0.Coords) (k0_t1 : Fin (k0_t1_loop i).trips) : Fin 3 → Nat :=
  let c0_342 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v621 : Index := Scalar.indexCast v563
  let c384_343 : Index := 384#32
  ![0, v621.toNat, 384]
def k0_off15 (i : grid0.Coords) (k0_t1 : Fin (k0_t1_loop i).trips) : Fin 3 → Nat :=
  let c0_352 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v638 : Index := Scalar.indexCast v563
  let c512_353 : Index := 512#32
  ![0, v638.toNat, 512]
def k0_off16 (i : grid0.Coords) (k0_t1 : Fin (k0_t1_loop i).trips) : Fin 3 → Nat :=
  let c0_362 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v655 : Index := Scalar.indexCast v563
  let c640_363 : Index := 640#32
  ![0, v655.toNat, 640]
def k0_off17 (i : grid0.Coords) (k0_t1 : Fin (k0_t1_loop i).trips) : Fin 3 → Nat :=
  let c0_372 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v672 : Index := Scalar.indexCast v563
  let c768_373 : Index := 768#32
  ![0, v672.toNat, 768]
def k0_off18 (i : grid0.Coords) (k0_t1 : Fin (k0_t1_loop i).trips) : Fin 3 → Nat :=
  let c0_382 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_254 : BitVec 32 := 1#32
  let arg11 : BitVec 32 := Scf.iv c0_i32_252 c1_i32_254 k0_t1
  let v559 : BitVec 32 := Scalar.subi v558 arg11
  let c256_i32_307 : BitVec 32 := 256#32
  let v562 : BitVec 32 := Scalar.muli v559 c256_i32_307
  let v563 : BitVec 32 := v562
  let v689 : Index := Scalar.indexCast v563
  let c896_383 : Index := 896#32
  ![0, v689.toNat, 896]
@[reducible] def k0_t2_loop (i : grid0.Coords) : Scf.Loop 32 :=
  let c0_i32_252 : BitVec 32 := 0#32
  let arg2 : BitVec 32 := BitVec.ofNat 32 (i 2).val
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let v505 : BitVec 32 := Scalar.addi c0_i32_252 v504
  let c1_i32_255 : BitVec 32 := 1#32
  ⟨v508, v505, c1_i32_255⟩
def k0_mult5 (i : grid0.Coords) (k0_t2 : Fin (k0_t2_loop i).trips) : BitVec 32 :=
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_306 : BitVec 32 := 256#32
  let v560 : BitVec 32 := Scalar.muli v559 c256_i32_306
  v560
def k0_mult6 (i : grid0.Coords) (k0_t2 : Fin (k0_t2_loop i).trips) : BitVec 32 :=
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  v562
def k0_off19 (i : grid0.Coords) (k0_t2 : Fin (k0_t2_loop i).trips) : Fin 3 → Nat :=
  let c0_312 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v570 : Index := Scalar.indexCast v563
  let c0_313 : Index := 0#32
  ![0, v570.toNat, 0]
def k0_off20 (i : grid0.Coords) (c0_i32_316 : BitVec 32) : Fin 1 → Nat :=
  let arg1 : BitVec 32 := BitVec.ofNat 32 (i 1).val
  let c8_i32_315 : BitVec 32 := 8#32
  let v574 : BitVec 32 := Scalar.muli arg1 c8_i32_315
  let v575 : BitVec 32 := Scalar.addi v574 c0_i32_316
  let v576 : Index := Scalar.indexCast v575
  ![v576.toNat]
def k0_off21 (i : grid0.Coords) (k0_t2 : Fin (k0_t2_loop i).trips) : Fin 3 → Nat :=
  let c0_322 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v587 : Index := Scalar.indexCast v563
  let c128_323 : Index := 128#32
  ![0, v587.toNat, 128]
def k0_off22 (i : grid0.Coords) (k0_t2 : Fin (k0_t2_loop i).trips) : Fin 3 → Nat :=
  let c0_332 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v604 : Index := Scalar.indexCast v563
  let c256_333 : Index := 256#32
  ![0, v604.toNat, 256]
def k0_off23 (i : grid0.Coords) (k0_t2 : Fin (k0_t2_loop i).trips) : Fin 3 → Nat :=
  let c0_342 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v621 : Index := Scalar.indexCast v563
  let c384_343 : Index := 384#32
  ![0, v621.toNat, 384]
def k0_off24 (i : grid0.Coords) (k0_t2 : Fin (k0_t2_loop i).trips) : Fin 3 → Nat :=
  let c0_352 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v638 : Index := Scalar.indexCast v563
  let c512_353 : Index := 512#32
  ![0, v638.toNat, 512]
def k0_off25 (i : grid0.Coords) (k0_t2 : Fin (k0_t2_loop i).trips) : Fin 3 → Nat :=
  let c0_362 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v655 : Index := Scalar.indexCast v563
  let c640_363 : Index := 640#32
  ![0, v655.toNat, 640]
def k0_off26 (i : grid0.Coords) (k0_t2 : Fin (k0_t2_loop i).trips) : Fin 3 → Nat :=
  let c0_372 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v672 : Index := Scalar.indexCast v563
  let c768_373 : Index := 768#32
  ![0, v672.toNat, 768]
def k0_off27 (i : grid0.Coords) (k0_t2 : Fin (k0_t2_loop i).trips) : Fin 3 → Nat :=
  let c0_382 : Index := 0#32
  let arg2 : BitVec 32 := BitVec.ofNat 32 (i 2).val
  let c1_i32_304 : BitVec 32 := 1#32
  let v557 : BitVec 32 := Scalar.muli arg2 c1_i32_304
  let c1_i32_305 : BitVec 32 := 1#32
  let v558 : BitVec 32 := Scalar.subi v557 c1_i32_305
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t2
  let v559 : BitVec 32 := Scalar.subi v558 arg11
  let c256_i32_307 : BitVec 32 := 256#32
  let v562 : BitVec 32 := Scalar.muli v559 c256_i32_307
  let v563 : BitVec 32 := v562
  let v689 : Index := Scalar.indexCast v563
  let c896_383 : Index := 896#32
  ![0, v689.toNat, 896]
def k0_cond2 (i : grid0.Coords) : BitVec 1 :=
  let arg2 : BitVec 32 := BitVec.ofNat 32 (i 2).val
  let c16_i32_1 : BitVec 32 := 16#32
  let v5 : BitVec 1 := Scalar.cmpi .eq arg2 c16_i32_1
  let v6 : BitVec 32 := Scalar.extui v5
  let c0_i32_2 : BitVec 32 := 0#32
  let v7 : BitVec 1 := Scalar.cmpi .ne v6 c0_i32_2
  v7

def k0_mult7 (i : grid0.Coords) : BitVec 32 :=
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32 : BitVec 32 := 256#32
  let v18 : BitVec 32 := Scalar.muli v17 c256_i32
  v18
def k0_mult8 (i : grid0.Coords) : BitVec 32 :=
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  v20
def k0_off28 (i : grid0.Coords) : Fin 3 → Nat :=
  let c0_16 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v28 : Index := Scalar.indexCast v21
  let c0_17 : Index := 0#32
  ![0, v28.toNat, 0]
def k0_off29 (i : grid0.Coords) (c0_i32_19 : BitVec 32) : Fin 1 → Nat :=
  let arg1 : BitVec 32 := BitVec.ofNat 32 (i 1).val
  let c8_i32 : BitVec 32 := 8#32
  let v32 : BitVec 32 := Scalar.muli arg1 c8_i32
  let v33 : BitVec 32 := Scalar.addi v32 c0_i32_19
  let v34 : Index := Scalar.indexCast v33
  ![v34.toNat]
def k0_off30 (i : grid0.Coords) : Fin 3 → Nat :=
  let c0_24 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v45 : Index := Scalar.indexCast v21
  let c128_25 : Index := 128#32
  ![0, v45.toNat, 128]
def k0_off31 (i : grid0.Coords) : Fin 3 → Nat :=
  let c0_33 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v62 : Index := Scalar.indexCast v21
  let c256_34 : Index := 256#32
  ![0, v62.toNat, 256]
def k0_off32 (i : grid0.Coords) : Fin 3 → Nat :=
  let c0_41 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v79 : Index := Scalar.indexCast v21
  let c384_42 : Index := 384#32
  ![0, v79.toNat, 384]
def k0_off33 (i : grid0.Coords) : Fin 3 → Nat :=
  let c0_49 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v96 : Index := Scalar.indexCast v21
  let c512_50 : Index := 512#32
  ![0, v96.toNat, 512]
def k0_off34 (i : grid0.Coords) : Fin 3 → Nat :=
  let c0_57 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v113 : Index := Scalar.indexCast v21
  let c640_58 : Index := 640#32
  ![0, v113.toNat, 640]
def k0_off35 (i : grid0.Coords) : Fin 3 → Nat :=
  let c0_65 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v130 : Index := Scalar.indexCast v21
  let c768_66 : Index := 768#32
  ![0, v130.toNat, 768]
def k0_off36 (i : grid0.Coords) : Fin 3 → Nat :=
  let c0_73 : Index := 0#32
  let arg2 : BitVec 32 := BitVec.ofNat 32 (i 2).val
  let c1_i32 : BitVec 32 := 1#32
  let v16 : BitVec 32 := Scalar.muli arg2 c1_i32
  let c0_i32_10 : BitVec 32 := 0#32
  let v17 : BitVec 32 := Scalar.addi v16 c0_i32_10
  let c256_i32_11 : BitVec 32 := 256#32
  let v20 : BitVec 32 := Scalar.muli v17 c256_i32_11
  let v21 : BitVec 32 := v20
  let v147 : Index := Scalar.indexCast v21
  let c896_74 : Index := 896#32
  ![0, v147.toNat, 896]
@[reducible] def k0_t3_loop (i : grid0.Coords) : Scf.Loop 32 :=
  let c0_i32_252 : BitVec 32 := 0#32
  let arg2 : BitVec 32 := BitVec.ofNat 32 (i 2).val
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_254 : BitVec 32 := 1#32
  ⟨c0_i32_252, v508, c1_i32_254⟩
def k0_mult9 (i : grid0.Coords) (k0_t3 : Fin (k0_t3_loop i).trips) : BitVec 32 :=
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_309 : BitVec 32 := 256#32
  let v564 : BitVec 32 := Scalar.muli v563 c256_i32_309
  v564
def k0_mult10 (i : grid0.Coords) (k0_t3 : Fin (k0_t3_loop i).trips) : BitVec 32 :=
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  v566
def k0_off37 (i : grid0.Coords) (k0_t3 : Fin (k0_t3_loop i).trips) : Fin 3 → Nat :=
  let c0_315 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v574 : Index := Scalar.indexCast v567
  let c0_316 : Index := 0#32
  ![0, v574.toNat, 0]
def k0_off38 (i : grid0.Coords) (c0_i32_319 : BitVec 32) : Fin 1 → Nat :=
  let arg1 : BitVec 32 := BitVec.ofNat 32 (i 1).val
  let c8_i32_318 : BitVec 32 := 8#32
  let v578 : BitVec 32 := Scalar.muli arg1 c8_i32_318
  let v579 : BitVec 32 := Scalar.addi v578 c0_i32_319
  let v580 : Index := Scalar.indexCast v579
  ![v580.toNat]
def k0_off39 (i : grid0.Coords) (k0_t3 : Fin (k0_t3_loop i).trips) : Fin 3 → Nat :=
  let c0_325 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v591 : Index := Scalar.indexCast v567
  let c128_326 : Index := 128#32
  ![0, v591.toNat, 128]
def k0_off40 (i : grid0.Coords) (k0_t3 : Fin (k0_t3_loop i).trips) : Fin 3 → Nat :=
  let c0_335 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v608 : Index := Scalar.indexCast v567
  let c256_336 : Index := 256#32
  ![0, v608.toNat, 256]
def k0_off41 (i : grid0.Coords) (k0_t3 : Fin (k0_t3_loop i).trips) : Fin 3 → Nat :=
  let c0_345 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v625 : Index := Scalar.indexCast v567
  let c384_346 : Index := 384#32
  ![0, v625.toNat, 384]
def k0_off42 (i : grid0.Coords) (k0_t3 : Fin (k0_t3_loop i).trips) : Fin 3 → Nat :=
  let c0_355 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v642 : Index := Scalar.indexCast v567
  let c512_356 : Index := 512#32
  ![0, v642.toNat, 512]
def k0_off43 (i : grid0.Coords) (k0_t3 : Fin (k0_t3_loop i).trips) : Fin 3 → Nat :=
  let c0_365 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v659 : Index := Scalar.indexCast v567
  let c640_366 : Index := 640#32
  ![0, v659.toNat, 640]
def k0_off44 (i : grid0.Coords) (k0_t3 : Fin (k0_t3_loop i).trips) : Fin 3 → Nat :=
  let c0_375 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v676 : Index := Scalar.indexCast v567
  let c768_376 : Index := 768#32
  ![0, v676.toNat, 768]
def k0_off45 (i : grid0.Coords) (k0_t3 : Fin (k0_t3_loop i).trips) : Fin 3 → Nat :=
  let c0_385 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_254 : BitVec 32 := 1#32
  let arg11 : BitVec 32 := Scf.iv c0_i32_252 c1_i32_254 k0_t3
  let v563 : BitVec 32 := Scalar.subi v562 arg11
  let c256_i32_310 : BitVec 32 := 256#32
  let v566 : BitVec 32 := Scalar.muli v563 c256_i32_310
  let v567 : BitVec 32 := v566
  let v693 : Index := Scalar.indexCast v567
  let c896_386 : Index := 896#32
  ![0, v693.toNat, 896]
@[reducible] def k0_t4_loop (i : grid0.Coords) : Scf.Loop 32 :=
  let c0_i32_252 : BitVec 32 := 0#32
  let arg2 : BitVec 32 := BitVec.ofNat 32 (i 2).val
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let v505 : BitVec 32 := Scalar.addi c0_i32_252 v504
  let c1_i32_255 : BitVec 32 := 1#32
  ⟨v508, v505, c1_i32_255⟩
def k0_mult11 (i : grid0.Coords) (k0_t4 : Fin (k0_t4_loop i).trips) : BitVec 32 :=
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_309 : BitVec 32 := 256#32
  let v564 : BitVec 32 := Scalar.muli v563 c256_i32_309
  v564
def k0_mult12 (i : grid0.Coords) (k0_t4 : Fin (k0_t4_loop i).trips) : BitVec 32 :=
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  v566
def k0_off46 (i : grid0.Coords) (k0_t4 : Fin (k0_t4_loop i).trips) : Fin 3 → Nat :=
  let c0_315 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v574 : Index := Scalar.indexCast v567
  let c0_316 : Index := 0#32
  ![0, v574.toNat, 0]
def k0_off47 (i : grid0.Coords) (c0_i32_319 : BitVec 32) : Fin 1 → Nat :=
  let arg1 : BitVec 32 := BitVec.ofNat 32 (i 1).val
  let c8_i32_318 : BitVec 32 := 8#32
  let v578 : BitVec 32 := Scalar.muli arg1 c8_i32_318
  let v579 : BitVec 32 := Scalar.addi v578 c0_i32_319
  let v580 : Index := Scalar.indexCast v579
  ![v580.toNat]
def k0_off48 (i : grid0.Coords) (k0_t4 : Fin (k0_t4_loop i).trips) : Fin 3 → Nat :=
  let c0_325 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v591 : Index := Scalar.indexCast v567
  let c128_326 : Index := 128#32
  ![0, v591.toNat, 128]
def k0_off49 (i : grid0.Coords) (k0_t4 : Fin (k0_t4_loop i).trips) : Fin 3 → Nat :=
  let c0_335 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v608 : Index := Scalar.indexCast v567
  let c256_336 : Index := 256#32
  ![0, v608.toNat, 256]
def k0_off50 (i : grid0.Coords) (k0_t4 : Fin (k0_t4_loop i).trips) : Fin 3 → Nat :=
  let c0_345 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v625 : Index := Scalar.indexCast v567
  let c384_346 : Index := 384#32
  ![0, v625.toNat, 384]
def k0_off51 (i : grid0.Coords) (k0_t4 : Fin (k0_t4_loop i).trips) : Fin 3 → Nat :=
  let c0_355 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v642 : Index := Scalar.indexCast v567
  let c512_356 : Index := 512#32
  ![0, v642.toNat, 512]
def k0_off52 (i : grid0.Coords) (k0_t4 : Fin (k0_t4_loop i).trips) : Fin 3 → Nat :=
  let c0_365 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v659 : Index := Scalar.indexCast v567
  let c640_366 : Index := 640#32
  ![0, v659.toNat, 640]
def k0_off53 (i : grid0.Coords) (k0_t4 : Fin (k0_t4_loop i).trips) : Fin 3 → Nat :=
  let c0_375 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v676 : Index := Scalar.indexCast v567
  let c768_376 : Index := 768#32
  ![0, v676.toNat, 768]
def k0_off54 (i : grid0.Coords) (k0_t4 : Fin (k0_t4_loop i).trips) : Fin 3 → Nat :=
  let c0_385 : Index := 0#32
  let arg2 : BitVec 32 := BitVec.ofNat 32 (i 2).val
  let c1_i32_307 : BitVec 32 := 1#32
  let v561 : BitVec 32 := Scalar.muli arg2 c1_i32_307
  let c1_i32_308 : BitVec 32 := 1#32
  let v562 : BitVec 32 := Scalar.subi v561 c1_i32_308
  let c0_i32_252 : BitVec 32 := 0#32
  let c1_i32_250 : BitVec 32 := 1#32
  let v503 : BitVec 32 := Scalar.muli arg2 c1_i32_250
  let v504 : BitVec 32 := Scalar.subi v503 c0_i32_252
  let c1_i32_253 : BitVec 32 := 1#32
  let v506 : BitVec 32 := Scalar.divsi v504 c1_i32_253
  let v507 : BitVec 32 := Scalar.muli v506 c1_i32_253
  let v508 : BitVec 32 := Scalar.addi c0_i32_252 v507
  let c1_i32_255 : BitVec 32 := 1#32
  let arg11 : BitVec 32 := Scf.iv v508 c1_i32_255 k0_t4
  let v563 : BitVec 32 := Scalar.subi v562 arg11
  let c256_i32_310 : BitVec 32 := 256#32
  let v566 : BitVec 32 := Scalar.muli v563 c256_i32_310
  let v567 : BitVec 32 := v566
  let v693 : Index := Scalar.indexCast v567
  let c896_386 : Index := 896#32
  ![0, v693.toNat, 896]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "q_scale" => some (((11863283 / 134217728) * (Real.log 2)⁻¹ : ℝ) : EReal)
  | _ => none
-- ==== ReferenceIdeal.lean ====
abbrev S2x4112x16x128 : Shape := ⟨4, ![2, 4112, 16, 128]⟩
abbrev S16 : Shape := ⟨1, ![16]⟩
abbrev S4112 : Shape := ⟨1, ![4112]⟩
abbrev S2x16x4112x4112 : Shape := ⟨4, ![2, 16, 4112, 4112]⟩
abbrev S_ : Shape := ⟨0, ![]⟩
abbrev S1x16x1x1 : Shape := ⟨4, ![1, 16, 1, 1]⟩
abbrev S1x4112 : Shape := ⟨2, ![1, 4112]⟩
abbrev S4112x1 : Shape := ⟨2, ![4112, 1]⟩
abbrev S4112x4112 : Shape := ⟨2, ![4112, 4112]⟩
abbrev S2x16x128x4112 : Shape := ⟨4, ![2, 16, 128, 4112]⟩
abbrev S2x4352x16x128 : Shape := ⟨4, ![2, 4352, 16, 128]⟩
abbrev S2x4352x2048 : Shape := ⟨3, ![2, 4352, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x4112x16x128, .f32⟩
  | .hbm, ⟨1, _⟩ => ⟨S2x4112x16x128, .f32⟩
  | .hbm, ⟨2, _⟩ => ⟨S2x4112x16x128, .f32⟩
  | .hbm, ⟨3, _⟩ => ⟨S16, .f32⟩
  | .hbm, ⟨4, _⟩ => ⟨S4112, .i32⟩
  | .hbm, ⟨5, _⟩ => ⟨S2x16x4112x4112, .f32⟩
  | .hbm, ⟨6, _⟩ => ⟨S_, .f32⟩
  | .hbm, ⟨7, _⟩ => ⟨S2x16x4112x4112, .f32⟩
  | .hbm, ⟨8, _⟩ => ⟨S2x16x4112x4112, .f32⟩
  | .hbm, ⟨9, _⟩ => ⟨S1x16x1x1, .f32⟩
  | .hbm, ⟨10, _⟩ => ⟨S2x16x4112x4112, .f32⟩
  | .hbm, ⟨11, _⟩ => ⟨S2x16x4112x4112, .f32⟩
  | .hbm, ⟨12, _⟩ => ⟨S1x4112, .i32⟩
  | .hbm, ⟨13, _⟩ => ⟨S4112x1, .i32⟩
  | .hbm, ⟨14, _⟩ => ⟨S4112x4112, .i32⟩
  | .hbm, ⟨15, _⟩ => ⟨S4112x4112, .i32⟩
  | .hbm, ⟨16, _⟩ => ⟨S4112x4112, .i1⟩
  | .hbm, ⟨17, _⟩ => ⟨S2x16x4112x4112, .f32⟩
  | .hbm, ⟨18, _⟩ => ⟨S2x16x4112x4112, .f32⟩
  | .hbm, ⟨19, _⟩ => ⟨S_, .f32⟩
  | .hbm, ⟨20, _⟩ => ⟨S2x16x4112x4112, .f32⟩
  | .hbm, ⟨21, _⟩ => ⟨S2x16x4112x4112, .f32⟩
  | .hbm, ⟨22, _⟩ => ⟨S2x16x4112x4112, .f32⟩
  | .hbm, ⟨23, _⟩ => ⟨S2x16x4112x4112, .f32⟩
  | .hbm, ⟨24, _⟩ => ⟨S2x16x4112x4112, .i1⟩
  | .hbm, ⟨25, _⟩ => ⟨S2x16x4112x4112, .f32⟩
  | .hbm, ⟨26, _⟩ => ⟨S2x16x4112x4112, .f32⟩
  | .hbm, ⟨27, _⟩ => ⟨S2x16x4112x4112, .f32⟩
  | .hbm, ⟨28, _⟩ => ⟨S2x16x4112x4112, .f32⟩
  | .hbm, ⟨29, _⟩ => ⟨S2x16x4112x4112, .f32⟩
  | .hbm, ⟨30, _⟩ => ⟨S2x16x4112x4112, .f32⟩
  | .hbm, ⟨31, _⟩ => ⟨S2x16x4112x4112, .f32⟩
  | .hbm, ⟨32, _⟩ => ⟨S2x16x4112x4112, .f32⟩
  | .hbm, ⟨33, _⟩ => ⟨S2x16x4112x4112, .f32⟩
  | .hbm, ⟨34, _⟩ => ⟨S_, .f32⟩
  | .hbm, ⟨35, _⟩ => ⟨S_, .f32⟩
  | .hbm, ⟨36, _⟩ => ⟨S2x16x4112x4112, .i1⟩
  | .hbm, ⟨37, _⟩ => ⟨S2x16x4112x4112, .f32⟩
  | .hbm, ⟨38, _⟩ => ⟨S2x16x4112x4112, .f32⟩
  | .hbm, ⟨39, _⟩ => ⟨S_, .f32⟩
  | .hbm, ⟨40, _⟩ => ⟨S_, .f32⟩
  | .hbm, ⟨41, _⟩ => ⟨S2x16x4112x4112, .f32⟩
  | .hbm, ⟨42, _⟩ => ⟨S2x16x4112x4112, .f32⟩
  | .hbm, ⟨43, _⟩ => ⟨S2x16x4112x4112, .f32⟩
  | .hbm, ⟨44, _⟩ => ⟨S_, .f32⟩
  | .hbm, ⟨45, _⟩ => ⟨S2x16x4112x4112, .f32⟩
  | .hbm, ⟨46, _⟩ => ⟨S2x16x4112x4112, .f32⟩
  | .hbm, ⟨47, _⟩ => ⟨S2x16x4112x4112, .f32⟩
  | .hbm, ⟨48, _⟩ => ⟨S2x16x4112x4112, .f32⟩
  | .hbm, ⟨49, _⟩ => ⟨S2x16x4112x4112, .i1⟩
  | .hbm, ⟨50, _⟩ => ⟨S2x16x4112x4112, .f32⟩
  | .hbm, ⟨51, _⟩ => ⟨S2x16x4112x4112, .f32⟩
  | .hbm, ⟨52, _⟩ => ⟨S2x16x4112x4112, .f32⟩
  | .hbm, ⟨53, _⟩ => ⟨S2x16x4112x4112, .f32⟩
  | .hbm, ⟨54, _⟩ => ⟨S2x16x4112x4112, .f32⟩
  | .hbm, ⟨55, _⟩ => ⟨S2x16x4112x4112, .f32⟩
  | .hbm, ⟨56, _⟩ => ⟨S2x16x4112x4112, .f32⟩
  | .hbm, ⟨57, _⟩ => ⟨S2x16x4112x4112, .f32⟩
  | .hbm, ⟨58, _⟩ => ⟨S2x16x4112x4112, .f32⟩
  | .hbm, ⟨59, _⟩ => ⟨S2x16x4112x4112, .f32⟩
  | .hbm, ⟨60, _⟩ => ⟨S2x16x4112x4112, .f32⟩
  | .hbm, ⟨61, _⟩ => ⟨S_, .f32⟩
  | .hbm, ⟨62, _⟩ => ⟨S_, .f32⟩
  | .hbm, ⟨63, _⟩ => ⟨S2x16x4112x4112, .i1⟩
  | .hbm, ⟨64, _⟩ => ⟨S2x16x4112x4112, .f32⟩
  | .hbm, ⟨65, _⟩ => ⟨S2x16x4112x4112, .f32⟩
  | .hbm, ⟨66, _⟩ => ⟨S2x16x128x4112, .f32⟩
  | .hbm, ⟨67, _⟩ => ⟨S2x4112x16x128, .f32⟩
  | .hbm, ⟨68, _⟩ => ⟨S_, .i32⟩
  | .hbm, ⟨69, _⟩ => ⟨S_, .f32⟩
  | .hbm, ⟨70, _⟩ => ⟨S2x4352x16x128, .f32⟩
  | .hbm, ⟨71, _⟩ => ⟨S2x4352x2048, .f32⟩
  | .hbm, ⟨72, _⟩ => ⟨S2x4352x2048, .bf16⟩
  | _, _ => ⟨S2x4112x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c : Ref sig .tc := ⟨.hbm, 68, rfl⟩
abbrev main_call5_v0 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩

abbrev nD : Nat := 1
abbrev τ : Topo := Topo.v7x

variable {F : FTy → Type} [FloatOps F]
-- ==== Kernel2.lean ====
abbrev S2x4112x2048 : Shape := ⟨3, ![2, 4112, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x4352x2048 : Shape := ⟨3, ![2, 4352, 2048]⟩
abbrev S8704x2048 : Shape := ⟨2, ![8704, 2048]⟩
abbrev S8x5632 : Shape := ⟨2, ![8, 5632]⟩
abbrev S1 : Shape := ⟨1, ![1]⟩
abbrev S1x2048 : Shape := ⟨2, ![1, 2048]⟩
abbrev S1x5632 : Shape := ⟨2, ![1, 5632]⟩
abbrev S8704x5632 : Shape := ⟨2, ![8704, 5632]⟩
abbrev S8x8x5632 : Shape := ⟨3, ![8, 8, 5632]⟩
abbrev S1088x2048 : Shape := ⟨2, ![1088, 2048]⟩
abbrev S8x2048 : Shape := ⟨2, ![8, 2048]⟩
abbrev S2048x512 : Shape := ⟨2, ![2048, 512]⟩
abbrev S8x512 : Shape := ⟨2, ![8, 512]⟩
abbrev S1x512 : Shape := ⟨2, ![1, 512]⟩
abbrev S1088x512 : Shape := ⟨2, ![1088, 512]⟩
abbrev S1x8x512 : Shape := ⟨3, ![1, 8, 512]⟩
abbrev S16x2048 : Shape := ⟨2, ![16, 2048]⟩
abbrev S1096x512 : Shape := ⟨2, ![1096, 512]⟩
abbrev S1088 : Shape := ⟨1, ![1088]⟩
abbrev S1088x1 : Shape := ⟨2, ![1088, 1]⟩
abbrev S8 : Shape := ⟨1, ![8]⟩
abbrev S8x1 : Shape := ⟨2, ![8, 1]⟩
abbrev S16x512 : Shape := ⟨2, ![16, 512]⟩
abbrev S272x2048 : Shape := ⟨2, ![272, 2048]⟩
abbrev S272x512 : Shape := ⟨2, ![272, 512]⟩

abbrev nBuf : Space → Nat
  | .hbm => 21
  | .vmem => 20
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S_, .i32⟩
  | .hbm, ⟨7, _⟩ => ⟨S_, .f32⟩
  | .hbm, ⟨8, _⟩ => ⟨S2x4352x2048, .f32⟩
  | .hbm, ⟨9, _⟩ => ⟨S8704x2048, .f32⟩
  | .hbm, ⟨10, _⟩ => ⟨S2048x5632, .bf16⟩
  | .hbm, ⟨11, _⟩ => ⟨S2048x5632, .bf16⟩
  | .hbm, ⟨12, _⟩ => ⟨S_, .f32⟩
  | .hbm, ⟨13, _⟩ => ⟨S8x5632, .f32⟩
  | .hbm, ⟨14, _⟩ => ⟨S_, .i32⟩
  | .hbm, ⟨15, _⟩ => ⟨S1, .i32⟩
  | .hbm, ⟨16, _⟩ => ⟨S8x5632, .f32⟩
  | .hbm, ⟨17, _⟩ => ⟨S1x2048, .f32⟩
  | .hbm, ⟨18, _⟩ => ⟨S1x5632, .f32⟩
  | .hbm, ⟨19, _⟩ => ⟨S8704x5632, .bf16⟩
  | .hbm, ⟨20, _⟩ => ⟨S8x8x5632, .f32⟩
  | .local _ .vmem, ⟨0, _⟩ => ⟨S1088x2048, .f32⟩
  | .local _ .vmem, ⟨1, _⟩ => ⟨S1088x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S1x512, .f32⟩
  | .local _ .vmem, ⟨13, _⟩ => ⟨S1088x512, .bf16⟩
  | .local _ .vmem, ⟨14, _⟩ => ⟨S1088x512, .bf16⟩
  | .local _ .vmem, ⟨15, _⟩ => ⟨S1x8x512, .f32⟩
  | .local _ .vmem, ⟨16, _⟩ => ⟨S1x8x512, .f32⟩
  | .local _ .vmem, ⟨17, _⟩ => ⟨S1088x2048, .bf16⟩
  | .local _ .vmem, ⟨18, _⟩ => ⟨S16x2048, .bf16⟩
  | .local _ .vmem, ⟨19, _⟩ => ⟨S1096x512, .f32⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c136_i32 : BitVec 32 := 136#32
  let v0 : BitVec 32 := Scalar.muli arg0 c136_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x4112x2048 : Shape := ⟨3, ![2, 4112, 2048]⟩
abbrev S2048 : Shape := ⟨1, ![2048]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x5632 : Shape := ⟨3, ![2, 4112, 5632]⟩
abbrev S2x2x5632 : Shape := ⟨3, ![2, 2, 5632]⟩
abbrev S2x4114x5632 : Shape := ⟨3, ![2, 4114, 5632]⟩
abbrev S1x5632 : Shape := ⟨2, ![1, 5632]⟩
abbrev S1x1x5632 : Shape := ⟨3, ![1, 1, 5632]⟩
abbrev S2x4352x5632 : Shape := ⟨3, ![2, 4352, 5632]⟩
abbrev S8704x5632 : Shape := ⟨2, ![8704, 5632]⟩
abbrev S8x1088x5632 : Shape := ⟨3, ![8, 1088, 5632]⟩
abbrev S8x8x5632 : Shape := ⟨3, ![8, 8, 5632]⟩

abbrev nBuf : Space → Nat
  | .hbm => 71
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S3x5632, .f32⟩
  | .hbm, ⟨5, _⟩ => ⟨S5632, .f32⟩
  | .hbm, ⟨6, _⟩ => ⟨S2x4112x2048, .f32⟩
  | .hbm, ⟨7, _⟩ => ⟨S_, .f32⟩
  | .hbm, ⟨8, _⟩ => ⟨S2x4112, .f32⟩
  | .hbm, ⟨9, _⟩ => ⟨S2x4112x1, .f32⟩
  | .hbm, ⟨10, _⟩ => ⟨S_, .f32⟩
  | .hbm, ⟨11, _⟩ => ⟨S2x4112x1, .f32⟩
  | .hbm, ⟨12, _⟩ => ⟨S2x4112x1, .f32⟩
  | .hbm, ⟨13, _⟩ => ⟨S_, .f32⟩
  | .hbm, ⟨14, _⟩ => ⟨S2x4112x1, .f32⟩
  | .hbm, ⟨15, _⟩ => ⟨S2x4112x1, .f32⟩
  | .hbm, ⟨16, _⟩ => ⟨S2x4112x1, .f32⟩
  | .hbm, ⟨17, _⟩ => ⟨S2x4112x2048, .f32⟩
  | .hbm, ⟨18, _⟩ => ⟨S2x4112x2048, .f32⟩
  | .hbm, ⟨19, _⟩ => ⟨S1x1x2048, .f32⟩
  | .hbm, ⟨20, _⟩ => ⟨S2x4112x2048, .f32⟩
  | .hbm, ⟨21, _⟩ => ⟨S2x4112x2048, .f32⟩
  | .hbm, ⟨22, _⟩ => ⟨S2x4112x5632, .f32⟩
  | .hbm, ⟨23, _⟩ => ⟨S_, .f32⟩
  | .hbm, ⟨24, _⟩ => ⟨S2x2x5632, .f32⟩
  | .hbm, ⟨25, _⟩ => ⟨S2x4114x5632, .f32⟩
  | .hbm, ⟨26, _⟩ => ⟨S1x5632, .f32⟩
  | .hbm, ⟨27, _⟩ => ⟨S5632, .f32⟩
  | .hbm, ⟨28, _⟩ => ⟨S2x4112x5632, .f32⟩
  | .hbm, ⟨29, _⟩ => ⟨S1x1x5632, .f32⟩
  | .hbm, ⟨30, _⟩ => ⟨S2x4112x5632, .f32⟩
  | .hbm, ⟨31, _⟩ => ⟨S2x4112x5632, .f32⟩
  | .hbm, ⟨32, _⟩ => ⟨S1x5632, .f32⟩
  | .hbm, ⟨33, _⟩ => ⟨S5632, .f32⟩
  | .hbm, ⟨34, _⟩ => ⟨S2x4112x5632, .f32⟩
  | .hbm, ⟨35, _⟩ => ⟨S1x1x5632, .f32⟩
  | .hbm, ⟨36, _⟩ => ⟨S2x4112x5632, .f32⟩
  | .hbm, ⟨37, _⟩ => ⟨S2x4112x5632, .f32⟩
  | .hbm, ⟨38, _⟩ => ⟨S2x4112x5632, .f32⟩
  | .hbm, ⟨39, _⟩ => ⟨S1x5632, .f32⟩
  | .hbm, ⟨40, _⟩ => ⟨S5632, .f32⟩
  | .hbm, ⟨41, _⟩ => ⟨S2x4112x5632, .f32⟩
  | .hbm, ⟨42, _⟩ => ⟨S1x1x5632, .f32⟩
  | .hbm, ⟨43, _⟩ => ⟨S2x4112x5632, .f32⟩
  | .hbm, ⟨44, _⟩ => ⟨S2x4112x5632, .f32⟩
  | .hbm, ⟨45, _⟩ => ⟨S2x4112x5632, .f32⟩
  | .hbm, ⟨46, _⟩ => ⟨S1x1x5632, .f32⟩
  | .hbm, ⟨47, _⟩ => ⟨S2x4112x5632, .f32⟩
  | .hbm, ⟨48, _⟩ => ⟨S2x4112x5632, .f32⟩
  | .hbm, ⟨49, _⟩ => ⟨S2x4112x5632, .f32⟩
  | .hbm, ⟨50, _⟩ => ⟨S2x4112x5632, .f32⟩
  | .hbm, ⟨51, _⟩ => ⟨S_, .f32⟩
  | .hbm, ⟨52, _⟩ => ⟨S2x4112x5632, .f32⟩
  | .hbm, ⟨53, _⟩ => ⟨S2x4112x5632, .f32⟩
  | .hbm, ⟨54, _⟩ => ⟨S_, .f32⟩
  | .hbm, ⟨55, _⟩ => ⟨S2x4112x5632, .f32⟩
  | .hbm, ⟨56, _⟩ => ⟨S2x4112x5632, .f32⟩
  | .hbm, ⟨57, _⟩ => ⟨S2x4112x5632, .f32⟩
  | .hbm, ⟨58, _⟩ => ⟨S2x4112x5632, .f32⟩
  | .hbm, ⟨59, _⟩ => ⟨S2x4112x5632, .f32⟩
  | .hbm, ⟨60, _⟩ => ⟨S_, .i32⟩
  | .hbm, ⟨61, _⟩ => ⟨S_, .f32⟩
  | .hbm, ⟨62, _⟩ => ⟨S2x4352x5632, .f32⟩
  | .hbm, ⟨63, _⟩ => ⟨S8704x5632, .f32⟩
  | .hbm, ⟨64, _⟩ => ⟨S8704x5632, .bf16⟩
  | .hbm, ⟨65, _⟩ => ⟨S_, .i32⟩
  | .hbm, ⟨66, _⟩ => ⟨S_, .f32⟩
  | .hbm, ⟨67, _⟩ => ⟨S2x4352x5632, .f32⟩
  | .hbm, ⟨68, _⟩ => ⟨S8704x5632, .f32⟩
  | .hbm, ⟨69, _⟩ => ⟨S8x1088x5632, .f32⟩
  | .hbm, ⟨70, _⟩ => ⟨S8x8x5632, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call1_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel3.lean ====
abbrev S2x4112x5632 : Shape := ⟨3, ![2, 4112, 5632]⟩
abbrev S5632x2048 : Shape := ⟨2, ![5632, 2048]⟩
abbrev S2x4112x2048 : Shape := ⟨3, ![2, 4112, 2048]⟩
abbrev S_ : Shape := ⟨0, ![]⟩
abbrev S2x4352x5632 : Shape := ⟨3, ![2, 4352, 5632]⟩
abbrev S8704x5632 : Shape := ⟨2, ![8704, 5632]⟩
abbrev S2x4352x2048 : Shape := ⟨3, ![2, 4352, 2048]⟩
abbrev S8704x2048 : Shape := ⟨2, ![8704, 2048]⟩
abbrev S1088x5632 : Shape := ⟨2, ![1088, 5632]⟩
abbrev S5632x512 : Shape := ⟨2, ![5632, 512]⟩
abbrev S1088x512 : Shape := ⟨2, ![1088, 512]⟩
abbrev S272x512 : Shape := ⟨2, ![272, 512]⟩
abbrev S272x5632 : Shape := ⟨2, ![272, 5632]⟩

abbrev nBuf : Space → Nat
  | .hbm => 14
  | .vmem => 8
  | .smem => 0
  | _ => 0

abbrev bufTy : (tb : Table) → Fin (tcTables nBuf tb) → BufTy
  | .hbm, ⟨0, _⟩ => ⟨S2x4112x5632, .f32⟩
  | .hbm, ⟨1, _⟩ => ⟨S5632x2048, .f32⟩
  | .hbm, ⟨2, _⟩ => ⟨S2x4112x2048, .f32⟩
  | .hbm, ⟨3, _⟩ => ⟨S_, .i32⟩
  | .hbm, ⟨4, _⟩ => ⟨S_, .f32⟩
  | .hbm, ⟨5, _⟩ => ⟨S2x4352x5632, .f32⟩
  | .hbm, ⟨6, _⟩ => ⟨S8704x5632, .f32⟩
  | .hbm, ⟨7, _⟩ => ⟨S8704x5632, .bf16⟩
  | .hbm, ⟨8, _⟩ => ⟨S5632x2048, .bf16⟩
  | .hbm, ⟨9, _⟩ => ⟨S_, .i32⟩
  | .hbm, ⟨10, _⟩ => ⟨S_, .f32⟩
  | .hbm, ⟨11, _⟩ => ⟨S2x4352x2048, .f32⟩
  | .hbm, ⟨12, _⟩ => ⟨S8704x2048, .f32⟩
  | .hbm, ⟨13, _⟩ => ⟨S8704x2048, .f32⟩
  | .local _ .vmem, ⟨0, _⟩ => ⟨S1088x5632, .bf16⟩
  | .local _ .vmem, ⟨1, _⟩ => ⟨S1088x5632, .bf16⟩
  | .local _ .vmem, ⟨2, _⟩ => ⟨S5632x512, .bf16⟩
  | .local _ .vmem, ⟨3, _⟩ => ⟨S5632x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S2x4112x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x4112x5632 : Shape := ⟨3, ![2, 4112, 5632]⟩
abbrev S5632x2048 : Shape := ⟨2, ![5632, 2048]⟩
abbrev S2x4112x2048 : Shape := ⟨3, ![2, 4112, 2048]⟩
abbrev S_ : Shape := ⟨0, ![]⟩
abbrev S2x4352x2048 : Shape := ⟨3, ![2, 4352, 2048]⟩
abbrev S8704x2048 : Shape := ⟨2, ![8704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x4112x5632, .f32⟩
  | .hbm, ⟨1, _⟩ => ⟨S5632x2048, .f32⟩
  | .hbm, ⟨2, _⟩ => ⟨S2x4112x2048, .f32⟩
  | .hbm, ⟨3, _⟩ => ⟨S2x4112x2048, .f32⟩
  | .hbm, ⟨4, _⟩ => ⟨S2x4112x2048, .f32⟩
  | .hbm, ⟨5, _⟩ => ⟨S_, .i32⟩
  | .hbm, ⟨6, _⟩ => ⟨S_, .f32⟩
  | .hbm, ⟨7, _⟩ => ⟨S2x4352x2048, .f32⟩
  | .hbm, ⟨8, _⟩ => ⟨S8704x2048, .f32⟩
  | _, _ => ⟨S2x4112x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel4.lean ====
abbrev S2x4112x2048 : Shape := ⟨3, ![2, 4112, 2048]⟩
abbrev S2048 : Shape := ⟨1, ![2048]⟩
abbrev S2048x4096 : Shape := ⟨2, ![2048, 4096]⟩
abbrev S_ : Shape := ⟨0, ![]⟩
abbrev S2x4352x2048 : Shape := ⟨3, ![2, 4352, 2048]⟩
abbrev S8704x2048 : Shape := ⟨2, ![8704, 2048]⟩
abbrev S2048x2048 : Shape := ⟨2, ![2048, 2048]⟩
abbrev S1x2048 : Shape := ⟨2, ![1, 2048]⟩
abbrev S1088x2048 : Shape := ⟨2, ![1088, 2048]⟩
abbrev S2048x512 : Shape := ⟨2, ![2048, 512]⟩
abbrev S1088x512 : Shape := ⟨2, ![1088, 512]⟩
abbrev S272x2048 : Shape := ⟨2, ![272, 2048]⟩
abbrev S272 : Shape := ⟨1, ![272]⟩
abbrev S272x1 : Shape := ⟨2, ![272, 1]⟩
abbrev S272x512 : Shape := ⟨2, ![272, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x4096, .f32⟩
  | .hbm, ⟨3, _⟩ => ⟨S_, .i32⟩
  | .hbm, ⟨4, _⟩ => ⟨S_, .f32⟩
  | .hbm, ⟨5, _⟩ => ⟨S2x4352x2048, .f32⟩
  | .hbm, ⟨6, _⟩ => ⟨S8704x2048, .f32⟩
  | .hbm, ⟨7, _⟩ => ⟨S2048x4096, .bf16⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S8704x2048, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1088x512, .f32⟩
  | .local _ .vmem, ⟨8, _⟩ => ⟨S1088x512, .f32⟩
  | .local _ .vmem, ⟨9, _⟩ => ⟨S1088x2048, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x4112x2048 : Shape := ⟨3, ![2, 4112, 2048]⟩
abbrev S2048 : Shape := ⟨1, ![2048]⟩
abbrev S2048x4096 : Shape := ⟨2, ![2048, 4096]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x4096 : Shape := ⟨3, ![2, 4112, 4096]⟩
abbrev S2x4352x2048 : Shape := ⟨3, ![2, 4352, 2048]⟩
abbrev S8704x2048 : Shape := ⟨2, ![8704, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x4096, .f32⟩
  | .hbm, ⟨3, _⟩ => ⟨S2x4112x2048, .f32⟩
  | .hbm, ⟨4, _⟩ => ⟨S_, .f32⟩
  | .hbm, ⟨5, _⟩ => ⟨S2x4112, .f32⟩
  | .hbm, ⟨6, _⟩ => ⟨S2x4112x1, .f32⟩
  | .hbm, ⟨7, _⟩ => ⟨S_, .f32⟩
  | .hbm, ⟨8, _⟩ => ⟨S2x4112x1, .f32⟩
  | .hbm, ⟨9, _⟩ => ⟨S2x4112x1, .f32⟩
  | .hbm, ⟨10, _⟩ => ⟨S_, .f32⟩
  | .hbm, ⟨11, _⟩ => ⟨S2x4112x1, .f32⟩
  | .hbm, ⟨12, _⟩ => ⟨S2x4112x1, .f32⟩
  | .hbm, ⟨13, _⟩ => ⟨S2x4112x1, .f32⟩
  | .hbm, ⟨14, _⟩ => ⟨S2x4112x2048, .f32⟩
  | .hbm, ⟨15, _⟩ => ⟨S2x4112x2048, .f32⟩
  | .hbm, ⟨16, _⟩ => ⟨S1x1x2048, .f32⟩
  | .hbm, ⟨17, _⟩ => ⟨S2x4112x2048, .f32⟩
  | .hbm, ⟨18, _⟩ => ⟨S2x4112x2048, .f32⟩
  | .hbm, ⟨19, _⟩ => ⟨S2x4112x4096, .f32⟩
  | .hbm, ⟨20, _⟩ => ⟨S2x4112x2048, .f32⟩
  | .hbm, ⟨21, _⟩ => ⟨S2x4112x2048, .f32⟩
  | .hbm, ⟨22, _⟩ => ⟨S2x4112x2048, .f32⟩
  | .hbm, ⟨23, _⟩ => ⟨S2x4112x2048, .f32⟩
  | .hbm, ⟨24, _⟩ => ⟨S_, .f32⟩
  | .hbm, ⟨25, _⟩ => ⟨S2x4112x2048, .f32⟩
  | .hbm, ⟨26, _⟩ => ⟨S2x4112x2048, .f32⟩
  | .hbm, ⟨27, _⟩ => ⟨S_, .f32⟩
  | .hbm, ⟨28, _⟩ => ⟨S2x4112x2048, .f32⟩
  | .hbm, ⟨29, _⟩ => ⟨S2x4112x2048, .f32⟩
  | .hbm, ⟨30, _⟩ => ⟨S2x4112x2048, .f32⟩
  | .hbm, ⟨31, _⟩ => ⟨S_, .i32⟩
  | .hbm, ⟨32, _⟩ => ⟨S_, .f32⟩
  | .hbm, ⟨33, _⟩ => ⟨S2x4352x2048, .f32⟩
  | .hbm, ⟨34, _⟩ => ⟨S8704x2048, .f32⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel5.lean ====
abbrev S2x4112x2048 : Shape := ⟨3, ![2, 4112, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S2x4352x2048 : Shape := ⟨3, ![2, 4352, 2048]⟩
abbrev S8704x2048 : Shape := ⟨2, ![8704, 2048]⟩
abbrev S2048x2048 : Shape := ⟨2, ![2048, 2048]⟩
abbrev S1x2048 : Shape := ⟨2, ![1, 2048]⟩
abbrev S1x128 : Shape := ⟨2, ![1, 128]⟩
abbrev S1088x2048 : Shape := ⟨2, ![1088, 2048]⟩
abbrev S2048x512 : Shape := ⟨2, ![2048, 512]⟩
abbrev S1x1088x512 : Shape := ⟨3, ![1, 1088, 512]⟩
abbrev S1088x512 : Shape := ⟨2, ![1088, 512]⟩
abbrev S272x2048 : Shape := ⟨2, ![272, 2048]⟩
abbrev S272 : Shape := ⟨1, ![272]⟩
abbrev S272x1 : Shape := ⟨2, ![272, 1]⟩
abbrev S272x512 : Shape := ⟨2, ![272, 512]⟩
abbrev S272x128 : Shape := ⟨2, ![272, 128]⟩
abbrev S1x272x128 : Shape := ⟨3, ![1, 272, 128]⟩
abbrev S1x272x512 : Shape := ⟨3, ![1, 272, 512]⟩

abbrev nBuf : Space → Nat
  | .hbm => 17
  | .vmem => 17
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S2x4352x2048, .f32⟩
  | .hbm, ⟨7, _⟩ => ⟨S8704x2048, .f32⟩
  | .hbm, ⟨8, _⟩ => ⟨S2048x4096, .bf16⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S1x128, .f32⟩
  | .hbm, ⟨13, _⟩ => ⟨S2x4112x2048, .f32⟩
  | .hbm, ⟨14, _⟩ => ⟨S2x4112x2048, .f32⟩
  | .hbm, ⟨15, _⟩ => ⟨S8704x2048, .bf16⟩
  | .hbm, ⟨16, _⟩ => ⟨S8704x2048, .bf16⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x128, .f32⟩
  | .local _ .vmem, ⟨8, _⟩ => ⟨S1x1088x512, .f32⟩
  | .local _ .vmem, ⟨9, _⟩ => ⟨S1x1088x512, .f32⟩
  | .local _ .vmem, ⟨10, _⟩ => ⟨S1x1088x512, .f32⟩
  | .local _ .vmem, ⟨11, _⟩ => ⟨S1x1088x512, .f32⟩
  | .local _ .vmem, ⟨12, _⟩ => ⟨S1088x512, .bf16⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x2048, .bf16⟩
  | _, _ => ⟨S2x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1088x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1088x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x4112x2048 : Shape := ⟨3, ![2, 4112, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2x4112x4096 : Shape := ⟨3, ![2, 4112, 4096]⟩
abbrev S2x4112x16x128 : Shape := ⟨4, ![2, 4112, 16, 128]⟩
abbrev S2x4112x16 : Shape := ⟨3, ![2, 4112, 16]⟩
abbrev S2x4112x16x1 : Shape := ⟨4, ![2, 4112, 16, 1]⟩
abbrev S1x1x1x128 : Shape := ⟨4, ![1, 1, 1, 128]⟩
abbrev S2x4352x2048 : Shape := ⟨3, ![2, 4352, 2048]⟩
abbrev S8704x2048 : Shape := ⟨2, ![8704, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4112x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S2x4112x2048, .f32⟩
  | .hbm, ⟨5, _⟩ => ⟨S_, .f32⟩
  | .hbm, ⟨6, _⟩ => ⟨S2x4112, .f32⟩
  | .hbm, ⟨7, _⟩ => ⟨S2x4112x1, .f32⟩
  | .hbm, ⟨8, _⟩ => ⟨S_, .f32⟩
  | .hbm, ⟨9, _⟩ => ⟨S2x4112x1, .f32⟩
  | .hbm, ⟨10, _⟩ => ⟨S2x4112x1, .f32⟩
  | .hbm, ⟨11, _⟩ => ⟨S_, .f32⟩
  | .hbm, ⟨12, _⟩ => ⟨S2x4112x1, .f32⟩
  | .hbm, ⟨13, _⟩ => ⟨S2x4112x1, .f32⟩
  | .hbm, ⟨14, _⟩ => ⟨S2x4112x1, .f32⟩
  | .hbm, ⟨15, _⟩ => ⟨S2x4112x2048, .f32⟩
  | .hbm, ⟨16, _⟩ => ⟨S2x4112x2048, .f32⟩
  | .hbm, ⟨17, _⟩ => ⟨S1x1x2048, .f32⟩
  | .hbm, ⟨18, _⟩ => ⟨S2x4112x2048, .f32⟩
  | .hbm, ⟨19, _⟩ => ⟨S2x4112x2048, .f32⟩
  | .hbm, ⟨20, _⟩ => ⟨S2x4112x4096, .f32⟩
  | .hbm, ⟨21, _⟩ => ⟨S2x4112x2048, .f32⟩
  | .hbm, ⟨22, _⟩ => ⟨S2x4112x2048, .f32⟩
  | .hbm, ⟨23, _⟩ => ⟨S2x4112x16x128, .f32⟩
  | .hbm, ⟨24, _⟩ => ⟨S2x4112x16x128, .f32⟩
  | .hbm, ⟨25, _⟩ => ⟨S_, .f32⟩
  | .hbm, ⟨26, _⟩ => ⟨S2x4112x16, .f32⟩
  | .hbm, ⟨27, _⟩ => ⟨S2x4112x16x1, .f32⟩
  | .hbm, ⟨28, _⟩ => ⟨S_, .f32⟩
  | .hbm, ⟨29, _⟩ => ⟨S2x4112x16x1, .f32⟩
  | .hbm, ⟨30, _⟩ => ⟨S2x4112x16x1, .f32⟩
  | .hbm, ⟨31, _⟩ => ⟨S_, .f32⟩
  | .hbm, ⟨32, _⟩ => ⟨S2x4112x16x1, .f32⟩
  | .hbm, ⟨33, _⟩ => ⟨S2x4112x16x1, .f32⟩
  | .hbm, ⟨34, _⟩ => ⟨S2x4112x16x1, .f32⟩
  | .hbm, ⟨35, _⟩ => ⟨S2x4112x16x128, .f32⟩
  | .hbm, ⟨36, _⟩ => ⟨S2x4112x16x128, .f32⟩
  | .hbm, ⟨37, _⟩ => ⟨S1x1x1x128, .f32⟩
  | .hbm, ⟨38, _⟩ => ⟨S2x4112x16x128, .f32⟩
  | .hbm, ⟨39, _⟩ => ⟨S2x4112x16x128, .f32⟩
  | .hbm, ⟨40, _⟩ => ⟨S2x4112x2048, .f32⟩
  | .hbm, ⟨41, _⟩ => ⟨S_, .i32⟩
  | .hbm, ⟨42, _⟩ => ⟨S_, .f32⟩
  | .hbm, ⟨43, _⟩ => ⟨S2x4352x2048, .f32⟩
  | .hbm, ⟨44, _⟩ => ⟨S8704x2048, .f32⟩
  | .hbm, ⟨45, _⟩ => ⟨S8704x2048, .bf16⟩
  | .hbm, ⟨46, _⟩ => ⟨S_, .i32⟩
  | .hbm, ⟨47, _⟩ => ⟨S_, .f32⟩
  | .hbm, ⟨48, _⟩ => ⟨S2x4352x2048, .f32⟩
  | .hbm, ⟨49, _⟩ => ⟨S8704x2048, .f32⟩
  | .hbm, ⟨50, _⟩ => ⟨S8704x2048, .bf16⟩
  | _, _ => ⟨S2x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise

@[expose] public section

set_option maxRecDepth 16384

noncomputable section

namespace Cert.Proof.Block

open Cert.KernelIdeal Cert.KernelIdeal.Gen Idealize.ShloMosaic Idealize.ShloMosaic.TcCoe

/-! ## The operations of one head of one block, 256 query rows -/

section Vec256

variable {F : FTy → Type} [FloatOps F] [Named F]

/-- The logits of a block in base two: the scaled queries against the keys, plus the scaled bias. -/
def logits256 (q : Vec F S1x256x128 .bf16) (k : Vec F S1x256x128 .bf16) (b : F .f32) : FVec F S256x256 .f32 :=
  addf (matmul dot_S256x128_S256x128_S256x256_1_1_0_0_n_n none
      (truncf .bf16 (mulf (extf .f32 (shapeCast S256x128 q shapeCasts_S1x256x128_S256x128) bitsLt_bf16_f32)
        (broadcast S256x128 (Named.named κ "q_scale" 0x3E0293EE#32))) bitsLt_bf16_f32)
      (shapeCast S256x128 k shapeCasts_S1x256x128_S256x128) (constant S256x256 .f32 0x00000000#32))
    (broadcast S256x256 (Scalar.mulf b (Named.named κ "log2e" 0x3FB8AA3B#32)))

/-- The softplus of the logits, in base two. -/
def softplus256 (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2e" 0x3FB8AA3B#32)))

/-- Minus the sums of the later columns' softplus. -/
def suffix256 (nst : FVec F S256x256 .bf16) (sp : FVec F S256x256 .f32) : FVec F S256x256 .f32 :=
  matmul dot_S256x256_S256x256_S256x256_1_0_0_1_n_n none (truncf .bf16 sp bitsLt_bf16_f32) nst
    (constant S256x256 .f32 0x00000000#32)

/-- The weights of a block, from the logits, the suffix sums and what the later blocks left. -/
def weights256 (z css : FVec F S256x256 .f32) (run : Vec F S1x256x128 .f32) : FVec F S256x256 .f32 :=
  exp2 (addf (addf z css) (concatenate S256x256 1
    [⟨S256x128, shapeCast S256x128 run shapeCasts_S1x256x128_S256x128⟩,
     ⟨S256x128, shapeCast S256x128 run shapeCasts_S1x256x128_S256x128⟩] concatenates_S256x128_S256x128_S256x256_d1))

/-- The accumulator after a block. -/
def accum256 (w : FVec F S256x256 .f32) (v : Vec F S1x256x128 .bf16) (acc : Vec F S1x256x128 .f32) : FVec F S1x256x128 .f32 :=
  shapeCast S1x256x128 (addf (shapeCast S256x128 acc shapeCasts_S1x256x128_S256x128)
    (matmul dot_S256x256_S256x128_S256x128_1_0_0_1_n_n none (truncf .bf16 w bitsLt_bf16_f32)
      (shapeCast S256x128 v shapeCasts_S1x256x128_S256x128) (constant S256x128 .f32 0x00000000#32))) shapeCasts_S256x128_S1x256x128

/-- The running sum after a block. -/
def running256 (css : FVec F S256x256 .f32) (run : Vec F S1x256x128 .f32) : FVec F S1x256x128 .f32 :=
  shapeCast S1x256x128 (addf (shapeCast S256x128 run shapeCasts_S1x256x128_S256x128)
    (broadcastTo S256x128 (shapeCast S256x1 (extractStridedSlice S256x1 ![0, 0] css slices_S256x256_o0_0_S256x1)
      shapeCasts_S256x1_S256x1) broadcasts_S256x1_S256x128)) shapeCasts_S256x128_S1x256x128

/-- The strictly causal mask of the diagonal block, from the words the body computes it of. -/
def mask256 (a b : BitVec 32) : IVec S256x256 1 :=
  cmpi .sgt (subi (iota .tc S256x256 32 [0] iota_S256x256_d0_w32) (iota .tc S256x256 32 [1] iota_S256x256_d1_w32))
    (broadcast S256x256 (Scalar.subi (Scalar.subi (Scalar.muli a 256#32) (Scalar.muli b 256#32)) 0#32))

/-- A block's values outside the mask set to zero. -/
def masked256 (m : IVec S256x256 1) (x : FVec F S256x256 .f32) : FVec F S256x256 .f32 :=
  select m x (broadcast S256x256 (Scalar.ofBits .f32 0x00000000#32))

end Vec256

/-! ## The operations of one head of one block, 16 query rows -/

section Vec16

variable {F : FTy → Type} [FloatOps F] [Named F]

/-- The logits of a block in base two: the scaled queries against the keys, plus the scaled bias. -/
def logits16 (q : Vec F S1x16x128 .bf16) (k : Vec F S1x256x128 .bf16) (b : F .f32) : FVec F S16x256 .f32 :=
  addf (matmul dot_S16x128_S256x128_S16x256_1_1_0_0_n_n none
      (truncf .bf16 (mulf (extf .f32 (shapeCast S16x128 q shapeCasts_S1x16x128_S16x128) bitsLt_bf16_f32)
        (broadcast S16x128 (Named.named κ "q_scale" 0x3E0293EE#32))) bitsLt_bf16_f32)
      (shapeCast S256x128 k shapeCasts_S1x256x128_S256x128) (constant S16x256 .f32 0x00000000#32))
    (broadcast S16x256 (Scalar.mulf b (Named.named κ "log2e" 0x3FB8AA3B#32)))

/-- The softplus of the logits, in base two. -/
def softplus16 (z : FVec F S16x256 .f32) : FVec F S16x256 .f32 :=
  addf (maximumf z (broadcast S16x256 (Scalar.ofBits .f32 0x00000000#32)))
    (mulf (log (addf (broadcast S16x256 (Scalar.ofBits .f32 0x3F800000#32))
        (exp2 (subf (broadcast S16x256 (Scalar.ofBits .f32 0x00000000#32)) (absf z)))))
      (broadcast S16x256 (Named.named κ "log2e" 0x3FB8AA3B#32)))

/-- Minus the sums of the later columns' softplus. -/
def suffix16 (nst : FVec F S256x256 .bf16) (sp : FVec F S16x256 .f32) : FVec F S16x256 .f32 :=
  matmul dot_S16x256_S256x256_S16x256_1_0_0_1_n_n none (truncf .bf16 sp bitsLt_bf16_f32) nst
    (constant S16x256 .f32 0x00000000#32)

/-- The weights of a block, from the logits, the suffix sums and what the later blocks left. -/
def weights16 (z css : FVec F S16x256 .f32) (run : Vec F S1x16x128 .f32) : FVec F S16x256 .f32 :=
  exp2 (addf (addf z css) (concatenate S16x256 1
    [⟨S16x128, shapeCast S16x128 run shapeCasts_S1x16x128_S16x128⟩,
     ⟨S16x128, shapeCast S16x128 run shapeCasts_S1x16x128_S16x128⟩] concatenates_S16x128_S16x128_S16x256_d1))

/-- The accumulator after a block. -/
def accum16 (w : FVec F S16x256 .f32) (v : Vec F S1x256x128 .bf16) (acc : Vec F S1x16x128 .f32) : FVec F S1x16x128 .f32 :=
  shapeCast S1x16x128 (addf (shapeCast S16x128 acc shapeCasts_S1x16x128_S16x128)
    (matmul dot_S16x256_S256x128_S16x128_1_0_0_1_n_n none (truncf .bf16 w bitsLt_bf16_f32)
      (shapeCast S256x128 v shapeCasts_S1x256x128_S256x128) (constant S16x128 .f32 0x00000000#32))) shapeCasts_S16x128_S1x16x128

/-- The running sum after a block. -/
def running16 (css : FVec F S16x256 .f32) (run : Vec F S1x16x128 .f32) : FVec F S1x16x128 .f32 :=
  shapeCast S1x16x128 (addf (shapeCast S16x128 run shapeCasts_S1x16x128_S16x128)
    (broadcastTo S16x128 (shapeCast S16x1 (extractStridedSlice S16x1 ![0, 0] css slices_S16x256_o0_0_S16x1)
      shapeCasts_S16x1_S16x1) broadcasts_S16x1_S16x128)) shapeCasts_S16x128_S1x16x128

/-- The strictly causal mask of the diagonal block, from the words the body computes it of. -/
def mask16 (a b : BitVec 32) : IVec S16x256 1 :=
  cmpi .sgt (subi (iota .tc S16x256 32 [0] iota_S16x256_d0_w32) (iota .tc S16x256 32 [1] iota_S16x256_d1_w32))
    (broadcast S16x256 (Scalar.subi (Scalar.subi (Scalar.muli a 256#32) (Scalar.muli b 256#32)) 0#32))

/-- A block's values outside the mask set to zero. -/
def masked16 (m : IVec S16x256 1) (x : FVec F S16x256 .f32) : FVec F S16x256 .f32 :=
  select m x (broadcast S16x256 (Scalar.ofBits .f32 0x00000000#32))

end Vec16

/-! ## The elements at the exact values -/

/-- The query scale as the exact reading names it. -/
abbrev qScale : EReal := Named.named (F := Ideal) (φ := .f32) κ "q_scale" 0x3E0293EE#32

/-- The base-two logarithm of e as the exact reading names it. -/
abbrev log2e : EReal := Named.named (F := Ideal) (φ := .f32) κ "log2e" 0x3FB8AA3B#32

/-- The softplus in base two of one logit. -/
def sp2 (z : EReal) : EReal :=
  max z 0 + Ideal.log (1 + FloatOps.exp2 (F := Ideal) (φ := .f32) (0 - FloatOps.absf (F := Ideal) (φ := .f32) z)) * log2e

/-- Two to the power of one exponent. -/
abbrev pow2 (z : EReal) : EReal := FloatOps.exp2 (F := Ideal) (φ := .f32) z

/-- The lane of the running sum that column `s` of a block reads. -/
def lane (s : Fin 256) : Fin 128 := ⟨s.val % 128, Nat.mod_lt _ (by decide)⟩

theorem toInt_small (n : ℕ) (h : n < 65536) : (BitVec.ofNat 32 n).toInt = n := by
  have hn : (BitVec.ofNat 32 n).toNat = n := by rw [BitVec.toNat_ofNat]; exact Nat.mod_eq_of_lt (by omega)
  rw [BitVec.toInt_eq_toNat_of_lt (by rw [hn]; omega), hn]

theorem sgt_small (r s : ℕ) (hr : r < 65536) (hs : s < 65536) :
    IntOp.cmpi .sgt (IntOp.subi (BitVec.ofNat 32 r) (BitVec.ofNat 32 s)) 0#32 = if s < r then 1#1 else 0#1 := by
  have hx : (BitVec.ofNat 32 r - BitVec.ofNat 32 s).toInt = (r : ℤ) - s := by
    rw [BitVec.toInt_sub, toInt_small r hr, toInt_small s hs, Int.bmod_def]
    omega
  show BitVec.ofBool ((0#32).slt (BitVec.ofNat 32 r - BitVec.ofNat 32 s)) = _
  rw [BitVec.slt, hx]
  by_cases h : s < r
  · rw [if_pos h, decide_eq_true (by rw [BitVec.toInt_zero]; omega)]; rfl
  · rw [if_neg h, decide_eq_false (by rw [BitVec.toInt_zero]; omega)]; rfl

/-- One logit of a block. -/
def lg256 (q : Vec Ideal S1x256x128 .bf16) (k : Vec Ideal S1x256x128 .bf16) (b : EReal) (r : Fin 256) (s : Fin 256) : EReal :=
  (∑ d : Fin 128, q (ix3 0 r d) * qScale * k (ix3 0 s d)) + b * log2e

theorem logits256_apply (q : Vec Ideal S1x256x128 .bf16) (k : Vec Ideal S1x256x128 .bf16) (b : EReal) (r : Fin 256) (s : Fin 256) :
    logits256 (F := Ideal) q k b (ix2 r s) = lg256 q k b r s := by
  unfold lg256
  pointwise [logits256]

theorem softplus256_apply (z : FVec Ideal S256x256 .f32) (r : Fin 256) (s : Fin 256) :
    softplus256 z (ix2 r s) = sp2 (z (ix2 r s)) := by
  unfold sp2
  pointwise [softplus256]

theorem suffix256_apply (nst : FVec Ideal S256x256 .bf16) (z : FVec Ideal S256x256 .f32) (r : Fin 256) (s : Fin 256) :
    suffix256 nst z (ix2 r s) = ∑ t : Fin 256, z (ix2 r t) * nst (ix2 t s) := by
  pointwise [suffix256]

theorem weights256_apply (z css : FVec Ideal S256x256 .f32) (run : Vec Ideal S1x256x128 .f32) (r : Fin 256) (s : Fin 256) :
    weights256 z css run (ix2 r s) = pow2 (z (ix2 r s) + css (ix2 r s) + run (ix3 0 r (lane s))) := by
  pointwise [weights256]
  congr 2
  split
  · next h => exact congrArg (fun l => run (ix3 0 r l)) (Fin.ext (Nat.mod_eq_of_lt h).symm)
  · next h => exact congrArg (fun l => run (ix3 0 r l)) (Fin.ext (by simp only [lane]; omega))

theorem accum256_apply (w : FVec Ideal S256x256 .f32) (v : Vec Ideal S1x256x128 .bf16) (acc : Vec Ideal S1x256x128 .f32)
    (r : Fin 256) (d : Fin 128) :
    accum256 w v acc (ix3 0 r d) = acc (ix3 0 r d) + ∑ s : Fin 256, w (ix2 r s) * v (ix3 0 s d) := by
  pointwise [accum256]

theorem running256_apply (css : FVec Ideal S256x256 .f32) (run : Vec Ideal S1x256x128 .f32) (r : Fin 256) (c : Fin 128) :
    running256 css run (ix3 0 r c) = run (ix3 0 r c) + css (ix2 r 0) := by
  pointwise [running256]

theorem masked256_apply (a : BitVec 32) (z : FVec Ideal S256x256 .f32) (r : Fin 256) (s : Fin 256) :
    masked256 (mask256 (Scalar.addi (Scalar.muli a 1#32) 0#32) a) z (ix2 r s) = if s.val < r.val then z (ix2 r s) else 0 := by
  pointwise [masked256, mask256]
  have e : Scalar.subi (Scalar.subi (Scalar.muli (Scalar.addi (Scalar.muli a 1#32) 0#32) 256#32) (Scalar.muli a 256#32)) 0#32 = 0#32 := by
    simp [Scalar.subi, Scalar.muli, Scalar.addi, IntOp.subi, IntOp.muli, IntOp.addi]
  rw [e, sgt_small r.val s.val (by omega) (by omega)]
  split <;> rfl

/-- One logit of a block. -/
def lg16 (q : Vec Ideal S1x16x128 .bf16) (k : Vec Ideal S1x256x128 .bf16) (b : EReal) (r : Fin 16) (s : Fin 256) : EReal :=
  (∑ d : Fin 128, q (ix3 0 r d) * qScale * k (ix3 0 s d)) + b * log2e

theorem logits16_apply (q : Vec Ideal S1x16x128 .bf16) (k : Vec Ideal S1x256x128 .bf16) (b : EReal) (r : Fin 16) (s : Fin 256) :
    logits16 (F := Ideal) q k b (ix2 r s) = lg16 q k b r s := by
  unfold lg16
  pointwise [logits16]

theorem softplus16_apply (z : FVec Ideal S16x256 .f32) (r : Fin 16) (s : Fin 256) :
    softplus16 z (ix2 r s) = sp2 (z (ix2 r s)) := by
  unfold sp2
  pointwise [softplus16]

theorem suffix16_apply (nst : FVec Ideal S256x256 .bf16) (z : FVec Ideal S16x256 .f32) (r : Fin 16) (s : Fin 256) :
    suffix16 nst z (ix2 r s) = ∑ t : Fin 256, z (ix2 r t) * nst (ix2 t s) := by
  pointwise [suffix16]

theorem weights16_apply (z css : FVec Ideal S16x256 .f32) (run : Vec Ideal S1x16x128 .f32) (r : Fin 16) (s : Fin 256) :
    weights16 z css run (ix2 r s) = pow2 (z (ix2 r s) + css (ix2 r s) + run (ix3 0 r (lane s))) := by
  pointwise [weights16]
  congr 2
  split
  · next h => exact congrArg (fun l => run (ix3 0 r l)) (Fin.ext (Nat.mod_eq_of_lt h).symm)
  · next h => exact congrArg (fun l => run (ix3 0 r l)) (Fin.ext (by simp only [lane]; omega))

theorem accum16_apply (w : FVec Ideal S16x256 .f32) (v : Vec Ideal S1x256x128 .bf16) (acc : Vec Ideal S1x16x128 .f32)
    (r : Fin 16) (d : Fin 128) :
    accum16 w v acc (ix3 0 r d) = acc (ix3 0 r d) + ∑ s : Fin 256, w (ix2 r s) * v (ix3 0 s d) := by
  pointwise [accum16]

theorem running16_apply (css : FVec Ideal S16x256 .f32) (run : Vec Ideal S1x16x128 .f32) (r : Fin 16) (c : Fin 128) :
    running16 css run (ix3 0 r c) = run (ix3 0 r c) + css (ix2 r 0) := by
  pointwise [running16]

theorem masked16_apply (a : BitVec 32) (z : FVec Ideal S16x256 .f32) (r : Fin 16) (s : Fin 256) :
    masked16 (mask16 (Scalar.addi (Scalar.muli a 1#32) 0#32) a) z (ix2 r s) = if s.val < r.val then z (ix2 r s) else 0 := by
  pointwise [masked16, mask16]
  have e : Scalar.subi (Scalar.subi (Scalar.muli (Scalar.addi (Scalar.muli a 1#32) 0#32) 256#32) (Scalar.muli a 256#32)) 0#32 = 0#32 := by
    simp [Scalar.subi, Scalar.muli, Scalar.addi, IntOp.subi, IntOp.muli, IntOp.addi]
  rw [e, sgt_small r.val s.val (by omega) (by omega)]
  split <;> rfl

/-! ## One block's effect on the two scratch arrays -/

/-- Lane `d` of head `h` among a group's lanes. -/
def colIx (h d : ℕ) : Fin 1024 := ⟨(128 * h + d) % 1024, Nat.mod_lt _ (by decide)⟩

/-- Head `h` of group `g`. -/
def headIx (g h : ℕ) : Fin 16 := ⟨(8 * g + h) % 16, Nat.mod_lt _ (by decide)⟩

/-- Key row `j`. -/
def rowIx (j : ℕ) : Fin 4352 := ⟨j % 4352, Nat.mod_lt _ (by decide)⟩

/-- Query row `r` of a tile. -/
def queryIx (r : ℕ) : Fin 256 := ⟨r % 256, Nat.mod_lt _ (by decide)⟩

section Step

variable (x0 : S16.Idx → EReal) (x1 : S1x256x1024.Idx → EReal) (x2 x3 : S1x4352x1024.Idx → EReal) (x4 : S256x256.Idx → EReal)
  (g o : ℕ) (M : ℕ → ℕ → Prop) [∀ r s, Decidable (M r s)] (f9 f10 : S8x256x128.Idx → EReal)

/-- The logit in base two of query row `r` of the tile against key row `j`, head `h` of group `g`. -/
def zAt (h r j : ℕ) : EReal :=
  (∑ d : Fin 128, x1 (ix3 0 (queryIx r) (colIx h d)) * qScale * x2 (ix3 0 (rowIx j) (colIx h d))) + x0 (ix1 (headIx g h)) * log2e

/-- Minus the softplus of the block's later columns, summed against the matrix `x4`; the block starts at key row `o`. -/
def cssAt (h r : ℕ) (s : Fin 256) : EReal :=
  ∑ t : Fin 256, (if M r t then sp2 (zAt x0 x1 x2 g h r (o + t)) else 0) * x4 (ix2 t s)

/-- The accumulator after the block. -/
def stepAcc (y : S8x256x128.Idx) : EReal :=
  f9 y + ∑ s : Fin 256, (if M (y 1).val s then
      pow2 (zAt x0 x1 x2 g (y 0).val (y 1).val (o + s) + cssAt x0 x1 x2 x4 g o M (y 0).val (y 1).val s + f10 (ix3 (y 0) (y 1) (lane s)))
      else 0) * x3 (ix3 0 (rowIx (o + s)) (colIx (y 0).val (y 2).val))

/-- The running sum after the block. -/
def stepRun (y : S8x256x128.Idx) : EReal := f10 y + cssAt x0 x1 x2 x4 g o M (y 0).val (y 1).val 0

end Step

/-- No column is masked. -/
abbrev noMask : ℕ → ℕ → Prop := fun _ _ => True

/-- The strictly causal columns of the diagonal block. -/
abbrev causal : ℕ → ℕ → Prop := fun r s => s < r

section Pieces

variable (x0 : S16.Idx → EReal) (x1 : S1x256x1024.Idx → EReal) (x2 x3 : S1x4352x1024.Idx → EReal) (x4 : S256x256.Idx → EReal)
  (g o : ℕ) (f9 f10 : S8x256x128.Idx → EReal)

theorem lg256_eq (h : ℕ) (q : Vec Ideal S1x256x128 .bf16) (k : Vec Ideal S1x256x128 .bf16) (b : EReal)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 256) (s : Fin 256) : lg256 q k b r s = zAt x0 x1 x2 g h r (o + s) := by
  unfold lg256 zAt
  rw [hb]
  exact congrArg (· + _) (Finset.sum_congr rfl fun d _ => by rw [hq, hk])

theorem css256_eq (h : ℕ) (q : Vec Ideal S1x256x128 .bf16) (k : Vec Ideal S1x256x128 .bf16) (b : EReal)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 256) (s : Fin 256) :
    suffix256 x4 (softplus256 (logits256 q k b)) (ix2 r s) = cssAt x0 x1 x2 x4 g o noMask h r s := by
  rw [suffix256_apply]
  unfold cssAt
  exact Finset.sum_congr rfl fun t _ => congrArg (· * _) (by rw [softplus256_apply, logits256_apply, lg256_eq x0 x1 x2 g o h q k b hq hk hb, if_pos trivial])

theorem acc256_eq (h : ℕ) (hh : h < 8) (q : Vec Ideal S1x256x128 .bf16) (k v : Vec Ideal S1x256x128 .bf16) (b : EReal)
    (run acc : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (r : Fin 256) (d : Fin 128) :
    accum256 (weights256 (logits256 q k b) (suffix256 x4 (softplus256 (logits256 q k b))) run) v acc (ix3 0 r d)
      = stepAcc x0 x1 x2 x3 x4 g o noMask f9 f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [accum256_apply, hacc]
  unfold stepAcc
  rw [hr']
  refine congrArg (_ + ·) (Finset.sum_congr rfl fun s _ => ?_)
  rw [hv, weights256_apply, css256_eq x0 x1 x2 x4 g o h q k b hq hk hb, logits256_apply, lg256_eq x0 x1 x2 g o h q k b hq hk hb, hrun]
  rfl

theorem run256_eq (h : ℕ) (hh : h < 8) (q : Vec Ideal S1x256x128 .bf16) (k : Vec Ideal S1x256x128 .bf16) (b : EReal)
    (run : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 256) (c : Fin 128), run (ix3 0 r c) = f10 (ix3 ⟨h, hh⟩ (queryIx r) c))
    (r : Fin 256) (d : Fin 128) :
    running256 (suffix256 x4 (softplus256 (logits256 q k b))) run (ix3 0 r d)
      = stepRun x0 x1 x2 x4 g o noMask f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [running256_apply, hrun]
  unfold stepRun
  rw [hr', css256_eq x0 x1 x2 x4 g o h q k b hq hk hb]
  rfl

theorem cssMasked256_eq (h : ℕ) (a : BitVec 32) (q : Vec Ideal S1x256x128 .bf16) (k : Vec Ideal S1x256x128 .bf16) (b : EReal)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 256) (s : Fin 256) :
    suffix256 x4 (masked256 (mask256 (Scalar.addi (Scalar.muli a 1#32) 0#32) a) (softplus256 (logits256 q k b))) (ix2 r s) = cssAt x0 x1 x2 x4 g o causal h r s := by
  rw [suffix256_apply]
  unfold cssAt
  exact Finset.sum_congr rfl fun t _ => congrArg (· * _) (by rw [masked256_apply, softplus256_apply, logits256_apply, lg256_eq x0 x1 x2 g o h q k b hq hk hb])

theorem accMasked256_eq (h : ℕ) (hh : h < 8) (a : BitVec 32) (q : Vec Ideal S1x256x128 .bf16) (k v : Vec Ideal S1x256x128 .bf16) (b : EReal)
    (run acc : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (r : Fin 256) (d : Fin 128) :
    accum256 (masked256 (mask256 (Scalar.addi (Scalar.muli a 1#32) 0#32) a) (weights256 (logits256 q k b) (suffix256 x4 (masked256 (mask256 (Scalar.addi (Scalar.muli a 1#32) 0#32) a) (softplus256 (logits256 q k b)))) run)) v acc (ix3 0 r d)
      = stepAcc x0 x1 x2 x3 x4 g o causal f9 f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [accum256_apply, hacc]
  unfold stepAcc
  rw [hr']
  refine congrArg (_ + ·) (Finset.sum_congr rfl fun s _ => ?_)
  rw [hv, masked256_apply, weights256_apply, cssMasked256_eq x0 x1 x2 x4 g o h a q k b hq hk hb, logits256_apply, lg256_eq x0 x1 x2 g o h q k b hq hk hb, hrun]
  rfl

theorem runMasked256_eq (h : ℕ) (hh : h < 8) (a : BitVec 32) (q : Vec Ideal S1x256x128 .bf16) (k : Vec Ideal S1x256x128 .bf16) (b : EReal)
    (run : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 256) (c : Fin 128), run (ix3 0 r c) = f10 (ix3 ⟨h, hh⟩ (queryIx r) c))
    (r : Fin 256) (d : Fin 128) :
    running256 (suffix256 x4 (masked256 (mask256 (Scalar.addi (Scalar.muli a 1#32) 0#32) a) (softplus256 (logits256 q k b)))) run (ix3 0 r d)
      = stepRun x0 x1 x2 x4 g o causal f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [running256_apply, hrun]
  unfold stepRun
  rw [hr', cssMasked256_eq x0 x1 x2 x4 g o h a q k b hq hk hb]
  rfl

theorem lg16_eq (h : ℕ) (q : Vec Ideal S1x16x128 .bf16) (k : Vec Ideal S1x256x128 .bf16) (b : EReal)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 16) (s : Fin 256) : lg16 q k b r s = zAt x0 x1 x2 g h r (o + s) := by
  unfold lg16 zAt
  rw [hb]
  exact congrArg (· + _) (Finset.sum_congr rfl fun d _ => by rw [hq, hk])

theorem css16_eq (h : ℕ) (q : Vec Ideal S1x16x128 .bf16) (k : Vec Ideal S1x256x128 .bf16) (b : EReal)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 16) (s : Fin 256) :
    suffix16 x4 (softplus16 (logits16 q k b)) (ix2 r s) = cssAt x0 x1 x2 x4 g o noMask h r s := by
  rw [suffix16_apply]
  unfold cssAt
  exact Finset.sum_congr rfl fun t _ => congrArg (· * _) (by rw [softplus16_apply, logits16_apply, lg16_eq x0 x1 x2 g o h q k b hq hk hb, if_pos trivial])

theorem acc16_eq (h : ℕ) (hh : h < 8) (q : Vec Ideal S1x16x128 .bf16) (k v : Vec Ideal S1x256x128 .bf16) (b : EReal)
    (run acc : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (r : Fin 16) (d : Fin 128) :
    accum16 (weights16 (logits16 q k b) (suffix16 x4 (softplus16 (logits16 q k b))) run) v acc (ix3 0 r d)
      = stepAcc x0 x1 x2 x3 x4 g o noMask f9 f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [accum16_apply, hacc]
  unfold stepAcc
  rw [hr']
  refine congrArg (_ + ·) (Finset.sum_congr rfl fun s _ => ?_)
  rw [hv, weights16_apply, css16_eq x0 x1 x2 x4 g o h q k b hq hk hb, logits16_apply, lg16_eq x0 x1 x2 g o h q k b hq hk hb, hrun]
  rfl

theorem run16_eq (h : ℕ) (hh : h < 8) (q : Vec Ideal S1x16x128 .bf16) (k : Vec Ideal S1x256x128 .bf16) (b : EReal)
    (run : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 16) (c : Fin 128), run (ix3 0 r c) = f10 (ix3 ⟨h, hh⟩ (queryIx r) c))
    (r : Fin 16) (d : Fin 128) :
    running16 (suffix16 x4 (softplus16 (logits16 q k b))) run (ix3 0 r d)
      = stepRun x0 x1 x2 x4 g o noMask f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [running16_apply, hrun]
  unfold stepRun
  rw [hr', css16_eq x0 x1 x2 x4 g o h q k b hq hk hb]
  rfl

theorem cssMasked16_eq (h : ℕ) (a : BitVec 32) (q : Vec Ideal S1x16x128 .bf16) (k : Vec Ideal S1x256x128 .bf16) (b : EReal)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h))) (r : Fin 16) (s : Fin 256) :
    suffix16 x4 (masked16 (mask16 (Scalar.addi (Scalar.muli a 1#32) 0#32) a) (softplus16 (logits16 q k b))) (ix2 r s) = cssAt x0 x1 x2 x4 g o causal h r s := by
  rw [suffix16_apply]
  unfold cssAt
  exact Finset.sum_congr rfl fun t _ => congrArg (· * _) (by rw [masked16_apply, softplus16_apply, logits16_apply, lg16_eq x0 x1 x2 g o h q k b hq hk hb])

theorem accMasked16_eq (h : ℕ) (hh : h < 8) (a : BitVec 32) (q : Vec Ideal S1x16x128 .bf16) (k v : Vec Ideal S1x256x128 .bf16) (b : EReal)
    (run acc : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (r : Fin 16) (d : Fin 128) :
    accum16 (masked16 (mask16 (Scalar.addi (Scalar.muli a 1#32) 0#32) a) (weights16 (logits16 q k b) (suffix16 x4 (masked16 (mask16 (Scalar.addi (Scalar.muli a 1#32) 0#32) a) (softplus16 (logits16 q k b)))) run)) v acc (ix3 0 r d)
      = stepAcc x0 x1 x2 x3 x4 g o causal f9 f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [accum16_apply, hacc]
  unfold stepAcc
  rw [hr']
  refine congrArg (_ + ·) (Finset.sum_congr rfl fun s _ => ?_)
  rw [hv, masked16_apply, weights16_apply, cssMasked16_eq x0 x1 x2 x4 g o h a q k b hq hk hb, logits16_apply, lg16_eq x0 x1 x2 g o h q k b hq hk hb, hrun]
  rfl

theorem runMasked16_eq (h : ℕ) (hh : h < 8) (a : BitVec 32) (q : Vec Ideal S1x16x128 .bf16) (k : Vec Ideal S1x256x128 .bf16) (b : EReal)
    (run : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 16) (c : Fin 128), run (ix3 0 r c) = f10 (ix3 ⟨h, hh⟩ (queryIx r) c))
    (r : Fin 16) (d : Fin 128) :
    running16 (suffix16 x4 (masked16 (mask16 (Scalar.addi (Scalar.muli a 1#32) 0#32) a) (softplus16 (logits16 q k b)))) run (ix3 0 r d)
      = stepRun x0 x1 x2 x4 g o causal f10 (ix3 ⟨h, hh⟩ (queryIx r) d) := by
  have hr : (queryIx r.val).val = r.val := Nat.mod_eq_of_lt (by omega)
  have hr' : ((ix3 (⟨h, hh⟩ : Fin 8) (queryIx r) d : S8x256x128.Idx) 1).val = r.val := hr
  rw [running16_apply, hrun]
  unfold stepRun
  rw [hr', cssMasked16_eq x0 x1 x2 x4 g o h a q k b hq hk hb]
  rfl

end Pieces

end Cert.Proof.Block
-- ==== Proof.Piece.lean ====
module

public import proofs.«01_k».proof.Proof.Block
public import Idealize.ShloMosaic.Lib.Pipeline.ValueKit.Tiles
public import Idealize.ShloMosaic.Lib.Pipeline.ReadBack

@[expose] public section

set_option maxRecDepth 16384

noncomputable section

namespace Cert.Proof.Block

open Cert.KernelIdeal Cert.KernelIdeal.Gen Idealize.ShloMosaic Idealize.ShloMosaic.TcCoe Idealize.SL.Sem

/-! ## Loads at an index -/

section Loads

variable {κ' : Kind} {sp : Space} (X : S1x4352x1024.Idx → EReal) (Q : S1x256x1024.Idx → EReal) (B : S16.Idx → EReal)
  (A : S8x256x128.Idx → EReal)

theorem ld_key (h o : ℕ) (hh : h < 8) (off : Fin 3 → ℕ) (inb : ∀ a, off a + S1x256x128.size a ≤ S1x4352x1024.size a)
    (h0 : off 0 = 0) (h1 : off 1 = o) (h2 : off 2 = 128 * h) (s : Fin 256) (d : Fin 128) :
    View.ld (Val := Elt Ideal) (e' := .bf16) X (Rect.unit (s := S1x4352x1024) off S1x256x128.size inb) (ix3 0 s d) = X (ix3 0 (rowIx (o + s)) (colIx h d)) := by
  have hb : off 1 + 256 ≤ 4352 := inb 1
  refine View.ld_unit_apply_of (Val := Elt Ideal) (S := S1x4352x1024) (e := .bf16) X off S1x256x128.size inb (ix3 0 s d) _ fun a => ?_
  fin_cases a
  · show 0 = off 0 + 0
    omega
  · show (o + s.val) % 4352 = off 1 + s.val
    omega
  · show (128 * h + d.val) % 1024 = off 2 + d.val
    omega

theorem ld_query256 (h : ℕ) (hh : h < 8) (off : Fin 3 → ℕ) (inb : ∀ a, off a + S1x256x128.size a ≤ S1x256x1024.size a)
    (h0 : off 0 = 0) (h1 : off 1 = 0) (h2 : off 2 = 128 * h) (r : Fin 256) (d : Fin 128) :
    View.ld (Val := Elt Ideal) (e' := .bf16) Q (Rect.unit (s := S1x256x1024) off S1x256x128.size inb) (ix3 0 r d) = Q (ix3 0 (queryIx r) (colIx h d)) := by
  refine View.ld_unit_apply_of (Val := Elt Ideal) (S := S1x256x1024) (e := .bf16) Q off S1x256x128.size inb (ix3 0 r d) _ fun a => ?_
  fin_cases a
  · show 0 = off 0 + 0
    omega
  · show r.val % 256 = off 1 + r.val
    omega
  · show (128 * h + d.val) % 1024 = off 2 + d.val
    omega

theorem ld_state256 (h : ℕ) (hh : h < 8) (off : Fin 3 → ℕ) (inb : ∀ a, off a + S1x256x128.size a ≤ S8x256x128.size a)
    (h0 : off 0 = h) (h1 : off 1 = 0) (h2 : off 2 = 0) (r : Fin 256) (d : Fin 128) :
    View.ld (Val := Elt Ideal) (e' := .f32) A (Rect.unit (s := S8x256x128) off S1x256x128.size inb) (ix3 0 r d) = A (ix3 ⟨h, hh⟩ (queryIx r) d) := by
  refine View.ld_unit_apply_of (Val := Elt Ideal) (S := S8x256x128) (e := .f32) A off S1x256x128.size inb (ix3 0 r d) _ fun a => ?_
  fin_cases a
  · show h = off 0 + 0
    omega
  · show r.val % 256 = off 1 + r.val
    omega
  · show d.val = off 2 + d.val
    omega

theorem ld_query16 (h : ℕ) (hh : h < 8) (off : Fin 3 → ℕ) (inb : ∀ a, off a + S1x16x128.size a ≤ S1x256x1024.size a)
    (h0 : off 0 = 0) (h1 : off 1 = 0) (h2 : off 2 = 128 * h) (r : Fin 16) (d : Fin 128) :
    View.ld (Val := Elt Ideal) (e' := .bf16) Q (Rect.unit (s := S1x256x1024) off S1x16x128.size inb) (ix3 0 r d) = Q (ix3 0 (queryIx r) (colIx h d)) := by
  refine View.ld_unit_apply_of (Val := Elt Ideal) (S := S1x256x1024) (e := .bf16) Q off S1x16x128.size inb (ix3 0 r d) _ fun a => ?_
  fin_cases a
  · show 0 = off 0 + 0
    omega
  · show r.val % 256 = off 1 + r.val
    omega
  · show (128 * h + d.val) % 1024 = off 2 + d.val
    omega

theorem ld_state16 (h : ℕ) (hh : h < 8) (off : Fin 3 → ℕ) (inb : ∀ a, off a + S1x16x128.size a ≤ S8x256x128.size a)
    (h0 : off 0 = h) (h1 : off 1 = 0) (h2 : off 2 = 0) (r : Fin 16) (d : Fin 128) :
    View.ld (Val := Elt Ideal) (e' := .f32) A (Rect.unit (s := S8x256x128) off S1x16x128.size inb) (ix3 0 r d) = A (ix3 ⟨h, hh⟩ (queryIx r) d) := by
  refine View.ld_unit_apply_of (Val := Elt Ideal) (S := S8x256x128) (e := .f32) A off S1x16x128.size inb (ix3 0 r d) _ fun a => ?_
  fin_cases a
  · show h = off 0 + 0
    omega
  · show r.val % 256 = off 1 + r.val
    omega
  · show d.val = off 2 + d.val
    omega

theorem ld_bias (g h : ℕ) (hg : g < 2) (hh : h < 8) (off : Fin 1 → ℕ) (inb : ∀ a, off a + S1.size a ≤ S16.size a)
    (h0 : off 0 = 8 * g + h) (x : S1.Idx) :
    View.ld (Val := Elt Ideal) (e' := .f32) B (Rect.unit (s := S16) off S1.size inb) x = B (ix1 (headIx g h)) := by
  refine View.ld_unit_apply_of (Val := Elt Ideal) (S := S16) (e := .f32) B off S1.size inb x _ fun a => ?_
  fin_cases a
  have hx : (x 0).val < 1 := (x 0).isLt
  show (8 * g + h) % 16 = off 0 + (x 0).val
  omega

end Loads

/-! ## Stores at an index -/

theorem emb_state256 (h : ℕ) (hh : h < 8) (off : Fin 3 → ℕ) (inb : ∀ a, off a + S1x256x128.size a ≤ S8x256x128.size a)
    (h0 : off 0 = h) (h1 : off 1 = 0) (h2 : off 2 = 0) (x : S1x256x128.Idx) :
    (Rect.unit (s := S8x256x128) off S1x256x128.size inb).emb x = ix3 ⟨h, hh⟩ (queryIx (x 1).val) (x 2) := by
  have hx : (x 0).val < 1 := (x 0).isLt
  have hx1 : (x 1).val < 256 := (x 1).isLt
  funext a
  refine Fin.ext ?_
  fin_cases a
  · show off 0 + 1 * (x 0).val = h
    omega
  · show off 1 + 1 * (x 1).val = (x 1).val % 256
    omega
  · show off 2 + 1 * (x 2).val = (x 2).val
    omega

theorem eta_state256 (x : S1x256x128.Idx) : x = ix3 0 (x 1) (x 2) := by
  funext a
  refine Fin.ext ?_
  have hx : (x 0).val < 1 := (x 0).isLt
  fin_cases a
  · show (x 0).val = 0
    omega
  · rfl
  · rfl

theorem emb_state16 (h : ℕ) (hh : h < 8) (off : Fin 3 → ℕ) (inb : ∀ a, off a + S1x16x128.size a ≤ S8x256x128.size a)
    (h0 : off 0 = h) (h1 : off 1 = 0) (h2 : off 2 = 0) (x : S1x16x128.Idx) :
    (Rect.unit (s := S8x256x128) off S1x16x128.size inb).emb x = ix3 ⟨h, hh⟩ (queryIx (x 1).val) (x 2) := by
  have hx : (x 0).val < 1 := (x 0).isLt
  have hx1 : (x 1).val < 16 := (x 1).isLt
  funext a
  refine Fin.ext ?_
  fin_cases a
  · show off 0 + 1 * (x 0).val = h
    omega
  · show off 1 + 1 * (x 1).val = (x 1).val % 256
    omega
  · show off 2 + 1 * (x 2).val = (x 2).val
    omega

theorem eta_state16 (x : S1x16x128.Idx) : x = ix3 0 (x 1) (x 2) := by
  funext a
  refine Fin.ext ?_
  have hx : (x 0).val < 1 := (x 0).isLt
  fin_cases a
  · show (x 0).val = 0
    omega
  · rfl
  · rfl

section Pieces

variable (x0 : S16.Idx → EReal) (x1 : S1x256x1024.Idx → EReal) (x2 x3 : S1x4352x1024.Idx → EReal) (x4 : S256x256.Idx → EReal)
  (g o : ℕ) (f9 f10 : S8x256x128.Idx → EReal)

theorem accPiece256 (h : ℕ) (hh : h < 8) (off : Fin 3 → ℕ) (inb : ∀ a, off a + S1x256x128.size a ≤ S8x256x128.size a)
    (h0 : off 0 = h) (h1 : off 1 = 0) (h2 : off 2 = 0) (q : Vec Ideal S1x256x128 .bf16) (k v : Vec Ideal S1x256x128 .bf16) (b : EReal)
    (run acc : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (x : S1x256x128.Idx) :
    accum256 (weights256 (logits256 q k b) (suffix256 x4 (softplus256 (logits256 q k b))) run) v acc x
      = stepAcc x0 x1 x2 x3 x4 g o noMask f9 f10 ((Rect.unit (s := S8x256x128) off S1x256x128.size inb).emb x) := by
  rw [emb_state256 h hh off inb h0 h1 h2, eta_state256 x]
  exact acc256_eq x0 x1 x2 x3 x4 g o f9 f10 h hh q k v b run acc hq hk hb hv hrun hacc (x 1) (x 2)

theorem runPiece256 (h : ℕ) (hh : h < 8) (off : Fin 3 → ℕ) (inb : ∀ a, off a + S1x256x128.size a ≤ S8x256x128.size a)
    (h0 : off 0 = h) (h1 : off 1 = 0) (h2 : off 2 = 0) (q : Vec Ideal S1x256x128 .bf16) (k : Vec Ideal S1x256x128 .bf16) (b : EReal)
    (run : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 256) (c : Fin 128), run (ix3 0 r c) = f10 (ix3 ⟨h, hh⟩ (queryIx r) c))
    (x : S1x256x128.Idx) :
    running256 (suffix256 x4 (softplus256 (logits256 q k b))) run x
      = stepRun x0 x1 x2 x4 g o noMask f10 ((Rect.unit (s := S8x256x128) off S1x256x128.size inb).emb x) := by
  rw [emb_state256 h hh off inb h0 h1 h2, eta_state256 x]
  exact run256_eq x0 x1 x2 x4 g o f10 h hh q k b run hq hk hb hrun (x 1) (x 2)

theorem accPieceMasked256 (h : ℕ) (hh : h < 8) (off : Fin 3 → ℕ) (inb : ∀ a, off a + S1x256x128.size a ≤ S8x256x128.size a)
    (h0 : off 0 = h) (h1 : off 1 = 0) (h2 : off 2 = 0) (a : BitVec 32) (q : Vec Ideal S1x256x128 .bf16) (k v : Vec Ideal S1x256x128 .bf16) (b : EReal)
    (run acc : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (x : S1x256x128.Idx) :
    accum256 (masked256 (mask256 (Scalar.addi (Scalar.muli a 1#32) 0#32) a) (weights256 (logits256 q k b) (suffix256 x4 (masked256 (mask256 (Scalar.addi (Scalar.muli a 1#32) 0#32) a) (softplus256 (logits256 q k b)))) run)) v acc x
      = stepAcc x0 x1 x2 x3 x4 g o causal f9 f10 ((Rect.unit (s := S8x256x128) off S1x256x128.size inb).emb x) := by
  rw [emb_state256 h hh off inb h0 h1 h2, eta_state256 x]
  exact accMasked256_eq x0 x1 x2 x3 x4 g o f9 f10 h hh a q k v b run acc hq hk hb hv hrun hacc (x 1) (x 2)

theorem runPieceMasked256 (h : ℕ) (hh : h < 8) (off : Fin 3 → ℕ) (inb : ∀ a, off a + S1x256x128.size a ≤ S8x256x128.size a)
    (h0 : off 0 = h) (h1 : off 1 = 0) (h2 : off 2 = 0) (a : BitVec 32) (q : Vec Ideal S1x256x128 .bf16) (k : Vec Ideal S1x256x128 .bf16) (b : EReal)
    (run : Vec Ideal S1x256x128 .f32)
    (hq : ∀ (r : Fin 256) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 256) (c : Fin 128), run (ix3 0 r c) = f10 (ix3 ⟨h, hh⟩ (queryIx r) c))
    (x : S1x256x128.Idx) :
    running256 (suffix256 x4 (masked256 (mask256 (Scalar.addi (Scalar.muli a 1#32) 0#32) a) (softplus256 (logits256 q k b)))) run x
      = stepRun x0 x1 x2 x4 g o causal f10 ((Rect.unit (s := S8x256x128) off S1x256x128.size inb).emb x) := by
  rw [emb_state256 h hh off inb h0 h1 h2, eta_state256 x]
  exact runMasked256_eq x0 x1 x2 x4 g o f10 h hh a q k b run hq hk hb hrun (x 1) (x 2)

theorem accPiece16 (h : ℕ) (hh : h < 8) (off : Fin 3 → ℕ) (inb : ∀ a, off a + S1x16x128.size a ≤ S8x256x128.size a)
    (h0 : off 0 = h) (h1 : off 1 = 0) (h2 : off 2 = 0) (q : Vec Ideal S1x16x128 .bf16) (k v : Vec Ideal S1x256x128 .bf16) (b : EReal)
    (run acc : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (x : S1x16x128.Idx) :
    accum16 (weights16 (logits16 q k b) (suffix16 x4 (softplus16 (logits16 q k b))) run) v acc x
      = stepAcc x0 x1 x2 x3 x4 g o noMask f9 f10 ((Rect.unit (s := S8x256x128) off S1x16x128.size inb).emb x) := by
  rw [emb_state16 h hh off inb h0 h1 h2, eta_state16 x]
  exact acc16_eq x0 x1 x2 x3 x4 g o f9 f10 h hh q k v b run acc hq hk hb hv hrun hacc (x 1) (x 2)

theorem runPiece16 (h : ℕ) (hh : h < 8) (off : Fin 3 → ℕ) (inb : ∀ a, off a + S1x16x128.size a ≤ S8x256x128.size a)
    (h0 : off 0 = h) (h1 : off 1 = 0) (h2 : off 2 = 0) (q : Vec Ideal S1x16x128 .bf16) (k : Vec Ideal S1x256x128 .bf16) (b : EReal)
    (run : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 16) (c : Fin 128), run (ix3 0 r c) = f10 (ix3 ⟨h, hh⟩ (queryIx r) c))
    (x : S1x16x128.Idx) :
    running16 (suffix16 x4 (softplus16 (logits16 q k b))) run x
      = stepRun x0 x1 x2 x4 g o noMask f10 ((Rect.unit (s := S8x256x128) off S1x16x128.size inb).emb x) := by
  rw [emb_state16 h hh off inb h0 h1 h2, eta_state16 x]
  exact run16_eq x0 x1 x2 x4 g o f10 h hh q k b run hq hk hb hrun (x 1) (x 2)

theorem accPieceMasked16 (h : ℕ) (hh : h < 8) (off : Fin 3 → ℕ) (inb : ∀ a, off a + S1x16x128.size a ≤ S8x256x128.size a)
    (h0 : off 0 = h) (h1 : off 1 = 0) (h2 : off 2 = 0) (a : BitVec 32) (q : Vec Ideal S1x16x128 .bf16) (k v : Vec Ideal S1x256x128 .bf16) (b : EReal)
    (run acc : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hv : ∀ (s : Fin 256) (d : Fin 128), v (ix3 0 s d) = x3 (ix3 0 (rowIx (o + s)) (colIx h d)))
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (x : S1x16x128.Idx) :
    accum16 (masked16 (mask16 (Scalar.addi (Scalar.muli a 1#32) 0#32) a) (weights16 (logits16 q k b) (suffix16 x4 (masked16 (mask16 (Scalar.addi (Scalar.muli a 1#32) 0#32) a) (softplus16 (logits16 q k b)))) run)) v acc x
      = stepAcc x0 x1 x2 x3 x4 g o causal f9 f10 ((Rect.unit (s := S8x256x128) off S1x16x128.size inb).emb x) := by
  rw [emb_state16 h hh off inb h0 h1 h2, eta_state16 x]
  exact accMasked16_eq x0 x1 x2 x3 x4 g o f9 f10 h hh a q k v b run acc hq hk hb hv hrun hacc (x 1) (x 2)

theorem runPieceMasked16 (h : ℕ) (hh : h < 8) (off : Fin 3 → ℕ) (inb : ∀ a, off a + S1x16x128.size a ≤ S8x256x128.size a)
    (h0 : off 0 = h) (h1 : off 1 = 0) (h2 : off 2 = 0) (a : BitVec 32) (q : Vec Ideal S1x16x128 .bf16) (k : Vec Ideal S1x256x128 .bf16) (b : EReal)
    (run : Vec Ideal S1x16x128 .f32)
    (hq : ∀ (r : Fin 16) (d : Fin 128), q (ix3 0 r d) = x1 (ix3 0 (queryIx r) (colIx h d)))
    (hk : ∀ (s : Fin 256) (d : Fin 128), k (ix3 0 s d) = x2 (ix3 0 (rowIx (o + s)) (colIx h d)))
    (hb : b = x0 (ix1 (headIx g h)))
    (hrun : ∀ (r : Fin 16) (c : Fin 128), run (ix3 0 r c) = f10 (ix3 ⟨h, hh⟩ (queryIx r) c))
    (x : S1x16x128.Idx) :
    running16 (suffix16 x4 (masked16 (mask16 (Scalar.addi (Scalar.muli a 1#32) 0#32) a) (softplus16 (logits16 q k b)))) run x
      = stepRun x0 x1 x2 x4 g o causal f10 ((Rect.unit (s := S8x256x128) off S1x16x128.size inb).emb x) := by
  rw [emb_state16 h hh off inb h0 h1 h2, eta_state16 x]
  exact runMasked16_eq x0 x1 x2 x4 g o f10 h hh a q k b run hq hk hb hrun (x 1) (x 2)

variable (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole)

theorem accLoad256 (hg : g < 2) (h : ℕ) (hh : h < 8) (offA : Fin 3 → ℕ) (inbA : ∀ a, offA a + S1x256x128.size a ≤ S8x256x128.size a) (hA : offA 0 = h ∧ offA 1 = 0 ∧ offA 2 = 0)
    (offQ : Fin 3 → ℕ) (inbQ : ∀ a, offQ a + S1x256x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offV : Fin 3 → ℕ) (inbV : ∀ a, offV a + S1x256x128.size a ≤ S1x4352x1024.size a) (hV : offV 0 = 0 ∧ offV 1 = o ∧ offV 2 = 128 * h)
    (offB : Fin 1 → ℕ) (inbB : ∀ a, offB a + S1.size a ≤ S16.size a) (hB : offB 0 = 8 * g + h) (y : S1.Idx)
    (run : Vec Ideal S1x256x128 .f32) (acc : Vec Ideal S1x256x128 .f32)
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (x : S1x256x128.Idx) :
    accum256 (weights256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)) (suffix256 x4 (softplus256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)))) run)
        (View.readAt (Elt Ideal) arg6.view (Rect.unit (s := S1x4352x1024) offV S1x256x128.size inbV).toLoadRect (harg6.unread x3)) acc x
      = stepAcc x0 x1 x2 x3 x4 g o noMask f9 f10 ((Rect.unit (s := S8x256x128) offA S1x256x128.size inbA).emb x) :=
  accPiece256 x0 x1 x2 x3 x4 g o f9 f10 h hh offA inbA hA.1 hA.2.1 hA.2.2 _ _ _ _ run acc
    (fun r d => (ld_query256 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _))
    (fun s d => (ld_key _ h o hh offV inbV hV.1 hV.2.1 hV.2.2 s d).trans (congrFun (Memref.IsWhole.read_unread (Val := Elt Ideal) harg6 x3) _)) hrun hacc x

theorem runLoad256 (hg : g < 2) (h : ℕ) (hh : h < 8) (offA : Fin 3 → ℕ) (inbA : ∀ a, offA a + S1x256x128.size a ≤ S8x256x128.size a) (hA : offA 0 = h ∧ offA 1 = 0 ∧ offA 2 = 0)
    (offQ : Fin 3 → ℕ) (inbQ : ∀ a, offQ a + S1x256x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offB : Fin 1 → ℕ) (inbB : ∀ a, offB a + S1.size a ≤ S16.size a) (hB : offB 0 = 8 * g + h) (y : S1.Idx)
    (run : Vec Ideal S1x256x128 .f32)
    (hrun : ∀ (r : Fin 256) (c : Fin 128), run (ix3 0 r c) = f10 (ix3 ⟨h, hh⟩ (queryIx r) c))
    (x : S1x256x128.Idx) :
    running256 (suffix256 x4 (softplus256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)))) run x
      = stepRun x0 x1 x2 x4 g o noMask f10 ((Rect.unit (s := S8x256x128) offA S1x256x128.size inbA).emb x) :=
  runPiece256 x0 x1 x2 x4 g o f10 h hh offA inbA hA.1 hA.2.1 hA.2.2 _ _ _ run
    (fun r d => (ld_query256 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _)) hrun x

theorem accLoadMasked256 (hg : g < 2) (h : ℕ) (hh : h < 8) (a : BitVec 32) (offA : Fin 3 → ℕ) (inbA : ∀ a, offA a + S1x256x128.size a ≤ S8x256x128.size a) (hA : offA 0 = h ∧ offA 1 = 0 ∧ offA 2 = 0)
    (offQ : Fin 3 → ℕ) (inbQ : ∀ a, offQ a + S1x256x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offV : Fin 3 → ℕ) (inbV : ∀ a, offV a + S1x256x128.size a ≤ S1x4352x1024.size a) (hV : offV 0 = 0 ∧ offV 1 = o ∧ offV 2 = 128 * h)
    (offB : Fin 1 → ℕ) (inbB : ∀ a, offB a + S1.size a ≤ S16.size a) (hB : offB 0 = 8 * g + h) (y : S1.Idx)
    (run : Vec Ideal S1x256x128 .f32) (acc : Vec Ideal S1x256x128 .f32)
    (hrun : ∀ (r : Fin 256) (c : Fin 128), run (ix3 0 r c) = f10 (ix3 ⟨h, hh⟩ (queryIx r) c))
    (hacc : ∀ (r : Fin 256) (c : Fin 128), acc (ix3 0 r c) = f9 (ix3 ⟨h, hh⟩ (queryIx r) c))
    (x : S1x256x128.Idx) :
    accum256 (masked256 (mask256 (Scalar.addi (Scalar.muli a 1#32) 0#32) a) (weights256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)) (suffix256 x4 (masked256 (mask256 (Scalar.addi (Scalar.muli a 1#32) 0#32) a) (softplus256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y))))) run))
        (View.readAt (Elt Ideal) arg6.view (Rect.unit (s := S1x4352x1024) offV S1x256x128.size inbV).toLoadRect (harg6.unread x3)) acc x
      = stepAcc x0 x1 x2 x3 x4 g o causal f9 f10 ((Rect.unit (s := S8x256x128) offA S1x256x128.size inbA).emb x) :=
  accPieceMasked256 x0 x1 x2 x3 x4 g o f9 f10 h hh offA inbA hA.1 hA.2.1 hA.2.2 a _ _ _ _ run acc
    (fun r d => (ld_query256 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _))
    (fun s d => (ld_key _ h o hh offV inbV hV.1 hV.2.1 hV.2.2 s d).trans (congrFun (Memref.IsWhole.read_unread (Val := Elt Ideal) harg6 x3) _)) hrun hacc x

theorem runLoadMasked256 (hg : g < 2) (h : ℕ) (hh : h < 8) (a : BitVec 32) (offA : Fin 3 → ℕ) (inbA : ∀ a, offA a + S1x256x128.size a ≤ S8x256x128.size a) (hA : offA 0 = h ∧ offA 1 = 0 ∧ offA 2 = 0)
    (offQ : Fin 3 → ℕ) (inbQ : ∀ a, offQ a + S1x256x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offB : Fin 1 → ℕ) (inbB : ∀ a, offB a + S1.size a ≤ S16.size a) (hB : offB 0 = 8 * g + h) (y : S1.Idx)
    (run : Vec Ideal S1x256x128 .f32)
    (hrun : ∀ (r : Fin 256) (c : Fin 128), run (ix3 0 r c) = f10 (ix3 ⟨h, hh⟩ (queryIx r) c))
    (x : S1x256x128.Idx) :
    running256 (suffix256 x4 (masked256 (mask256 (Scalar.addi (Scalar.muli a 1#32) 0#32) a) (softplus256 (logits256 (View.readAt (Elt Ideal) arg4.view (Rect.unit (s := S1x256x1024) offQ S1x256x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y))))) run x
      = stepRun x0 x1 x2 x4 g o causal f10 ((Rect.unit (s := S8x256x128) offA S1x256x128.size inbA).emb x) :=
  runPieceMasked256 x0 x1 x2 x4 g o f10 h hh offA inbA hA.1 hA.2.1 hA.2.2 a _ _ _ run
    (fun r d => (ld_query256 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _)) hrun x

theorem accLoad16 (hg : g < 2) (h : ℕ) (hh : h < 8) (offA : Fin 3 → ℕ) (inbA : ∀ a, offA a + S1x16x128.size a ≤ S8x256x128.size a) (hA : offA 0 = h ∧ offA 1 = 0 ∧ offA 2 = 0)
    (offQ : Fin 3 → ℕ) (inbQ : ∀ a, offQ a + S1x16x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offV : Fin 3 → ℕ) (inbV : ∀ a, offV a + S1x256x128.size a ≤ S1x4352x1024.size a) (hV : offV 0 = 0 ∧ offV 1 = o ∧ offV 2 = 128 * h)
    (offB : Fin 1 → ℕ) (inbB : ∀ a, offB a + S1.size a ≤ S16.size a) (hB : offB 0 = 8 * g + h) (y : S1.Idx)
    (run : Vec Ideal S1x16x128 .f32) (acc : Vec Ideal S1x16x128 .f32)
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (x : S1x16x128.Idx) :
    accum16 (weights16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)) (suffix16 x4 (softplus16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)))) run)
        (View.readAt (Elt Ideal) arg6.view (Rect.unit (s := S1x4352x1024) offV S1x256x128.size inbV).toLoadRect (harg6.unread x3)) acc x
      = stepAcc x0 x1 x2 x3 x4 g o noMask f9 f10 ((Rect.unit (s := S8x256x128) offA S1x16x128.size inbA).emb x) :=
  accPiece16 x0 x1 x2 x3 x4 g o f9 f10 h hh offA inbA hA.1 hA.2.1 hA.2.2 _ _ _ _ run acc
    (fun r d => (ld_query16 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _))
    (fun s d => (ld_key _ h o hh offV inbV hV.1 hV.2.1 hV.2.2 s d).trans (congrFun (Memref.IsWhole.read_unread (Val := Elt Ideal) harg6 x3) _)) hrun hacc x

theorem runLoad16 (hg : g < 2) (h : ℕ) (hh : h < 8) (offA : Fin 3 → ℕ) (inbA : ∀ a, offA a + S1x16x128.size a ≤ S8x256x128.size a) (hA : offA 0 = h ∧ offA 1 = 0 ∧ offA 2 = 0)
    (offQ : Fin 3 → ℕ) (inbQ : ∀ a, offQ a + S1x16x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offB : Fin 1 → ℕ) (inbB : ∀ a, offB a + S1.size a ≤ S16.size a) (hB : offB 0 = 8 * g + h) (y : S1.Idx)
    (run : Vec Ideal S1x16x128 .f32)
    (hrun : ∀ (r : Fin 16) (c : Fin 128), run (ix3 0 r c) = f10 (ix3 ⟨h, hh⟩ (queryIx r) c))
    (x : S1x16x128.Idx) :
    running16 (suffix16 x4 (softplus16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)))) run x
      = stepRun x0 x1 x2 x4 g o noMask f10 ((Rect.unit (s := S8x256x128) offA S1x16x128.size inbA).emb x) :=
  runPiece16 x0 x1 x2 x4 g o f10 h hh offA inbA hA.1 hA.2.1 hA.2.2 _ _ _ run
    (fun r d => (ld_query16 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _)) hrun x

theorem accLoadMasked16 (hg : g < 2) (h : ℕ) (hh : h < 8) (a : BitVec 32) (offA : Fin 3 → ℕ) (inbA : ∀ a, offA a + S1x16x128.size a ≤ S8x256x128.size a) (hA : offA 0 = h ∧ offA 1 = 0 ∧ offA 2 = 0)
    (offQ : Fin 3 → ℕ) (inbQ : ∀ a, offQ a + S1x16x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offV : Fin 3 → ℕ) (inbV : ∀ a, offV a + S1x256x128.size a ≤ S1x4352x1024.size a) (hV : offV 0 = 0 ∧ offV 1 = o ∧ offV 2 = 128 * h)
    (offB : Fin 1 → ℕ) (inbB : ∀ a, offB a + S1.size a ≤ S16.size a) (hB : offB 0 = 8 * g + h) (y : S1.Idx)
    (run : Vec Ideal S1x16x128 .f32) (acc : Vec Ideal S1x16x128 .f32)
    (hrun : ∀ (r : Fin 16) (c : Fin 128), run (ix3 0 r c) = f10 (ix3 ⟨h, hh⟩ (queryIx r) c))
    (hacc : ∀ (r : Fin 16) (c : Fin 128), acc (ix3 0 r c) = f9 (ix3 ⟨h, hh⟩ (queryIx r) c))
    (x : S1x16x128.Idx) :
    accum16 (masked16 (mask16 (Scalar.addi (Scalar.muli a 1#32) 0#32) a) (weights16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y)) (suffix16 x4 (masked16 (mask16 (Scalar.addi (Scalar.muli a 1#32) 0#32) a) (softplus16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y))))) run))
        (View.readAt (Elt Ideal) arg6.view (Rect.unit (s := S1x4352x1024) offV S1x256x128.size inbV).toLoadRect (harg6.unread x3)) acc x
      = stepAcc x0 x1 x2 x3 x4 g o causal f9 f10 ((Rect.unit (s := S8x256x128) offA S1x16x128.size inbA).emb x) :=
  accPieceMasked16 x0 x1 x2 x3 x4 g o f9 f10 h hh offA inbA hA.1 hA.2.1 hA.2.2 a _ _ _ _ run acc
    (fun r d => (ld_query16 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _))
    (fun s d => (ld_key _ h o hh offV inbV hV.1 hV.2.1 hV.2.2 s d).trans (congrFun (Memref.IsWhole.read_unread (Val := Elt Ideal) harg6 x3) _)) hrun hacc x

theorem runLoadMasked16 (hg : g < 2) (h : ℕ) (hh : h < 8) (a : BitVec 32) (offA : Fin 3 → ℕ) (inbA : ∀ a, offA a + S1x16x128.size a ≤ S8x256x128.size a) (hA : offA 0 = h ∧ offA 1 = 0 ∧ offA 2 = 0)
    (offQ : Fin 3 → ℕ) (inbQ : ∀ a, offQ a + S1x16x128.size a ≤ S1x256x1024.size a) (hQ : offQ 0 = 0 ∧ offQ 1 = 0 ∧ offQ 2 = 128 * h)
    (offK : Fin 3 → ℕ) (inbK : ∀ a, offK a + S1x256x128.size a ≤ S1x4352x1024.size a) (hK : offK 0 = 0 ∧ offK 1 = o ∧ offK 2 = 128 * h)
    (offB : Fin 1 → ℕ) (inbB : ∀ a, offB a + S1.size a ≤ S16.size a) (hB : offB 0 = 8 * g + h) (y : S1.Idx)
    (run : Vec Ideal S1x16x128 .f32)
    (hrun : ∀ (r : Fin 16) (c : Fin 128), run (ix3 0 r c) = f10 (ix3 ⟨h, hh⟩ (queryIx r) c))
    (x : S1x16x128.Idx) :
    running16 (suffix16 x4 (masked16 (mask16 (Scalar.addi (Scalar.muli a 1#32) 0#32) a) (softplus16 (logits16 (View.readAt (Elt Ideal) arg4.view (Rect.unit (s := S1x256x1024) offQ S1x16x128.size inbQ).toLoadRect (harg4.unread x1))
          (View.readAt (Elt Ideal) arg5.view (Rect.unit (s := S1x4352x1024) offK S1x256x128.size inbK).toLoadRect (harg5.unread x2))
          (View.readAt (Elt Ideal) arg3.view (Rect.unit (s := S16) offB S1.size inbB).toLoadRect (harg3.unread x0) y))))) run x
      = stepRun x0 x1 x2 x4 g o causal f10 ((Rect.unit (s := S8x256x128) offA S1x16x128.size inbA).emb x) :=
  runPieceMasked16 x0 x1 x2 x4 g o f10 h hh offA inbA hA.1 hA.2.1 hA.2.2 a _ _ _ run
    (fun r d => (ld_query16 _ h hh offQ inbQ hQ.1 hQ.2.1 hQ.2.2 r d).trans (congrFun (Memref.IsWhole.read_unread (Val := Elt Ideal) harg4 x1) _))
    (fun s d => (ld_key _ h o hh offK inbK hK.1 hK.2.1 hK.2.2 s d).trans (congrFun (Memref.IsWhole.read_unread (Val := Elt Ideal) harg5 x2) _))
    ((ld_bias _ g h hg hh offB inbB hB y).trans (congrFun (Memref.IsWhole.read_unread (Val := Elt Ideal) harg3 x0) _)) hrun x

end Pieces

end Cert.Proof.Block
-- ==== Proof.Closed.lean ====
module

public import proofs.«01_k».proof.Proof.Piece

@[expose] public section

set_option maxRecDepth 16384

noncomputable section

namespace Cert.Proof.Block

open Cert.KernelIdeal Cert.KernelIdeal.Gen Idealize.ShloMosaic Idealize.ShloMosaic.TcCoe

/-! ## The blocks' sums joined

The scratch arrays hold, once the blocks from key row `o` on are done, sums over the key rows from `o` to the end
`N` of the diagonal block. A further block prolongs both sums downwards. -/

section Closed

variable (x0 : S16.Idx → EReal) (x1 : S1x256x1024.Idx → EReal) (x2 x3 : S1x4352x1024.Idx → EReal) (x4 : S256x256.Idx → EReal)
  (g q N : ℕ)

/-- Minus the softplus of a key row before the tile's row, zero at the others; the tile's first row is row `q`. -/
def negSp (h r j : ℕ) : EReal := if j < q + r then -sp2 (zAt x0 x1 x2 g h r j) else 0

/-- The running sum over the key rows from `o` on. -/
def runSum (h r o : ℕ) : EReal := ∑ j ∈ Finset.Ico o N, negSp x0 x1 x2 g q h r j

/-- The attention weight of key row `s`. -/
def weight (h r s : ℕ) : EReal :=
  if s < q + r then pow2 (zAt x0 x1 x2 g h r s + runSum x0 x1 x2 g q N h r s) else 0

/-- The weighted sum of the value rows from `o` on. -/
def accSum (h r d o : ℕ) : EReal :=
  ∑ s ∈ Finset.Ico o N, weight x0 x1 x2 g q N h r s * x3 (ix3 0 (rowIx s) (colIx h d))

variable {x0 x1 x2 x3 x4 g q N}

theorem sum_block (f : ℕ → EReal) (o a : ℕ) (ha : a ≤ 256) :
    (∑ t : Fin 256, if a ≤ t.val then f (o + t.val) else 0) = ∑ j ∈ Finset.Ico (o + a) (o + 256), f j := by
  rw [Fin.sum_univ_eq_sum_range (fun t => if a ≤ t then f (o + t) else 0) 256, ← Finset.sum_filter,
    Finset.sum_Ico_eq_sum_range]
  have hs : Finset.filter (fun t => a ≤ t) (Finset.range 256) = Finset.Ico a 256 := by
    ext t
    simp only [Finset.mem_filter, Finset.mem_range, Finset.mem_Ico]
    omega
  rw [hs, Finset.sum_Ico_eq_sum_range]
  refine Finset.sum_congr (congrArg _ (by omega)) fun t _ => congrArg f (by omega)

variable (hx4 : ∀ t s : Fin 256, x4 (ix2 t s) = if s.val ≤ t.val then -1 else 0)

include hx4 in
theorem cssAt_eq (o : ℕ) (M : ℕ → ℕ → Prop) [∀ r s, Decidable (M r s)] (h r : ℕ) (hM : ∀ t, t < 256 → (M r t ↔ o + t < q + r))
    (s : Fin 256) : cssAt x0 x1 x2 x4 g o M h r s = ∑ j ∈ Finset.Ico (o + s.val) (o + 256), negSp x0 x1 x2 g q h r j := by
  unfold cssAt
  rw [← sum_block _ o s.val (by omega)]
  refine Finset.sum_congr rfl fun t _ => ?_
  rw [hx4]
  unfold negSp
  by_cases hst : s.val ≤ t.val
  · by_cases hm : M r t.val
    · rw [if_pos hst, if_pos hst, if_pos hm, if_pos ((hM t.val t.isLt).mp hm), mul_neg, mul_one]
    · rw [if_pos hst, if_pos hst, if_neg hm, if_neg (fun e => hm ((hM t.val t.isLt).mpr e)), zero_mul]
  · rw [if_neg hst, if_neg hst, mul_zero]

include hx4 in
theorem stepRun_eq (o : ℕ) (ho : o + 256 ≤ N) (M : ℕ → ℕ → Prop) [∀ r s, Decidable (M r s)] (f10 : S8x256x128.Idx → EReal)
    (y : S8x256x128.Idx) (hM : ∀ t, t < 256 → (M (y 1).val t ↔ o + t < q + (y 1).val))
    (h10 : f10 y = runSum x0 x1 x2 g q N (y 0).val (y 1).val (o + 256)) :
    stepRun x0 x1 x2 x4 g o M f10 y = runSum x0 x1 x2 g q N (y 0).val (y 1).val o := by
  unfold stepRun
  rw [h10, cssAt_eq hx4 o M _ _ hM, add_comm]
  exact Finset.sum_Ico_consecutive _ (show o + 0 ≤ o + 256 by omega) ho

include hx4 in
theorem stepAcc_eq (o : ℕ) (ho : o + 256 ≤ N) (M : ℕ → ℕ → Prop) [∀ r s, Decidable (M r s)] (f9 f10 : S8x256x128.Idx → EReal)
    (y : S8x256x128.Idx) (hM : ∀ t, t < 256 → (M (y 1).val t ↔ o + t < q + (y 1).val))
    (h10 : ∀ c : Fin 128, f10 (ix3 (y 0) (y 1) c) = runSum x0 x1 x2 g q N (y 0).val (y 1).val (o + 256))
    (h9 : f9 y = accSum x0 x1 x2 x3 g q N (y 0).val (y 1).val (y 2).val (o + 256)) :
    stepAcc x0 x1 x2 x3 x4 g o M f9 f10 y = accSum x0 x1 x2 x3 g q N (y 0).val (y 1).val (y 2).val o := by
  have hw : ∀ s : Fin 256, (if M (y 1).val s then
      pow2 (zAt x0 x1 x2 g (y 0).val (y 1).val (o + s) + cssAt x0 x1 x2 x4 g o M (y 0).val (y 1).val s + f10 (ix3 (y 0) (y 1) (lane s)))
      else 0) = weight x0 x1 x2 g q N (y 0).val (y 1).val (o + s) := by
    intro s
    unfold weight
    by_cases hm : M (y 1).val s.val
    · rw [if_pos hm, if_pos ((hM s.val s.isLt).mp hm), h10, cssAt_eq hx4 o M _ _ hM, add_assoc]
      refine congrArg pow2 (congrArg (HAdd.hAdd _) ?_)
      exact Finset.sum_Ico_consecutive _ (by omega) ho
    · rw [if_neg hm, if_neg (fun e => hm ((hM s.val s.isLt).mpr e))]
  unfold stepAcc
  rw [h9, add_comm]
  have hs : (∑ s : Fin 256, (if M (y 1).val s then
      pow2 (zAt x0 x1 x2 g (y 0).val (y 1).val (o + s) + cssAt x0 x1 x2 x4 g o M (y 0).val (y 1).val s + f10 (ix3 (y 0) (y 1) (lane s)))
      else 0) * x3 (ix3 0 (rowIx (o + s)) (colIx (y 0).val (y 2).val)))
      = ∑ s ∈ Finset.Ico o (o + 256), weight x0 x1 x2 g q N (y 0).val (y 1).val s * x3 (ix3 0 (rowIx s) (colIx (y 0).val (y 2).val)) := by
    refine Eq.trans ?_ (sum_block (fun s => weight x0 x1 x2 g q N (y 0).val (y 1).val s * x3 (ix3 0 (rowIx s) (colIx (y 0).val (y 2).val))) o 0 (by omega))
    refine Finset.sum_congr rfl fun s _ => ?_
    rw [hw s, if_pos (Nat.zero_le _)]
  rw [hs]
  exact Finset.sum_Ico_consecutive _ (by omega) ho

end Closed

end Cert.Proof.Block
-- ==== Proof.Trip.lean ====
module

public import proofs.«01_k».proof.Proof.Piece

@[expose] public section

set_option maxRecDepth 16384

noncomputable section

namespace Cert.Proof.Block

open Cert.KernelIdeal Cert.KernelIdeal.Gen Idealize.ShloMosaic Idealize.ShloMosaic.TcCoe Idealize.SL.Sem

theorem key_words : ∀ (a : Fin 17) (k : ℕ), k < a.val →
    (Scalar.indexCast (Scalar.muli (Scalar.subi (Scalar.subi (Scalar.muli (BitVec.ofNat 32 a.val) 1#32) 1#32) (Scf.iv 0#32 1#32 k)) 256#32)).toNat
      = 256 * (a.val - 1 - k) := by
  have h : ∀ a k : Fin 17, k.val < a.val →
      (Scalar.indexCast (Scalar.muli (Scalar.subi (Scalar.subi (Scalar.muli (BitVec.ofNat 32 a.val) 1#32) 1#32) (Scf.iv 0#32 1#32 k.val)) 256#32)).toNat
        = 256 * (a.val - 1 - k.val) := by
    decide +kernel
  exact fun a k hk => h a ⟨k, by omega⟩ hk

theorem bias_words : ∀ (g : Fin 2) (h : Fin 8),
    (Scalar.indexCast (Scalar.addi (Scalar.muli (BitVec.ofNat 32 g.val) 8#32) (BitVec.ofNat 32 h.val))).toNat = 8 * g.val + h.val := by
  decide +kernel

/-- The loop makes a trip for each key block before the diagonal one. -/
theorem trips1 (i : grid0.Coords) : (k0_t1_loop i).trips = (i 2).val := by
  have h : ∀ a : Fin 17, Scf.trips 0#32 (Scalar.addi 0#32 (Scalar.muli (Scalar.divsi (Scalar.subi (Scalar.muli (BitVec.ofNat 32 a.val) 1#32) 0#32) 1#32) 1#32)) 1#32 = a.val := by
    decide +kernel
  exact h (i 2)

/-- The same of the loop over the last tile's blocks. -/
theorem trips3 (i : grid0.Coords) : (k0_t3_loop i).trips = (i 2).val := trips1 i

variable (𝒱 : Variants) (c : Dev nD) (bd : Option 𝒱.V) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)

theorem trip1_acc (k0_h1 : k0_cond1 i = 1#1) (arg1 arg2 : BitVec 32) (v499 : FVec Ideal S256x128 .f32) (k : Fin (k0_t1_loop i).trips) (o : ℕ) (ho : o = 256 * ((i 2).val - 1 - k.val))
    (f9 : BufTy.Contents (Elt Ideal) arg9.view.ty) (f10 : BufTy.Contents (Elt Ideal) arg10.view.ty) :
    View.PiecesOf (stepAcc x0 x1 x2 x3 x4 (i 1).val o noMask (View.read (Elt Ideal) arg9.view f9) (View.read (Elt Ideal) arg10.view f10))
      ((trip_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) k).1 f9 f10) := by
  have hk := (key_words (i 2) k.val (lt_of_lt_of_eq k.isLt (trips1 i))).trans ho.symm
  unfold trip_k0_t1
  dsimp only
  sl_unfold_words
  refine ⟨fun x => ?_, fun x => ?_, fun x => ?_, fun x => ?_, fun x => ?_, fun x => ?_, fun x => ?_, fun x => ?_, trivial⟩
  · refine accLoad256 x0 x1 x2 x3 x4 (i 1).val o _ _ arg3 harg3 arg4 harg4 arg5 harg5 arg6 harg6 (i 1).isLt 7 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 7
    · exact fun r d => ld_state256 _ 7 (by decide) _ (by decide) rfl rfl rfl r d
    · exact fun r d => ld_state256 _ 7 (by decide) _ (by decide) rfl rfl rfl r d
  · refine accLoad256 x0 x1 x2 x3 x4 (i 1).val o _ _ arg3 harg3 arg4 harg4 arg5 harg5 arg6 harg6 (i 1).isLt 6 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 6
    · exact fun r d => ld_state256 _ 6 (by decide) _ (by decide) rfl rfl rfl r d
    · exact fun r d => ld_state256 _ 6 (by decide) _ (by decide) rfl rfl rfl r d
  · refine accLoad256 x0 x1 x2 x3 x4 (i 1).val o _ _ arg3 harg3 arg4 harg4 arg5 harg5 arg6 harg6 (i 1).isLt 5 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 5
    · exact fun r d => ld_state256 _ 5 (by decide) _ (by decide) rfl rfl rfl r d
    · exact fun r d => ld_state256 _ 5 (by decide) _ (by decide) rfl rfl rfl r d
  · refine accLoad256 x0 x1 x2 x3 x4 (i 1).val o _ _ arg3 harg3 arg4 harg4 arg5 harg5 arg6 harg6 (i 1).isLt 4 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 4
    · exact fun r d => ld_state256 _ 4 (by decide) _ (by decide) rfl rfl rfl r d
    · exact fun r d => ld_state256 _ 4 (by decide) _ (by decide) rfl rfl rfl r d
  · refine accLoad256 x0 x1 x2 x3 x4 (i 1).val o _ _ arg3 harg3 arg4 harg4 arg5 harg5 arg6 harg6 (i 1).isLt 3 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 3
    · exact fun r d => ld_state256 _ 3 (by decide) _ (by decide) rfl rfl rfl r d
    · exact fun r d => ld_state256 _ 3 (by decide) _ (by decide) rfl rfl rfl r d
  · refine accLoad256 x0 x1 x2 x3 x4 (i 1).val o _ _ arg3 harg3 arg4 harg4 arg5 harg5 arg6 harg6 (i 1).isLt 2 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 2
    · exact fun r d => ld_state256 _ 2 (by decide) _ (by decide) rfl rfl rfl r d
    · exact fun r d => ld_state256 _ 2 (by decide) _ (by decide) rfl rfl rfl r d
  · refine accLoad256 x0 x1 x2 x3 x4 (i 1).val o _ _ arg3 harg3 arg4 harg4 arg5 harg5 arg6 harg6 (i 1).isLt 1 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 1
    · exact fun r d => ld_state256 _ 1 (by decide) _ (by decide) rfl rfl rfl r d
    · exact fun r d => ld_state256 _ 1 (by decide) _ (by decide) rfl rfl rfl r d
  · refine accLoad256 x0 x1 x2 x3 x4 (i 1).val o _ _ arg3 harg3 arg4 harg4 arg5 harg5 arg6 harg6 (i 1).isLt 0 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 0
    · exact fun r d => ld_state256 _ 0 (by decide) _ (by decide) rfl rfl rfl r d
    · exact fun r d => ld_state256 _ 0 (by decide) _ (by decide) rfl rfl rfl r d

theorem trip1_run (k0_h1 : k0_cond1 i = 1#1) (arg1 arg2 : BitVec 32) (v499 : FVec Ideal S256x128 .f32) (k : Fin (k0_t1_loop i).trips) (o : ℕ) (ho : o = 256 * ((i 2).val - 1 - k.val))
    (f9 : BufTy.Contents (Elt Ideal) arg9.view.ty) (f10 : BufTy.Contents (Elt Ideal) arg10.view.ty) :
    View.PiecesOf (stepRun x0 x1 x2 x4 (i 1).val o noMask (View.read (Elt Ideal) arg10.view f10))
      ((trip_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) k).2.1 f9 f10) := by
  have hk := (key_words (i 2) k.val (lt_of_lt_of_eq k.isLt (trips1 i))).trans ho.symm
  unfold trip_k0_t1
  dsimp only
  sl_unfold_words
  refine ⟨fun x => ?_, fun x => ?_, fun x => ?_, fun x => ?_, fun x => ?_, fun x => ?_, fun x => ?_, fun x => ?_, trivial⟩
  · dsimp only
    refine (congrFun (?_ : _ = running256 (suffix256 x4 (softplus256 (logits256 ?q7 ?k7 ?b7))) ?r7) x).trans ?_
    case refine_1 => exact rfl
    refine runLoad256 x0 x1 x2 x4 (i 1).val o _ arg3 harg3 arg4 harg4 arg5 harg5 (i 1).isLt 7 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 7
    · exact fun r d => ld_state256 _ 7 (by decide) _ (by decide) rfl rfl rfl r d
  · dsimp only
    refine (congrFun (?_ : _ = running256 (suffix256 x4 (softplus256 (logits256 ?q6 ?k6 ?b6))) ?r6) x).trans ?_
    case refine_1 => exact rfl
    refine runLoad256 x0 x1 x2 x4 (i 1).val o _ arg3 harg3 arg4 harg4 arg5 harg5 (i 1).isLt 6 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 6
    · exact fun r d => ld_state256 _ 6 (by decide) _ (by decide) rfl rfl rfl r d
  · dsimp only
    refine (congrFun (?_ : _ = running256 (suffix256 x4 (softplus256 (logits256 ?q5 ?k5 ?b5))) ?r5) x).trans ?_
    case refine_1 => exact rfl
    refine runLoad256 x0 x1 x2 x4 (i 1).val o _ arg3 harg3 arg4 harg4 arg5 harg5 (i 1).isLt 5 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 5
    · exact fun r d => ld_state256 _ 5 (by decide) _ (by decide) rfl rfl rfl r d
  · dsimp only
    refine (congrFun (?_ : _ = running256 (suffix256 x4 (softplus256 (logits256 ?q4 ?k4 ?b4))) ?r4) x).trans ?_
    case refine_1 => exact rfl
    refine runLoad256 x0 x1 x2 x4 (i 1).val o _ arg3 harg3 arg4 harg4 arg5 harg5 (i 1).isLt 4 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 4
    · exact fun r d => ld_state256 _ 4 (by decide) _ (by decide) rfl rfl rfl r d
  · dsimp only
    refine (congrFun (?_ : _ = running256 (suffix256 x4 (softplus256 (logits256 ?q3 ?k3 ?b3))) ?r3) x).trans ?_
    case refine_1 => exact rfl
    refine runLoad256 x0 x1 x2 x4 (i 1).val o _ arg3 harg3 arg4 harg4 arg5 harg5 (i 1).isLt 3 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 3
    · exact fun r d => ld_state256 _ 3 (by decide) _ (by decide) rfl rfl rfl r d
  · dsimp only
    refine (congrFun (?_ : _ = running256 (suffix256 x4 (softplus256 (logits256 ?q2 ?k2 ?b2))) ?r2) x).trans ?_
    case refine_1 => exact rfl
    refine runLoad256 x0 x1 x2 x4 (i 1).val o _ arg3 harg3 arg4 harg4 arg5 harg5 (i 1).isLt 2 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 2
    · exact fun r d => ld_state256 _ 2 (by decide) _ (by decide) rfl rfl rfl r d
  · dsimp only
    refine (congrFun (?_ : _ = running256 (suffix256 x4 (softplus256 (logits256 ?q1 ?k1 ?b1))) ?r1) x).trans ?_
    case refine_1 => exact rfl
    refine runLoad256 x0 x1 x2 x4 (i 1).val o _ arg3 harg3 arg4 harg4 arg5 harg5 (i 1).isLt 1 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 1
    · exact fun r d => ld_state256 _ 1 (by decide) _ (by decide) rfl rfl rfl r d
  · dsimp only
    refine (congrFun (?_ : _ = running256 (suffix256 x4 (softplus256 (logits256 ?q0 ?k0 ?b0))) ?r0) x).trans ?_
    case refine_1 => exact rfl
    refine runLoad256 x0 x1 x2 x4 (i 1).val o _ arg3 harg3 arg4 harg4 arg5 harg5 (i 1).isLt 0 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 0
    · exact fun r d => ld_state256 _ 0 (by decide) _ (by decide) rfl rfl rfl r d

theorem trip3_acc (k0_h2 : k0_cond2 i = 1#1) (arg1 arg2 : BitVec 32) (v499 : FVec Ideal S16x128 .f32) (k : Fin (k0_t3_loop i).trips) (o : ℕ) (ho : o = 256 * ((i 2).val - 1 - k.val))
    (f9 : BufTy.Contents (Elt Ideal) arg9.view.ty) (f10 : BufTy.Contents (Elt Ideal) arg10.view.ty) :
    View.PiecesOf (stepAcc x0 x1 x2 x3 x4 (i 1).val o noMask (View.read (Elt Ideal) arg9.view f9) (View.read (Elt Ideal) arg10.view f10))
      ((trip_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) k).1 f9 f10) := by
  have hk := (key_words (i 2) k.val (lt_of_lt_of_eq k.isLt (trips3 i))).trans ho.symm
  unfold trip_k0_t3
  dsimp only
  sl_unfold_words
  refine ⟨fun x => ?_, fun x => ?_, fun x => ?_, fun x => ?_, fun x => ?_, fun x => ?_, fun x => ?_, fun x => ?_, trivial⟩
  · refine accLoad16 x0 x1 x2 x3 x4 (i 1).val o _ _ arg3 harg3 arg4 harg4 arg5 harg5 arg6 harg6 (i 1).isLt 7 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 7
    · exact fun r d => ld_state16 _ 7 (by decide) _ (by decide) rfl rfl rfl r d
    · exact fun r d => ld_state16 _ 7 (by decide) _ (by decide) rfl rfl rfl r d
  · refine accLoad16 x0 x1 x2 x3 x4 (i 1).val o _ _ arg3 harg3 arg4 harg4 arg5 harg5 arg6 harg6 (i 1).isLt 6 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 6
    · exact fun r d => ld_state16 _ 6 (by decide) _ (by decide) rfl rfl rfl r d
    · exact fun r d => ld_state16 _ 6 (by decide) _ (by decide) rfl rfl rfl r d
  · refine accLoad16 x0 x1 x2 x3 x4 (i 1).val o _ _ arg3 harg3 arg4 harg4 arg5 harg5 arg6 harg6 (i 1).isLt 5 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 5
    · exact fun r d => ld_state16 _ 5 (by decide) _ (by decide) rfl rfl rfl r d
    · exact fun r d => ld_state16 _ 5 (by decide) _ (by decide) rfl rfl rfl r d
  · refine accLoad16 x0 x1 x2 x3 x4 (i 1).val o _ _ arg3 harg3 arg4 harg4 arg5 harg5 arg6 harg6 (i 1).isLt 4 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 4
    · exact fun r d => ld_state16 _ 4 (by decide) _ (by decide) rfl rfl rfl r d
    · exact fun r d => ld_state16 _ 4 (by decide) _ (by decide) rfl rfl rfl r d
  · refine accLoad16 x0 x1 x2 x3 x4 (i 1).val o _ _ arg3 harg3 arg4 harg4 arg5 harg5 arg6 harg6 (i 1).isLt 3 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 3
    · exact fun r d => ld_state16 _ 3 (by decide) _ (by decide) rfl rfl rfl r d
    · exact fun r d => ld_state16 _ 3 (by decide) _ (by decide) rfl rfl rfl r d
  · refine accLoad16 x0 x1 x2 x3 x4 (i 1).val o _ _ arg3 harg3 arg4 harg4 arg5 harg5 arg6 harg6 (i 1).isLt 2 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 2
    · exact fun r d => ld_state16 _ 2 (by decide) _ (by decide) rfl rfl rfl r d
    · exact fun r d => ld_state16 _ 2 (by decide) _ (by decide) rfl rfl rfl r d
  · refine accLoad16 x0 x1 x2 x3 x4 (i 1).val o _ _ arg3 harg3 arg4 harg4 arg5 harg5 arg6 harg6 (i 1).isLt 1 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 1
    · exact fun r d => ld_state16 _ 1 (by decide) _ (by decide) rfl rfl rfl r d
    · exact fun r d => ld_state16 _ 1 (by decide) _ (by decide) rfl rfl rfl r d
  · refine accLoad16 x0 x1 x2 x3 x4 (i 1).val o _ _ arg3 harg3 arg4 harg4 arg5 harg5 arg6 harg6 (i 1).isLt 0 (by decide) _ (by decide) ?_ _ (by decide) ?_ _ _ ?_ _ _ ?_ _ _ ?_ _ _ _ ?_ ?_ x
    · exact ⟨rfl, rfl, rfl⟩
    · exact ⟨rfl, rfl, rfl⟩
    · exact ⟨rfl, hk, rfl⟩
    · exact ⟨rfl, hk, rfl⟩
    · exact bias_words (i 1) 0
    · exact fun r d => ld_state16 _ 0 (by decide) _ (by decide) rfl rfl rfl r d
    · exact fun r d => ld_state16 _ 0 (by decide) _ (by decide) rfl rfl rfl r d

theorem trip3_run (k0_h2 : k0_cond2 i = 1#1) (arg1 arg2 : BitVec 32) (v499 : FVec Ideal S16x128 .f32) (k : Fin (k0_t3_loop i).trips) (o : ℕ) (ho : o = 256 * ((i 2).val - 1 - k.val))
    (f9 : BufTy.Contents (Elt Ideal) arg9.view.ty) (f10 : BufTy.Contents (Elt Ideal) arg10.view.ty) :
    View.PiecesOf (stepRun x0 x1 x2 x4 (i 1).val o noMask (View.read (Elt Ideal) arg10.view f10))
      ((trip_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) k).2.1 f9 f10) := by
  have hk := (key_words (i 2) k.val (lt_of_lt_of_eq k.isLt (trips3 i))).trans ho.symm
  unfold trip_k0_t3
  dsimp only
  sl_unfold_words
  refine ⟨fun x => ?_, fun x => ?_, fun x => ?_, fun x => ?_, fun x => ?_, fun x => ?_, fun x => ?_, fun x => ?_, trivial⟩
  · dsimp only
    refine (congrFun (?_ : _ = running16 (suffix16 x4 (softplus16 (logits16 ?q7 ?k7 ?b7))) ?r7) x).trans ?_
    case refine_1 => exact rfl
    refine runLoad16 x0 x1 x2 x4 (i 1).val o _ arg3 harg3 arg4 harg4 arg5 harg5 (i 1).isLt 7 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 7
    · exact fun r d => ld_state16 _ 7 (by decide) _ (by decide) rfl rfl rfl r d
  · dsimp only
    refine (congrFun (?_ : _ = running16 (suffix16 x4 (softplus16 (logits16 ?q6 ?k6 ?b6))) ?r6) x).trans ?_
    case refine_1 => exact rfl
    refine runLoad16 x0 x1 x2 x4 (i 1).val o _ arg3 harg3 arg4 harg4 arg5 harg5 (i 1).isLt 6 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 6
    · exact fun r d => ld_state16 _ 6 (by decide) _ (by decide) rfl rfl rfl r d
  · dsimp only
    refine (congrFun (?_ : _ = running16 (suffix16 x4 (softplus16 (logits16 ?q5 ?k5 ?b5))) ?r5) x).trans ?_
    case refine_1 => exact rfl
    refine runLoad16 x0 x1 x2 x4 (i 1).val o _ arg3 harg3 arg4 harg4 arg5 harg5 (i 1).isLt 5 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 5
    · exact fun r d => ld_state16 _ 5 (by decide) _ (by decide) rfl rfl rfl r d
  · dsimp only
    refine (congrFun (?_ : _ = running16 (suffix16 x4 (softplus16 (logits16 ?q4 ?k4 ?b4))) ?r4) x).trans ?_
    case refine_1 => exact rfl
    refine runLoad16 x0 x1 x2 x4 (i 1).val o _ arg3 harg3 arg4 harg4 arg5 harg5 (i 1).isLt 4 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 4
    · exact fun r d => ld_state16 _ 4 (by decide) _ (by decide) rfl rfl rfl r d
  · dsimp only
    refine (congrFun (?_ : _ = running16 (suffix16 x4 (softplus16 (logits16 ?q3 ?k3 ?b3))) ?r3) x).trans ?_
    case refine_1 => exact rfl
    refine runLoad16 x0 x1 x2 x4 (i 1).val o _ arg3 harg3 arg4 harg4 arg5 harg5 (i 1).isLt 3 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 3
    · exact fun r d => ld_state16 _ 3 (by decide) _ (by decide) rfl rfl rfl r d
  · dsimp only
    refine (congrFun (?_ : _ = running16 (suffix16 x4 (softplus16 (logits16 ?q2 ?k2 ?b2))) ?r2) x).trans ?_
    case refine_1 => exact rfl
    refine runLoad16 x0 x1 x2 x4 (i 1).val o _ arg3 harg3 arg4 harg4 arg5 harg5 (i 1).isLt 2 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 2
    · exact fun r d => ld_state16 _ 2 (by decide) _ (by decide) rfl rfl rfl r d
  · dsimp only
    refine (congrFun (?_ : _ = running16 (suffix16 x4 (softplus16 (logits16 ?q1 ?k1 ?b1))) ?r1) x).trans ?_
    case refine_1 => exact rfl
    refine runLoad16 x0 x1 x2 x4 (i 1).val o _ arg3 harg3 arg4 harg4 arg5 harg5 (i 1).isLt 1 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 1
    · exact fun r d => ld_state16 _ 1 (by decide) _ (by decide) rfl rfl rfl r d
  · dsimp only
    refine (congrFun (?_ : _ = running16 (suffix16 x4 (softplus16 (logits16 ?q0 ?k0 ?b0))) ?r0) x).trans ?_
    case refine_1 => exact rfl
    refine runLoad16 x0 x1 x2 x4 (i 1).val o _ arg3 harg3 arg4 harg4 arg5 harg5 (i 1).isLt 0 (by decide) _ (by decide) ?_ _ (by decide) ?_ _ _ ?_ _ _ ?_ _ _ ?_ x
    · exact ⟨rfl, rfl, rfl⟩
    · exact ⟨rfl, rfl, rfl⟩
    · exact ⟨rfl, hk, rfl⟩
    · exact bias_words (i 1) 0
    · exact fun r d => ld_state16 _ 0 (by decide) _ (by decide) rfl rfl rfl r d

end Cert.Proof.Block
-- ==== Proof.Loop.lean ====
module

public import proofs.«01_k».proof.Proof.Closed
public import proofs.«01_k».proof.Proof.Trip

@[expose] public section

set_option maxRecDepth 16384

noncomputable section

namespace Cert.Proof.Block

open Cert.KernelIdeal Cert.KernelIdeal.Gen Idealize.ShloMosaic Idealize.ShloMosaic.TcCoe Idealize.SL.Sem

/-! ## The blocks' loops -/

/-- The eight heads' pieces cover the tile's rows. -/
theorem cover_heads256 {w0 : S1x256x128.Idx → EReal} {w1 : S1x256x128.Idx → EReal} {w2 : S1x256x128.Idx → EReal} {w3 : S1x256x128.Idx → EReal} {w4 : S1x256x128.Idx → EReal} {w5 : S1x256x128.Idx → EReal} {w6 : S1x256x128.Idx → EReal} {w7 : S1x256x128.Idx → EReal}
    {i0 : ∀ a : Fin 3, (![0, 0, 0] : Fin 3 → ℕ) a + S1x256x128.size a ≤ S8x256x128.size a} {i1 : ∀ a : Fin 3, (![1, 0, 0] : Fin 3 → ℕ) a + S1x256x128.size a ≤ S8x256x128.size a} {i2 : ∀ a : Fin 3, (![2, 0, 0] : Fin 3 → ℕ) a + S1x256x128.size a ≤ S8x256x128.size a} {i3 : ∀ a : Fin 3, (![3, 0, 0] : Fin 3 → ℕ) a + S1x256x128.size a ≤ S8x256x128.size a} {i4 : ∀ a : Fin 3, (![4, 0, 0] : Fin 3 → ℕ) a + S1x256x128.size a ≤ S8x256x128.size a} {i5 : ∀ a : Fin 3, (![5, 0, 0] : Fin 3 → ℕ) a + S1x256x128.size a ≤ S8x256x128.size a} {i6 : ∀ a : Fin 3, (![6, 0, 0] : Fin 3 → ℕ) a + S1x256x128.size a ≤ S8x256x128.size a} {i7 : ∀ a : Fin 3, (![7, 0, 0] : Fin 3 → ℕ) a + S1x256x128.size a ≤ S8x256x128.size a}
    (y : S8x256x128.Idx) (hy : (y 1).val < 256) : ∃ p ∈ ([⟨Rect.unit ![7, 0, 0] S1x256x128.size i7, w7⟩, ⟨Rect.unit ![6, 0, 0] S1x256x128.size i6, w6⟩, ⟨Rect.unit ![5, 0, 0] S1x256x128.size i5, w5⟩, ⟨Rect.unit ![4, 0, 0] S1x256x128.size i4, w4⟩, ⟨Rect.unit ![3, 0, 0] S1x256x128.size i3, w3⟩, ⟨Rect.unit ![2, 0, 0] S1x256x128.size i2, w2⟩, ⟨Rect.unit ![1, 0, 0] S1x256x128.size i1, w1⟩, ⟨Rect.unit ![0, 0, 0] S1x256x128.size i0, w0⟩] : List (View.Piece (Elt Ideal) S8x256x128 .f32)), y ∈ p.1.set := by
  have h0 : (y 0).val < 8 := (y 0).isLt
  have h2 : (y 2).val < 128 := (y 2).isLt
  have hm : ∀ (h : ℕ) (inb : ∀ a : Fin 3, (![h, 0, 0] : Fin 3 → ℕ) a + S1x256x128.size a ≤ S8x256x128.size a), (y 0).val = h →
      y ∈ (Rect.unit (s := S8x256x128) ![h, 0, 0] S1x256x128.size inb).set := by
    intro h inb e
    refine Rect.mem_set_unit.mpr fun a => ?_
    fin_cases a
    · show h ≤ (y 0).val ∧ (y 0).val < h + 1
      omega
    · show 0 ≤ (y 1).val ∧ (y 1).val < 0 + 256
      omega
    · show 0 ≤ (y 2).val ∧ (y 2).val < 0 + 128
      omega
  have hc : (y 0).val = 7 ∨ (y 0).val = 6 ∨ (y 0).val = 5 ∨ (y 0).val = 4 ∨ (y 0).val = 3 ∨ (y 0).val = 2 ∨ (y 0).val = 1 ∨ (y 0).val = 0 := by omega
  rcases hc with e | e | e | e | e | e | e | e
  · exact ⟨_, .head _, hm 7 i7 e⟩
  · exact ⟨_, .tail _ (.head _), hm 6 i6 e⟩
  · exact ⟨_, .tail _ (.tail _ (.head _)), hm 5 i5 e⟩
  · exact ⟨_, .tail _ (.tail _ (.tail _ (.head _))), hm 4 i4 e⟩
  · exact ⟨_, .tail _ (.tail _ (.tail _ (.tail _ (.head _)))), hm 3 i3 e⟩
  · exact ⟨_, .tail _ (.tail _ (.tail _ (.tail _ (.tail _ (.head _))))), hm 2 i2 e⟩
  · exact ⟨_, .tail _ (.tail _ (.tail _ (.tail _ (.tail _ (.tail _ (.head _)))))), hm 1 i1 e⟩
  · exact ⟨_, .tail _ (.tail _ (.tail _ (.tail _ (.tail _ (.tail _ (.tail _ (.head _))))))), hm 0 i0 e⟩

/-- The eight heads' pieces cover the tile's rows. -/
theorem cover_heads16 {w0 : S1x16x128.Idx → EReal} {w1 : S1x16x128.Idx → EReal} {w2 : S1x16x128.Idx → EReal} {w3 : S1x16x128.Idx → EReal} {w4 : S1x16x128.Idx → EReal} {w5 : S1x16x128.Idx → EReal} {w6 : S1x16x128.Idx → EReal} {w7 : S1x16x128.Idx → EReal}
    {i0 : ∀ a : Fin 3, (![0, 0, 0] : Fin 3 → ℕ) a + S1x16x128.size a ≤ S8x256x128.size a} {i1 : ∀ a : Fin 3, (![1, 0, 0] : Fin 3 → ℕ) a + S1x16x128.size a ≤ S8x256x128.size a} {i2 : ∀ a : Fin 3, (![2, 0, 0] : Fin 3 → ℕ) a + S1x16x128.size a ≤ S8x256x128.size a} {i3 : ∀ a : Fin 3, (![3, 0, 0] : Fin 3 → ℕ) a + S1x16x128.size a ≤ S8x256x128.size a} {i4 : ∀ a : Fin 3, (![4, 0, 0] : Fin 3 → ℕ) a + S1x16x128.size a ≤ S8x256x128.size a} {i5 : ∀ a : Fin 3, (![5, 0, 0] : Fin 3 → ℕ) a + S1x16x128.size a ≤ S8x256x128.size a} {i6 : ∀ a : Fin 3, (![6, 0, 0] : Fin 3 → ℕ) a + S1x16x128.size a ≤ S8x256x128.size a} {i7 : ∀ a : Fin 3, (![7, 0, 0] : Fin 3 → ℕ) a + S1x16x128.size a ≤ S8x256x128.size a}
    (y : S8x256x128.Idx) (hy : (y 1).val < 16) : ∃ p ∈ ([⟨Rect.unit ![7, 0, 0] S1x16x128.size i7, w7⟩, ⟨Rect.unit ![6, 0, 0] S1x16x128.size i6, w6⟩, ⟨Rect.unit ![5, 0, 0] S1x16x128.size i5, w5⟩, ⟨Rect.unit ![4, 0, 0] S1x16x128.size i4, w4⟩, ⟨Rect.unit ![3, 0, 0] S1x16x128.size i3, w3⟩, ⟨Rect.unit ![2, 0, 0] S1x16x128.size i2, w2⟩, ⟨Rect.unit ![1, 0, 0] S1x16x128.size i1, w1⟩, ⟨Rect.unit ![0, 0, 0] S1x16x128.size i0, w0⟩] : List (View.Piece (Elt Ideal) S8x256x128 .f32)), y ∈ p.1.set := by
  have h0 : (y 0).val < 8 := (y 0).isLt
  have h2 : (y 2).val < 128 := (y 2).isLt
  have hm : ∀ (h : ℕ) (inb : ∀ a : Fin 3, (![h, 0, 0] : Fin 3 → ℕ) a + S1x16x128.size a ≤ S8x256x128.size a), (y 0).val = h →
      y ∈ (Rect.unit (s := S8x256x128) ![h, 0, 0] S1x16x128.size inb).set := by
    intro h inb e
    refine Rect.mem_set_unit.mpr fun a => ?_
    fin_cases a
    · show h ≤ (y 0).val ∧ (y 0).val < h + 1
      omega
    · show 0 ≤ (y 1).val ∧ (y 1).val < 0 + 16
      omega
    · show 0 ≤ (y 2).val ∧ (y 2).val < 0 + 128
      omega
  have hc : (y 0).val = 7 ∨ (y 0).val = 6 ∨ (y 0).val = 5 ∨ (y 0).val = 4 ∨ (y 0).val = 3 ∨ (y 0).val = 2 ∨ (y 0).val = 1 ∨ (y 0).val = 0 := by omega
  rcases hc with e | e | e | e | e | e | e | e
  · exact ⟨_, .head _, hm 7 i7 e⟩
  · exact ⟨_, .tail _ (.head _), hm 6 i6 e⟩
  · exact ⟨_, .tail _ (.tail _ (.head _)), hm 5 i5 e⟩
  · exact ⟨_, .tail _ (.tail _ (.tail _ (.head _))), hm 4 i4 e⟩
  · exact ⟨_, .tail _ (.tail _ (.tail _ (.tail _ (.head _)))), hm 3 i3 e⟩
  · exact ⟨_, .tail _ (.tail _ (.tail _ (.tail _ (.tail _ (.head _))))), hm 2 i2 e⟩
  · exact ⟨_, .tail _ (.tail _ (.tail _ (.tail _ (.tail _ (.tail _ (.head _)))))), hm 1 i1 e⟩
  · exact ⟨_, .tail _ (.tail _ (.tail _ (.tail _ (.tail _ (.tail _ (.tail _ (.head _))))))), hm 0 i0 e⟩

section Inv

variable (x0 : S16.Idx → EReal) (x1 : S1x256x1024.Idx → EReal) (x2 x3 : S1x4352x1024.Idx → EReal) (x4 : S256x256.Idx → EReal)
  (g q N R : ℕ)

/-- The first `R` rows of the scratch arrays hold the sums over the key rows from `o` on. -/
def Inv (o : ℕ) (a9 a10 : S8x256x128.Idx → EReal) : Prop :=
  ∀ y : S8x256x128.Idx, (y 1).val < R →
    a9 y = accSum x0 x1 x2 x3 g q N (y 0).val (y 1).val (y 2).val o ∧ a10 y = runSum x0 x1 x2 g q N (y 0).val (y 1).val o

variable {x0 x1 x2 x3 x4 g q N R}

theorem read_pieces {v : View sig .tc .vmem S8x256x128 .f32} (f : v.ty.Contents (Elt Ideal)) (G : S8x256x128.Idx → EReal)
    (L : List (View.Piece (Elt Ideal) S8x256x128 .f32)) (hL : View.PiecesOf (Val := Elt Ideal) (e := .f32) G L) (y : S8x256x128.Idx)
    (hc : ∃ p ∈ L, y ∈ p.1.set) : v.read (Elt Ideal) (v.writes (Elt Ideal) f L) y = G y :=
  (View.read_writes_apply_eq_canon v f y L hc).trans (View.canon_apply_of_pieces G L hL.mem y hc)

theorem inv_step (hx4 : ∀ t s : Fin 256, x4 (ix2 t s) = if s.val ≤ t.val then -1 else 0) (o : ℕ) (ho : o + 256 ≤ N)
    (M : ℕ → ℕ → Prop) [∀ r s, Decidable (M r s)] (hM : ∀ r t, r < R → t < 256 → (M r t ↔ o + t < q + r))
    {v9 v10 : View sig .tc .vmem S8x256x128 .f32} (f9 : v9.ty.Contents (Elt Ideal)) (f10 : v10.ty.Contents (Elt Ideal))
    (b9 b10 : S8x256x128.Idx → EReal)
    (hb : Inv x0 x1 x2 x3 g q N R (o + 256) b9 b10)
    (L9 L10 : List (View.Piece (Elt Ideal) S8x256x128 .f32))
    (h9 : View.PiecesOf (Val := Elt Ideal) (e := .f32) (stepAcc x0 x1 x2 x3 x4 g o M b9 b10) L9)
    (h10 : View.PiecesOf (Val := Elt Ideal) (e := .f32) (stepRun x0 x1 x2 x4 g o M b10) L10)
    (c9 : ∀ y : S8x256x128.Idx, (y 1).val < R → ∃ p ∈ L9, y ∈ p.1.set)
    (c10 : ∀ y : S8x256x128.Idx, (y 1).val < R → ∃ p ∈ L10, y ∈ p.1.set) :
    Inv x0 x1 x2 x3 g q N R o (v9.read (Elt Ideal) (v9.writes (Elt Ideal) f9 L9)) (v10.read (Elt Ideal) (v10.writes (Elt Ideal) f10 L10)) := by
  intro y hy
  constructor
  · rw [read_pieces f9 _ L9 h9 y (c9 y hy)]
    exact stepAcc_eq hx4 o ho M b9 b10 y (fun t ht => hM _ t hy ht) (fun c => (hb (ix3 (y 0) (y 1) c) hy).2) (hb y hy).1
  · rw [read_pieces f10 _ L10 h10 y (c10 y hy)]
    exact stepRun_eq hx4 o ho M b10 y (fun t ht => hM _ t hy ht) (hb y hy).2

end Inv

variable (𝒱 : Variants) (c : Dev nD) (bd : Option 𝒱.V) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)

theorem trip1_cover9 (k0_h1 : k0_cond1 i = 1#1) (arg1 arg2 : BitVec 32) (v499 : FVec Ideal S256x128 .f32) (k : Fin (k0_t1_loop i).trips)
    (f9 : BufTy.Contents (Elt Ideal) arg9.view.ty) (f10 : BufTy.Contents (Elt Ideal) arg10.view.ty) (y : S8x256x128.Idx) (hy : (y 1).val < 256) :
    ∃ p ∈ (trip_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) k).1 f9 f10, y ∈ p.1.set := by
  unfold trip_k0_t1
  dsimp only
  exact cover_heads256 y hy

theorem trip1_cover10 (k0_h1 : k0_cond1 i = 1#1) (arg1 arg2 : BitVec 32) (v499 : FVec Ideal S256x128 .f32) (k : Fin (k0_t1_loop i).trips)
    (f9 : BufTy.Contents (Elt Ideal) arg9.view.ty) (f10 : BufTy.Contents (Elt Ideal) arg10.view.ty) (y : S8x256x128.Idx) (hy : (y 1).val < 256) :
    ∃ p ∈ (trip_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) k).2.1 f9 f10, y ∈ p.1.set := by
  unfold trip_k0_t1
  dsimp only
  exact cover_heads256 y hy

theorem loop1 (hx4 : ∀ t s : Fin 256, x4 (ix2 t s) = if s.val ≤ t.val then -1 else 0)
    (k0_h1 : k0_cond1 i = 1#1) (arg1 arg2 : BitVec 32) (v499 : FVec Ideal S256x128 .f32)
    (G9 : BufTy.Contents (Elt Ideal) arg9.view.ty) (G10 : BufTy.Contents (Elt Ideal) arg10.view.ty)
    (hG : Inv x0 x1 x2 x3 (i 1).val (256 * (i 2).val) (256 * (i 2).val + 256) 256 (256 * (i 2).val)
      (View.read (Elt Ideal) arg9.view G9) (View.read (Elt Ideal) arg10.view G10)) :
    ∀ k : ℕ, k ≤ (i 2).val → Inv x0 x1 x2 x3 (i 1).val (256 * (i 2).val) (256 * (i 2).val + 256) 256 (256 * ((i 2).val - k))
      (View.read (Elt Ideal) arg9.view (arg9.view.writes (Elt Ideal) G9 (pb_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) G9 G10 k).1))
      (View.read (Elt Ideal) arg10.view (arg10.view.writes (Elt Ideal) G10 (pb_k0_t1 (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) G9 G10 k).2))
  | 0, _ => hG
  | k + 1, hk => by
    have ih := loop1 hx4 k0_h1 arg1 arg2 v499 G9 G10 hG k (by omega)
    have hlt : k < (k0_t1_loop i).trips := lt_of_lt_of_eq (Nat.lt_of_succ_le hk) (trips1 i).symm
    have e := pb_k0_t1_succ (F := Ideal) 𝒱 c bd i arg3 harg3 arg4 harg4 arg5 harg5 arg6 harg6 arg7 harg7 arg8 harg8 arg9 harg9 arg10 harg10 arg1 arg2 x4 k0_h1 v499
        (harg3.unread x0) (harg4.unread x1) (harg5.unread x2) (harg6.unread x3) G9 G10 ⟨k, hlt⟩
    rw [e]
    dsimp only
    rw [View.writes_append, View.writes_append]
    have hk' : 256 * ((i 2).val - (k + 1)) + 256 = 256 * ((i 2).val - k) := by omega
    refine inv_step hx4 _ (by omega) noMask (fun r t _ _ => iff_of_true trivial (by omega)) _ _ _ _ (hk'.symm ▸ ih) _ _
      (trip1_acc 𝒱 c bd i arg3 harg3 arg4 harg4 arg5 harg5 arg6 harg6 arg7 harg7 arg8 harg8 arg9 harg9 arg10 harg10 x0 x1 x2 x3 x4 k0_h1 arg1 arg2 v499 ⟨k, hlt⟩ _ (by dsimp only; omega) _ _)
      (trip1_run 𝒱 c bd i arg3 harg3 arg4 harg4 arg5 harg5 arg6 harg6 arg7 harg7 arg8 harg8 arg9 harg9 arg10 harg10 x0 x1 x2 x3 x4 k0_h1 arg1 arg2 v499 ⟨k, hlt⟩ _ (by dsimp only; omega) _ _)
      (fun y hy => trip1_cover9 𝒱 c bd i arg3 harg3 arg4 harg4 arg5 harg5 arg6 harg6 arg7 harg7 arg8 harg8 arg9 harg9 arg10 harg10 x0 x1 x2 x3 x4 k0_h1 arg1 arg2 v499 ⟨k, hlt⟩ _ _ y hy)
      (fun y hy => trip1_cover10 𝒱 c bd i arg3 harg3 arg4 harg4 arg5 harg5 arg6 harg6 arg7 harg7 arg8 harg8 arg9 harg9 arg10 harg10 x0 x1 x2 x3 x4 k0_h1 arg1 arg2 v499 ⟨k, hlt⟩ _ _ y hy)

theorem trip3_cover9 (k0_h2 : k0_cond2 i = 1#1) (arg1 arg2 : BitVec 32) (v499 : FVec Ideal S16x128 .f32) (k : Fin (k0_t3_loop i).trips)
    (f9 : BufTy.Contents (Elt Ideal) arg9.view.ty) (f10 : BufTy.Contents (Elt Ideal) arg10.view.ty) (y : S8x256x128.Idx) (hy : (y 1).val < 16) :
    ∃ p ∈ (trip_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) k).1 f9 f10, y ∈ p.1.set := by
  unfold trip_k0_t3
  dsimp only
  exact cover_heads16 y hy

theorem trip3_cover10 (k0_h2 : k0_cond2 i = 1#1) (arg1 arg2 : BitVec 32) (v499 : FVec Ideal S16x128 .f32) (k : Fin (k0_t3_loop i).trips)
    (f9 : BufTy.Contents (Elt Ideal) arg9.view.ty) (f10 : BufTy.Contents (Elt Ideal) arg10.view.ty) (y : S8x256x128.Idx) (hy : (y 1).val < 16) :
    ∃ p ∈ (trip_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) k).2.1 f9 f10, y ∈ p.1.set := by
  unfold trip_k0_t3
  dsimp only
  exact cover_heads16 y hy

theorem loop3 (hx4 : ∀ t s : Fin 256, x4 (ix2 t s) = if s.val ≤ t.val then -1 else 0)
    (k0_h2 : k0_cond2 i = 1#1) (arg1 arg2 : BitVec 32) (v499 : FVec Ideal S16x128 .f32)
    (G9 : BufTy.Contents (Elt Ideal) arg9.view.ty) (G10 : BufTy.Contents (Elt Ideal) arg10.view.ty)
    (hG : Inv x0 x1 x2 x3 (i 1).val (256 * (i 2).val) (256 * (i 2).val + 256) 16 (256 * (i 2).val)
      (View.read (Elt Ideal) arg9.view G9) (View.read (Elt Ideal) arg10.view G10)) :
    ∀ k : ℕ, k ≤ (i 2).val → Inv x0 x1 x2 x3 (i 1).val (256 * (i 2).val) (256 * (i 2).val + 256) 16 (256 * ((i 2).val - k))
      (View.read (Elt Ideal) arg9.view (arg9.view.writes (Elt Ideal) G9 (pb_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) G9 G10 k).1))
      (View.read (Elt Ideal) arg10.view (arg10.view.writes (Elt Ideal) G10 (pb_k0_t3 (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) G9 G10 k).2))
  | 0, _ => hG
  | k + 1, hk => by
    have ih := loop3 hx4 k0_h2 arg1 arg2 v499 G9 G10 hG k (by omega)
    have hlt : k < (k0_t3_loop i).trips := lt_of_lt_of_eq (Nat.lt_of_succ_le hk) (trips3 i).symm
    have e := pb_k0_t3_succ (F := Ideal) 𝒱 c bd i arg3 harg3 arg4 harg4 arg5 harg5 arg6 harg6 arg7 harg7 arg8 harg8 arg9 harg9 arg10 harg10 arg1 arg2 x4 k0_h2 v499
        (harg3.unread x0) (harg4.unread x1) (harg5.unread x2) (harg6.unread x3) G9 G10 ⟨k, hlt⟩
    rw [e]
    dsimp only
    rw [View.writes_append, View.writes_append]
    have hk' : 256 * ((i 2).val - (k + 1)) + 256 = 256 * ((i 2).val - k) := by omega
    refine inv_step hx4 _ (by omega) noMask (fun r t _ _ => iff_of_true trivial (by omega)) _ _ _ _ (hk'.symm ▸ ih) _ _
      (trip3_acc 𝒱 c bd i arg3 harg3 arg4 harg4 arg5 harg5 arg6 harg6 arg7 harg7 arg8 harg8 arg9 harg9 arg10 harg10 x0 x1 x2 x3 x4 k0_h2 arg1 arg2 v499 ⟨k, hlt⟩ _ (by dsimp only; omega) _ _)
      (trip3_run 𝒱 c bd i arg3 harg3 arg4 harg4 arg5 harg5 arg6 harg6 arg7 harg7 arg8 harg8 arg9 harg9 arg10 harg10 x0 x1 x2 x3 x4 k0_h2 arg1 arg2 v499 ⟨k, hlt⟩ _ (by dsimp only; omega) _ _)
      (fun y hy => trip3_cover9 𝒱 c bd i arg3 harg3 arg4 harg4 arg5 harg5 arg6 harg6 arg7 harg7 arg8 harg8 arg9 harg9 arg10 harg10 x0 x1 x2 x3 x4 k0_h2 arg1 arg2 v499 ⟨k, hlt⟩ _ _ y hy)
      (fun y hy => trip3_cover10 𝒱 c bd i arg3 harg3 arg4 harg4 arg5 harg5 arg6 harg6 arg7 harg7 arg8 harg8 arg9 harg9 arg10 harg10 x0 x1 x2 x3 x4 k0_h2 arg1 arg2 v499 ⟨k, hlt⟩ _ _ y hy)

end Cert.Proof.Block
-- ==== Proof.Stores.lean ====
module

public import proofs.«01_k».proof.Proof.Loop

@[expose] public section

set_option maxRecDepth 16384

noncomputable section

namespace Cert.Proof.Block

open Cert.KernelIdeal Cert.KernelIdeal.Gen Idealize.ShloMosaic Idealize.ShloMosaic.TcCoe Idealize.SL.Sem

/-! ## The list of stores, head by head -/

section Canon

variable {L : List (View.Piece (Elt Ideal) S8x256x128 .f32)}

theorem canon_head256 (h : ℕ) (hh : h < 8) {inb : ∀ a : Fin 3, (![h, 0, 0] : Fin 3 → ℕ) a + S1x256x128.size a ≤ S8x256x128.size a}
    {w : S1x256x128.Idx → EReal} (G : S8x256x128.Idx → EReal)
    (hw : ∀ x : S1x256x128.Idx, w x = G ((Rect.unit (s := S8x256x128) ![h, 0, 0] S1x256x128.size inb).emb x))
    (hL : ∀ y : S8x256x128.Idx, (y 1).val < 256 → (y 0).val < h → View.canon (Val := Elt Ideal) L y = G y) (y : S8x256x128.Idx)
    (h1 : (y 1).val < 256) (h0 : (y 0).val < h + 1) :
    View.canon (Val := Elt Ideal) ((⟨Rect.unit ![h, 0, 0] S1x256x128.size inb, w⟩ : View.Piece (Elt Ideal) S8x256x128 .f32) :: L) y = G y := by
  by_cases e : (y 0).val = h
  · have hy : y = (Rect.unit (s := S8x256x128) ![h, 0, 0] S1x256x128.size inb).emb (ix3 0 ⟨(y 1).val, h1⟩ (y 2)) := by
      rw [emb_state256 h hh ![h, 0, 0] inb rfl rfl rfl]
      funext a
      refine Fin.ext ?_
      fin_cases a
      · exact e
      · exact (Nat.mod_eq_of_lt (y 1).isLt).symm
      · rfl
    rw [hy]
    exact (View.canon_cons_emb _ _ _ _).trans (hw _)
  · rw [View.canon_cons_of_not_mem]
    · exact hL y h1 (by omega)
    · intro hm
      have h2 : h ≤ (y 0).val ∧ (y 0).val < h + 1 := (Rect.mem_set_unit (s := S8x256x128) (inb := inb)).mp hm 0
      omega

theorem canon_skip256 (h : ℕ) {inb : ∀ a : Fin 3, (![h, 0, 0] : Fin 3 → ℕ) a + S1x256x128.size a ≤ S8x256x128.size a}
    {w : S1x256x128.Idx → EReal} (hL : ∀ y : S8x256x128.Idx, (y 1).val < 256 → h ≤ (y 0).val → View.canon (Val := Elt Ideal) L y = (0 : EReal))
    (y : S8x256x128.Idx) (h1 : (y 1).val < 256) (hy : h + 1 ≤ (y 0).val) :
    View.canon (Val := Elt Ideal) ((⟨Rect.unit ![h, 0, 0] S1x256x128.size inb, w⟩ : View.Piece (Elt Ideal) S8x256x128 .f32) :: L) y = (0 : EReal) := by
  rw [View.canon_cons_of_not_mem]
  · exact hL y h1 (by omega)
  · intro hm
    have h2 : h ≤ (y 0).val ∧ (y 0).val < h + 1 := (Rect.mem_set_unit (s := S8x256x128) (inb := inb)).mp hm 0
    omega

theorem load_zero256 (v : View sig .tc .vmem S8x256x128 .f32) (h : ℕ) (hh : h < 8)
    {inb : ∀ a : Fin 3, (![h, 0, 0] : Fin 3 → ℕ) a + S1x256x128.size a ≤ S8x256x128.size a}
    (hL : ∀ y : S8x256x128.Idx, (y 1).val < 256 → h ≤ (y 0).val → View.canon (Val := Elt Ideal) L y = (0 : EReal)) (r : Fin 256) (c : Fin 128) :
    v.readCov (Val := Elt Ideal) L (Rect.unit (s := S8x256x128) ![h, 0, 0] S1x256x128.size inb).toLoadRect (ix3 0 r c) = (0 : EReal) := by
  rw [View.readCov_eq_canon']
  refine hL _ ?_ ?_
  · show 0 + 1 * r.val < 256
    omega
  · show h ≤ h + 1 * 0
    omega

theorem canon_head16 (h : ℕ) (hh : h < 8) {inb : ∀ a : Fin 3, (![h, 0, 0] : Fin 3 → ℕ) a + S1x16x128.size a ≤ S8x256x128.size a}
    {w : S1x16x128.Idx → EReal} (G : S8x256x128.Idx → EReal)
    (hw : ∀ x : S1x16x128.Idx, w x = G ((Rect.unit (s := S8x256x128) ![h, 0, 0] S1x16x128.size inb).emb x))
    (hL : ∀ y : S8x256x128.Idx, (y 1).val < 16 → (y 0).val < h → View.canon (Val := Elt Ideal) L y = G y) (y : S8x256x128.Idx)
    (h1 : (y 1).val < 16) (h0 : (y 0).val < h + 1) :
    View.canon (Val := Elt Ideal) ((⟨Rect.unit ![h, 0, 0] S1x16x128.size inb, w⟩ : View.Piece (Elt Ideal) S8x256x128 .f32) :: L) y = G y := by
  by_cases e : (y 0).val = h
  · have hy : y = (Rect.unit (s := S8x256x128) ![h, 0, 0] S1x16x128.size inb).emb (ix3 0 ⟨(y 1).val, h1⟩ (y 2)) := by
      rw [emb_state16 h hh ![h, 0, 0] inb rfl rfl rfl]
      funext a
      refine Fin.ext ?_
      fin_cases a
      · exact e
      · exact (Nat.mod_eq_of_lt (y 1).isLt).symm
      · rfl
    rw [hy]
    exact (View.canon_cons_emb _ _ _ _).trans (hw _)
  · rw [View.canon_cons_of_not_mem]
    · exact hL y h1 (by omega)
    · intro hm
      have h2 : h ≤ (y 0).val ∧ (y 0).val < h + 1 := (Rect.mem_set_unit (s := S8x256x128) (inb := inb)).mp hm 0
      omega

theorem canon_skip16 (h : ℕ) {inb : ∀ a : Fin 3, (![h, 0, 0] : Fin 3 → ℕ) a + S1x16x128.size a ≤ S8x256x128.size a}
    {w : S1x16x128.Idx → EReal} (hL : ∀ y : S8x256x128.Idx, (y 1).val < 16 → h ≤ (y 0).val → View.canon (Val := Elt Ideal) L y = (0 : EReal))
    (y : S8x256x128.Idx) (h1 : (y 1).val < 16) (hy : h + 1 ≤ (y 0).val) :
    View.canon (Val := Elt Ideal) ((⟨Rect.unit ![h, 0, 0] S1x16x128.size inb, w⟩ : View.Piece (Elt Ideal) S8x256x128 .f32) :: L) y = (0 : EReal) := by
  rw [View.canon_cons_of_not_mem]
  · exact hL y h1 (by omega)
  · intro hm
    have h2 : h ≤ (y 0).val ∧ (y 0).val < h + 1 := (Rect.mem_set_unit (s := S8x256x128) (inb := inb)).mp hm 0
    omega

theorem load_zero16 (v : View sig .tc .vmem S8x256x128 .f32) (h : ℕ) (hh : h < 8)
    {inb : ∀ a : Fin 3, (![h, 0, 0] : Fin 3 → ℕ) a + S1x16x128.size a ≤ S8x256x128.size a}
    (hL : ∀ y : S8x256x128.Idx, (y 1).val < 16 → h ≤ (y 0).val → View.canon (Val := Elt Ideal) L y = (0 : EReal)) (r : Fin 16) (c : Fin 128) :
    v.readCov (Val := Elt Ideal) L (Rect.unit (s := S8x256x128) ![h, 0, 0] S1x16x128.size inb).toLoadRect (ix3 0 r c) = (0 : EReal) := by
  rw [View.readCov_eq_canon']
  refine hL _ ?_ ?_
  · show 0 + 1 * r.val < 16
    omega
  · show h ≤ h + 1 * 0
    omega

theorem canon_fill256 {inb : ∀ a : Fin 3, (![0, 0, 0] : Fin 3 → ℕ) a + S8x256x128.size a ≤ S8x256x128.size a} (y : S8x256x128.Idx) (h1 : (y 1).val < 256) :
    View.canon (Val := Elt Ideal) ((⟨Rect.unit ![0, 0, 0] S8x256x128.size inb, k0_pay104 (F := Ideal)⟩ : View.Piece (Elt Ideal) S8x256x128 .f32) :: L) y = (0 : EReal) := by
  have hy : y = (Rect.unit (s := S8x256x128) ![0, 0, 0] S8x256x128.size inb).emb (ix3 (y 0) ⟨(y 1).val, h1⟩ (y 2)) := by
    funext a
    refine Fin.ext ?_
    fin_cases a
    · show (y 0).val = 0 + 1 * (y 0).val
      omega
    · show (y 1).val = 0 + 1 * (y 1).val
      omega
    · show (y 2).val = 0 + 1 * (y 2).val
      omega
  have hz : ∀ x : S8x256x128.Idx, k0_pay104 (F := Ideal) x = (0 : EReal) := by
    intro x
    idx_vars x
    pointwise [k0_pay104]
  rw [hy]
  exact (View.canon_cons_emb _ _ _ _).trans (hz _)

theorem canon_fill16a {inb : ∀ a : Fin 3, (![0, 0, 0] : Fin 3 → ℕ) a + S8x16x128.size a ≤ S8x256x128.size a} (y : S8x256x128.Idx) (h1 : (y 1).val < 16) :
    View.canon (Val := Elt Ideal) ((⟨Rect.unit ![0, 0, 0] S8x16x128.size inb, k0_pay276 (F := Ideal)⟩ : View.Piece (Elt Ideal) S8x256x128 .f32) :: L) y = (0 : EReal) := by
  have hy : y = (Rect.unit (s := S8x256x128) ![0, 0, 0] S8x16x128.size inb).emb (ix3 (y 0) ⟨(y 1).val, h1⟩ (y 2)) := by
    funext a
    refine Fin.ext ?_
    fin_cases a
    · show (y 0).val = 0 + 1 * (y 0).val
      omega
    · show (y 1).val = 0 + 1 * (y 1).val
      omega
    · show (y 2).val = 0 + 1 * (y 2).val
      omega
  have hz : ∀ x : S8x16x128.Idx, k0_pay276 (F := Ideal) x = (0 : EReal) := by
    intro x
    idx_vars x
    pointwise [k0_pay276]
  rw [hy]
  exact (View.canon_cons_emb _ _ _ _).trans (hz _)

theorem canon_fill16b {inb : ∀ a : Fin 3, (![0, 0, 0] : Fin 3 → ℕ) a + S8x16x128.size a ≤ S8x256x128.size a} (y : S8x256x128.Idx) (h1 : (y 1).val < 16) :
    View.canon (Val := Elt Ideal) ((⟨Rect.unit ![0, 0, 0] S8x16x128.size inb, k0_pay277 (F := Ideal)⟩ : View.Piece (Elt Ideal) S8x256x128 .f32) :: L) y = (0 : EReal) := by
  have hy : y = (Rect.unit (s := S8x256x128) ![0, 0, 0] S8x16x128.size inb).emb (ix3 (y 0) ⟨(y 1).val, h1⟩ (y 2)) := by
    funext a
    refine Fin.ext ?_
    fin_cases a
    · show (y 0).val = 0 + 1 * (y 0).val
      omega
    · show (y 1).val = 0 + 1 * (y 1).val
      omega
    · show (y 2).val = 0 + 1 * (y 2).val
      omega
  have hz : ∀ x : S8x16x128.Idx, k0_pay277 (F := Ideal) x = (0 : EReal) := by
    intro x
    idx_vars x
    pointwise [k0_pay277]
  rw [hy]
  exact (View.canon_cons_emb _ _ _ _).trans (hz _)

end Canon

/-- The first key row of the diagonal block. -/
theorem diag_words : ∀ a : Fin 17,
    (Scalar.indexCast (Scalar.muli (Scalar.addi (Scalar.muli (BitVec.ofNat 32 a.val) 1#32) 0#32) 256#32)).toNat = 256 * a.val := by
  decide +kernel

/-- The matrix operand, as the body reads it. -/
abbrev v1At (arg7 : Memref sig .tc .vmem S256x256 .bf16) (harg7 : arg7.IsWhole) (x4 : S256x256.Idx → EReal) : FVec Ideal S256x256 .bf16 :=
  k0_pay1 (View.readAt (Elt Ideal) arg7.view (Rect.unit ![0, 0] S256x256.size inb_S256x256_S256x256_0_0).toLoadRect (harg7.unread x4))

theorem v1At_apply (arg7 : Memref sig .tc .vmem S256x256 .bf16) (harg7 : arg7.IsWhole) (x4 : S256x256.Idx → EReal) (t s : Fin 256) :
    v1At arg7 harg7 x4 (ix2 t s) = x4 (ix2 t s) := by
  have h : v1At arg7 harg7 x4 (ix2 t s) = View.ld (Val := Elt Ideal) (e' := .bf16) (View.read (Elt Ideal) arg7.view (harg7.unread x4))
      (Rect.unit (s := S256x256) ![0, 0] S256x256.size inb_S256x256_S256x256_0_0) (ix2 t s) := by
    generalize hX : View.readAt (Elt Ideal) arg7.view (Rect.unit ![0, 0] S256x256.size inb_S256x256_S256x256_0_0).toLoadRect (harg7.unread x4) = X
    have h' : ∀ X : Vec Ideal S256x256 .bf16, k0_pay1 (F := Ideal) X (ix2 t s) = X (ix2 t s) := by
      intro X
      pointwise [k0_pay1]
    exact h' _
  rw [h]
  refine (View.ld_unit_apply_of (Val := Elt Ideal) (S := S256x256) (e := .bf16) _ _ S256x256.size _ (ix2 t s) (ix2 t s) fun a => ?_).trans
    (congrFun (Memref.IsWhole.read_unread (Val := Elt Ideal) harg7 x4) _)
  fin_cases a
  · show t.val = 0 + t.val
    omega
  · show s.val = 0 + s.val
    omega

end Cert.Proof.Block
-- ==== Proof.DiagA.lean ====
module

public import proofs.«01_k».proof.Proof.Stores

@[expose] public section

set_option maxRecDepth 16384

noncomputable section

namespace Cert.Proof.Block

open Cert.KernelIdeal Cert.KernelIdeal.Gen Idealize.ShloMosaic Idealize.ShloMosaic.TcCoe Idealize.SL.Sem

variable (c : Dev nD) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)
include c harg3 harg4 harg5 harg6 harg7 harg8 harg9 harg10 x0 x1 x2 x3 x4

theorem zeroA_acc0 (hc0 : cond0_0 i) (y : S8x256x128.Idx) (h1 : (y 1).val < 256) (hy : 0 ≤ (y 0).val) :
    View.canon (Val := Elt Ideal) (kernelRun0_A.sl.HS0_1 (F := Ideal)) y = (0 : EReal) := by
  unfold kernelRun0_A.sl.HS0_1
  exact canon_fill256 y h1

theorem zeroA_acc1 (hc0 : cond0_0 i) (y : S8x256x128.Idx) (h1 : (y 1).val < 256) (hy : 1 ≤ (y 0).val) :
    View.canon (Val := Elt Ideal) (kernelRun0_A.sl.HS0_2 (F := Ideal) c i arg3 harg3 arg4 harg4 arg5 harg5 arg6 harg6 arg7 harg7 arg9 arg10 hc0 x0 x1 x2 x3 x4) y = (0 : EReal) := by
  unfold kernelRun0_A.sl.HS0_2
  exact canon_skip256 0 (zeroA_acc0 c i arg3 harg3 arg4 harg4 arg5 harg5 arg6 harg6 arg7 harg7 arg8 harg8 arg9 harg9 arg10 harg10 x0 x1 x2 x3 x4 hc0) y h1 hy

theorem zeroA_acc2 (hc0 : cond0_0 i) (y : S8x256x128.Idx) (h1 : (y 1).val < 256) (hy : 2 ≤ (y 0).val) :
    View.canon (Val := Elt Ideal) (kernelRun0_A.sl.HS0_3 (F := Ideal) c i arg3 harg3 arg4 harg4 arg5 harg5 arg6 harg6 arg7 harg7 arg9 arg10 hc0 x0 x1 x2 x3 x4) y = (0 : EReal) := by
  unfold kernelRun0_A.sl.HS0_3
  exact canon_skip256 1 (zeroA_acc1 c i arg3 harg3 arg4 harg4 arg5 harg5 arg6 harg6 arg7 harg7 arg8 harg8 arg9 harg9 arg10 harg10 x0 x1 x2 x3 x4 hc0) y h1 hy

theorem zeroA_acc3 (hc0 : cond0_0 i) (y : S8x256x128.Idx) (h1 : (y 1).val < 256) (hy : 3 ≤ (y 0).val) :
    View.canon (Val := Elt Ideal) (kernelRun0_A.sl.HS0_4 (F := Ideal) c i arg3 harg3 arg4 harg4 arg5 harg5 arg6 harg6 arg7 harg7 arg9 arg10 hc0 x0 x1 x2 x3 x4) y = (0 : EReal) := by
  unfold kernelRun0_A.sl.HS0_4
  exact canon_skip256 2 (zeroA_acc2 c i arg3 harg3 arg4 harg4 arg5 harg5 arg6 harg6 arg7 harg7 arg8 harg8 arg9 harg9 arg10 harg10 x0 x1 x2 x3 x4 hc0) y h1 hy

theorem zeroA_acc4 (hc0 : cond0_0 i) (y : S8x256x128.Idx) (h1 : (y 1).val < 256) (hy : 4 ≤ (y 0).val) :
    View.canon (Val := Elt Ideal) (kernelRun0_A.sl.HS0_5 (F := Ideal) c i arg3 harg3 arg4 harg4 arg5 harg5 arg6 harg6 arg7 harg7 arg9 arg10 hc0 x0 x1 x2 x3 x4) y = (0 : EReal) := by
  unfold kernelRun0_A.sl.HS0_5
  exact canon_skip256 3 (zeroA_acc3 c i arg3 harg3 arg4 harg4 arg5 harg5 arg6 harg6 arg7 harg7 arg8 harg8 arg9 harg9 arg10 harg10 x0 x1 x2 x3 x4 hc0) y h1 hy

theorem zeroA_acc5 (hc0 : cond0_0 i) (y : S8x256x128.Idx) (h1 : (y 1).val < 256) (hy : 5 ≤ (y 0).val) :
    View.canon (Val := Elt Ideal) (kernelRun0_A.sl.HS0_6 (F := Ideal) c i arg3 harg3 arg4 harg4 arg5 harg5 arg6 harg6 arg7 harg7 arg9 arg10 hc0 x0 x1 x2 x3 x4) y = (0 : EReal) := by
  unfold kernelRun0_A.sl.HS0_6
  exact canon_skip256 4 (zeroA_acc4 c i arg3 harg3 arg4 harg4 arg5 harg5 arg6 harg6 arg7 harg7 arg8 harg8 arg9 harg9 arg10 harg10 x0 x1 x2 x3 x4 hc0) y h1 hy

theorem zeroA_acc6 (hc0 : cond0_0 i) (y : S8x256x128.Idx) (h1 : (y 1).val < 256) (hy : 6 ≤ (y 0).val) :
    View.canon (Val := Elt Ideal) (kernelRun0_A.sl.HS0_7 (F := Ideal) c i arg3 harg3 arg4 harg4 arg5 harg5 arg6 harg6 arg7 harg7 arg9 arg10 hc0 x0 x1 x2 x3 x4) y = (0 : EReal) := by
  unfold kernelRun0_A.sl.HS0_7
  exact canon_skip256 5 (zeroA_acc5 c i arg3 harg3 arg4 harg4 arg5 harg5 arg6 harg6 arg7 harg7 arg8 harg8 arg9 harg9 arg10 harg10 x0 x1 x2 x3 x4 hc0) y h1 hy

theorem zeroA_acc7 (hc0 : cond0_0 i) (y : S8x256x128.Idx) (h1 : (y 1).val < 256) (hy : 7 ≤ (y 0).val) :
    View.canon (Val := Elt Ideal) (kernelRun0_A.sl.HS0_8 (F := Ideal) c i arg3 harg3 arg4 harg4 arg5 harg5 arg6 harg6 arg7 harg7 arg9 arg10 hc0 x0 x1 x2 x3 x4) y = (0 : EReal) := by
  unfold kernelRun0_A.sl.HS0_8
  exact canon_skip256 6 (zeroA_acc6 c i arg3 harg3 arg4 harg4 arg5 harg5 arg6 harg6 arg7 harg7 arg8 harg8 arg9 harg9 arg10 harg10 x0 x1 x2 x3 x4 hc0) y h1 hy

theorem zeroA_run0 (hc0 : cond0_0 i) (y : S8x256x128.Idx) (h1 : (y 1).val < 256) (hy : 0 ≤ (y 0).val) :
    View.canon (Val := Elt Ideal) (kernelRun0_A.sl.HS1_1 (F := Ideal)) y = (0 : EReal) := by
  unfold kernelRun0_A.sl.HS1_1
  exact canon_fill256 y h1

theorem zeroA_run1 (hc0 : cond0_0 i) (y : S8x256x128.Idx) (h1 : (y 1).val < 256) (hy : 1 ≤ (y 0).val) :
    View.canon (Val := Elt Ideal) (kernelRun0_A.sl.HS1_2 (F := Ideal) c i arg3 harg3 arg4 harg4 arg5 harg5 arg7 harg7 arg10 hc0 x0 x1 x2 x4) y = (0 : EReal) := by
  unfold kernelRun0_A.sl.HS1_2
  exact canon_skip256 0 (zeroA_run0 c i arg3 harg3 arg4 harg4 arg5 harg5 arg6 harg6 arg7 harg7 arg8 harg8 arg9 harg9 arg10 harg10 x0 x1 x2 x3 x4 hc0) y h1 hy

theorem zeroA_run2 (hc0 : cond0_0 i) (y : S8x256x128.Idx) (h1 : (y 1).val < 256) (hy : 2 ≤ (y 0).val) :
    View.canon (Val := Elt Ideal) (kernelRun0_A.sl.HS1_3 (F := Ideal) c i arg3 harg3 arg4 harg4 arg5 harg5 arg7 harg7 arg10 hc0 x0 x1 x2 x4) y = (0 : EReal) := by
  unfold kernelRun0_A.sl.HS1_3
  exact canon_skip256 1 (zeroA_run1 c i arg3 harg3 arg4 harg4 arg5 harg5 arg6 harg6 arg7 harg7 arg8 harg8 arg9 harg9 arg10 harg10 x0 x1 x2 x3 x4 hc0) y h1 hy

theorem zeroA_run3 (hc0 : cond0_0 i) (y : S8x256x128.Idx) (h1 : (y 1).val < 256) (hy : 3 ≤ (y 0).val) :
    View.canon (Val := Elt Ideal) (kernelRun0_A.sl.HS1_4 (F := Ideal) c i arg3 harg3 arg4 harg4 arg5 harg5 arg7 harg7 arg10 hc0 x0 x1 x2 x4) y = (0 : EReal) := by
  unfold kernelRun0_A.sl.HS1_4
  exact canon_skip256 2 (zeroA_run2 c i arg3 harg3 arg4 harg4 arg5 harg5 arg6 harg6 arg7 harg7 arg8 harg8 arg9 harg9 arg10 harg10 x0 x1 x2 x3 x4 hc0) y h1 hy

theorem zeroA_run4 (hc0 : cond0_0 i) (y : S8x256x128.Idx) (h1 : (y 1).val < 256) (hy : 4 ≤ (y 0).val) :
    View.canon (Val := Elt Ideal) (kernelRun0_A.sl.HS1_5 (F := Ideal) c i arg3 harg3 arg4 harg4 arg5 harg5 arg7 harg7 arg10 hc0 x0 x1 x2 x4) y = (0 : EReal) := by
  unfold kernelRun0_A.sl.HS1_5
  exact canon_skip256 3 (zeroA_run3 c i arg3 harg3 arg4 harg4 arg5 harg5 arg6 harg6 arg7 harg7 arg8 harg8 arg9 harg9 arg10 harg10 x0 x1 x2 x3 x4 hc0) y h1 hy

theorem zeroA_run5 (hc0 : cond0_0 i) (y : S8x256x128.Idx) (h1 : (y 1).val < 256) (hy : 5 ≤ (y 0).val) :
    View.canon (Val := Elt Ideal) (kernelRun0_A.sl.HS1_6 (F := Ideal) c i arg3 harg3 arg4 harg4 arg5 harg5 arg7 harg7 arg10 hc0 x0 x1 x2 x4) y = (0 : EReal) := by
  unfold kernelRun0_A.sl.HS1_6
  exact canon_skip256 4 (zeroA_run4 c i arg3 harg3 arg4 harg4 arg5 harg5 arg6 harg6 arg7 harg7 arg8 harg8 arg9 harg9 arg10 harg10 x0 x1 x2 x3 x4 hc0) y h1 hy

theorem zeroA_run6 (hc0 : cond0_0 i) (y : S8x256x128.Idx) (h1 : (y 1).val < 256) (hy : 6 ≤ (y 0).val) :
    View.canon (Val := Elt Ideal) (kernelRun0_A.sl.HS1_7 (F := Ideal) c i arg3 harg3 arg4 harg4 arg5 harg5 arg7 harg7 arg10 hc0 x0 x1 x2 x4) y = (0 : EReal) := by
  unfold kernelRun0_A.sl.HS1_7
  exact canon_skip256 5 (zeroA_run5 c i arg3 harg3 arg4 harg4 arg5 harg5 arg6 harg6 arg7 harg7 arg8 harg8 arg9 harg9 arg10 harg10 x0 x1 x2 x3 x4 hc0) y h1 hy

theorem zeroA_run7 (hc0 : cond0_0 i) (y : S8x256x128.Idx) (h1 : (y 1).val < 256) (hy : 7 ≤ (y 0).val) :
    View.canon (Val := Elt Ideal) (kernelRun0_A.sl.HS1_8 (F := Ideal) c i arg3 harg3 arg4 harg4 arg5 harg5 arg7 harg7 arg10 hc0 x0 x1 x2 x4) y = (0 : EReal) := by
  unfold kernelRun0_A.sl.HS1_8
  exact canon_skip256 6 (zeroA_run6 c i arg3 harg3 arg4 harg4 arg5 harg5 arg6 harg6 arg7 harg7 arg8 harg8 arg9 harg9 arg10 harg10 x0 x1 x2 x3 x4 hc0) y h1 hy

theorem diagA_acc0 (hc0 : cond0_0 i) (y : S8x256x128.Idx) (h1 : (y 1).val < 256) (h0 : (y 0).val < 0 + 1) :
    View.canon (Val := Elt Ideal) (kernelRun0_A.sl.HS0_2 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_2
  have hk := diag_words (i 2)
  refine canon_head256 0 (by decide) _ (fun x => ?_) (fun y _ h => absurd h (Nat.not_lt_zero _)) y h1 h0
  refine accLoadMasked256 x0 x1 x2 x3 (v1At arg7 harg7 x4) (i 1).val (256 * (i 2).val) _ _ arg3 harg3 arg4 harg4 arg5 harg5 arg6 harg6 (i 1).isLt 0 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 0
  · unfold kernelRun0_A.sl.v295
    exact load_zero256 _ 0 (by decide) (zeroA_run0 c i arg3 harg3 arg4 harg4 arg5 harg5 arg6 harg6 arg7 harg7 arg8 harg8 arg9 harg9 arg10 harg10 x0 x1 x2 x3 x4 hc0) r e
  · unfold kernelRun0_A.sl.v306
    exact load_zero256 _ 0 (by decide) (zeroA_acc0 c i arg3 harg3 arg4 harg4 arg5 harg5 arg6 harg6 arg7 harg7 arg8 harg8 arg9 harg9 arg10 harg10 x0 x1 x2 x3 x4 hc0) r e

theorem diagA_acc1 (hc0 : cond0_0 i) (y : S8x256x128.Idx) (h1 : (y 1).val < 256) (h0 : (y 0).val < 1 + 1) :
    View.canon (Val := Elt Ideal) (kernelRun0_A.sl.HS0_3 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_3
  have hk := diag_words (i 2)
  refine canon_head256 1 (by decide) _ (fun x => ?_) (diagA_acc0 c i arg3 harg3 arg4 harg4 arg5 harg5 arg6 harg6 arg7 harg7 arg8 harg8 arg9 harg9 arg10 harg10 x0 x1 x2 x3 x4 hc0) y h1 h0
  refine accLoadMasked256 x0 x1 x2 x3 (v1At arg7 harg7 x4) (i 1).val (256 * (i 2).val) _ _ arg3 harg3 arg4 harg4 arg5 harg5 arg6 harg6 (i 1).isLt 1 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 1
  · unfold kernelRun0_A.sl.v321
    exact load_zero256 _ 1 (by decide) (zeroA_run1 c i arg3 harg3 arg4 harg4 arg5 harg5 arg6 harg6 arg7 harg7 arg8 harg8 arg9 harg9 arg10 harg10 x0 x1 x2 x3 x4 hc0) r e
  · unfold kernelRun0_A.sl.v332
    exact load_zero256 _ 1 (by decide) (zeroA_acc1 c i arg3 harg3 arg4 harg4 arg5 harg5 arg6 harg6 arg7 harg7 arg8 harg8 arg9 harg9 arg10 harg10 x0 x1 x2 x3 x4 hc0) r e

theorem diagA_acc2 (hc0 : cond0_0 i) (y : S8x256x128.Idx) (h1 : (y 1).val < 256) (h0 : (y 0).val < 2 + 1) :
    View.canon (Val := Elt Ideal) (kernelRun0_A.sl.HS0_4 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_4
  have hk := diag_words (i 2)
  refine canon_head256 2 (by decide) _ (fun x => ?_) (diagA_acc1 c i arg3 harg3 arg4 harg4 arg5 harg5 arg6 harg6 arg7 harg7 arg8 harg8 arg9 harg9 arg10 harg10 x0 x1 x2 x3 x4 hc0) y h1 h0
  refine accLoadMasked256 x0 x1 x2 x3 (v1At arg7 harg7 x4) (i 1).val (256 * (i 2).val) _ _ arg3 harg3 arg4 harg4 arg5 harg5 arg6 harg6 (i 1).isLt 2 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 2
  · unfold kernelRun0_A.sl.v347
    exact load_zero256 _ 2 (by decide) (zeroA_run2 c i arg3 harg3 arg4 harg4 arg5 harg5 arg6 harg6 arg7 harg7 arg8 harg8 arg9 harg9 arg10 harg10 x0 x1 x2 x3 x4 hc0) r e
  · unfold kernelRun0_A.sl.v358
    exact load_zero256 _ 2 (by decide) (zeroA_acc2 c i arg3 harg3 arg4 harg4 arg5 harg5 arg6 harg6 arg7 harg7 arg8 harg8 arg9 harg9 arg10 harg10 x0 x1 x2 x3 x4 hc0) r e

theorem diagA_acc3 (hc0 : cond0_0 i) (y : S8x256x128.Idx) (h1 : (y 1).val < 256) (h0 : (y 0).val < 3 + 1) :
    View.canon (Val := Elt Ideal) (kernelRun0_A.sl.HS0_5 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_5
  have hk := diag_words (i 2)
  refine canon_head256 3 (by decide) _ (fun x => ?_) (diagA_acc2 c i arg3 harg3 arg4 harg4 arg5 harg5 arg6 harg6 arg7 harg7 arg8 harg8 arg9 harg9 arg10 harg10 x0 x1 x2 x3 x4 hc0) y h1 h0
  refine accLoadMasked256 x0 x1 x2 x3 (v1At arg7 harg7 x4) (i 1).val (256 * (i 2).val) _ _ arg3 harg3 arg4 harg4 arg5 harg5 arg6 harg6 (i 1).isLt 3 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 3
  · unfold kernelRun0_A.sl.v373
    exact load_zero256 _ 3 (by decide) (zeroA_run3 c i arg3 harg3 arg4 harg4 arg5 harg5 arg6 harg6 arg7 harg7 arg8 harg8 arg9 harg9 arg10 harg10 x0 x1 x2 x3 x4 hc0) r e
  · unfold kernelRun0_A.sl.v384
    exact load_zero256 _ 3 (by decide) (zeroA_acc3 c i arg3 harg3 arg4 harg4 arg5 harg5 arg6 harg6 arg7 harg7 arg8 harg8 arg9 harg9 arg10 harg10 x0 x1 x2 x3 x4 hc0) r e

theorem diagA_acc4 (hc0 : cond0_0 i) (y : S8x256x128.Idx) (h1 : (y 1).val < 256) (h0 : (y 0).val < 4 + 1) :
    View.canon (Val := Elt Ideal) (kernelRun0_A.sl.HS0_6 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_6
  have hk := diag_words (i 2)
  refine canon_head256 4 (by decide) _ (fun x => ?_) (diagA_acc3 c i arg3 harg3 arg4 harg4 arg5 harg5 arg6 harg6 arg7 harg7 arg8 harg8 arg9 harg9 arg10 harg10 x0 x1 x2 x3 x4 hc0) y h1 h0
  refine accLoadMasked256 x0 x1 x2 x3 (v1At arg7 harg7 x4) (i 1).val (256 * (i 2).val) _ _ arg3 harg3 arg4 harg4 arg5 harg5 arg6 harg6 (i 1).isLt 4 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 4
  · unfold kernelRun0_A.sl.v399
    exact load_zero256 _ 4 (by decide) (zeroA_run4 c i arg3 harg3 arg4 harg4 arg5 harg5 arg6 harg6 arg7 harg7 arg8 harg8 arg9 harg9 arg10 harg10 x0 x1 x2 x3 x4 hc0) r e
  · unfold kernelRun0_A.sl.v410
    exact load_zero256 _ 4 (by decide) (zeroA_acc4 c i arg3 harg3 arg4 harg4 arg5 harg5 arg6 harg6 arg7 harg7 arg8 harg8 arg9 harg9 arg10 harg10 x0 x1 x2 x3 x4 hc0) r e

theorem diagA_acc5 (hc0 : cond0_0 i) (y : S8x256x128.Idx) (h1 : (y 1).val < 256) (h0 : (y 0).val < 5 + 1) :
    View.canon (Val := Elt Ideal) (kernelRun0_A.sl.HS0_7 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_7
  have hk := diag_words (i 2)
  refine canon_head256 5 (by decide) _ (fun x => ?_) (diagA_acc4 c i arg3 harg3 arg4 harg4 arg5 harg5 arg6 harg6 arg7 harg7 arg8 harg8 arg9 harg9 arg10 harg10 x0 x1 x2 x3 x4 hc0) y h1 h0
  refine accLoadMasked256 x0 x1 x2 x3 (v1At arg7 harg7 x4) (i 1).val (256 * (i 2).val) _ _ arg3 harg3 arg4 harg4 arg5 harg5 arg6 harg6 (i 1).isLt 5 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 5
  · unfold kernelRun0_A.sl.v425
    exact load_zero256 _ 5 (by decide) (zeroA_run5 c i arg3 harg3 arg4 harg4 arg5 harg5 arg6 harg6 arg7 harg7 arg8 harg8 arg9 harg9 arg10 harg10 x0 x1 x2 x3 x4 hc0) r e
  · unfold kernelRun0_A.sl.v436
    exact load_zero256 _ 5 (by decide) (zeroA_acc5 c i arg3 harg3 arg4 harg4 arg5 harg5 arg6 harg6 arg7 harg7 arg8 harg8 arg9 harg9 arg10 harg10 x0 x1 x2 x3 x4 hc0) r e

theorem diagA_acc6 (hc0 : cond0_0 i) (y : S8x256x128.Idx) (h1 : (y 1).val < 256) (h0 : (y 0).val < 6 + 1) :
    View.canon (Val := Elt Ideal) (kernelRun0_A.sl.HS0_8 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_8
  have hk := diag_words (i 2)
  refine canon_head256 6 (by decide) _ (fun x => ?_) (diagA_acc5 c i arg3 harg3 arg4 harg4 arg5 harg5 arg6 harg6 arg7 harg7 arg8 harg8 arg9 harg9 arg10 harg10 x0 x1 x2 x3 x4 hc0) y h1 h0
  unfold kernelRun0_A.sl.r_40 kernelRun0_A.sl.r_41 kernelRun0_A.sl.r_42 kernelRun0_A.sl.r_28 kernelRun0_A.sl.r_17 kernelRun0_A.sl.r_14 kernelRun0_A.sl.r_20
  refine accLoadMasked256 x0 x1 x2 x3 (v1At arg7 harg7 x4) (i 1).val (256 * (i 2).val) _ _ arg3 harg3 arg4 harg4 arg5 harg5 arg6 harg6 (i 1).isLt 6 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 6
  · unfold kernelRun0_A.sl.v451
    exact load_zero256 _ 6 (by decide) (zeroA_run6 c i arg3 harg3 arg4 harg4 arg5 harg5 arg6 harg6 arg7 harg7 arg8 harg8 arg9 harg9 arg10 harg10 x0 x1 x2 x3 x4 hc0) r e
  · unfold kernelRun0_A.sl.v462
    exact load_zero256 _ 6 (by decide) (zeroA_acc6 c i arg3 harg3 arg4 harg4 arg5 harg5 arg6 harg6 arg7 harg7 arg8 harg8 arg9 harg9 arg10 harg10 x0 x1 x2 x3 x4 hc0) r e

theorem diagA_acc7 (hc0 : cond0_0 i) (y : S8x256x128.Idx) (h1 : (y 1).val < 256) (h0 : (y 0).val < 7 + 1) :
    View.canon (Val := Elt Ideal) (kernelRun0_A.sl.HS0_9 (F := Ideal) c i arg3 harg3 arg4 harg4 arg5 harg5 arg6 harg6 arg7 harg7 arg9 arg10 hc0 x0 x1 x2 x3 x4) y
      = stepAcc x0 x1 x2 x3 (v1At arg7 harg7 x4) (i 1).val (256 * (i 2).val) causal (fun _ => 0) (fun _ => 0) y := by
  unfold kernelRun0_A.sl.HS0_9
  have hk := diag_words (i 2)
  refine canon_head256 7 (by decide) _ (fun x => ?_) (diagA_acc6 c i arg3 harg3 arg4 harg4 arg5 harg5 arg6 harg6 arg7 harg7 arg8 harg8 arg9 harg9 arg10 harg10 x0 x1 x2 x3 x4 hc0) y h1 h0
  unfold kernelRun0_A.sl.r_31 kernelRun0_A.sl.r_20 kernelRun0_A.sl.r_29 kernelRun0_A.sl.r_30 kernelRun0_A.sl.r_19 kernelRun0_A.sl.r_18 kernelRun0_A.sl.r_15
  refine accLoadMasked256 x0 x1 x2 x3 (v1At arg7 harg7 x4) (i 1).val (256 * (i 2).val) _ _ arg3 harg3 arg4 harg4 arg5 harg5 arg6 harg6 (i 1).isLt 7 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 7
  · unfold kernelRun0_A.sl.v477
    exact load_zero256 _ 7 (by decide) (zeroA_run7 c i arg3 harg3 arg4 harg4 arg5 harg5 arg6 harg6 arg7 harg7 arg8 harg8 arg9 harg9 arg10 harg10 x0 x1 x2 x3 x4 hc0) r e
  · unfold kernelRun0_A.sl.v488
    exact load_zero256 _ 7 (by decide) (zeroA_acc7 c i arg3 harg3 arg4 harg4 arg5 harg5 arg6 harg6 arg7 harg7 arg8 harg8 arg9 harg9 arg10 harg10 x0 x1 x2 x3 x4 hc0) r e

theorem diagA_run0 (hc0 : cond0_0 i) (y : S8x256x128.Idx) (h1 : (y 1).val < 256) (h0 : (y 0).val < 0 + 1) :
    View.canon (Val := Elt Ideal) (kernelRun0_A.sl.HS1_2 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_2
  have hk := diag_words (i 2)
  refine canon_head256 0 (by decide) _ (fun x => ?_) (fun y _ h => absurd h (Nat.not_lt_zero _)) y h1 h0
  unfold kernelRun0_A.sl.r_21 kernelRun0_A.sl.r_1 kernelRun0_A.sl.r
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 0 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 0
  · unfold kernelRun0_A.sl.v295
    exact load_zero256 _ 0 (by decide) (zeroA_run0 c i arg3 harg3 arg4 harg4 arg5 harg5 arg6 harg6 arg7 harg7 arg8 harg8 arg9 harg9 arg10 harg10 x0 x1 x2 x3 x4 hc0) r e

theorem diagA_run1 (hc0 : cond0_0 i) (y : S8x256x128.Idx) (h1 : (y 1).val < 256) (h0 : (y 0).val < 1 + 1) :
    View.canon (Val := Elt Ideal) (kernelRun0_A.sl.HS1_3 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_3
  have hk := diag_words (i 2)
  refine canon_head256 1 (by decide) _ (fun x => ?_) (diagA_run0 c i arg3 harg3 arg4 harg4 arg5 harg5 arg6 harg6 arg7 harg7 arg8 harg8 arg9 harg9 arg10 harg10 x0 x1 x2 x3 x4 hc0) y h1 h0
  unfold kernelRun0_A.sl.r_22 kernelRun0_A.sl.r_5 kernelRun0_A.sl.r_2 kernelRun0_A.sl.r_3
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 1 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 1
  · unfold kernelRun0_A.sl.v321
    exact load_zero256 _ 1 (by decide) (zeroA_run1 c i arg3 harg3 arg4 harg4 arg5 harg5 arg6 harg6 arg7 harg7 arg8 harg8 arg9 harg9 arg10 harg10 x0 x1 x2 x3 x4 hc0) r e

theorem diagA_run2 (hc0 : cond0_0 i) (y : S8x256x128.Idx) (h1 : (y 1).val < 256) (h0 : (y 0).val < 2 + 1) :
    View.canon (Val := Elt Ideal) (kernelRun0_A.sl.HS1_4 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_4
  have hk := diag_words (i 2)
  refine canon_head256 2 (by decide) _ (fun x => ?_) (diagA_run1 c i arg3 harg3 arg4 harg4 arg5 harg5 arg6 harg6 arg7 harg7 arg8 harg8 arg9 harg9 arg10 harg10 x0 x1 x2 x3 x4 hc0) y h1 h0
  unfold kernelRun0_A.sl.r_23 kernelRun0_A.sl.r_6 kernelRun0_A.sl.r_4 kernelRun0_A.sl.r_20 kernelRun0_A.sl.r_32
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 2 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 2
  · unfold kernelRun0_A.sl.v347
    exact load_zero256 _ 2 (by decide) (zeroA_run2 c i arg3 harg3 arg4 harg4 arg5 harg5 arg6 harg6 arg7 harg7 arg8 harg8 arg9 harg9 arg10 harg10 x0 x1 x2 x3 x4 hc0) r e

theorem diagA_run3 (hc0 : cond0_0 i) (y : S8x256x128.Idx) (h1 : (y 1).val < 256) (h0 : (y 0).val < 3 + 1) :
    View.canon (Val := Elt Ideal) (kernelRun0_A.sl.HS1_5 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_5
  have hk := diag_words (i 2)
  refine canon_head256 3 (by decide) _ (fun x => ?_) (diagA_run2 c i arg3 harg3 arg4 harg4 arg5 harg5 arg6 harg6 arg7 harg7 arg8 harg8 arg9 harg9 arg10 harg10 x0 x1 x2 x3 x4 hc0) y h1 h0
  unfold kernelRun0_A.sl.r_35 kernelRun0_A.sl.r_36 kernelRun0_A.sl.r_24 kernelRun0_A.sl.r_10 kernelRun0_A.sl.r_7 kernelRun0_A.sl.r_8 kernelRun0_A.sl.r_20
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 3 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 3
  · unfold kernelRun0_A.sl.v373
    exact load_zero256 _ 3 (by decide) (zeroA_run3 c i arg3 harg3 arg4 harg4 arg5 harg5 arg6 harg6 arg7 harg7 arg8 harg8 arg9 harg9 arg10 harg10 x0 x1 x2 x3 x4 hc0) r e

theorem diagA_run4 (hc0 : cond0_0 i) (y : S8x256x128.Idx) (h1 : (y 1).val < 256) (h0 : (y 0).val < 4 + 1) :
    View.canon (Val := Elt Ideal) (kernelRun0_A.sl.HS1_6 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_6
  have hk := diag_words (i 2)
  refine canon_head256 4 (by decide) _ (fun x => ?_) (diagA_run3 c i arg3 harg3 arg4 harg4 arg5 harg5 arg6 harg6 arg7 harg7 arg8 harg8 arg9 harg9 arg10 harg10 x0 x1 x2 x3 x4 hc0) y h1 h0
  unfold kernelRun0_A.sl.r_26 kernelRun0_A.sl.r_20 kernelRun0_A.sl.r_25 kernelRun0_A.sl.r_11 kernelRun0_A.sl.r_9
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 4 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 4
  · unfold kernelRun0_A.sl.v399
    exact load_zero256 _ 4 (by decide) (zeroA_run4 c i arg3 harg3 arg4 harg4 arg5 harg5 arg6 harg6 arg7 harg7 arg8 harg8 arg9 harg9 arg10 harg10 x0 x1 x2 x3 x4 hc0) r e

theorem diagA_run5 (hc0 : cond0_0 i) (y : S8x256x128.Idx) (h1 : (y 1).val < 256) (h0 : (y 0).val < 5 + 1) :
    View.canon (Val := Elt Ideal) (kernelRun0_A.sl.HS1_7 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_7
  have hk := diag_words (i 2)
  refine canon_head256 5 (by decide) _ (fun x => ?_) (diagA_run4 c i arg3 harg3 arg4 harg4 arg5 harg5 arg6 harg6 arg7 harg7 arg8 harg8 arg9 harg9 arg10 harg10 x0 x1 x2 x3 x4 hc0) y h1 h0
  unfold kernelRun0_A.sl.r_27 kernelRun0_A.sl.r_16 kernelRun0_A.sl.r_12 kernelRun0_A.sl.r_13 kernelRun0_A.sl.r_20 kernelRun0_A.sl.r_37
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 5 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 5
  · unfold kernelRun0_A.sl.v425
    exact load_zero256 _ 5 (by decide) (zeroA_run5 c i arg3 harg3 arg4 harg4 arg5 harg5 arg6 harg6 arg7 harg7 arg8 harg8 arg9 harg9 arg10 harg10 x0 x1 x2 x3 x4 hc0) r e

theorem diagA_run6 (hc0 : cond0_0 i) (y : S8x256x128.Idx) (h1 : (y 1).val < 256) (h0 : (y 0).val < 6 + 1) :
    View.canon (Val := Elt Ideal) (kernelRun0_A.sl.HS1_8 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_8
  have hk := diag_words (i 2)
  refine canon_head256 6 (by decide) _ (fun x => ?_) (diagA_run5 c i arg3 harg3 arg4 harg4 arg5 harg5 arg6 harg6 arg7 harg7 arg8 harg8 arg9 harg9 arg10 harg10 x0 x1 x2 x3 x4 hc0) y h1 h0
  unfold kernelRun0_A.sl.r_28 kernelRun0_A.sl.r_17 kernelRun0_A.sl.r_14 kernelRun0_A.sl.r_20 kernelRun0_A.sl.r_39
  refine (congrFun (?_ : _ = running256 (suffix256 (v1At arg7 harg7 x4) (masked256 (mask256 (Scalar.addi (Scalar.muli (BitVec.ofNat 32 (i 2).val) 1#32) 0#32) (BitVec.ofNat 32 (i 2).val)) (softplus256 (logits256 ?q ?k ?b)))) ?r) x).trans ?_
  case refine_1 => exact rfl
  refine runLoadMasked256 x0 x1 x2 (v1At arg7 harg7 x4) (i 1).val (256 * (i 2).val) _ arg3 harg3 arg4 harg4 arg5 harg5 (i 1).isLt 6 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 6
  · unfold kernelRun0_A.sl.v451
    exact load_zero256 _ 6 (by decide) (zeroA_run6 c i arg3 harg3 arg4 harg4 arg5 harg5 arg6 harg6 arg7 harg7 arg8 harg8 arg9 harg9 arg10 harg10 x0 x1 x2 x3 x4 hc0) r e

theorem r31A_eq (hc0 : cond0_0 i) : kernelRun0_A.sl.r_31 (F := Ideal) c i arg3 harg3 arg4 harg4 arg5 harg5 arg7 harg7 hc0 x0 x1 x2 x4
    = (suffix256 (v1At arg7 harg7 x4) (masked256 (mask256 (Scalar.addi (Scalar.muli (BitVec.ofNat 32 (i 2).val) 1#32) 0#32) (BitVec.ofNat 32 (i 2).val)) (softplus256 (kernelRun0_A.sl.r_19 (F := Ideal) c i arg3 harg3 arg4 harg4 arg5 harg5 hc0 x0 x1 x2)))) := by
  unfold kernelRun0_A.sl.r_31 kernelRun0_A.sl.r_29 kernelRun0_A.sl.r_30
  generalize (kernelRun0_A.sl.r_19 (F := Ideal) c i arg3 harg3 arg4 harg4 arg5 harg5 hc0 x0 x1 x2) = Z
  exact rfl

omit c harg3 harg4 harg5 harg6 harg7 harg8 harg9 harg10 x0 x1 x2 x3 x4 in
theorem run7A_eq (X : FVec Ideal S256x256 .f32) (V : Vec Ideal S1x256x128 .f32) :
    k0_pay161 (F := Ideal) (k0_pay160 X V) = running256 X V := rfl

theorem diagA_run7 (hc0 : cond0_0 i) (y : S8x256x128.Idx) (h1 : (y 1).val < 256) (h0 : (y 0).val < 7 + 1) :
    View.canon (Val := Elt Ideal) (kernelRun0_A.sl.HS1_9 (F := Ideal) c i arg3 harg3 arg4 harg4 arg5 harg5 arg7 harg7 arg10 hc0 x0 x1 x2 x4) y
      = stepRun x0 x1 x2 (v1At arg7 harg7 x4) (i 1).val (256 * (i 2).val) causal (fun _ => 0) y := by
  unfold kernelRun0_A.sl.HS1_9
  have hk := diag_words (i 2)
  refine canon_head256 7 (by decide) _ (fun x => ?_) (diagA_run6 c i arg3 harg3 arg4 harg4 arg5 harg5 arg6 harg6 arg7 harg7 arg8 harg8 arg9 harg9 arg10 harg10 x0 x1 x2 x3 x4 hc0) y h1 h0
  unfold kernelRun0_A.sl.r_43
  rw [r31A_eq c i arg3 harg3 arg4 harg4 arg5 harg5 arg6 harg6 arg7 harg7 arg8 harg8 arg9 harg9 arg10 harg10 x0 x1 x2 x3 x4 hc0, run7A_eq]
  unfold kernelRun0_A.sl.r_19 kernelRun0_A.sl.r_18 kernelRun0_A.sl.r_15
  refine runLoadMasked256 x0 x1 x2 (v1At arg7 harg7 x4) (i 1).val (256 * (i 2).val) _ arg3 harg3 arg4 harg4 arg5 harg5 (i 1).isLt 7 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 7
  · unfold kernelRun0_A.sl.v477
    exact load_zero256 _ 7 (by decide) (zeroA_run7 c i arg3 harg3 arg4 harg4 arg5 harg5 arg6 harg6 arg7 harg7 arg8 harg8 arg9 harg9 arg10 harg10 x0 x1 x2 x3 x4 hc0) r e

end Cert.Proof.Block
-- ==== Proof.CaseA.lean ====
module

public import proofs.«01_k».proof.Proof.DiagA

@[expose] public section

set_option maxRecDepth 16384

noncomputable section

namespace Cert.Proof.Block

open Cert.KernelIdeal Cert.KernelIdeal.Gen Idealize.ShloMosaic Idealize.ShloMosaic.TcCoe Idealize.SL.Sem

/-! ## A full tile: the sums the body leaves -/

variable (c : Dev nD) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)
include c harg3 harg4 harg5 harg6 harg7 harg8 harg9 harg10 x0 x1 x2 x3 x4

theorem startA (hx4 : ∀ t s : Fin 256, x4 (ix2 t s) = if s.val ≤ t.val then -1 else 0) (hc0 : cond0_0 i) :
    Inv x0 x1 x2 x3 (i 1).val (256 * (i 2).val) (256 * (i 2).val + 256) 256 (256 * (i 2).val)
      (View.read (Elt Ideal) arg9.view (arg9.view.writes (Elt Ideal) arg9.view.junk (kernelRun0_A.sl.HS0_9 (F := Ideal) c i arg3 harg3 arg4 harg4 arg5 harg5 arg6 harg6 arg7 harg7 arg9 arg10 hc0 x0 x1 x2 x3 x4)))
      (View.read (Elt Ideal) arg10.view (arg10.view.writes (Elt Ideal) arg10.view.junk (kernelRun0_A.sl.HS1_9 (F := Ideal) c i arg3 harg3 arg4 harg4 arg5 harg5 arg7 harg7 arg10 hc0 x0 x1 x2 x4))) := by
  have hv : ∀ t s : Fin 256, (v1At arg7 harg7 x4) (ix2 t s) = if s.val ≤ t.val then -1 else 0 :=
    fun t s => (v1At_apply arg7 harg7 x4 t s).trans (hx4 t s)
  have hM : ∀ r t : ℕ, causal r t ↔ 256 * (i 2).val + t < 256 * (i 2).val + r := fun r t => (Nat.add_lt_add_iff_left).symm
  intro y hy
  have h0 : (y 0).val < 7 + 1 := (y 0).isLt
  rw [View.read_writes_junk_eq_canon, View.read_writes_junk_eq_canon, diagA_acc7 _ _ _ _ _ _ _ _ _ _ _ _ _ harg8 _ harg9 _ harg10 _ _ _ _ _ _ y hy h0,
    diagA_run7 _ _ _ _ _ _ _ _ arg6 harg6 _ _ arg8 harg8 arg9 harg9 _ harg10 _ _ _ x3 _ _ y hy h0]
  constructor
  · refine stepAcc_eq hv _ le_rfl causal _ _ y (fun t _ => hM _ t) (fun e => ?_) ?_
    · unfold runSum
      rw [Finset.Ico_self, Finset.sum_empty]
    · unfold accSum
      rw [Finset.Ico_self, Finset.sum_empty]
  · refine stepRun_eq hv _ le_rfl causal _ y (fun t _ => hM _ t) ?_
    unfold runSum
    rw [Finset.Ico_self, Finset.sum_empty]

theorem doneA (hx4 : ∀ t s : Fin 256, x4 (ix2 t s) = if s.val ≤ t.val then -1 else 0) (hc0 : cond0_0 i) (y : S8x256x128.Idx) (hy : (y 1).val < 256) :
    View.canon (Val := Elt Ideal) ((pb_k0_t1 (F := Ideal) Variants.none c none i arg3 harg3 arg4 harg4 arg5 harg5 arg6 harg6 arg7 harg7 arg8 harg8 arg9 harg9 arg10 harg10 (BitVec.ofNat 32 (i 1).val) (BitVec.ofNat 32 (i 2).val) (v1At arg7 harg7 x4) hc0 (kernelRun0_A.sl.r_43 (F := Ideal) c i arg3 harg3 arg4 harg4 arg5 harg5 arg7 harg7 arg10 hc0 x0 x1 x2 x4) (harg3.unread x0) (harg4.unread x1) (harg5.unread x2) (harg6.unread x3)
      (arg9.view.writes (Elt Ideal) arg9.view.junk (kernelRun0_A.sl.HS0_9 (F := Ideal) c i arg3 harg3 arg4 harg4 arg5 harg5 arg6 harg6 arg7 harg7 arg9 arg10 hc0 x0 x1 x2 x3 x4))
      (arg10.view.writes (Elt Ideal) arg10.view.junk (kernelRun0_A.sl.HS1_9 (F := Ideal) c i arg3 harg3 arg4 harg4 arg5 harg5 arg7 harg7 arg10 hc0 x0 x1 x2 x4)) (Scf.trips (k0_t1_loop i).lb (k0_t1_loop i).ub (k0_t1_loop i).st)).1 ++ (kernelRun0_A.sl.HS0_9 (F := Ideal) c i arg3 harg3 arg4 harg4 arg5 harg5 arg6 harg6 arg7 harg7 arg9 arg10 hc0 x0 x1 x2 x3 x4)) y
      = accSum x0 x1 x2 x3 (i 1).val (256 * (i 2).val) (256 * (i 2).val + 256) (y 0).val (y 1).val (y 2).val 0 := by
  have hv : ∀ t s : Fin 256, (v1At arg7 harg7 x4) (ix2 t s) = if s.val ≤ t.val then -1 else 0 :=
    fun t s => (v1At_apply arg7 harg7 x4 t s).trans (hx4 t s)
  have hl := loop1 Variants.none c none i arg3 harg3 arg4 harg4 arg5 harg5 arg6 harg6 arg7 harg7 arg8 harg8 arg9 harg9 arg10 harg10 x0 x1 x2 x3 (v1At arg7 harg7 x4) hv hc0 (BitVec.ofNat 32 (i 1).val) (BitVec.ofNat 32 (i 2).val) (kernelRun0_A.sl.r_43 (F := Ideal) c i arg3 harg3 arg4 harg4 arg5 harg5 arg7 harg7 arg10 hc0 x0 x1 x2 x4) _ _
    (startA c i arg3 harg3 arg4 harg4 arg5 harg5 arg6 harg6 arg7 harg7 arg8 harg8 arg9 harg9 arg10 harg10 x0 x1 x2 x3 x4 hx4 hc0) (i 2).val le_rfl y hy
  rw [Nat.sub_self, Nat.mul_zero] at hl
  have ht : Scf.trips (k0_t1_loop i).lb (k0_t1_loop i).ub (k0_t1_loop i).st = (i 2).val := trips1 i
  rw [ht]
  rw [← View.read_writes_junk_eq_canon arg9.view, View.writes_append]
  exact hl.1

theorem restA (hc0 : cond0_0 i) (arg1 arg2 : BitVec 32) (v1 : FVec Ideal S256x256 .bf16) (v499 : FVec Ideal S256x128 .f32) (w : BitVec 32)
    (f9 : BufTy.Contents (Elt Ideal) arg9.view.ty) (f10 : BufTy.Contents (Elt Ideal) arg10.view.ty) :
    pb_k0_t2 (F := Ideal) Variants.none c none i arg3 harg3 arg4 harg4 arg5 harg5 arg6 harg6 arg7 harg7 arg8 harg8 arg9 harg9 arg10 harg10 arg1 arg2 v1 hc0 v499 w (harg3.unread x0) (harg4.unread x1) (harg5.unread x2) (harg6.unread x3) f9 f10
      (Scf.trips (k0_t2_loop i).lb (k0_t2_loop i).ub (k0_t2_loop i).st) = ([], []) := by
  have h : ∀ a : Fin 17, Scf.trips (Scalar.addi 0#32 (Scalar.muli (Scalar.divsi (Scalar.subi (Scalar.muli (BitVec.ofNat 32 a.val) 1#32) 0#32) 1#32) 1#32)) (Scalar.addi 0#32 (Scalar.subi (Scalar.muli (BitVec.ofNat 32 a.val) 1#32) 0#32)) 1#32 = 0 := by
    decide +kernel
  have ht : Scf.trips (k0_t2_loop i).lb (k0_t2_loop i).ub (k0_t2_loop i).st = 0 := h (i 2)
  rw [ht]
  exact rfl

theorem outA0 (hx4 : ∀ t s : Fin 256, x4 (ix2 t s) = if s.val ≤ t.val then -1 else 0) (hc0 : cond0_0 i) (r : Fin 256) (e : Fin 128) :
    kernelRun0_A.sl.v509 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 0 r.val e.val 0 := by
  unfold kernelRun0_A.sl.v509
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![0, 0, 0] S1x256x128.size inb_S8x256x128_S1x256x128_0_0_0).emb (ix3 0 r e) = ix3 0 ⟨r.val, by omega⟩ e := by
    rw [emb_state256 0 (by decide) ![0, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![0, 0, 0] S1x256x128.size inb_S8x256x128_S1x256x128_0_0_0).emb (ix3 0 r e)) ?_) ?_
  · rw [hi]
    exact r.isLt
  · rw [hi]
    exact rfl

theorem outA1 (hx4 : ∀ t s : Fin 256, x4 (ix2 t s) = if s.val ≤ t.val then -1 else 0) (hc0 : cond0_0 i) (r : Fin 256) (e : Fin 128) :
    kernelRun0_A.sl.v515 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 1 r.val e.val 0 := by
  unfold kernelRun0_A.sl.v515
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![1, 0, 0] S1x256x128.size inb_S8x256x128_S1x256x128_1_0_0).emb (ix3 0 r e) = ix3 1 ⟨r.val, by omega⟩ e := by
    rw [emb_state256 1 (by decide) ![1, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![1, 0, 0] S1x256x128.size inb_S8x256x128_S1x256x128_1_0_0).emb (ix3 0 r e)) ?_) ?_
  · rw [hi]
    exact r.isLt
  · rw [hi]
    exact rfl

theorem outA2 (hx4 : ∀ t s : Fin 256, x4 (ix2 t s) = if s.val ≤ t.val then -1 else 0) (hc0 : cond0_0 i) (r : Fin 256) (e : Fin 128) :
    kernelRun0_A.sl.v521 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 2 r.val e.val 0 := by
  unfold kernelRun0_A.sl.v521
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![2, 0, 0] S1x256x128.size inb_S8x256x128_S1x256x128_2_0_0).emb (ix3 0 r e) = ix3 2 ⟨r.val, by omega⟩ e := by
    rw [emb_state256 2 (by decide) ![2, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![2, 0, 0] S1x256x128.size inb_S8x256x128_S1x256x128_2_0_0).emb (ix3 0 r e)) ?_) ?_
  · rw [hi]
    exact r.isLt
  · rw [hi]
    exact rfl

theorem outA3 (hx4 : ∀ t s : Fin 256, x4 (ix2 t s) = if s.val ≤ t.val then -1 else 0) (hc0 : cond0_0 i) (r : Fin 256) (e : Fin 128) :
    kernelRun0_A.sl.v527 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 3 r.val e.val 0 := by
  unfold kernelRun0_A.sl.v527
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![3, 0, 0] S1x256x128.size inb_S8x256x128_S1x256x128_3_0_0).emb (ix3 0 r e) = ix3 3 ⟨r.val, by omega⟩ e := by
    rw [emb_state256 3 (by decide) ![3, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![3, 0, 0] S1x256x128.size inb_S8x256x128_S1x256x128_3_0_0).emb (ix3 0 r e)) ?_) ?_
  · rw [hi]
    exact r.isLt
  · rw [hi]
    exact rfl

theorem outA4 (hx4 : ∀ t s : Fin 256, x4 (ix2 t s) = if s.val ≤ t.val then -1 else 0) (hc0 : cond0_0 i) (r : Fin 256) (e : Fin 128) :
    kernelRun0_A.sl.v533 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 4 r.val e.val 0 := by
  unfold kernelRun0_A.sl.v533
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![4, 0, 0] S1x256x128.size inb_S8x256x128_S1x256x128_4_0_0).emb (ix3 0 r e) = ix3 4 ⟨r.val, by omega⟩ e := by
    rw [emb_state256 4 (by decide) ![4, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![4, 0, 0] S1x256x128.size inb_S8x256x128_S1x256x128_4_0_0).emb (ix3 0 r e)) ?_) ?_
  · rw [hi]
    exact r.isLt
  · rw [hi]
    exact rfl

theorem outA5 (hx4 : ∀ t s : Fin 256, x4 (ix2 t s) = if s.val ≤ t.val then -1 else 0) (hc0 : cond0_0 i) (r : Fin 256) (e : Fin 128) :
    kernelRun0_A.sl.v539 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 5 r.val e.val 0 := by
  unfold kernelRun0_A.sl.v539
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![5, 0, 0] S1x256x128.size inb_S8x256x128_S1x256x128_5_0_0).emb (ix3 0 r e) = ix3 5 ⟨r.val, by omega⟩ e := by
    rw [emb_state256 5 (by decide) ![5, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![5, 0, 0] S1x256x128.size inb_S8x256x128_S1x256x128_5_0_0).emb (ix3 0 r e)) ?_) ?_
  · rw [hi]
    exact r.isLt
  · rw [hi]
    exact rfl

theorem outA6 (hx4 : ∀ t s : Fin 256, x4 (ix2 t s) = if s.val ≤ t.val then -1 else 0) (hc0 : cond0_0 i) (r : Fin 256) (e : Fin 128) :
    kernelRun0_A.sl.v545 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 6 r.val e.val 0 := by
  unfold kernelRun0_A.sl.v545
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![6, 0, 0] S1x256x128.size inb_S8x256x128_S1x256x128_6_0_0).emb (ix3 0 r e) = ix3 6 ⟨r.val, by omega⟩ e := by
    rw [emb_state256 6 (by decide) ![6, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![6, 0, 0] S1x256x128.size inb_S8x256x128_S1x256x128_6_0_0).emb (ix3 0 r e)) ?_) ?_
  · rw [hi]
    exact r.isLt
  · rw [hi]
    exact rfl

theorem outA7 (hx4 : ∀ t s : Fin 256, x4 (ix2 t s) = if s.val ≤ t.val then -1 else 0) (hc0 : cond0_0 i) (r : Fin 256) (e : Fin 128) :
    kernelRun0_A.sl.v551 (F := Ideal) c i arg3 harg3 arg4 harg4 arg5 harg5 arg6 harg6 arg7 harg7 arg8 harg8 arg9 harg9 arg10 harg10 hc0 x0 x1 x2 x3 x4 (ix3 0 r e)
      = accSum x0 x1 x2 x3 (i 1).val (256 * (i 2).val) (256 * (i 2).val + 256) 7 r.val e.val 0 := by
  unfold kernelRun0_A.sl.v551
  rw [View.readCov_eq_canon', restA c i arg3 harg3 arg4 harg4 arg5 harg5 arg6 harg6 arg7 harg7 arg8 harg8 arg9 harg9 arg10 harg10 x0 x1 x2 x3 x4 hc0, List.nil_append]
  have hi : (Rect.unit (s := S8x256x128) ![7, 0, 0] S1x256x128.size inb_S8x256x128_S1x256x128_7_0_0).emb (ix3 0 r e) = ix3 7 ⟨r.val, by omega⟩ e := by
    rw [emb_state256 7 (by decide) ![7, 0, 0] _ rfl rfl rfl]
    funext a
    refine Fin.ext ?_
    fin_cases a
    · rfl
    · exact Nat.mod_eq_of_lt (show r.val < 256 by omega)
    · rfl
  refine Eq.trans (doneA c i arg3 harg3 arg4 harg4 arg5 harg5 arg6 harg6 arg7 harg7 arg8 harg8 arg9 harg9 arg10 harg10 x0 x1 x2 x3 x4 hx4 hc0 ((Rect.unit (s := S8x256x128) ![7, 0, 0] S1x256x128.size inb_S8x256x128_S1x256x128_7_0_0).emb (ix3 0 r e)) ?_) ?_
  · rw [hi]
    exact r.isLt
  · rw [hi]
    exact rfl

end Cert.Proof.Block
-- ==== Proof.DiagB.lean ====
module

public import proofs.«01_k».proof.Proof.Stores

@[expose] public section

set_option maxRecDepth 16384

noncomputable section

namespace Cert.Proof.Block

open Cert.KernelIdeal Cert.KernelIdeal.Gen Idealize.ShloMosaic Idealize.ShloMosaic.TcCoe Idealize.SL.Sem

variable (c : Dev nD) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)
include c harg3 harg4 harg5 harg6 harg7 harg8 harg9 harg10 x0 x1 x2 x3 x4

theorem zeroB_acc0 (hc1 : cond0_1 i) (y : S8x256x128.Idx) (h1 : (y 1).val < 16) (hy : 0 ≤ (y 0).val) :
    View.canon (Val := Elt Ideal) (kernelRun0_B.sl.HS0_1 (F := Ideal)) y = (0 : EReal) := by
  unfold kernelRun0_B.sl.HS0_1
  exact canon_fill16a y h1

theorem zeroB_acc1 (hc1 : cond0_1 i) (y : S8x256x128.Idx) (h1 : (y 1).val < 16) (hy : 1 ≤ (y 0).val) :
    View.canon (Val := Elt Ideal) (kernelRun0_B.sl.HS0_2 (F := Ideal) c i arg3 harg3 arg4 harg4 arg5 harg5 arg6 harg6 arg7 harg7 arg9 arg10 hc1 x0 x1 x2 x3 x4) y = (0 : EReal) := by
  unfold kernelRun0_B.sl.HS0_2
  exact canon_skip16 0 (zeroB_acc0 c i arg3 harg3 arg4 harg4 arg5 harg5 arg6 harg6 arg7 harg7 arg8 harg8 arg9 harg9 arg10 harg10 x0 x1 x2 x3 x4 hc1) y h1 hy

theorem zeroB_acc2 (hc1 : cond0_1 i) (y : S8x256x128.Idx) (h1 : (y 1).val < 16) (hy : 2 ≤ (y 0).val) :
    View.canon (Val := Elt Ideal) (kernelRun0_B.sl.HS0_3 (F := Ideal) c i arg3 harg3 arg4 harg4 arg5 harg5 arg6 harg6 arg7 harg7 arg9 arg10 hc1 x0 x1 x2 x3 x4) y = (0 : EReal) := by
  unfold kernelRun0_B.sl.HS0_3
  exact canon_skip16 1 (zeroB_acc1 c i arg3 harg3 arg4 harg4 arg5 harg5 arg6 harg6 arg7 harg7 arg8 harg8 arg9 harg9 arg10 harg10 x0 x1 x2 x3 x4 hc1) y h1 hy

theorem zeroB_acc3 (hc1 : cond0_1 i) (y : S8x256x128.Idx) (h1 : (y 1).val < 16) (hy : 3 ≤ (y 0).val) :
    View.canon (Val := Elt Ideal) (kernelRun0_B.sl.HS0_4 (F := Ideal) c i arg3 harg3 arg4 harg4 arg5 harg5 arg6 harg6 arg7 harg7 arg9 arg10 hc1 x0 x1 x2 x3 x4) y = (0 : EReal) := by
  unfold kernelRun0_B.sl.HS0_4
  exact canon_skip16 2 (zeroB_acc2 c i arg3 harg3 arg4 harg4 arg5 harg5 arg6 harg6 arg7 harg7 arg8 harg8 arg9 harg9 arg10 harg10 x0 x1 x2 x3 x4 hc1) y h1 hy

theorem zeroB_acc4 (hc1 : cond0_1 i) (y : S8x256x128.Idx) (h1 : (y 1).val < 16) (hy : 4 ≤ (y 0).val) :
    View.canon (Val := Elt Ideal) (kernelRun0_B.sl.HS0_5 (F := Ideal) c i arg3 harg3 arg4 harg4 arg5 harg5 arg6 harg6 arg7 harg7 arg9 arg10 hc1 x0 x1 x2 x3 x4) y = (0 : EReal) := by
  unfold kernelRun0_B.sl.HS0_5
  exact canon_skip16 3 (zeroB_acc3 c i arg3 harg3 arg4 harg4 arg5 harg5 arg6 harg6 arg7 harg7 arg8 harg8 arg9 harg9 arg10 harg10 x0 x1 x2 x3 x4 hc1) y h1 hy

theorem zeroB_acc5 (hc1 : cond0_1 i) (y : S8x256x128.Idx) (h1 : (y 1).val < 16) (hy : 5 ≤ (y 0).val) :
    View.canon (Val := Elt Ideal) (kernelRun0_B.sl.HS0_6 (F := Ideal) c i arg3 harg3 arg4 harg4 arg5 harg5 arg6 harg6 arg7 harg7 arg9 arg10 hc1 x0 x1 x2 x3 x4) y = (0 : EReal) := by
  unfold kernelRun0_B.sl.HS0_6
  exact canon_skip16 4 (zeroB_acc4 c i arg3 harg3 arg4 harg4 arg5 harg5 arg6 harg6 arg7 harg7 arg8 harg8 arg9 harg9 arg10 harg10 x0 x1 x2 x3 x4 hc1) y h1 hy

theorem zeroB_acc6 (hc1 : cond0_1 i) (y : S8x256x128.Idx) (h1 : (y 1).val < 16) (hy : 6 ≤ (y 0).val) :
    View.canon (Val := Elt Ideal) (kernelRun0_B.sl.HS0_7 (F := Ideal) c i arg3 harg3 arg4 harg4 arg5 harg5 arg6 harg6 arg7 harg7 arg9 arg10 hc1 x0 x1 x2 x3 x4) y = (0 : EReal) := by
  unfold kernelRun0_B.sl.HS0_7
  exact canon_skip16 5 (zeroB_acc5 c i arg3 harg3 arg4 harg4 arg5 harg5 arg6 harg6 arg7 harg7 arg8 harg8 arg9 harg9 arg10 harg10 x0 x1 x2 x3 x4 hc1) y h1 hy

theorem zeroB_acc7 (hc1 : cond0_1 i) (y : S8x256x128.Idx) (h1 : (y 1).val < 16) (hy : 7 ≤ (y 0).val) :
    View.canon (Val := Elt Ideal) (kernelRun0_B.sl.HS0_8 (F := Ideal) c i arg3 harg3 arg4 harg4 arg5 harg5 arg6 harg6 arg7 harg7 arg9 arg10 hc1 x0 x1 x2 x3 x4) y = (0 : EReal) := by
  unfold kernelRun0_B.sl.HS0_8
  exact canon_skip16 6 (zeroB_acc6 c i arg3 harg3 arg4 harg4 arg5 harg5 arg6 harg6 arg7 harg7 arg8 harg8 arg9 harg9 arg10 harg10 x0 x1 x2 x3 x4 hc1) y h1 hy

theorem zeroB_run0 (hc1 : cond0_1 i) (y : S8x256x128.Idx) (h1 : (y 1).val < 16) (hy : 0 ≤ (y 0).val) :
    View.canon (Val := Elt Ideal) (kernelRun0_B.sl.HS1_1 (F := Ideal)) y = (0 : EReal) := by
  unfold kernelRun0_B.sl.HS1_1
  exact canon_fill16b y h1

theorem zeroB_run1 (hc1 : cond0_1 i) (y : S8x256x128.Idx) (h1 : (y 1).val < 16) (hy : 1 ≤ (y 0).val) :
    View.canon (Val := Elt Ideal) (kernelRun0_B.sl.HS1_2 (F := Ideal) c i arg3 harg3 arg4 harg4 arg5 harg5 arg7 harg7 arg10 hc1 x0 x1 x2 x4) y = (0 : EReal) := by
  unfold kernelRun0_B.sl.HS1_2
  exact canon_skip16 0 (zeroB_run0 c i arg3 harg3 arg4 harg4 arg5 harg5 arg6 harg6 arg7 harg7 arg8 harg8 arg9 harg9 arg10 harg10 x0 x1 x2 x3 x4 hc1) y h1 hy

theorem zeroB_run2 (hc1 : cond0_1 i) (y : S8x256x128.Idx) (h1 : (y 1).val < 16) (hy : 2 ≤ (y 0).val) :
    View.canon (Val := Elt Ideal) (kernelRun0_B.sl.HS1_3 (F := Ideal) c i arg3 harg3 arg4 harg4 arg5 harg5 arg7 harg7 arg10 hc1 x0 x1 x2 x4) y = (0 : EReal) := by
  unfold kernelRun0_B.sl.HS1_3
  exact canon_skip16 1 (zeroB_run1 c i arg3 harg3 arg4 harg4 arg5 harg5 arg6 harg6 arg7 harg7 arg8 harg8 arg9 harg9 arg10 harg10 x0 x1 x2 x3 x4 hc1) y h1 hy

theorem zeroB_run3 (hc1 : cond0_1 i) (y : S8x256x128.Idx) (h1 : (y 1).val < 16) (hy : 3 ≤ (y 0).val) :
    View.canon (Val := Elt Ideal) (kernelRun0_B.sl.HS1_4 (F := Ideal) c i arg3 harg3 arg4 harg4 arg5 harg5 arg7 harg7 arg10 hc1 x0 x1 x2 x4) y = (0 : EReal) := by
  unfold kernelRun0_B.sl.HS1_4
  exact canon_skip16 2 (zeroB_run2 c i arg3 harg3 arg4 harg4 arg5 harg5 arg6 harg6 arg7 harg7 arg8 harg8 arg9 harg9 arg10 harg10 x0 x1 x2 x3 x4 hc1) y h1 hy

theorem zeroB_run4 (hc1 : cond0_1 i) (y : S8x256x128.Idx) (h1 : (y 1).val < 16) (hy : 4 ≤ (y 0).val) :
    View.canon (Val := Elt Ideal) (kernelRun0_B.sl.HS1_5 (F := Ideal) c i arg3 harg3 arg4 harg4 arg5 harg5 arg7 harg7 arg10 hc1 x0 x1 x2 x4) y = (0 : EReal) := by
  unfold kernelRun0_B.sl.HS1_5
  exact canon_skip16 3 (zeroB_run3 c i arg3 harg3 arg4 harg4 arg5 harg5 arg6 harg6 arg7 harg7 arg8 harg8 arg9 harg9 arg10 harg10 x0 x1 x2 x3 x4 hc1) y h1 hy

theorem zeroB_run5 (hc1 : cond0_1 i) (y : S8x256x128.Idx) (h1 : (y 1).val < 16) (hy : 5 ≤ (y 0).val) :
    View.canon (Val := Elt Ideal) (kernelRun0_B.sl.HS1_6 (F := Ideal) c i arg3 harg3 arg4 harg4 arg5 harg5 arg7 harg7 arg10 hc1 x0 x1 x2 x4) y = (0 : EReal) := by
  unfold kernelRun0_B.sl.HS1_6
  exact canon_skip16 4 (zeroB_run4 c i arg3 harg3 arg4 harg4 arg5 harg5 arg6 harg6 arg7 harg7 arg8 harg8 arg9 harg9 arg10 harg10 x0 x1 x2 x3 x4 hc1) y h1 hy

theorem zeroB_run6 (hc1 : cond0_1 i) (y : S8x256x128.Idx) (h1 : (y 1).val < 16) (hy : 6 ≤ (y 0).val) :
    View.canon (Val := Elt Ideal) (kernelRun0_B.sl.HS1_7 (F := Ideal) c i arg3 harg3 arg4 harg4 arg5 harg5 arg7 harg7 arg10 hc1 x0 x1 x2 x4) y = (0 : EReal) := by
  unfold kernelRun0_B.sl.HS1_7
  exact canon_skip16 5 (zeroB_run5 c i arg3 harg3 arg4 harg4 arg5 harg5 arg6 harg6 arg7 harg7 arg8 harg8 arg9 harg9 arg10 harg10 x0 x1 x2 x3 x4 hc1) y h1 hy

theorem zeroB_run7 (hc1 : cond0_1 i) (y : S8x256x128.Idx) (h1 : (y 1).val < 16) (hy : 7 ≤ (y 0).val) :
    View.canon (Val := Elt Ideal) (kernelRun0_B.sl.HS1_8 (F := Ideal) c i arg3 harg3 arg4 harg4 arg5 harg5 arg7 harg7 arg10 hc1 x0 x1 x2 x4) y = (0 : EReal) := by
  unfold kernelRun0_B.sl.HS1_8
  exact canon_skip16 6 (zeroB_run6 c i arg3 harg3 arg4 harg4 arg5 harg5 arg6 harg6 arg7 harg7 arg8 harg8 arg9 harg9 arg10 harg10 x0 x1 x2 x3 x4 hc1) y h1 hy

theorem diagB_acc0 (hc1 : cond0_1 i) (y : S8x256x128.Idx) (h1 : (y 1).val < 16) (h0 : (y 0).val < 0 + 1) :
    View.canon (Val := Elt Ideal) (kernelRun0_B.sl.HS0_2 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_2
  have hk := diag_words (i 2)
  refine canon_head16 0 (by decide) _ (fun x => ?_) (fun y _ h => absurd h (Nat.not_lt_zero _)) y h1 h0
  refine accLoadMasked16 x0 x1 x2 x3 (v1At arg7 harg7 x4) (i 1).val (256 * (i 2).val) _ _ arg3 harg3 arg4 harg4 arg5 harg5 arg6 harg6 (i 1).isLt 0 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 0
  · unfold kernelRun0_B.sl.v295
    exact load_zero16 _ 0 (by decide) (zeroB_run0 c i arg3 harg3 arg4 harg4 arg5 harg5 arg6 harg6 arg7 harg7 arg8 harg8 arg9 harg9 arg10 harg10 x0 x1 x2 x3 x4 hc1) r e
  · unfold kernelRun0_B.sl.v306
    exact load_zero16 _ 0 (by decide) (zeroB_acc0 c i arg3 harg3 arg4 harg4 arg5 harg5 arg6 harg6 arg7 harg7 arg8 harg8 arg9 harg9 arg10 harg10 x0 x1 x2 x3 x4 hc1) r e

theorem diagB_acc1 (hc1 : cond0_1 i) (y : S8x256x128.Idx) (h1 : (y 1).val < 16) (h0 : (y 0).val < 1 + 1) :
    View.canon (Val := Elt Ideal) (kernelRun0_B.sl.HS0_3 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_3
  have hk := diag_words (i 2)
  refine canon_head16 1 (by decide) _ (fun x => ?_) (diagB_acc0 c i arg3 harg3 arg4 harg4 arg5 harg5 arg6 harg6 arg7 harg7 arg8 harg8 arg9 harg9 arg10 harg10 x0 x1 x2 x3 x4 hc1) y h1 h0
  refine accLoadMasked16 x0 x1 x2 x3 (v1At arg7 harg7 x4) (i 1).val (256 * (i 2).val) _ _ arg3 harg3 arg4 harg4 arg5 harg5 arg6 harg6 (i 1).isLt 1 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 1
  · unfold kernelRun0_B.sl.v321
    exact load_zero16 _ 1 (by decide) (zeroB_run1 c i arg3 harg3 arg4 harg4 arg5 harg5 arg6 harg6 arg7 harg7 arg8 harg8 arg9 harg9 arg10 harg10 x0 x1 x2 x3 x4 hc1) r e
  · unfold kernelRun0_B.sl.v332
    exact load_zero16 _ 1 (by decide) (zeroB_acc1 c i arg3 harg3 arg4 harg4 arg5 harg5 arg6 harg6 arg7 harg7 arg8 harg8 arg9 harg9 arg10 harg10 x0 x1 x2 x3 x4 hc1) r e

theorem diagB_acc2 (hc1 : cond0_1 i) (y : S8x256x128.Idx) (h1 : (y 1).val < 16) (h0 : (y 0).val < 2 + 1) :
    View.canon (Val := Elt Ideal) (kernelRun0_B.sl.HS0_4 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_4
  have hk := diag_words (i 2)
  refine canon_head16 2 (by decide) _ (fun x => ?_) (diagB_acc1 c i arg3 harg3 arg4 harg4 arg5 harg5 arg6 harg6 arg7 harg7 arg8 harg8 arg9 harg9 arg10 harg10 x0 x1 x2 x3 x4 hc1) y h1 h0
  refine accLoadMasked16 x0 x1 x2 x3 (v1At arg7 harg7 x4) (i 1).val (256 * (i 2).val) _ _ arg3 harg3 arg4 harg4 arg5 harg5 arg6 harg6 (i 1).isLt 2 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 2
  · unfold kernelRun0_B.sl.v347
    exact load_zero16 _ 2 (by decide) (zeroB_run2 c i arg3 harg3 arg4 harg4 arg5 harg5 arg6 harg6 arg7 harg7 arg8 harg8 arg9 harg9 arg10 harg10 x0 x1 x2 x3 x4 hc1) r e
  · unfold kernelRun0_B.sl.v358
    exact load_zero16 _ 2 (by decide) (zeroB_acc2 c i arg3 harg3 arg4 harg4 arg5 harg5 arg6 harg6 arg7 harg7 arg8 harg8 arg9 harg9 arg10 harg10 x0 x1 x2 x3 x4 hc1) r e

theorem diagB_acc3 (hc1 : cond0_1 i) (y : S8x256x128.Idx) (h1 : (y 1).val < 16) (h0 : (y 0).val < 3 + 1) :
    View.canon (Val := Elt Ideal) (kernelRun0_B.sl.HS0_5 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_5
  have hk := diag_words (i 2)
  refine canon_head16 3 (by decide) _ (fun x => ?_) (diagB_acc2 c i arg3 harg3 arg4 harg4 arg5 harg5 arg6 harg6 arg7 harg7 arg8 harg8 arg9 harg9 arg10 harg10 x0 x1 x2 x3 x4 hc1) y h1 h0
  refine accLoadMasked16 x0 x1 x2 x3 (v1At arg7 harg7 x4) (i 1).val (256 * (i 2).val) _ _ arg3 harg3 arg4 harg4 arg5 harg5 arg6 harg6 (i 1).isLt 3 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 3
  · unfold kernelRun0_B.sl.v373
    exact load_zero16 _ 3 (by decide) (zeroB_run3 c i arg3 harg3 arg4 harg4 arg5 harg5 arg6 harg6 arg7 harg7 arg8 harg8 arg9 harg9 arg10 harg10 x0 x1 x2 x3 x4 hc1) r e
  · unfold kernelRun0_B.sl.v384
    exact load_zero16 _ 3 (by decide) (zeroB_acc3 c i arg3 harg3 arg4 harg4 arg5 harg5 arg6 harg6 arg7 harg7 arg8 harg8 arg9 harg9 arg10 harg10 x0 x1 x2 x3 x4 hc1) r e

theorem diagB_acc4 (hc1 : cond0_1 i) (y : S8x256x128.Idx) (h1 : (y 1).val < 16) (h0 : (y 0).val < 4 + 1) :
    View.canon (Val := Elt Ideal) (kernelRun0_B.sl.HS0_6 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_6
  have hk := diag_words (i 2)
  refine canon_head16 4 (by decide) _ (fun x => ?_) (diagB_acc3 c i arg3 harg3 arg4 harg4 arg5 harg5 arg6 harg6 arg7 harg7 arg8 harg8 arg9 harg9 arg10 harg10 x0 x1 x2 x3 x4 hc1) y h1 h0
  refine accLoadMasked16 x0 x1 x2 x3 (v1At arg7 harg7 x4) (i 1).val (256 * (i 2).val) _ _ arg3 harg3 arg4 harg4 arg5 harg5 arg6 harg6 (i 1).isLt 4 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 4
  · unfold kernelRun0_B.sl.v399
    exact load_zero16 _ 4 (by decide) (zeroB_run4 c i arg3 harg3 arg4 harg4 arg5 harg5 arg6 harg6 arg7 harg7 arg8 harg8 arg9 harg9 arg10 harg10 x0 x1 x2 x3 x4 hc1) r e
  · unfold kernelRun0_B.sl.v410
    exact load_zero16 _ 4 (by decide) (zeroB_acc4 c i arg3 harg3 arg4 harg4 arg5 harg5 arg6 harg6 arg7 harg7 arg8 harg8 arg9 harg9 arg10 harg10 x0 x1 x2 x3 x4 hc1) r e

theorem diagB_acc5 (hc1 : cond0_1 i) (y : S8x256x128.Idx) (h1 : (y 1).val < 16) (h0 : (y 0).val < 5 + 1) :
    View.canon (Val := Elt Ideal) (kernelRun0_B.sl.HS0_7 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_7
  have hk := diag_words (i 2)
  refine canon_head16 5 (by decide) _ (fun x => ?_) (diagB_acc4 c i arg3 harg3 arg4 harg4 arg5 harg5 arg6 harg6 arg7 harg7 arg8 harg8 arg9 harg9 arg10 harg10 x0 x1 x2 x3 x4 hc1) y h1 h0
  refine accLoadMasked16 x0 x1 x2 x3 (v1At arg7 harg7 x4) (i 1).val (256 * (i 2).val) _ _ arg3 harg3 arg4 harg4 arg5 harg5 arg6 harg6 (i 1).isLt 5 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 5
  · unfold kernelRun0_B.sl.v425
    exact load_zero16 _ 5 (by decide) (zeroB_run5 c i arg3 harg3 arg4 harg4 arg5 harg5 arg6 harg6 arg7 harg7 arg8 harg8 arg9 harg9 arg10 harg10 x0 x1 x2 x3 x4 hc1) r e
  · unfold kernelRun0_B.sl.v436
    exact load_zero16 _ 5 (by decide) (zeroB_acc5 c i arg3 harg3 arg4 harg4 arg5 harg5 arg6 harg6 arg7 harg7 arg8 harg8 arg9 harg9 arg10 harg10 x0 x1 x2 x3 x4 hc1) r e

theorem diagB_acc6 (hc1 : cond0_1 i) (y : S8x256x128.Idx) (h1 : (y 1).val < 16) (h0 : (y 0).val < 6 + 1) :
    View.canon (Val := Elt Ideal) (kernelRun0_B.sl.HS0_8 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  unfold kernelRun0_B.sl.HS0_8
  have hk := diag_words (i 2)
  refine canon_head16 6 (by decide) _ (fun x => ?_) (diagB_acc5 c i arg3 harg3 arg4 harg4 arg5 harg5 arg6 harg6 arg7 harg7 arg8 harg8 arg9 harg9 arg10 harg10 x0 x1 x2 x3 x4 hc1) y h1 h0
  unfold kernelRun0_B.sl.r_40 kernelRun0_B.sl.r_41 kernelRun0_B.sl.r_42 kernelRun0_B.sl.r_28 kernelRun0_B.sl.r_17 kernelRun0_B.sl.r_14 kernelRun0_B.sl.r_20
  refine accLoadMasked16 x0 x1 x2 x3 (v1At arg7 harg7 x4) (i 1).val (256 * (i 2).val) _ _ arg3 harg3 arg4 harg4 arg5 harg5 arg6 harg6 (i 1).isLt 6 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 6
  · unfold kernelRun0_B.sl.v451
    exact load_zero16 _ 6 (by decide) (zeroB_run6 c i arg3 harg3 arg4 harg4 arg5 harg5 arg6 harg6 arg7 harg7 arg8 harg8 arg9 harg9 arg10 harg10 x0 x1 x2 x3 x4 hc1) r e
  · unfold kernelRun0_B.sl.v462
    exact load_zero16 _ 6 (by decide) (zeroB_acc6 c i arg3 harg3 arg4 harg4 arg5 harg5 arg6 harg6 arg7 harg7 arg8 harg8 arg9 harg9 arg10 harg10 x0 x1 x2 x3 x4 hc1) r e

theorem diagB_run0 (hc1 : cond0_1 i) (y : S8x256x128.Idx) (h1 : (y 1).val < 16) (h0 : (y 0).val < 0 + 1) :
    View.canon (Val := Elt Ideal) (kernelRun0_B.sl.HS1_2 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_2
  have hk := diag_words (i 2)
  refine canon_head16 0 (by decide) _ (fun x => ?_) (fun y _ h => absurd h (Nat.not_lt_zero _)) y h1 h0
  unfold kernelRun0_B.sl.r_21 kernelRun0_B.sl.r_1 kernelRun0_B.sl.r
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 0 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 0
  · unfold kernelRun0_B.sl.v295
    exact load_zero16 _ 0 (by decide) (zeroB_run0 c i arg3 harg3 arg4 harg4 arg5 harg5 arg6 harg6 arg7 harg7 arg8 harg8 arg9 harg9 arg10 harg10 x0 x1 x2 x3 x4 hc1) r e

theorem diagB_run1 (hc1 : cond0_1 i) (y : S8x256x128.Idx) (h1 : (y 1).val < 16) (h0 : (y 0).val < 1 + 1) :
    View.canon (Val := Elt Ideal) (kernelRun0_B.sl.HS1_3 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_3
  have hk := diag_words (i 2)
  refine canon_head16 1 (by decide) _ (fun x => ?_) (diagB_run0 c i arg3 harg3 arg4 harg4 arg5 harg5 arg6 harg6 arg7 harg7 arg8 harg8 arg9 harg9 arg10 harg10 x0 x1 x2 x3 x4 hc1) y h1 h0
  unfold kernelRun0_B.sl.r_22 kernelRun0_B.sl.r_5 kernelRun0_B.sl.r_2 kernelRun0_B.sl.r_3
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 1 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 1
  · unfold kernelRun0_B.sl.v321
    exact load_zero16 _ 1 (by decide) (zeroB_run1 c i arg3 harg3 arg4 harg4 arg5 harg5 arg6 harg6 arg7 harg7 arg8 harg8 arg9 harg9 arg10 harg10 x0 x1 x2 x3 x4 hc1) r e

theorem diagB_run2 (hc1 : cond0_1 i) (y : S8x256x128.Idx) (h1 : (y 1).val < 16) (h0 : (y 0).val < 2 + 1) :
    View.canon (Val := Elt Ideal) (kernelRun0_B.sl.HS1_4 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_4
  have hk := diag_words (i 2)
  refine canon_head16 2 (by decide) _ (fun x => ?_) (diagB_run1 c i arg3 harg3 arg4 harg4 arg5 harg5 arg6 harg6 arg7 harg7 arg8 harg8 arg9 harg9 arg10 harg10 x0 x1 x2 x3 x4 hc1) y h1 h0
  unfold kernelRun0_B.sl.r_23 kernelRun0_B.sl.r_6 kernelRun0_B.sl.r_4 kernelRun0_B.sl.r_20 kernelRun0_B.sl.r_32
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 2 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 2
  · unfold kernelRun0_B.sl.v347
    exact load_zero16 _ 2 (by decide) (zeroB_run2 c i arg3 harg3 arg4 harg4 arg5 harg5 arg6 harg6 arg7 harg7 arg8 harg8 arg9 harg9 arg10 harg10 x0 x1 x2 x3 x4 hc1) r e

theorem diagB_run3 (hc1 : cond0_1 i) (y : S8x256x128.Idx) (h1 : (y 1).val < 16) (h0 : (y 0).val < 3 + 1) :
    View.canon (Val := Elt Ideal) (kernelRun0_B.sl.HS1_5 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_5
  have hk := diag_words (i 2)
  refine canon_head16 3 (by decide) _ (fun x => ?_) (diagB_run2 c i arg3 harg3 arg4 harg4 arg5 harg5 arg6 harg6 arg7 harg7 arg8 harg8 arg9 harg9 arg10 harg10 x0 x1 x2 x3 x4 hc1) y h1 h0
  unfold kernelRun0_B.sl.r_35 kernelRun0_B.sl.r_36 kernelRun0_B.sl.r_24 kernelRun0_B.sl.r_10 kernelRun0_B.sl.r_7 kernelRun0_B.sl.r_8 kernelRun0_B.sl.r_20
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 3 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 3
  · unfold kernelRun0_B.sl.v373
    exact load_zero16 _ 3 (by decide) (zeroB_run3 c i arg3 harg3 arg4 harg4 arg5 harg5 arg6 harg6 arg7 harg7 arg8 harg8 arg9 harg9 arg10 harg10 x0 x1 x2 x3 x4 hc1) r e

theorem diagB_run4 (hc1 : cond0_1 i) (y : S8x256x128.Idx) (h1 : (y 1).val < 16) (h0 : (y 0).val < 4 + 1) :
    View.canon (Val := Elt Ideal) (kernelRun0_B.sl.HS1_6 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_6
  have hk := diag_words (i 2)
  refine canon_head16 4 (by decide) _ (fun x => ?_) (diagB_run3 c i arg3 harg3 arg4 harg4 arg5 harg5 arg6 harg6 arg7 harg7 arg8 harg8 arg9 harg9 arg10 harg10 x0 x1 x2 x3 x4 hc1) y h1 h0
  unfold kernelRun0_B.sl.r_26 kernelRun0_B.sl.r_20 kernelRun0_B.sl.r_25 kernelRun0_B.sl.r_11 kernelRun0_B.sl.r_9
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 4 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 4
  · unfold kernelRun0_B.sl.v399
    exact load_zero16 _ 4 (by decide) (zeroB_run4 c i arg3 harg3 arg4 harg4 arg5 harg5 arg6 harg6 arg7 harg7 arg8 harg8 arg9 harg9 arg10 harg10 x0 x1 x2 x3 x4 hc1) r e

theorem diagB_run5 (hc1 : cond0_1 i) (y : S8x256x128.Idx) (h1 : (y 1).val < 16) (h0 : (y 0).val < 5 + 1) :
    View.canon (Val := Elt Ideal) (kernelRun0_B.sl.HS1_7 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_7
  have hk := diag_words (i 2)
  refine canon_head16 5 (by decide) _ (fun x => ?_) (diagB_run4 c i arg3 harg3 arg4 harg4 arg5 harg5 arg6 harg6 arg7 harg7 arg8 harg8 arg9 harg9 arg10 harg10 x0 x1 x2 x3 x4 hc1) y h1 h0
  unfold kernelRun0_B.sl.r_27 kernelRun0_B.sl.r_16 kernelRun0_B.sl.r_12 kernelRun0_B.sl.r_13 kernelRun0_B.sl.r_20 kernelRun0_B.sl.r_37
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 5 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 5
  · unfold kernelRun0_B.sl.v425
    exact load_zero16 _ 5 (by decide) (zeroB_run5 c i arg3 harg3 arg4 harg4 arg5 harg5 arg6 harg6 arg7 harg7 arg8 harg8 arg9 harg9 arg10 harg10 x0 x1 x2 x3 x4 hc1) r e

theorem diagB_run6 (hc1 : cond0_1 i) (y : S8x256x128.Idx) (h1 : (y 1).val < 16) (h0 : (y 0).val < 6 + 1) :
    View.canon (Val := Elt Ideal) (kernelRun0_B.sl.HS1_8 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  unfold kernelRun0_B.sl.HS1_8
  have hk := diag_words (i 2)
  refine canon_head16 6 (by decide) _ (fun x => ?_) (diagB_run5 c i arg3 harg3 arg4 harg4 arg5 harg5 arg6 harg6 arg7 harg7 arg8 harg8 arg9 harg9 arg10 harg10 x0 x1 x2 x3 x4 hc1) y h1 h0
  unfold kernelRun0_B.sl.r_28 kernelRun0_B.sl.r_17 kernelRun0_B.sl.r_14 kernelRun0_B.sl.r_20 kernelRun0_B.sl.r_39
  refine (congrFun (?_ : _ = running16 (suffix16 (v1At arg7 harg7 x4) (masked16 (mask16 (Scalar.addi (Scalar.muli (BitVec.ofNat 32 (i 2).val) 1#32) 0#32) (BitVec.ofNat 32 (i 2).val)) (softplus16 (logits16 ?q ?k ?b)))) ?r) x).trans ?_
  case refine_1 => exact rfl
  refine runLoadMasked16 x0 x1 x2 (v1At arg7 harg7 x4) (i 1).val (256 * (i 2).val) _ arg3 harg3 arg4 harg4 arg5 harg5 (i 1).isLt 6 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 6
  · unfold kernelRun0_B.sl.v451
    exact load_zero16 _ 6 (by decide) (zeroB_run6 c i arg3 harg3 arg4 harg4 arg5 harg5 arg6 harg6 arg7 harg7 arg8 harg8 arg9 harg9 arg10 harg10 x0 x1 x2 x3 x4 hc1) r e

end Cert.Proof.Block
-- ==== Proof.CaseB.lean ====
module

public import proofs.«01_k».proof.Proof.DiagB

@[expose] public section

set_option maxRecDepth 16384

noncomputable section

namespace Cert.Proof.Block

open Cert.KernelIdeal Cert.KernelIdeal.Gen Idealize.ShloMosaic Idealize.ShloMosaic.TcCoe Idealize.SL.Sem

/-! ## The last tile: the sums the body leaves -/

variable (c : Dev nD) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)
include c harg3 harg4 harg5 harg6 harg7 harg8 harg9 harg10 x0 x1 x2 x3 x4

omit c harg3 harg4 harg5 harg6 harg7 harg8 harg9 harg10 x0 x1 x2 x3 x4 in
theorem fill_mem (y : S8x256x128.Idx) (h1 : (y 1).val < 16) :
    y ∈ (Rect.unit (s := S8x256x128) ![0, 0, 0] S8x16x128.size inb_S8x256x128_S8x16x128_0_0_0).set := by
  have h0 : (y 0).val < 8 := (y 0).isLt
  have h2 : (y 2).val < 128 := (y 2).isLt
  refine Rect.mem_set_unit.mpr fun a => ?_
  fin_cases a
  · show 0 ≤ (y 0).val ∧ (y 0).val < 0 + 8
    omega
  · show 0 ≤ (y 1).val ∧ (y 1).val < 0 + 16
    omega
  · show 0 ≤ (y 2).val ∧ (y 2).val < 0 + 128
    omega

theorem coverB_acc1 (hc1 : cond0_1 i) (y : S8x256x128.Idx) (h1 : (y 1).val < 16) : ∃ p ∈ (kernelRun0_B.sl.HS0_1 (F := Ideal)), y ∈ p.1.set := by
  unfold kernelRun0_B.sl.HS0_1
  exact ⟨_, .head _, fill_mem y h1⟩

theorem coverB_acc2 (hc1 : cond0_1 i) (y : S8x256x128.Idx) (h1 : (y 1).val < 16) : ∃ p ∈ (kernelRun0_B.sl.HS0_2 (F := Ideal) c i arg3 harg3 arg4 harg4 arg5 harg5 arg6 harg6 arg7 harg7 arg9 arg10 hc1 x0 x1 x2 x3 x4), y ∈ p.1.set := by
  unfold kernelRun0_B.sl.HS0_2
  obtain ⟨p, hp, hy⟩ := coverB_acc1 c i arg3 harg3 arg4 harg4 arg5 harg5 arg6 harg6 arg7 harg7 arg8 harg8 arg9 harg9 arg10 harg10 x0 x1 x2 x3 x4 hc1 y h1
  exact ⟨p, .tail _ hp, hy⟩

theorem coverB_acc3 (hc1 : cond0_1 i) (y : S8x256x128.Idx) (h1 : (y 1).val < 16) : ∃ p ∈ (kernelRun0_B.sl.HS0_3 (F := Ideal) c i arg3 harg3 arg4 harg4 arg5 harg5 arg6 harg6 arg7 harg7 arg9 arg10 hc1 x0 x1 x2 x3 x4), y ∈ p.1.set := by
  unfold kernelRun0_B.sl.HS0_3
  obtain ⟨p, hp, hy⟩ := coverB_acc2 c i arg3 harg3 arg4 harg4 arg5 harg5 arg6 harg6 arg7 harg7 arg8 harg8 arg9 harg9 arg10 harg10 x0 x1 x2 x3 x4 hc1 y h1
  exact ⟨p, .tail _ hp, hy⟩

theorem coverB_acc4 (hc1 : cond0_1 i) (y : S8x256x128.Idx) (h1 : (y 1).val < 16) : ∃ p ∈ (kernelRun0_B.sl.HS0_4 (F := Ideal) c i arg3 harg3 arg4 harg4 arg5 harg5 arg6 harg6 arg7 harg7 arg9 arg10 hc1 x0 x1 x2 x3 x4), y ∈ p.1.set := by
  unfold kernelRun0_B.sl.HS0_4
  obtain ⟨p, hp, hy⟩ := coverB_acc3 c i arg3 harg3 arg4 harg4 arg5 harg5 arg6 harg6 arg7 harg7 arg8 harg8 arg9 harg9 arg10 harg10 x0 x1 x2 x3 x4 hc1 y h1
  exact ⟨p, .tail _ hp, hy⟩

theorem coverB_acc5 (hc1 : cond0_1 i) (y : S8x256x128.Idx) (h1 : (y 1).val < 16) : ∃ p ∈ (kernelRun0_B.sl.HS0_5 (F := Ideal) c i arg3 harg3 arg4 harg4 arg5 harg5 arg6 harg6 arg7 harg7 arg9 arg10 hc1 x0 x1 x2 x3 x4), y ∈ p.1.set := by
  unfold kernelRun0_B.sl.HS0_5
  obtain ⟨p, hp, hy⟩ := coverB_acc4 c i arg3 harg3 arg4 harg4 arg5 harg5 arg6 harg6 arg7 harg7 arg8 harg8 arg9 harg9 arg10 harg10 x0 x1 x2 x3 x4 hc1 y h1
  exact ⟨p, .tail _ hp, hy⟩

theorem coverB_acc6 (hc1 : cond0_1 i) (y : S8x256x128.Idx) (h1 : (y 1).val < 16) : ∃ p ∈ (kernelRun0_B.sl.HS0_6 (F := Ideal) c i arg3 harg3 arg4 harg4 arg5 harg5 arg6 harg6 arg7 harg7 arg9 arg10 hc1 x0 x1 x2 x3 x4), y ∈ p.1.set := by
  unfold kernelRun0_B.sl.HS0_6
  obtain ⟨p, hp, hy⟩ := coverB_acc5 c i arg3 harg3 arg4 harg4 arg5 harg5 arg6 harg6 arg7 harg7 arg8 harg8 arg9 harg9 arg10 harg10 x0 x1 x2 x3 x4 hc1 y h1
  exact ⟨p, .tail _ hp, hy⟩

theorem coverB_acc7 (hc1 : cond0_1 i) (y : S8x256x128.Idx) (h1 : (y 1).val < 16) : ∃ p ∈ (kernelRun0_B.sl.HS0_7 (F := Ideal) c i arg3 harg3 arg4 harg4 arg5 harg5 arg6 harg6 arg7 harg7 arg9 arg10 hc1 x0 x1 x2 x3 x4), y ∈ p.1.set := by
  unfold kernelRun0_B.sl.HS0_7
  obtain ⟨p, hp, hy⟩ := coverB_acc6 c i arg3 harg3 arg4 harg4 arg5 harg5 arg6 harg6 arg7 harg7 arg8 harg8 arg9 harg9 arg10 harg10 x0 x1 x2 x3 x4 hc1 y h1
  exact ⟨p, .tail _ hp, hy⟩

theorem coverB_acc8 (hc1 : cond0_1 i) (y : S8x256x128.Idx) (h1 : (y 1).val < 16) : ∃ p ∈ (kernelRun0_B.sl.HS0_8 (F := Ideal) c i arg3 harg3 arg4 harg4 arg5 harg5 arg6 harg6 arg7 harg7 arg9 arg10 hc1 x0 x1 x2 x3 x4), y ∈ p.1.set := by
  unfold kernelRun0_B.sl.HS0_8
  obtain ⟨p, hp, hy⟩ := coverB_acc7 c i arg3 harg3 arg4 harg4 arg5 harg5 arg6 harg6 arg7 harg7 arg8 harg8 arg9 harg9 arg10 harg10 x0 x1 x2 x3 x4 hc1 y h1
  exact ⟨p, .tail _ hp, hy⟩

theorem coverB_run1 (hc1 : cond0_1 i) (y : S8x256x128.Idx) (h1 : (y 1).val < 16) : ∃ p ∈ (kernelRun0_B.sl.HS1_1 (F := Ideal)), y ∈ p.1.set := by
  unfold kernelRun0_B.sl.HS1_1
  exact ⟨_, .head _, fill_mem y h1⟩

theorem coverB_run2 (hc1 : cond0_1 i) (y : S8x256x128.Idx) (h1 : (y 1).val < 16) : ∃ p ∈ (kernelRun0_B.sl.HS1_2 (F := Ideal) c i arg3 harg3 arg4 harg4 arg5 harg5 arg7 harg7 arg10 hc1 x0 x1 x2 x4), y ∈ p.1.set := by
  unfold kernelRun0_B.sl.HS1_2
  obtain ⟨p, hp, hy⟩ := coverB_run1 c i arg3 harg3 arg4 harg4 arg5 harg5 arg6 harg6 arg7 harg7 arg8 harg8 arg9 harg9 arg10 harg10 x0 x1 x2 x3 x4 hc1 y h1
  exact ⟨p, .tail _ hp, hy⟩

theorem coverB_run3 (hc1 : cond0_1 i) (y : S8x256x128.Idx) (h1 : (y 1).val < 16) : ∃ p ∈ (kernelRun0_B.sl.HS1_3 (F := Ideal) c i arg3 harg3 arg4 harg4 arg5 harg5 arg7 harg7 arg10 hc1 x0 x1 x2 x4), y ∈ p.1.set := by
  unfold kernelRun0_B.sl.HS1_3
  obtain ⟨p, hp, hy⟩ := coverB_run2 c i arg3 harg3 arg4 harg4 arg5 harg5 arg6 harg6 arg7 harg7 arg8 harg8 arg9 harg9 arg10 harg10 x0 x1 x2 x3 x4 hc1 y h1
  exact ⟨p, .tail _ hp, hy⟩

theorem coverB_run4 (hc1 : cond0_1 i) (y : S8x256x128.Idx) (h1 : (y 1).val < 16) : ∃ p ∈ (kernelRun0_B.sl.HS1_4 (F := Ideal) c i arg3 harg3 arg4 harg4 arg5 harg5 arg7 harg7 arg10 hc1 x0 x1 x2 x4), y ∈ p.1.set := by
  unfold kernelRun0_B.sl.HS1_4
  obtain ⟨p, hp, hy⟩ := coverB_run3 c i arg3 harg3 arg4 harg4 arg5 harg5 arg6 harg6 arg7 harg7 arg8 harg8 arg9 harg9 arg10 harg10 x0 x1 x2 x3 x4 hc1 y h1
  exact ⟨p, .tail _ hp, hy⟩

theorem coverB_run5 (hc1 : cond0_1 i) (y : S8x256x128.Idx) (h1 : (y 1).val < 16) : ∃ p ∈ (kernelRun0_B.sl.HS1_5 (F := Ideal) c i arg3 harg3 arg4 harg4 arg5 harg5 arg7 harg7 arg10 hc1 x0 x1 x2 x4), y ∈ p.1.set := by
  unfold kernelRun0_B.sl.HS1_5
  obtain ⟨p, hp, hy⟩ := coverB_run4 c i arg3 harg3 arg4 harg4 arg5 harg5 arg6 harg6 arg7 harg7 arg8 harg8 arg9 harg9 arg10 harg10 x0 x1 x2 x3 x4 hc1 y h1
  exact ⟨p, .tail _ hp, hy⟩

theorem coverB_run6 (hc1 : cond0_1 i) (y : S8x256x128.Idx) (h1 : (y 1).val < 16) : ∃ p ∈ (kernelRun0_B.sl.HS1_6 (F := Ideal) c i arg3 harg3 arg4 harg4 arg5 harg5 arg7 harg7 arg10 hc1 x0 x1 x2 x4), y ∈ p.1.set := by
  unfold kernelRun0_B.sl.HS1_6
  obtain ⟨p, hp, hy⟩ := coverB_run5 c i arg3 harg3 arg4 harg4 arg5 harg5 arg6 harg6 arg7 harg7 arg8 harg8 arg9 harg9 arg10 harg10 x0 x1 x2 x3 x4 hc1 y h1
  exact ⟨p, .tail _ hp, hy⟩

theorem coverB_run7 (hc1 : cond0_1 i) (y : S8x256x128.Idx) (h1 : (y 1).val < 16) : ∃ p ∈ (kernelRun0_B.sl.HS1_7 (F := Ideal) c i arg3 harg3 arg4 harg4 arg5 harg5 arg7 harg7 arg10 hc1 x0 x1 x2 x4), y ∈ p.1.set := by
  unfold kernelRun0_B.sl.HS1_7
  obtain ⟨p, hp, hy⟩ := coverB_run6 c i arg3 harg3 arg4 harg4 arg5 harg5 arg6 harg6 arg7 harg7 arg8 harg8 arg9 harg9 arg10 harg10 x0 x1 x2 x3 x4 hc1 y h1
  exact ⟨p, .tail _ hp, hy⟩

theorem coverB_run8 (hc1 : cond0_1 i) (y : S8x256x128.Idx) (h1 : (y 1).val < 16) : ∃ p ∈ (kernelRun0_B.sl.HS1_8 (F := Ideal) c i arg3 harg3 arg4 harg4 arg5 harg5 arg7 harg7 arg10 hc1 x0 x1 x2 x4), y ∈ p.1.set := by
  unfold kernelRun0_B.sl.HS1_8
  obtain ⟨p, hp, hy⟩ := coverB_run7 c i arg3 harg3 arg4 harg4 arg5 harg5 arg6 harg6 arg7 harg7 arg8 harg8 arg9 harg9 arg10 harg10 x0 x1 x2 x3 x4 hc1 y h1
  exact ⟨p, .tail _ hp, hy⟩

/-- The last head's first words. -/
abbrev w9B (hc1 : cond0_1 i) : FVec Ideal S1x16x128 .f32 :=
  k0_pay332 (kernelRun0_B.sl.r_19 (F := Ideal) c i arg3 harg3 arg4 harg4 arg5 harg5 hc1 x0 x1 x2) (kernelRun0_B.sl.r_20 i)
    (kernelRun0_B.sl.r_31 (F := Ideal) c i arg3 harg3 arg4 harg4 arg5 harg5 arg7 harg7 hc1 x0 x1 x2 x4)
    (kernelRun0_B.sl.v477 (F := Ideal) c i arg3 harg3 arg4 harg4 arg5 harg5 arg7 harg7 arg10 hc1 x0 x1 x2 x4)
    (View.readAt (Elt Ideal) arg6.view (Rect.unit (s := S1x4352x1024) (k0_off36 i) S1x256x128.size (k0_off36_inb i hc1)).toLoadRect (harg6.unread x3))
    (kernelRun0_B.sl.v488 (F := Ideal) c i arg3 harg3 arg4 harg4 arg5 harg5 arg6 harg6 arg7 harg7 arg9 arg10 hc1 x0 x1 x2 x3 x4)

/-- The same of the running sum. -/
abbrev w10B (hc1 : cond0_1 i) : FVec Ideal S1x16x128 .f32 :=
  k0_pay334 (kernelRun0_B.sl.r_43 (F := Ideal) c i arg3 harg3 arg4 harg4 arg5 harg5 arg7 harg7 arg10 hc1 x0 x1 x2 x4)

theorem diagB_acc7 (hc1 : cond0_1 i) (y : S8x256x128.Idx) (h1 : (y 1).val < 16) (h0 : (y 0).val < 7 + 1) :
    View.canon (Val := Elt Ideal) ((⟨Rect.unit (s := S8x256x128) ![7, 0, 0] S1x16x128.size inb_S8x256x128_S1x16x128_7_0_0, (w9B c i arg3 harg3 arg4 harg4 arg5 harg5 arg6 harg6 arg7 harg7 arg9 arg10 x0 x1 x2 x3 x4 hc1)⟩ : View.Piece (Elt Ideal) S8x256x128 .f32) :: kernelRun0_B.sl.HS0_8 (F := Ideal) c i arg3 harg3 arg4 harg4 arg5 harg5 arg6 harg6 arg7 harg7 arg9 arg10 hc1 x0 x1 x2 x3 x4) y
      = stepAcc x0 x1 x2 x3 (v1At arg7 harg7 x4) (i 1).val (256 * (i 2).val) causal (fun _ => 0) (fun _ => 0) y := by
  have hk := diag_words (i 2)
  refine canon_head16 7 (by decide) _ (fun x => ?_) (diagB_acc6 c i arg3 harg3 arg4 harg4 arg5 harg5 arg6 harg6 arg7 harg7 arg8 harg8 arg9 harg9 arg10 harg10 x0 x1 x2 x3 x4 hc1) y h1 h0
  unfold w9B
  unfold kernelRun0_B.sl.r_31 kernelRun0_B.sl.r_20 kernelRun0_B.sl.r_29 kernelRun0_B.sl.r_30 kernelRun0_B.sl.r_19 kernelRun0_B.sl.r_18 kernelRun0_B.sl.r_15
  refine accLoadMasked16 x0 x1 x2 x3 (v1At arg7 harg7 x4) (i 1).val (256 * (i 2).val) _ _ arg3 harg3 arg4 harg4 arg5 harg5 arg6 harg6 (i 1).isLt 7 (by decide) (BitVec.ofNat 32 (i 2).val) _ (by decide) ?_ _ (by decide) ?_ _ _ ?_ _ _ ?_ _ _ ?_ _ _ _ (fun r e => ?_) (fun r e => ?_) x
  · exact ⟨rfl, rfl, rfl⟩
  · exact ⟨rfl, rfl, rfl⟩
  · exact ⟨rfl, hk, rfl⟩
  · exact ⟨rfl, hk, rfl⟩
  · exact bias_words (i 1) 7
  · unfold kernelRun0_B.sl.v477
    exact load_zero16 _ 7 (by decide) (zeroB_run7 c i arg3 harg3 arg4 harg4 arg5 harg5 arg6 harg6 arg7 harg7 arg8 harg8 arg9 harg9 arg10 harg10 x0 x1 x2 x3 x4 hc1) r e
  · unfold kernelRun0_B.sl.v488
    exact load_zero16 _ 7 (by decide) (zeroB_acc7 c i arg3 harg3 arg4 harg4 arg5 harg5 arg6 harg6 arg7 harg7 arg8 harg8 arg9 harg9 arg10 harg10 x0 x1 x2 x3 x4 hc1) r e

theorem r31B_eq (hc1 : cond0_1 i) : kernelRun0_B.sl.r_31 (F := Ideal) c i arg3 harg3 arg4 harg4 arg5 harg5 arg7 harg7 hc1 x0 x1 x2 x4
    = (suffix16 (v1At arg7 harg7 x4) (masked16 (mask16 (Scalar.addi (Scalar.muli (BitVec.ofNat 32 (i 2).val) 1#32) 0#32) (BitVec.ofNat 32 (i 2).val)) (softplus16 (kernelRun0_B.sl.r_19 (F := Ideal) c i arg3 harg3 arg4 harg4 arg5 harg5 hc1 x0 x1 x2)))) := by
  unfold kernelRun0_B.sl.r_31 kernelRun0_B.sl.r_29 kernelRun0_B.sl.r_30
  generalize (kernelRun0_B.sl.r_19 (F := Ideal) c i arg3 harg3 arg4 harg4 arg5 harg5 hc1 x0 x1 x2) = Z
  exact rfl

omit c harg3 harg4 harg5 harg6 harg7 harg8 harg9 harg10 x0 x1 x2 x3 x4 in
theorem run7B_eq (X : FVec Ideal S16x256 .f32) (V : Vec Ideal S1x16x128 .f32) :
    k0_pay334 (F := Ideal) (k0_pay333 X V) = running16 X V := rfl

theorem diagB_run7 (hc1 : cond0_1 i) (y : S8x256x128.Idx) (h1 : (y 1).val < 16) (h0 : (y 0).val < 7 + 1) :
    View.canon (Val := Elt Ideal) ((⟨Rect.unit (s := S8x256x128) ![7, 0, 0] S1x16x128.size inb_S8x256x128_S1x16x128_7_0_0, (w10B c i arg3 harg3 arg4 harg4 arg5 harg5 arg7 harg7 arg10 x0 x1 x2 x4 hc1)⟩ : View.Piece (Elt Ideal) S8x256x128 .f32) :: kernelRun0_B.sl.HS1_8 (F := Ideal) c i arg3 harg3 arg4 harg4 arg5 harg5 arg7 harg7 arg10 hc1 x0 x1 x2 x4) y
      = stepRun x0 x1 x2 (v1At arg7 harg7 x4) (i 1).val (256 * (i 2).val) causal (fun _ => 0) y := by
  have hk := diag_words (i 2)
  refine canon_head16 7 (by decide) _ (fun x => ?_) (diagB_run6 c i arg3 harg3 arg4 harg4 arg5 harg5 arg6 harg6 arg7 harg7 arg8 harg8 arg9 harg9 arg10 harg10 x0 x1 x2 x3 x4 hc1) y h1 h0
  unfold w10B
  unfold kernelRun0_B.sl.r_43
  rw [r31B_eq c i arg3 harg3 arg4 harg4 arg5 harg5 arg6 harg6 arg7 harg7 arg8 harg8 arg9 harg9 arg10 harg10 x0 x1 x2 x3 x4 hc1, run7B_eq]
  unfold kernelRun0_B.sl.r_19 kernelRun0_B.sl.r_18 kernelRun0_B.sl.r_15
  refine runLoadMasked16 x0 x1 x2 (v1At arg7 harg7 x4) (i 1).val (256 * (i 2).val) _ arg3 harg3 arg4 harg4 arg5 harg5 (i 1).isLt 7 (by decide) (BitVec.ofNat 32 (i 2).val) _ (by decide) ?_ _ (by decide) ?_ _ _ ?_ _ _ ?_ _ _ (fun r e => ?_) x
  · exact ⟨rfl, rfl, rfl⟩
  · exact ⟨rfl, rfl, rfl⟩
  · exact ⟨rfl, hk, rfl⟩
  · exact bias_words (i 1) 7
  · unfold kernelRun0_B.sl.v477
    exact load_zero16 _ 7 (by decide) (zeroB_run7 c i arg3 harg3 arg4 harg4 arg5 harg5 arg6 harg6 arg7 harg7 arg8 harg8 arg9 harg9 arg10 harg10 x0 x1 x2 x3 x4 hc1) r e

theorem startB (hx4 : ∀ t s : Fin 256, x4 (ix2 t s) = if s.val ≤ t.val then -1 else 0) (hc1 : cond0_1 i) (xs0 xs1 : S8x256x128.Idx → EReal) :
    Inv x0 x1 x2 x3 (i 1).val (256 * (i 2).val) (256 * (i 2).val + 256) 16 (256 * (i 2).val)
      (View.read (Elt Ideal) arg9.view (arg9.view.writes (Elt Ideal) (harg9.unread xs0) ((⟨Rect.unit (s := S8x256x128) ![7, 0, 0] S1x16x128.size inb_S8x256x128_S1x16x128_7_0_0, (w9B c i arg3 harg3 arg4 harg4 arg5 harg5 arg6 harg6 arg7 harg7 arg9 arg10 x0 x1 x2 x3 x4 hc1)⟩ : View.Piece (Elt Ideal) S8x256x128 .f32) :: kernelRun0_B.sl.HS0_8 (F := Ideal) c i arg3 harg3 arg4 harg4 arg5 harg5 arg6 harg6 arg7 harg7 arg9 arg10 hc1 x0 x1 x2 x3 x4)))
      (View.read (Elt Ideal) arg10.view (arg10.view.writes (Elt Ideal) (harg10.unread xs1) ((⟨Rect.unit (s := S8x256x128) ![7, 0, 0] S1x16x128.size inb_S8x256x128_S1x16x128_7_0_0, (w10B c i arg3 harg3 arg4 harg4 arg5 harg5 arg7 harg7 arg10 x0 x1 x2 x4 hc1)⟩ : View.Piece (Elt Ideal) S8x256x128 .f32) :: kernelRun0_B.sl.HS1_8 (F := Ideal) c i arg3 harg3 arg4 harg4 arg5 harg5 arg7 harg7 arg10 hc1 x0 x1 x2 x4))) := by
  have hv : ∀ t s : Fin 256, (v1At arg7 harg7 x4) (ix2 t s) = if s.val ≤ t.val then -1 else 0 :=
    fun t s => (v1At_apply arg7 harg7 x4 t s).trans (hx4 t s)
  have hM : ∀ r t : ℕ, causal r t ↔ 256 * (i 2).val + t < 256 * (i 2).val + r := fun r t => (Nat.add_lt_add_iff_left).symm
  intro y hy
  have h0 : (y 0).val < 7 + 1 := (y 0).isLt
  have e9 := View.read_writes_apply_eq_canon (Val := Elt Ideal) arg9.view (harg9.unread xs0) y ((⟨Rect.unit (s := S8x256x128) ![7, 0, 0] S1x16x128.size inb_S8x256x128_S1x16x128_7_0_0, (w9B c i arg3 harg3 arg4 harg4 arg5 harg5 arg6 harg6 arg7 harg7 arg9 arg10 x0 x1 x2 x3 x4 hc1)⟩ : View.Piece (Elt Ideal) S8x256x128 .f32) :: kernelRun0_B.sl.HS0_8 (F := Ideal) c i arg3 harg3 arg4 harg4 arg5 harg5 arg6 harg6 arg7 harg7 arg9 arg10 hc1 x0 x1 x2 x3 x4)
    (let ⟨p, hp, hm⟩ := coverB_acc8 c i arg3 harg3 arg4 harg4 arg5 harg5 arg6 harg6 arg7 harg7 arg8 harg8 arg9 harg9 arg10 harg10 x0 x1 x2 x3 x4 hc1 y hy; ⟨p, .tail _ hp, hm⟩)
  have e10 := View.read_writes_apply_eq_canon (Val := Elt Ideal) arg10.view (harg10.unread xs1) y ((⟨Rect.unit (s := S8x256x128) ![7, 0, 0] S1x16x128.size inb_S8x256x128_S1x16x128_7_0_0, (w10B c i arg3 harg3 arg4 harg4 arg5 harg5 arg7 harg7 arg10 x0 x1 x2 x4 hc1)⟩ : View.Piece (Elt Ideal) S8x256x128 .f32) :: kernelRun0_B.sl.HS1_8 (F := Ideal) c i arg3 harg3 arg4 harg4 arg5 harg5 arg7 harg7 arg10 hc1 x0 x1 x2 x4)
    (let ⟨p, hp, hm⟩ := coverB_run8 c i arg3 harg3 arg4 harg4 arg5 harg5 arg6 harg6 arg7 harg7 arg8 harg8 arg9 harg9 arg10 harg10 x0 x1 x2 x3 x4 hc1 y hy; ⟨p, .tail _ hp, hm⟩)
  rw [e9, e10, diagB_acc7 c i arg3 harg3 arg4 harg4 arg5 harg5 arg6 harg6 arg7 harg7 arg8 harg8 arg9 harg9 arg10 harg10 x0 x1 x2 x3 x4 hc1 y hy h0, diagB_run7 c i arg3 harg3 arg4 harg4 arg5 harg5 arg6 harg6 arg7 harg7 arg8 harg8 arg9 harg9 arg10 harg10 x0 x1 x2 x3 x4 hc1 y hy h0]
  constructor
  · refine stepAcc_eq hv _ le_rfl causal _ _ y (fun t _ => hM _ t) (fun e => ?_) ?_
    · unfold runSum
      rw [Finset.Ico_self, Finset.sum_empty]
    · unfold accSum
      rw [Finset.Ico_self, Finset.sum_empty]
  · refine stepRun_eq hv _ le_rfl causal _ y (fun t _ => hM _ t) ?_
    unfold runSum
    rw [Finset.Ico_self, Finset.sum_empty]

theorem doneB (hx4 : ∀ t s : Fin 256, x4 (ix2 t s) = if s.val ≤ t.val then -1 else 0) (hc1 : cond0_1 i) (xs0 xs1 : S8x256x128.Idx → EReal) (y : S8x256x128.Idx) (hy : (y 1).val < 16) :
    View.canon (Val := Elt Ideal) ((pb_k0_t3 (F := Ideal) Variants.none c none i arg3 harg3 arg4 harg4 arg5 harg5 arg6 harg6 arg7 harg7 arg8 harg8 arg9 harg9 arg10 harg10 (BitVec.ofNat 32 (i 1).val) (BitVec.ofNat 32 (i 2).val) (v1At arg7 harg7 x4) hc1 (kernelRun0_B.sl.r_43 (F := Ideal) c i arg3 harg3 arg4 harg4 arg5 harg5 arg7 harg7 arg10 hc1 x0 x1 x2 x4) (harg3.unread x0) (harg4.unread x1) (harg5.unread x2) (harg6.unread x3)
      (arg9.view.writes (Elt Ideal) (harg9.unread xs0) ((⟨Rect.unit (s := S8x256x128) ![7, 0, 0] S1x16x128.size inb_S8x256x128_S1x16x128_7_0_0, (w9B c i arg3 harg3 arg4 harg4 arg5 harg5 arg6 harg6 arg7 harg7 arg9 arg10 x0 x1 x2 x3 x4 hc1)⟩ : View.Piece (Elt Ideal) S8x256x128 .f32) :: kernelRun0_B.sl.HS0_8 (F := Ideal) c i arg3 harg3 arg4 harg4 arg5 harg5 arg6 harg6 arg7 harg7 arg9 arg10 hc1 x0 x1 x2 x3 x4))
      (arg10.view.writes (Elt Ideal) (harg10.unread xs1) ((⟨Rect.unit (s := S8x256x128) ![7, 0, 0] S1x16x128.size inb_S8x256x128_S1x16x128_7_0_0, (w10B c i arg3 harg3 arg4 harg4 arg5 harg5 arg7 harg7 arg10 x0 x1 x2 x4 hc1)⟩ : View.Piece (Elt Ideal) S8x256x128 .f32) :: kernelRun0_B.sl.HS1_8 (F := Ideal) c i arg3 harg3 arg4 harg4 arg5 harg5 arg7 harg7 arg10 hc1 x0 x1 x2 x4)) (Scf.trips (k0_t3_loop i).lb (k0_t3_loop i).ub (k0_t3_loop i).st)).1 ++ ((⟨Rect.unit (s := S8x256x128) ![7, 0, 0] S1x16x128.size inb_S8x256x128_S1x16x128_7_0_0, (w9B c i arg3 harg3 arg4 harg4 arg5 harg5 arg6 harg6 arg7 harg7 arg9 arg10 x0 x1 x2 x3 x4 hc1)⟩ : View.Piece (Elt Ideal) S8x256x128 .f32) :: kernelRun0_B.sl.HS0_8 (F := Ideal) c i arg3 harg3 arg4 harg4 arg5 harg5 arg6 harg6 arg7 harg7 arg9 arg10 hc1 x0 x1 x2 x3 x4)) y
      = accSum x0 x1 x2 x3 (i 1).val (256 * (i 2).val) (256 * (i 2).val + 256) (y 0).val (y 1).val (y 2).val 0 := by
  have hv : ∀ t s : Fin 256, (v1At arg7 harg7 x4) (ix2 t s) = if s.val ≤ t.val then -1 else 0 :=
    fun t s => (v1At_apply arg7 harg7 x4 t s).trans (hx4 t s)
  have hl := loop3 Variants.none c none i arg3 harg3 arg4 harg4 arg5 harg5 arg6 harg6 arg7 harg7 arg8 harg8 arg9 harg9 arg10 harg10 x0 x1 x2 x3 (v1At arg7 harg7 x4) hv hc1 (BitVec.ofNat 32 (i 1).val) (BitVec.ofNat 32 (i 2).val) (kernelRun0_B.sl.r_43 (F := Ideal) c i arg3 harg3 arg4 harg4 arg5 harg5 arg7 harg7 arg10 hc1 x0 x1 x2 x4) _ _
    (startB c i arg3 harg3 arg4 harg4 arg5 harg5 arg6 harg6 arg7 harg7 arg8 harg8 arg9 harg9 arg10 harg10 x0 x1 x2 x3 x4 hx4 hc1 xs0 xs1) (i 2).val le_rfl y hy
  rw [Nat.sub_self, Nat.mul_zero] at hl
  have ht : Scf.trips (k0_t3_loop i).lb (k0_t3_loop i).ub (k0_t3_loop i).st = (i 2).val := trips3 i
  rw [ht]
  rw [← View.read_writes_apply_eq_canon (Val := Elt Ideal) arg9.view (harg9.unread xs0) y _
    (let ⟨p, hp, hm⟩ := coverB_acc8 c i arg3 harg3 arg4 harg4 arg5 harg5 arg6 harg6 arg7 harg7 arg8 harg8 arg9 harg9 arg10 harg10 x0 x1 x2 x3 x4 hc1 y hy; ⟨p, List.mem_append_right _ (.tail _ hp), hm⟩), View.writes_append]
  exact hl.1

theorem restB (hc1 : cond0_1 i) (arg1 arg2 : BitVec 32) (v1 : FVec Ideal S256x256 .bf16) (v499 : FVec Ideal S16x128 .f32) (w : BitVec 32)
    (f9 : BufTy.Contents (Elt Ideal) arg9.view.ty) (f10 : BufTy.Contents (Elt Ideal) arg10.view.ty) :
    pb_k0_t4 (F := Ideal) Variants.none c none i arg3 harg3 arg4 harg4 arg5 harg5 arg6 harg6 arg7 harg7 arg8 harg8 arg9 harg9 arg10 harg10 arg1 arg2 v1 hc1 v499 w (harg3.unread x0) (harg4.unread x1) (harg5.unread x2) (harg6.unread x3) f9 f10
      (Scf.trips (k0_t4_loop i).lb (k0_t4_loop i).ub (k0_t4_loop i).st) = ([], []) := by
  have h : ∀ a : Fin 17, Scf.trips (Scalar.addi 0#32 (Scalar.muli (Scalar.divsi (Scalar.subi (Scalar.muli (BitVec.ofNat 32 a.val) 1#32) 0#32) 1#32) 1#32)) (Scalar.addi 0#32 (Scalar.subi (Scalar.muli (BitVec.ofNat 32 a.val) 1#32) 0#32)) 1#32 = 0 := by
    decide +kernel
  have ht : Scf.trips (k0_t4_loop i).lb (k0_t4_loop i).ub (k0_t4_loop i).st = 0 := h (i 2)
  rw [ht]
  exact rfl

theorem outB0 (hx4 : ∀ t s : Fin 256, x4 (ix2 t s) = if s.val ≤ t.val then -1 else 0) (hc1 : cond0_1 i) (xs0 xs1 : S8x256x128.Idx → EReal) (r : Fin 16) (e : Fin 128) :
    kernelRun0_B.sl.v509 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 0 r.val e.val 0 := by
  unfold kernelRun0_B.sl.v509
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![0, 0, 0] S1x16x128.size inb_S8x256x128_S1x16x128_0_0_0).emb (ix3 0 r e) = ix3 0 ⟨r.val, by omega⟩ e := by
    rw [emb_state16 0 (by decide) ![0, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![0, 0, 0] S1x16x128.size inb_S8x256x128_S1x16x128_0_0_0).emb (ix3 0 r e)) ?_) ?_
  · rw [hi]
    exact r.isLt
  · rw [hi]
    exact rfl

theorem outB1 (hx4 : ∀ t s : Fin 256, x4 (ix2 t s) = if s.val ≤ t.val then -1 else 0) (hc1 : cond0_1 i) (xs0 xs1 : S8x256x128.Idx → EReal) (r : Fin 16) (e : Fin 128) :
    kernelRun0_B.sl.v515 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 1 r.val e.val 0 := by
  unfold kernelRun0_B.sl.v515
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![1, 0, 0] S1x16x128.size inb_S8x256x128_S1x16x128_1_0_0).emb (ix3 0 r e) = ix3 1 ⟨r.val, by omega⟩ e := by
    rw [emb_state16 1 (by decide) ![1, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![1, 0, 0] S1x16x128.size inb_S8x256x128_S1x16x128_1_0_0).emb (ix3 0 r e)) ?_) ?_
  · rw [hi]
    exact r.isLt
  · rw [hi]
    exact rfl

theorem outB2 (hx4 : ∀ t s : Fin 256, x4 (ix2 t s) = if s.val ≤ t.val then -1 else 0) (hc1 : cond0_1 i) (xs0 xs1 : S8x256x128.Idx → EReal) (r : Fin 16) (e : Fin 128) :
    kernelRun0_B.sl.v521 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 2 r.val e.val 0 := by
  unfold kernelRun0_B.sl.v521
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![2, 0, 0] S1x16x128.size inb_S8x256x128_S1x16x128_2_0_0).emb (ix3 0 r e) = ix3 2 ⟨r.val, by omega⟩ e := by
    rw [emb_state16 2 (by decide) ![2, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![2, 0, 0] S1x16x128.size inb_S8x256x128_S1x16x128_2_0_0).emb (ix3 0 r e)) ?_) ?_
  · rw [hi]
    exact r.isLt
  · rw [hi]
    exact rfl

theorem outB3 (hx4 : ∀ t s : Fin 256, x4 (ix2 t s) = if s.val ≤ t.val then -1 else 0) (hc1 : cond0_1 i) (xs0 xs1 : S8x256x128.Idx → EReal) (r : Fin 16) (e : Fin 128) :
    kernelRun0_B.sl.v527 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 3 r.val e.val 0 := by
  unfold kernelRun0_B.sl.v527
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![3, 0, 0] S1x16x128.size inb_S8x256x128_S1x16x128_3_0_0).emb (ix3 0 r e) = ix3 3 ⟨r.val, by omega⟩ e := by
    rw [emb_state16 3 (by decide) ![3, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![3, 0, 0] S1x16x128.size inb_S8x256x128_S1x16x128_3_0_0).emb (ix3 0 r e)) ?_) ?_
  · rw [hi]
    exact r.isLt
  · rw [hi]
    exact rfl

theorem outB4 (hx4 : ∀ t s : Fin 256, x4 (ix2 t s) = if s.val ≤ t.val then -1 else 0) (hc1 : cond0_1 i) (xs0 xs1 : S8x256x128.Idx → EReal) (r : Fin 16) (e : Fin 128) :
    kernelRun0_B.sl.v533 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 4 r.val e.val 0 := by
  unfold kernelRun0_B.sl.v533
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![4, 0, 0] S1x16x128.size inb_S8x256x128_S1x16x128_4_0_0).emb (ix3 0 r e) = ix3 4 ⟨r.val, by omega⟩ e := by
    rw [emb_state16 4 (by decide) ![4, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![4, 0, 0] S1x16x128.size inb_S8x256x128_S1x16x128_4_0_0).emb (ix3 0 r e)) ?_) ?_
  · rw [hi]
    exact r.isLt
  · rw [hi]
    exact rfl

theorem outB5 (hx4 : ∀ t s : Fin 256, x4 (ix2 t s) = if s.val ≤ t.val then -1 else 0) (hc1 : cond0_1 i) (xs0 xs1 : S8x256x128.Idx → EReal) (r : Fin 16) (e : Fin 128) :
    kernelRun0_B.sl.v539 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 5 r.val e.val 0 := by
  unfold kernelRun0_B.sl.v539
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![5, 0, 0] S1x16x128.size inb_S8x256x128_S1x16x128_5_0_0).emb (ix3 0 r e) = ix3 5 ⟨r.val, by omega⟩ e := by
    rw [emb_state16 5 (by decide) ![5, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![5, 0, 0] S1x16x128.size inb_S8x256x128_S1x16x128_5_0_0).emb (ix3 0 r e)) ?_) ?_
  · rw [hi]
    exact r.isLt
  · rw [hi]
    exact rfl

theorem outB6 (hx4 : ∀ t s : Fin 256, x4 (ix2 t s) = if s.val ≤ t.val then -1 else 0) (hc1 : cond0_1 i) (xs0 xs1 : S8x256x128.Idx → EReal) (r : Fin 16) (e : Fin 128) :
    kernelRun0_B.sl.v545 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 6 r.val e.val 0 := by
  unfold kernelRun0_B.sl.v545
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![6, 0, 0] S1x16x128.size inb_S8x256x128_S1x16x128_6_0_0).emb (ix3 0 r e) = ix3 6 ⟨r.val, by omega⟩ e := by
    rw [emb_state16 6 (by decide) ![6, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![6, 0, 0] S1x16x128.size inb_S8x256x128_S1x16x128_6_0_0).emb (ix3 0 r e)) ?_) ?_
  · rw [hi]
    exact r.isLt
  · rw [hi]
    exact rfl

theorem outB7 (hx4 : ∀ t s : Fin 256, x4 (ix2 t s) = if s.val ≤ t.val then -1 else 0) (hc1 : cond0_1 i) (xs0 xs1 : S8x256x128.Idx → EReal) (r : Fin 16) (e : Fin 128) :
    kernelRun0_B.sl.v551 (F := Ideal) c i arg3 harg3 arg4 harg4 arg5 harg5 arg6 harg6 arg7 harg7 arg8 harg8 arg9 harg9 arg10 harg10 hc1 x0 x1 x2 x3 x4 xs0 xs1 (ix3 0 r e)
      = accSum x0 x1 x2 x3 (i 1).val (256 * (i 2).val) (256 * (i 2).val + 256) 7 r.val e.val 0 := by
  unfold kernelRun0_B.sl.v551
  rw [View.readCov_eq_canon', restB c i arg3 harg3 arg4 harg4 arg5 harg5 arg6 harg6 arg7 harg7 arg8 harg8 arg9 harg9 arg10 harg10 x0 x1 x2 x3 x4 hc1, List.nil_append]
  have hi : (Rect.unit (s := S8x256x128) ![7, 0, 0] S1x16x128.size inb_S8x256x128_S1x16x128_7_0_0).emb (ix3 0 r e) = ix3 7 ⟨r.val, by omega⟩ e := by
    rw [emb_state16 7 (by decide) ![7, 0, 0] _ rfl rfl rfl]
    funext a
    refine Fin.ext ?_
    fin_cases a
    · rfl
    · exact Nat.mod_eq_of_lt (show r.val < 256 by omega)
    · rfl
  refine Eq.trans (doneB c i arg3 harg3 arg4 harg4 arg5 harg5 arg6 harg6 arg7 harg7 arg8 harg8 arg9 harg9 arg10 harg10 x0 x1 x2 x3 x4 hx4 hc1 xs0 xs1 ((Rect.unit (s := S8x256x128) ![7, 0, 0] S1x16x128.size inb_S8x256x128_S1x16x128_7_0_0).emb (ix3 0 r e)) ?_) ?_
  · rw [hi]
    exact r.isLt
  · rw [hi]
    exact rfl

end Cert.Proof.Block
-- ==== Proof.OutBlock.lean ====
module

public import proofs.«01_k».proof.Proof.CaseA
public import proofs.«01_k».proof.Proof.CaseB
public import proofs.«01_k».proof.Proof.Gen.KernelIdeal.Frame

@[expose] public section

set_option maxRecDepth 16384

noncomputable section

namespace Cert.Proof.Block

open Cert.KernelIdeal Cert.KernelIdeal.Gen Idealize.ShloMosaic Idealize.ShloMosaic.TcCoe Idealize.SL.Sem

/-! ## The output block: eight heads of columns side by side -/

theorem out_head256 {L : List (View.Piece (Elt Ideal) S1x256x1024 .bf16)} (h : ℕ) (hh : h < 8) (o : ℕ) (ho : o = 128 * h)
    {inb : ∀ a : Fin 3, (![0, 0, o] : Fin 3 → ℕ) a + S1x256x128.size a ≤ S1x256x1024.size a} {w : S1x256x128.Idx → EReal} (G : ℕ → ℕ → ℕ → EReal)
    (hw : ∀ (r : Fin 256) (e : Fin 128), w (ix3 0 r e) = G h r.val e.val)
    (hL : ∀ y : S1x256x1024.Idx, (y 1).val < 256 → (y 2).val < o → View.canon (Val := Elt Ideal) L y = G ((y 2).val / 128) (y 1).val ((y 2).val % 128))
    (y : S1x256x1024.Idx) (h1 : (y 1).val < 256) (h2 : (y 2).val < o + 128) :
    View.canon (Val := Elt Ideal) ((⟨Rect.unit ![0, 0, o] S1x256x128.size inb, w⟩ : View.Piece (Elt Ideal) S1x256x1024 .bf16) :: L) y
      = G ((y 2).val / 128) (y 1).val ((y 2).val % 128) := by
  by_cases e : (y 2).val < o
  · rw [View.canon_cons_of_not_mem]
    · exact hL y h1 e
    · intro hm
      have h3 : o ≤ (y 2).val ∧ (y 2).val < o + 128 := (Rect.mem_set_unit (s := S1x256x1024) (inb := inb)).mp hm 2
      omega
  · have hy : y = (Rect.unit (s := S1x256x1024) ![0, 0, o] S1x256x128.size inb).emb (ix3 0 ⟨(y 1).val, h1⟩ ⟨(y 2).val - o, by omega⟩) := by
      have h0 : (y 0).val < 1 := (y 0).isLt
      funext a
      refine Fin.ext ?_
      fin_cases a
      · show (y 0).val = 0 + 1 * 0
        omega
      · show (y 1).val = 0 + 1 * (y 1).val
        omega
      · show (y 2).val = o + 1 * ((y 2).val - o)
        omega
    have hd : (y 2).val / 128 = h := by omega
    have hm : (y 2).val % 128 = (y 2).val - o := by omega
    rw [hd, hm]
    have hc := View.canon_cons_emb (Val := Elt Ideal) (Rect.unit (s := S1x256x1024) ![0, 0, o] S1x256x128.size inb) w L (ix3 0 ⟨(y 1).val, h1⟩ ⟨(y 2).val - o, by omega⟩)
    rw [← hy] at hc
    exact hc.trans (hw _ _)

theorem out_head16 {L : List (View.Piece (Elt Ideal) S1x256x1024 .bf16)} (h : ℕ) (hh : h < 8) (o : ℕ) (ho : o = 128 * h)
    {inb : ∀ a : Fin 3, (![0, 0, o] : Fin 3 → ℕ) a + S1x16x128.size a ≤ S1x256x1024.size a} {w : S1x16x128.Idx → EReal} (G : ℕ → ℕ → ℕ → EReal)
    (hw : ∀ (r : Fin 16) (e : Fin 128), w (ix3 0 r e) = G h r.val e.val)
    (hL : ∀ y : S1x256x1024.Idx, (y 1).val < 16 → (y 2).val < o → View.canon (Val := Elt Ideal) L y = G ((y 2).val / 128) (y 1).val ((y 2).val % 128))
    (y : S1x256x1024.Idx) (h1 : (y 1).val < 16) (h2 : (y 2).val < o + 128) :
    View.canon (Val := Elt Ideal) ((⟨Rect.unit ![0, 0, o] S1x16x128.size inb, w⟩ : View.Piece (Elt Ideal) S1x256x1024 .bf16) :: L) y
      = G ((y 2).val / 128) (y 1).val ((y 2).val % 128) := by
  by_cases e : (y 2).val < o
  · rw [View.canon_cons_of_not_mem]
    · exact hL y h1 e
    · intro hm
      have h3 : o ≤ (y 2).val ∧ (y 2).val < o + 128 := (Rect.mem_set_unit (s := S1x256x1024) (inb := inb)).mp hm 2
      omega
  · have hy : y = (Rect.unit (s := S1x256x1024) ![0, 0, o] S1x16x128.size inb).emb (ix3 0 ⟨(y 1).val, h1⟩ ⟨(y 2).val - o, by omega⟩) := by
      have h0 : (y 0).val < 1 := (y 0).isLt
      funext a
      refine Fin.ext ?_
      fin_cases a
      · show (y 0).val = 0 + 1 * 0
        omega
      · show (y 1).val = 0 + 1 * (y 1).val
        omega
      · show (y 2).val = o + 1 * ((y 2).val - o)
        omega
    have hd : (y 2).val / 128 = h := by omega
    have hm : (y 2).val % 128 = (y 2).val - o := by omega
    rw [hd, hm]
    have hc := View.canon_cons_emb (Val := Elt Ideal) (Rect.unit (s := S1x256x1024) ![0, 0, o] S1x16x128.size inb) w L (ix3 0 ⟨(y 1).val, h1⟩ ⟨(y 2).val - o, by omega⟩)
    rw [← hy] at hc
    exact hc.trans (hw _ _)

theorem cast256 (v : S1x256x128.Idx → EReal) (r : Fin 256) (e : Fin 128) : (k0_pay2 (F := Ideal) (k0_pay177 v)) (ix3 0 r e) = v (ix3 0 r e) := by
  pointwise [k0_pay2, k0_pay177]

theorem cast16 (v : S1x16x128.Idx → EReal) (r : Fin 16) (e : Fin 128) : (k0_pay3 (F := Ideal) (k0_pay350 v)) (ix3 0 r e) = v (ix3 0 r e) := by
  pointwise [k0_pay3, k0_pay350]

theorem zeros240 (r : Fin 240) (e : Fin 1024) : (k0_pay4 (F := Ideal)) (ix3 0 r e) = (0 : EReal) := by
  pointwise [k0_pay4]

section Blocks

variable (c : Dev nD) (i : grid0.Coords) (arg3 : Memref sig .tc .smem S16 .f32) (harg3 : arg3.IsWhole) (arg4 : Memref sig .tc .vmem S1x256x1024 .bf16) (harg4 : arg4.IsWhole) (arg5 : Memref sig .tc .vmem S1x4352x1024 .bf16) (harg5 : arg5.IsWhole) (arg6 : Memref sig .tc .vmem S1x4352x1024 .bf16) (harg6 : arg6.IsWhole) (arg7 : Memref sig .tc .vmem S256x256 .bf16) (harg7 : arg7.IsWhole) (arg8 : Memref sig .tc .vmem S1x256x1024 .bf16) (harg8 : arg8.IsWhole) (arg9 : Memref sig .tc .vmem S8x256x128 .f32) (harg9 : arg9.IsWhole) (arg10 : Memref sig .tc .vmem S8x256x128 .f32) (harg10 : arg10.IsWhole)
  (x0 : S16.Idx → EReal) (x1 : S1x256x1024.Idx → EReal) (x2 x3 : S1x4352x1024.Idx → EReal) (x4 : S256x256.Idx → EReal)

theorem headsA (hx4 : ∀ t s : Fin 256, x4 (ix2 t s) = if s.val ≤ t.val then -1 else 0) (hc0 : cond0_0 i) (hc1 : ¬cond0_1 i) (y : S1x256x1024.Idx) (h1 : (y 1).val < 256) :
    out0_A_5 (F := Ideal) c i arg3 harg3 arg4 harg4 arg5 harg5 arg6 harg6 arg7 harg7 arg8 harg8 arg9 harg9 arg10 harg10 hc0 hc1 x0 x1 x2 x3 x4 y = accSum x0 x1 x2 x3 (i 1).val (256 * (i 2).val) (256 * (i 2).val + 256) ((y 2).val / 128) (y 1).val ((y 2).val % 128) 0 := by
  unfold out0_A_5
  rw [View.read_writes_junk_eq_canon]
  have h2 : (y 2).val < 896 + 128 := (y 2).isLt
  refine out_head256 7 (by decide) 896 rfl (fun h r e => accSum x0 x1 x2 x3 (i 1).val (256 * (i 2).val) (256 * (i 2).val + 256) h r e 0) (fun r e => (cast256 _ r e).trans (outA7 c i arg3 harg3 arg4 harg4 arg5 harg5 arg6 harg6 arg7 harg7 arg8 harg8 arg9 harg9 arg10 harg10 x0 x1 x2 x3 x4 hx4 hc0 r e)) (fun y h1 h2 => ?_) y h1 h2
  refine out_head256 6 (by decide) 768 rfl (fun h r e => accSum x0 x1 x2 x3 (i 1).val (256 * (i 2).val) (256 * (i 2).val + 256) h r e 0) (fun r e => (cast256 _ r e).trans (outA6 c i arg3 harg3 arg4 harg4 arg5 harg5 arg6 harg6 arg7 harg7 arg8 harg8 arg9 harg9 arg10 harg10 x0 x1 x2 x3 x4 hx4 hc0 r e)) (fun y h1 h2 => ?_) y h1 h2
  refine out_head256 5 (by decide) 640 rfl (fun h r e => accSum x0 x1 x2 x3 (i 1).val (256 * (i 2).val) (256 * (i 2).val + 256) h r e 0) (fun r e => (cast256 _ r e).trans (outA5 c i arg3 harg3 arg4 harg4 arg5 harg5 arg6 harg6 arg7 harg7 arg8 harg8 arg9 harg9 arg10 harg10 x0 x1 x2 x3 x4 hx4 hc0 r e)) (fun y h1 h2 => ?_) y h1 h2
  refine out_head256 4 (by decide) 512 rfl (fun h r e => accSum x0 x1 x2 x3 (i 1).val (256 * (i 2).val) (256 * (i 2).val + 256) h r e 0) (fun r e => (cast256 _ r e).trans (outA4 c i arg3 harg3 arg4 harg4 arg5 harg5 arg6 harg6 arg7 harg7 arg8 harg8 arg9 harg9 arg10 harg10 x0 x1 x2 x3 x4 hx4 hc0 r e)) (fun y h1 h2 => ?_) y h1 h2
  refine out_head256 3 (by decide) 384 rfl (fun h r e => accSum x0 x1 x2 x3 (i 1).val (256 * (i 2).val) (256 * (i 2).val + 256) h r e 0) (fun r e => (cast256 _ r e).trans (outA3 c i arg3 harg3 arg4 harg4 arg5 harg5 arg6 harg6 arg7 harg7 arg8 harg8 arg9 harg9 arg10 harg10 x0 x1 x2 x3 x4 hx4 hc0 r e)) (fun y h1 h2 => ?_) y h1 h2
  refine out_head256 2 (by decide) 256 rfl (fun h r e => accSum x0 x1 x2 x3 (i 1).val (256 * (i 2).val) (256 * (i 2).val + 256) h r e 0) (fun r e => (cast256 _ r e).trans (outA2 c i arg3 harg3 arg4 harg4 arg5 harg5 arg6 harg6 arg7 harg7 arg8 harg8 arg9 harg9 arg10 harg10 x0 x1 x2 x3 x4 hx4 hc0 r e)) (fun y h1 h2 => ?_) y h1 h2
  refine out_head256 1 (by decide) 128 rfl (fun h r e => accSum x0 x1 x2 x3 (i 1).val (256 * (i 2).val) (256 * (i 2).val + 256) h r e 0) (fun r e => (cast256 _ r e).trans (outA1 c i arg3 harg3 arg4 harg4 arg5 harg5 arg6 harg6 arg7 harg7 arg8 harg8 arg9 harg9 arg10 harg10 x0 x1 x2 x3 x4 hx4 hc0 r e)) (fun y h1 h2 => ?_) y h1 h2
  exact out_head256 0 (by decide) 0 rfl (fun h r e => accSum x0 x1 x2 x3 (i 1).val (256 * (i 2).val) (256 * (i 2).val + 256) h r e 0) (fun r e => (cast256 _ r e).trans (outA0 c i arg3 harg3 arg4 harg4 arg5 harg5 arg6 harg6 arg7 harg7 arg8 harg8 arg9 harg9 arg10 harg10 x0 x1 x2 x3 x4 hx4 hc0 r e)) (fun y h1 h2 => absurd h2 (Nat.not_lt_zero _)) y h1 h2

theorem headsB (hx4 : ∀ t s : Fin 256, x4 (ix2 t s) = if s.val ≤ t.val then -1 else 0) (hc0 : ¬cond0_0 i) (hc1 : cond0_1 i) (xs0 xs1 : S8x256x128.Idx → EReal) (y : S1x256x1024.Idx) (h1 : (y 1).val < 16) :
    out0_B_5 (F := Ideal) c i arg3 harg3 arg4 harg4 arg5 harg5 arg6 harg6 arg7 harg7 arg8 harg8 arg9 harg9 arg10 harg10 hc0 hc1 x0 x1 x2 x3 x4 xs0 xs1 y = accSum x0 x1 x2 x3 (i 1).val (256 * (i 2).val) (256 * (i 2).val + 256) ((y 2).val / 128) (y 1).val ((y 2).val % 128) 0 := by
  unfold out0_B_5
  rw [View.read_writes_junk_eq_canon]
  have h2 : (y 2).val < 896 + 128 := (y 2).isLt
  refine (View.canon_cons_of_not_mem (Val := Elt Ideal) _ _ ?_).trans ?_
  · intro hm
    have h3 : 16 ≤ (y 1).val ∧ _ := (Rect.mem_set_unit (s := S1x256x1024) (inb := inb_S1x256x1024_S1x240x1024_0_16_0)).mp hm 1
    omega
  refine out_head16 7 (by decide) 896 rfl (fun h r e => accSum x0 x1 x2 x3 (i 1).val (256 * (i 2).val) (256 * (i 2).val + 256) h r e 0) (fun r e => (cast16 _ r e).trans (outB7 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 6 (by decide) 768 rfl (fun h r e => accSum x0 x1 x2 x3 (i 1).val (256 * (i 2).val) (256 * (i 2).val + 256) h r e 0) (fun r e => (cast16 _ r e).trans (outB6 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 5 (by decide) 640 rfl (fun h r e => accSum x0 x1 x2 x3 (i 1).val (256 * (i 2).val) (256 * (i 2).val + 256) h r e 0) (fun r e => (cast16 _ r e).trans (outB5 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 4 (by decide) 512 rfl (fun h r e => accSum x0 x1 x2 x3 (i 1).val (256 * (i 2).val) (256 * (i 2).val + 256) h r e 0) (fun r e => (cast16 _ r e).trans (outB4 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 3 (by decide) 384 rfl (fun h r e => accSum x0 x1 x2 x3 (i 1).val (256 * (i 2).val) (256 * (i 2).val + 256) h r e 0) (fun r e => (cast16 _ r e).trans (outB3 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 2 (by decide) 256 rfl (fun h r e => accSum x0 x1 x2 x3 (i 1).val (256 * (i 2).val) (256 * (i 2).val + 256) h r e 0) (fun r e => (cast16 _ r e).trans (outB2 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  refine out_head16 1 (by decide) 128 rfl (fun h r e => accSum x0 x1 x2 x3 (i 1).val (256 * (i 2).val) (256 * (i 2).val + 256) h r e 0) (fun r e => (cast16 _ r e).trans (outB1 c i arg3 harg3 arg4 harg4 arg5 harg5 arg6 harg6 arg7 harg7 arg8 harg8 arg9 harg9 arg10 harg10 x0 x1 x2 x3 x4 hx4 hc1 xs0 xs1 r e)) (fun y h1 h2 => ?_) y h1 h2
  exact out_head16 0 (by decide) 0 rfl (fun h r e => accSum x0 x1 x2 x3 (i 1).val (256 * (i 2).val) (256 * (i 2).val + 256) h r e 0) (fun r e => (cast16 _ r e).trans (outB0 c i arg3 harg3 arg4 harg4 arg5 harg5 arg6 harg6 arg7 harg7 arg8 harg8 arg9 harg9 arg10 harg10 x0 x1 x2 x3 x4 hx4 hc1 xs0 xs1 r e)) (fun y h1 h2 => absurd h2 (Nat.not_lt_zero _)) y h1 h2

theorem restB_zero (hc0 : ¬cond0_0 i) (hc1 : cond0_1 i) (xs0 xs1 : S8x256x128.Idx → EReal) (y : S1x256x1024.Idx) (h1 : 16 ≤ (y 1).val) :
    out0_B_5 (F := Ideal) c i arg3 harg3 arg4 harg4 arg5 harg5 arg6 harg6 arg7 harg7 arg8 harg8 arg9 harg9 arg10 harg10 hc0 hc1 x0 x1 x2 x3 x4 xs0 xs1 y = (0 : EReal) := by
  unfold out0_B_5
  rw [View.read_writes_junk_eq_canon]
  have hb : (y 1).val < 256 := (y 1).isLt
  have hy : y = (Rect.unit (s := S1x256x1024) ![0, 16, 0] ![1, 240, 1024] inb_S1x256x1024_S1x240x1024_0_16_0).emb (ix3 0 ⟨(y 1).val - 16, by omega⟩ (y 2)) := by
    have h0 : (y 0).val < 1 := (y 0).isLt
    funext a
    refine Fin.ext ?_
    fin_cases a
    · show (y 0).val = 0 + 1 * 0
      omega
    · show (y 1).val = 16 + 1 * ((y 1).val - 16)
      omega
    · show (y 2).val = 0 + 1 * (y 2).val
      omega
  rw [hy]
  exact (View.canon_cons_emb _ _ _ _).trans (zeros240 _ _)

end Blocks

end Cert.Proof.Block
-- ==== Proof.Host.lean ====
module

public import proofs.«01_k».proof.Proof.OutBlock
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

namespace Cert.Proof.Host

open Cert.KernelIdeal Cert.KernelIdeal.Gen Idealize.ShloMosaic Idealize.ShloMosaic.TcCoe Idealize.SL.Sem

/-- Row `p` of a padded operand at column `n`: the argument's element, zero from row 4112 on. -/
def padRow (A : S2x4112x16x128.Idx → EReal) (b : Fin 2) (p n : ℕ) : EReal :=
  if h : p < 4112 then A (ix4 b ⟨p, h⟩ ⟨n / 128 % 16, Nat.mod_lt _ (by decide)⟩ ⟨n % 128, Nat.mod_lt _ (by decide)⟩) else 0

variable (m : (ℓ : Loc nD τ sig) → Buf (Elt Ideal) ℓ) (c : Dev nD)

/-- The queries, the keys, the values and the biases as launched. -/
abbrev argQ : S2x4112x16x128.Idx → EReal := m ((c : Thread nD τ).loc main_arg0)
abbrev argK : S2x4112x16x128.Idx → EReal := m ((c : Thread nD τ).loc main_arg1)
abbrev argV : S2x4112x16x128.Idx → EReal := m ((c : Thread nD τ).loc main_arg2)
abbrev argB : S16.Idx → EReal := m ((c : Thread nD τ).loc main_arg3)

/-! ## What the host hands to the kernel -/

theorem pad_eq (A : S2x4112x16x128.Idx → EReal) (b : Fin 2) (p : Fin 4352) (n : Fin 2048) (h1 : n.val / 128 < 16) (h2 : n.val % 128 < 128) (z : EReal) (hz : z = 0) :
    (if h : p.val < 4112 ∧ n.val / 128 < 16 ∧ n.val % 128 < 128 then A (ix4 b ⟨p.val, h.1⟩ ⟨n.val / 128, h1⟩ ⟨n.val % 128, h2⟩) else z) = padRow A b p.val n.val := by
  unfold padRow
  by_cases h : p.val < 4112
  · rw [dif_pos ⟨h, h1, h2⟩, dif_pos h]
    have e : n.val / 128 % 16 = n.val / 128 := Nat.mod_eq_of_lt h1
    exact congrArg A (congrArg (fun x => ix4 b ⟨p.val, h⟩ x ⟨n.val % 128, h2⟩) (Fin.ext e.symm))
  · rw [dif_neg (fun e => h e.1), dif_neg h, hz]

theorem zero_word : FloatOps.sitofp (F := Ideal) .f32 0#32 = (0 : EReal) := by
  show (((0#32).toInt : ℝ) : EReal) = 0
  rw [BitVec.toInt_zero, Int.cast_zero]
  rfl

theorem q_rows (b : Fin 2) (p : Fin 4352) (n : Fin 2048) :
    (V m c main_v2 : S2x4352x2048.Idx → EReal) (ix3 b p n) = padRow (argQ m c) b p.val n.val := by
  unfold V
  after_reads_at
  exact pad_eq (argQ m c) b p n (by omega) (by omega) _ zero_word

theorem k_rows (b : Fin 2) (p : Fin 4352) (n : Fin 2048) :
    (V m c main_v5 : S2x4352x2048.Idx → EReal) (ix3 b p n) = padRow (argK m c) b p.val n.val := by
  unfold V
  after_reads_at
  exact pad_eq (argK m c) b p n (by omega) (by omega) _ zero_word

theorem v_rows (b : Fin 2) (p : Fin 4352) (n : Fin 2048) :
    (V m c main_v8 : S2x4352x2048.Idx → EReal) (ix3 b p n) = padRow (argV m c) b p.val n.val := by
  unfold V
  after_reads_at
  exact pad_eq (argV m c) b p n (by omega) (by omega) _ zero_word

theorem triangle (t s : Fin 256) : (V m c main_v13 : S256x256.Idx → EReal) (ix2 t s) = if s.val ≤ t.val then (-1 : EReal) else 0 := by
  unfold V
  after_reads_at
  have h : IntOp.cmpi CmpIPredicate.sge (BitVec.ofNat 32 t.val) (BitVec.ofNat 32 s.val) = BitVec.ofBool (decide (s.val ≤ t.val)) := by
    have ht := Block.toInt_small t.val (by omega)
    have hs := Block.toInt_small s.val (by omega)
    show BitVec.ofBool ((BitVec.ofNat 32 s.val).sle (BitVec.ofNat 32 t.val)) = _
    rw [BitVec.sle_eq_decide, ht, hs]
    simp only [Nat.cast_le]
  rw [h]
  by_cases e : s.val ≤ t.val
  · rw [decide_eq_true e, if_pos e]
    show -((((BitVec.ofBool true).toNat : ℕ) : ℝ) : EReal) = -1
    simp
  · rw [decide_eq_false e, if_neg e]
    show -((((BitVec.ofBool false).toNat : ℕ) : ℝ) : EReal) = 0
    simp

theorem bias : V m c main_arg3 = argB m c := V_main_arg3 m c

end Cert.Proof.Host
-- ==== Proof.Blocks.lean ====
module

public import proofs.«01_k».proof.Proof.Host

@[expose] public section

set_option maxRecDepth 16384

noncomputable section

namespace Cert.Proof.Host

open Cert.KernelIdeal Cert.KernelIdeal.Gen Idealize.ShloMosaic Idealize.ShloMosaic.TcCoe Idealize.SL.Sem

/-! ## The blocks of a grid point -/

theorem c0_lt (t : Fin cfg0.N) : (grid0.coords t 0).val < 2 := (grid0.coords t 0).isLt
theorem c1_lt (t : Fin cfg0.N) : (grid0.coords t 1).val < 2 := (grid0.coords t 1).isLt
theorem c2_lt (t : Fin cfg0.N) : (grid0.coords t 2).val < 17 := (grid0.coords t 2).isLt

/-- The batch of a grid point. -/
abbrev batch (t : Fin cfg0.N) : Fin 2 := ⟨(grid0.coords t 0).val, c0_lt t⟩

theorem index0 : ∀ t : Fin cfg0.N, win0_0.index t (0 : Fin 1) = 0 :=
  (by decide +kernel : ∀ t : Fin grid0.N, win0_0.index t (0 : Fin 1) = 0)

theorem index1 : ∀ t : Fin cfg0.N, win0_1.index t (0 : Fin 3) = (grid0.coords t 0).val ∧ win0_1.index t (1 : Fin 3) = (grid0.coords t 2).val ∧ win0_1.index t (2 : Fin 3) = (grid0.coords t 1).val :=
  (by decide +kernel : ∀ t : Fin grid0.N, win0_1.index t (0 : Fin 3) = (grid0.coords t 0).val ∧ win0_1.index t (1 : Fin 3) = (grid0.coords t 2).val ∧ win0_1.index t (2 : Fin 3) = (grid0.coords t 1).val)

theorem index2 : ∀ t : Fin cfg0.N, win0_2.index t (0 : Fin 3) = (grid0.coords t 0).val ∧ win0_2.index t (1 : Fin 3) = 0 ∧ win0_2.index t (2 : Fin 3) = (grid0.coords t 1).val :=
  (by decide +kernel : ∀ t : Fin grid0.N, win0_2.index t (0 : Fin 3) = (grid0.coords t 0).val ∧ win0_2.index t (1 : Fin 3) = 0 ∧ win0_2.index t (2 : Fin 3) = (grid0.coords t 1).val)

theorem index3 : ∀ t : Fin cfg0.N, win0_3.index t (0 : Fin 3) = (grid0.coords t 0).val ∧ win0_3.index t (1 : Fin 3) = 0 ∧ win0_3.index t (2 : Fin 3) = (grid0.coords t 1).val :=
  (by decide +kernel : ∀ t : Fin grid0.N, win0_3.index t (0 : Fin 3) = (grid0.coords t 0).val ∧ win0_3.index t (1 : Fin 3) = 0 ∧ win0_3.index t (2 : Fin 3) = (grid0.coords t 1).val)

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem index5 : ∀ t : Fin cfg0.N, win0_5.index t (0 : Fin 3) = (grid0.coords t 0).val ∧ win0_5.index t (1 : Fin 3) = (grid0.coords t 2).val ∧ win0_5.index t (2 : Fin 3) = (grid0.coords t 1).val :=
  (by decide +kernel : ∀ t : Fin grid0.N, win0_5.index t (0 : Fin 3) = (grid0.coords t 0).val ∧ win0_5.index t (1 : Fin 3) = (grid0.coords t 2).val ∧ win0_5.index t (2 : Fin 3) = (grid0.coords t 1).val)

theorem emb0 (t : Fin cfg0.N) (r : Fin 16) : ((cfg0.win 0).blk t).view.emb (ix1 r) = (ix1 r : S16.Idx) := by
  have e0 := index0 t
  funext a
  refine Fin.ext ?_
  match a with
  | ⟨0, _⟩ =>
    show win0_0.index t (0 : Fin 1) * 16 + 1 * r.val = r.val
    omega

theorem emb1 (t : Fin cfg0.N) (r : Fin 256) (l : Fin 1024) : ((cfg0.win 1).blk t).view.emb (ix3 0 r l) = (ix3 (batch t) ⟨256 * (grid0.coords t 2).val + r.val, by have := c2_lt t; omega⟩ ⟨1024 * (grid0.coords t 1).val + l.val, by have := c1_lt t; omega⟩ : S2x4352x2048.Idx) := by
  obtain ⟨e0, e1, e2⟩ := index1 t
  funext a
  refine Fin.ext ?_
  match a with
  | ⟨0, _⟩ =>
    show win0_1.index t (0 : Fin 3) * 1 + 1 * 0 = (grid0.coords t 0).val
    omega
  | ⟨1, _⟩ =>
    show win0_1.index t (1 : Fin 3) * 256 + 1 * r.val = 256 * (grid0.coords t 2).val + r.val
    omega
  | ⟨2, _⟩ =>
    show win0_1.index t (2 : Fin 3) * 1024 + 1 * l.val = 1024 * (grid0.coords t 1).val + l.val
    omega

theorem emb2 (t : Fin cfg0.N) (r : Fin 4352) (l : Fin 1024) : ((cfg0.win 2).blk t).view.emb (ix3 0 r l) = (ix3 (batch t) r ⟨1024 * (grid0.coords t 1).val + l.val, by have := c1_lt t; omega⟩ : S2x4352x2048.Idx) := by
  obtain ⟨e0, e1, e2⟩ := index2 t
  funext a
  refine Fin.ext ?_
  match a with
  | ⟨0, _⟩ =>
    show win0_2.index t (0 : Fin 3) * 1 + 1 * 0 = (grid0.coords t 0).val
    omega
  | ⟨1, _⟩ =>
    show win0_2.index t (1 : Fin 3) * 4352 + 1 * r.val = r.val
    omega
  | ⟨2, _⟩ =>
    show win0_2.index t (2 : Fin 3) * 1024 + 1 * l.val = 1024 * (grid0.coords t 1).val + l.val
    omega

theorem emb3 (t : Fin cfg0.N) (r : Fin 4352) (l : Fin 1024) : ((cfg0.win 3).blk t).view.emb (ix3 0 r l) = (ix3 (batch t) r ⟨1024 * (grid0.coords t 1).val + l.val, by have := c1_lt t; omega⟩ : S2x4352x2048.Idx) := by
  obtain ⟨e0, e1, e2⟩ := index3 t
  funext a
  refine Fin.ext ?_
  match a with
  | ⟨0, _⟩ =>
    show win0_3.index t (0 : Fin 3) * 1 + 1 * 0 = (grid0.coords t 0).val
    omega
  | ⟨1, _⟩ =>
    show win0_3.index t (1 : Fin 3) * 4352 + 1 * r.val = r.val
    omega
  | ⟨2, _⟩ =>
    show win0_3.index t (2 : Fin 3) * 1024 + 1 * l.val = 1024 * (grid0.coords t 1).val + l.val
    omega

theorem emb4 (t : Fin cfg0.N) (r l : Fin 256) : ((cfg0.win 4).blk t).view.emb (ix2 r l) = (ix2 r l : S256x256.Idx) := by
  obtain ⟨e0, e1⟩ := index4 t
  funext a
  refine Fin.ext ?_
  match a with
  | ⟨0, _⟩ =>
    show win0_4.index t (0 : Fin 2) * 256 + 1 * r.val = r.val
    omega
  | ⟨1, _⟩ =>
    show win0_4.index t (1 : Fin 2) * 256 + 1 * l.val = l.val
    omega

theorem emb5 (t : Fin cfg0.N) (r : Fin 256) (l : Fin 1024) : ((cfg0.win 5).blk t).view.emb (ix3 0 r l) = (ix3 (batch t) ⟨256 * (grid0.coords t 2).val + r.val, by have := c2_lt t; omega⟩ ⟨1024 * (grid0.coords t 1).val + l.val, by have := c1_lt t; omega⟩ : S2x4352x2048.Idx) := by
  obtain ⟨e0, e1, e2⟩ := index5 t
  funext a
  refine Fin.ext ?_
  match a with
  | ⟨0, _⟩ =>
    show win0_5.index t (0 : Fin 3) * 1 + 1 * 0 = (grid0.coords t 0).val
    omega
  | ⟨1, _⟩ =>
    show win0_5.index t (1 : Fin 3) * 256 + 1 * r.val = 256 * (grid0.coords t 2).val + r.val
    omega
  | ⟨2, _⟩ =>
    show win0_5.index t (2 : Fin 3) * 1024 + 1 * l.val = 1024 * (grid0.coords t 1).val + l.val
    omega

theorem read0 (A B : S16.Idx → EReal) (h : ∀ r, A (ix1 r) = B (ix1 r)) (t : Fin cfg0.N) (r : Fin 16) :
    (((cfg0.win 0).blk t).view.read (Elt Ideal) A : S16.Idx → EReal) (ix1 r) = B (ix1 r) :=
  (congrArg A (emb0 t r)).trans (h _)

theorem read1 (A : S2x4352x2048.Idx → EReal) (B : S2x4112x16x128.Idx → EReal) (h : ∀ b p n, A (ix3 b p n) = padRow B b p.val n.val) (t : Fin cfg0.N) (r : Fin 256) (l : Fin 1024) :
    (((cfg0.win 1).blk t).view.read (Elt Ideal) A : S1x256x1024.Idx → EReal) (ix3 0 r l) = padRow B (batch t) (256 * (grid0.coords t 2).val + r.val) (1024 * (grid0.coords t 1).val + l.val) :=
  (congrArg A (emb1 t r l)).trans (h _ _ _)

theorem read2 (A : S2x4352x2048.Idx → EReal) (B : S2x4112x16x128.Idx → EReal) (h : ∀ b p n, A (ix3 b p n) = padRow B b p.val n.val) (t : Fin cfg0.N) (r : Fin 4352) (l : Fin 1024) :
    (((cfg0.win 2).blk t).view.read (Elt Ideal) A : S1x4352x1024.Idx → EReal) (ix3 0 r l) = padRow B (batch t) (r.val) (1024 * (grid0.coords t 1).val + l.val) :=
  (congrArg A (emb2 t r l)).trans (h _ _ _)

theorem read3 (A : S2x4352x2048.Idx → EReal) (B : S2x4112x16x128.Idx → EReal) (h : ∀ b p n, A (ix3 b p n) = padRow B b p.val n.val) (t : Fin cfg0.N) (r : Fin 4352) (l : Fin 1024) :
    (((cfg0.win 3).blk t).view.read (Elt Ideal) A : S1x4352x1024.Idx → EReal) (ix3 0 r l) = padRow B (batch t) (r.val) (1024 * (grid0.coords t 1).val + l.val) :=
  (congrArg A (emb3 t r l)).trans (h _ _ _)

theorem read4 (A : S256x256.Idx → EReal) (h : ∀ t s : Fin 256, A (ix2 t s) = if s.val ≤ t.val then (-1 : EReal) else 0) (t : Fin cfg0.N) (r l : Fin 256) :
    (((cfg0.win 4).blk t).view.read (Elt Ideal) A : S256x256.Idx → EReal) (ix2 r l) = if l.val ≤ r.val then (-1 : EReal) else 0 :=
  (congrArg A (emb4 t r l)).trans (h _ _)

variable (m : (ℓ : Loc nD τ sig) → Buf (Elt Ideal) ℓ) (c : Dev nD)

/-- The bias block is the whole bias. -/
theorem blk0 (t : Fin cfg0.N) (r : Fin 16) : (iblk m c 0 t : S16.Idx → EReal) (ix1 r) = argB m c (ix1 r) :=
  read0 _ _ (fun r => congrFun (bias m c) (ix1 r)) t r

/-- The block of queries: the rows of the tile, the columns of the head group. -/
theorem blk1 (t : Fin cfg0.N) (r : Fin 256) (l : Fin 1024) :
    (iblk m c 1 t : S1x256x1024.Idx → EReal) (ix3 0 r l) = padRow (argQ m c) (batch t) (256 * (grid0.coords t 2).val + r.val) (1024 * (grid0.coords t 1).val + l.val) :=
  read1 _ _ (q_rows m c) t r l

/-- The block of keys: every row, the columns of the head group. -/
theorem blk2 (t : Fin cfg0.N) (r : Fin 4352) (l : Fin 1024) :
    (iblk m c 2 t : S1x4352x1024.Idx → EReal) (ix3 0 r l) = padRow (argK m c) (batch t) (r.val) (1024 * (grid0.coords t 1).val + l.val) :=
  read2 _ _ (k_rows m c) t r l

/-- The block of values: every row, the columns of the head group. -/
theorem blk3 (t : Fin cfg0.N) (r : Fin 4352) (l : Fin 1024) :
    (iblk m c 3 t : S1x4352x1024.Idx → EReal) (ix3 0 r l) = padRow (argV m c) (batch t) (r.val) (1024 * (grid0.coords t 1).val + l.val) :=
  read3 _ _ (v_rows m c) t r l

/-- The triangle block is the whole triangle. -/
theorem blk4 (t : Fin cfg0.N) (r l : Fin 256) : (iblk m c 4 t : S256x256.Idx → EReal) (ix2 r l) = if l.val ≤ r.val then (-1 : EReal) else 0 :=
  read4 _ (triangle m c) t r l

end Cert.Proof.Host
-- ==== Proof.Softplus.lean ====
module

public import proofs.«01_k».proof.Proof.Closed

@[expose] public section

noncomputable section

namespace Cert.Proof.Softplus

open Cert.KernelIdeal Idealize.ShloMosaic Cert.Proof.Block

/-! ## Base two against base e -/

/-- The factor between the two bases. -/
abbrev invLog2 : EReal := (((Real.log 2)⁻¹ : ℝ) : EReal)

/-- The scale of the queries before the change of base. -/
abbrev headScale : EReal := ((11863283 / 134217728 : ℝ) : EReal)

theorem log2e_eq : log2e = invLog2 := rfl

theorem qScale_eq : qScale = headScale * invLog2 := by
  refine Eq.trans (b := (((11863283 / 134217728) * (Real.log 2)⁻¹ : ℝ) : EReal)) rfl ?_
  exact EReal.coe_mul _ _

theorem log_two_pos : 0 < (Real.log 2)⁻¹ := inv_pos.mpr (Real.log_pos one_lt_two)

theorem invLog2_pos : 0 < invLog2 := EReal.coe_pos.mpr log_two_pos

theorem invLog2_ne_top : invLog2 ≠ ⊤ := EReal.coe_ne_top _

/-- The factor distributes over any sum. -/
theorem add_mul_invLog2 (x y : EReal) : (x + y) * invLog2 = x * invLog2 + y * invLog2 :=
  EReal.right_distrib_of_nonneg_of_ne_top invLog2_pos.le invLog2_ne_top x y

/-- A nonnegative finite factor goes through a sum of any finite number of terms. -/
theorem sum_mul_factor {ι : Type} (s : Finset ι) (f : ι → EReal) (a : ℝ) (ha : 0 ≤ a) : ∑ i ∈ s, f i * (a : EReal) = (∑ i ∈ s, f i) * (a : EReal) := by
  classical
  induction s using Finset.induction_on with
  | empty => rw [Finset.sum_empty, Finset.sum_empty, zero_mul]
  | insert i s hi ih =>
    rw [Finset.sum_insert hi, Finset.sum_insert hi, ih, EReal.right_distrib_of_nonneg_of_ne_top (EReal.coe_nonneg.mpr ha) (EReal.coe_ne_top a)]

/-- The softplus of one logit in base e. -/
def sp (z : EReal) : EReal := max z 0 + Ideal.log (1 + Ideal.exp (-max z (-z)))

theorem exp2_eq_exp (z : EReal) : Ideal.exp2 (z * invLog2) = Ideal.exp z := by
  induction z with
  | bot =>
    rw [EReal.bot_mul_of_pos invLog2_pos]
    rfl
  | top =>
    rw [EReal.top_mul_of_pos invLog2_pos]
    rfl
  | coe a =>
    rw [← EReal.coe_mul]
    show ((Real.rpow 2 (a * (Real.log 2)⁻¹) : ℝ) : EReal) = ((Real.exp a : ℝ) : EReal)
    have h : Real.rpow 2 (a * (Real.log 2)⁻¹) = Real.exp a := by
      show (2 : ℝ) ^ (a * (Real.log 2)⁻¹) = _
      rw [Real.rpow_def_of_pos two_pos, mul_comm a, mul_inv_cancel_left₀ (Real.log_pos one_lt_two).ne']
    rw [h]

theorem max_mul_invLog2 (x y : EReal) : max (x * invLog2) (y * invLog2) = max x y * invLog2 := by
  rcases le_total x y with h | h
  · rw [max_eq_right h, max_eq_right (mul_le_mul_of_nonneg_right h invLog2_pos.le)]
  · rw [max_eq_left h, max_eq_left (mul_le_mul_of_nonneg_right h invLog2_pos.le)]

theorem sp2_eq (z : EReal) : sp2 (z * invLog2) = sp z * invLog2 := by
  have h0 : max (z * invLog2) 0 = max z 0 * invLog2 := by
    rw [← max_mul_invLog2, zero_mul]
  have h1 : (0 : EReal) - max (z * invLog2) (-(z * invLog2)) = (-max z (-z)) * invLog2 := by
    rw [zero_sub, ← EReal.neg_mul, max_mul_invLog2, EReal.neg_mul]
  unfold sp2 sp
  rw [h0, log2e_eq, add_mul_invLog2]
  refine congrArg (fun e => max z 0 * invLog2 + Ideal.log (1 + e) * invLog2) ?_
  exact (congrArg Ideal.exp2 h1).trans (exp2_eq_exp _)

theorem sp_coe (a : ℝ) : sp (a : EReal) = ((max a 0 + Real.log (1 + Real.exp (-|a|)) : ℝ) : EReal) := by
  have h1 : max (a : EReal) (-(a : EReal)) = ((|a| : ℝ) : EReal) := by
    rw [← EReal.coe_neg]
    exact (EReal.coe_strictMono.monotone.map_max (a := a) (b := -a)).symm
  have h2 : max (a : EReal) 0 = ((max a 0 : ℝ) : EReal) :=
    (EReal.coe_strictMono.monotone.map_max (a := a) (b := 0)).symm
  unfold sp
  rw [h1, h2, ← EReal.coe_neg]
  have h3 : (1 : EReal) + Ideal.exp ((-|a| : ℝ) : EReal) = ((1 + Real.exp (-|a|) : ℝ) : EReal) := by
    rw [EReal.coe_add]
    rfl
  rw [h3]
  have h4 : Ideal.log ((1 + Real.exp (-|a|) : ℝ) : EReal) = ((Real.log (1 + Real.exp (-|a|)) : ℝ) : EReal) :=
    if_neg (not_le.mpr (add_pos one_pos (Real.exp_pos _)))
  rw [h4, ← EReal.coe_add]

theorem log_one : Ideal.log (1 + 0) = 0 := by
  rw [add_zero]
  show (if (1 : ℝ) ≤ 0 then ⊥ else ((Real.log 1 : ℝ) : EReal)) = 0
  rw [if_neg (by norm_num), Real.log_one]
  rfl

theorem sp_top : sp ⊤ = ⊤ := by
  unfold sp
  have h : max (⊤ : EReal) (-⊤) = ⊤ := max_eq_left le_top
  rw [h, max_eq_left le_top]
  show ⊤ + Ideal.log (1 + 0) = ⊤
  rw [log_one, add_zero]

theorem sp_bot : sp ⊥ = 0 := by
  unfold sp
  have h : max (⊥ : EReal) (-⊥) = ⊤ := max_eq_right bot_le
  rw [h, max_eq_right bot_le]
  show 0 + Ideal.log (1 + 0) = 0
  rw [log_one, add_zero]

theorem sp_nonneg (z : EReal) : 0 ≤ sp z := by
  induction z with
  | bot => rw [sp_bot]
  | top => rw [sp_top]; exact le_top
  | coe a =>
    rw [sp_coe]
    exact EReal.coe_nonneg.mpr (add_nonneg (le_max_right _ _) (Real.log_nonneg (le_add_of_nonneg_right (Real.exp_pos _).le)))

theorem sp_neg (a : ℝ) : -sp (-(a : EReal)) = (a : EReal) + -sp (a : EReal) := by
  rw [← EReal.coe_neg, sp_coe, sp_coe, ← EReal.coe_neg, ← EReal.coe_neg, ← EReal.coe_add, abs_neg]
  refine congrArg _ ?_
  have h : max (-a) 0 = max a 0 - a := by
    rcases le_total a 0 with h | h
    · rw [max_eq_left (neg_nonneg.mpr h), max_eq_right h]; ring
    · rw [max_eq_right (neg_nonpos.mpr h), max_eq_left h]; ring
  rw [h]
  ring

/-- The exponent by differences and the exponent by sums have the same exponential. -/
theorem exp_eq (z T : EReal) (hT : T ≤ 0) :
    Ideal.exp (z + (-sp z + T)) = Ideal.exp (-sp (-z) + ((-sp z + T) - -sp z)) := by
  induction z with
  | top =>
    rw [sp_top, EReal.neg_top, EReal.bot_add, EReal.add_bot, sub_eq_add_neg, EReal.neg_bot, EReal.bot_add, EReal.add_bot]
  | bot =>
    rw [EReal.bot_add, EReal.neg_bot, sp_top, EReal.neg_top, EReal.bot_add]
  | coe a =>
    rw [sp_neg, sp_coe]
    generalize max a 0 + Real.log (1 + Real.exp (-|a|)) = b
    induction T with
    | top => exact absurd hT (by simp)
    | bot => rw [EReal.add_bot, EReal.add_bot, sub_eq_add_neg, EReal.bot_add, EReal.add_bot]
    | coe t =>
      refine congrArg Ideal.exp ?_
      rw [← EReal.coe_neg, ← EReal.coe_add, ← EReal.coe_sub, ← EReal.coe_add, ← EReal.coe_add, ← EReal.coe_add]
      refine congrArg _ ?_
      ring

end Cert.Proof.Softplus
-- ==== Proof.Attn.lean ====
module

public import proofs.«01_k».proof.Proof.Softplus

@[expose] public section

noncomputable section

namespace Cert.Proof.Attn

open Cert.KernelIdeal Idealize.ShloMosaic Cert.Proof.Block Cert.Proof.Softplus

/-! ## The attention of one query over the keys before it -/

/-- Minus the softplus of the logits of the keys from `s` to the query at `p`. -/
def tail (Z : ℕ → EReal) (p s : ℕ) : EReal := ∑ j ∈ Finset.Ico s p, -sp (Z j)

/-- The weighted sum of the values `W`, the key at `s` weighted by the exponential of its logit and the later keys' softplus. -/
def attn (Z W : ℕ → EReal) (p : ℕ) : EReal := ∑ s ∈ Finset.Ico 0 p, Ideal.exp (Z s + tail Z p s) * W s

theorem sum_mask (f : ℕ → EReal) {s p N : ℕ} (hp : p ≤ N) : ∑ j ∈ Finset.Ico s N, (if j < p then f j else 0) = ∑ j ∈ Finset.Ico s p, f j := by
  rw [← Finset.sum_filter]
  refine Finset.sum_congr (Finset.ext fun j => ?_) fun _ _ => rfl
  rw [Finset.mem_filter, Finset.mem_Ico, Finset.mem_Ico]
  omega

theorem tail_nonpos (Z : ℕ → EReal) (p s : ℕ) : tail Z p s ≤ 0 :=
  Finset.sum_nonpos fun _ _ => EReal.neg_le_zero.mpr (sp_nonneg _)

theorem tail_succ (Z : ℕ → EReal) {p s : ℕ} (h : s < p) : tail Z p s = -sp (Z s) + tail Z p (s + 1) :=
  Finset.sum_eq_sum_Ico_succ_bot h _

/-- The sums a tile leaves are the attention. -/
theorem accSum_eq (x0 : S16.Idx → EReal) (x1 : S1x256x1024.Idx → EReal) (x2 x3 : S1x4352x1024.Idx → EReal) (Z W : ℕ → EReal) (g q N h r d : ℕ)
    (hp : q + r ≤ N) (hz : ∀ j < q + r, zAt x0 x1 x2 g h r j = Z j * invLog2) (hw : ∀ j < q + r, x3 (ix3 0 (rowIx j) (colIx h d)) = W j) :
    accSum x0 x1 x2 x3 g q N h r d 0 = attn Z W (q + r) := by
  have hrun : ∀ s, runSum x0 x1 x2 g q N h r s = tail Z (q + r) s * invLog2 := by
    intro s
    unfold runSum negSp tail
    rw [sum_mask (fun j => -sp2 (zAt x0 x1 x2 g h r j)) hp, ← sum_mul_factor _ _ _ log_two_pos.le]
    refine Finset.sum_congr rfl fun j hj => ?_
    rw [hz j (Finset.mem_Ico.mp hj).2, sp2_eq, EReal.neg_mul]
  unfold accSum weight attn
  refine Eq.trans (Finset.sum_congr rfl fun s _ => ?_) (sum_mask (fun s => Ideal.exp (Z s + tail Z (q + r) s) * W s) hp)
  by_cases hs : s < q + r
  · rw [if_pos hs, if_pos hs, hw s hs, hz s hs, hrun, ← add_mul_invLog2]
    exact congrArg (· * W s) (exp2_eq_exp _)
  · rw [if_neg hs, if_neg hs, zero_mul]

/-- The sums by differences of running sums are the attention. -/
theorem sums_eq (Z W : ℕ → EReal) (p N : ℕ) (hp : p ≤ N) :
    ∑ s ∈ Finset.range N, W s * (if s < p then Ideal.exp (-sp (-Z s) + ((∑ j ∈ Finset.Ico s N, if j < p then -sp (Z j) else 0) - if s < p then -sp (Z s) else 0)) else 0)
      = attn Z W p := by
  unfold attn
  rw [Finset.range_eq_Ico]
  refine Eq.trans (Finset.sum_congr rfl fun s _ => ?_) (sum_mask (fun s => Ideal.exp (Z s + tail Z p s) * W s) hp)
  by_cases hs : s < p
  · rw [if_pos hs, if_pos hs, if_pos hs, sum_mask (fun j => -sp (Z j)) hp, mul_comm]
    refine congrArg (· * W s) ?_
    have ht := tail_succ Z hs
    show Ideal.exp (-sp (-Z s) + (tail Z p s - -sp (Z s))) = _
    rw [ht]
    exact (exp_eq _ _ (tail_nonpos Z p (s + 1))).symm
  · rw [if_neg hs, if_neg hs, mul_zero]

end Cert.Proof.Attn
-- ==== Proof.Final.lean ====
module

public import proofs.«01_k».proof.Proof.Blocks
public import proofs.«01_k».proof.Proof.Attn

@[expose] public section

set_option maxRecDepth 16384

noncomputable section

namespace Cert.Proof.Final

open Cert.KernelIdeal Cert.KernelIdeal.Gen Idealize.ShloMosaic Idealize.ShloMosaic.TcCoe Idealize.SL.Sem
open Cert.Proof.Block Cert.Proof.Softplus Cert.Proof.Attn Cert.Proof.Host

/-! ## The attention of whole arrays -/

section Spec

variable (Q K W : S2x4112x16x128.Idx → EReal) (B : S16.Idx → EReal)

/-- The logit of query row `p` and key row `j`, batch `b`, head `h`. -/
def zRow (b : Fin 2) (h p j : ℕ) : EReal :=
  (∑ d : Fin 128, padRow Q b p (128 * h + d.val) * padRow K b j (128 * h + d.val)) * headScale
    + B (ix1 ⟨h % 16, Nat.mod_lt _ (by decide)⟩)

/-- The value the attention gives at row `p`, column `n`. -/
def outAt (b : Fin 2) (p n : ℕ) : EReal :=
  if p < 4112 then attn (zRow Q K B b (n / 128) p) (fun j => padRow W b j n) p else 0

/-- The whole output array, its rows from 4112 on zero. -/
def outArr (i : S2x4352x2048.Idx) : EReal := outAt Q K W B (i 0) (i 1).val (i 2).val

end Spec

/-! ## A tile's sums are the attention's -/

section Tile

variable (Q K W : S2x4112x16x128.Idx → EReal) (B : S16.Idx → EReal)
  (x0 : S16.Idx → EReal) (x1 : S1x256x1024.Idx → EReal) (x2 x3 : S1x4352x1024.Idx → EReal) (b : Fin 2) (g u : ℕ)

theorem sum_scale (f k : Fin 128 → EReal) :
    (∑ d : Fin 128, f d * qScale * k d) = (∑ d : Fin 128, f d * k d) * headScale * invLog2 := by
  have hs : (0 : ℝ) ≤ (11863283 / 134217728) * (Real.log 2)⁻¹ := mul_nonneg (by norm_num) log_two_pos.le
  have e : qScale = (((11863283 / 134217728) * (Real.log 2)⁻¹ : ℝ) : EReal) := rfl
  rw [mul_assoc, ← qScale_eq, e, ← sum_mul_factor _ _ _ hs]
  refine Finset.sum_congr rfl fun d _ => ?_
  exact mul_right_comm _ _ _

theorem tile_eq (h0 : ∀ r, x0 (ix1 r) = B (ix1 r))
    (h1 : ∀ r l, x1 (ix3 0 r l) = padRow Q b (256 * u + r.val) (1024 * g + l.val))
    (h2 : ∀ r l, x2 (ix3 0 r l) = padRow K b r.val (1024 * g + l.val))
    (h3 : ∀ r l, x3 (ix3 0 r l) = padRow W b r.val (1024 * g + l.val))
    (hg : g < 2) (hu : u < 17) (r l : ℕ) (hr : r < 256) (hl : l < 1024) (hp : 256 * u + r < 4112) :
    accSum x0 x1 x2 x3 g (256 * u) (256 * u + 256) (l / 128) r (l % 128) 0 = outAt Q K W B b (256 * u + r) (1024 * g + l) := by
  have hn : (1024 * g + l) / 128 = 8 * g + l / 128 := by omega
  unfold outAt
  rw [if_pos hp, hn]
  refine accSum_eq x0 x1 x2 x3 _ _ g (256 * u) (256 * u + 256) (l / 128) r (l % 128) (by omega) (fun j hj => ?_) (fun j hj => ?_)
  · unfold zAt zRow
    rw [add_mul_invLog2, h0, sum_scale (fun d => x1 (ix3 0 (queryIx r) (colIx (l / 128) d))) (fun d => x2 (ix3 0 (rowIx j) (colIx (l / 128) d))), log2e_eq]
    have hc : ∀ d : Fin 128, 1024 * g + (colIx (l / 128) d.val).val = 128 * (8 * g + l / 128) + d.val := by
      intro d
      have := d.isLt
      show 1024 * g + (128 * (l / 128) + d.val) % 1024 = _
      omega
    have hq : (queryIx r).val = r := Nat.mod_eq_of_lt hr
    have hj' : (rowIx j).val = j := Nat.mod_eq_of_lt (by omega)
    have hs : ∀ d : Fin 128, x1 (ix3 0 (queryIx r) (colIx (l / 128) d)) * x2 (ix3 0 (rowIx j) (colIx (l / 128) d))
        = padRow Q b (256 * u + r) (128 * (8 * g + l / 128) + d.val) * padRow K b j (128 * (8 * g + l / 128) + d.val) := by
      intro d
      rw [h1, h2, hc, hq, hj']
    rw [Finset.sum_congr rfl fun d _ => hs d]
    rfl
  · have hj' : (rowIx j).val = j := Nat.mod_eq_of_lt (by omega)
    have hc : 1024 * g + (colIx (l / 128) (l % 128)).val = 1024 * g + l := by
      show 1024 * g + (128 * (l / 128) + l % 128) % 1024 = _
      omega
    rw [h3, hc, hj']

end Tile

/-! ## The output array -/

theorem tile_of : ∀ t : Fin cfg0.N, (grid0.coords t 2).val = t.val % 17 :=
  (by decide +kernel : ∀ t : Fin grid0.N, (grid0.coords t 2).val = t.val % 17)

theorem covers5 : (cfg0.win 5).Covers := by decide +kernel

variable (m : (ℓ : Loc nD τ sig) → Buf (Elt Ideal) ℓ) (c : Dev nD)

/-- The output array of the kernel, from its arguments as launched. -/
def outM : S2x4352x2048.Idx → EReal := outArr (argQ m c) (argK m c) (argV m c) (argB m c)

theorem read5 (A : S2x4352x2048.Idx → EReal) (t : Fin cfg0.N) (y : S1x256x1024.Idx) :
    (((cfg0.win 5).blk t).view.read (Elt Ideal) A : S1x256x1024.Idx → EReal) y
      = A (ix3 (batch t) ⟨256 * (grid0.coords t 2).val + (y 1).val, by have h := c2_lt t; have h1 : (y 1).val < 256 := (y 1).isLt; omega⟩
          ⟨1024 * (grid0.coords t 1).val + (y 2).val, by have h := c1_lt t; have h1 : (y 2).val < 1024 := (y 2).isLt; omega⟩) := by
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [hy]
  exact congrArg A (emb5 t (y 1) (y 2))

theorem pointA (t : Fin cfg0.N) (h0 : t.val % 17 ≤ 15) (h1 : ¬t.val % 17 = 16) (y : S1x256x1024.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) : S1x256x1024.Idx → EReal) y
      = outAt (argQ m c) (argK m c) (argV m c) (argB m c) (batch t) (256 * (grid0.coords t 2).val + (y 1).val) (1024 * (grid0.coords t 1).val + (y 2).val) := by
  have hy1 : (y 1).val < 256 := (y 1).isLt
  have hy2 : (y 2).val < 1024 := (y 2).isLt
  have ht := tile_of t
  refine (headsA c (grid0.coords t) _ _ _ _ _ _ _ _ _ _ _ _ _ _ _ _ _ _ _ _ _ (blk4 m c t) _ _ y hy1).trans ?_
  exact tile_eq _ _ _ _ _ _ _ _ (batch t) _ _ (blk0 m c t) (blk1 m c t) (blk2 m c t) (blk3 m c t) (c1_lt t) (c2_lt t) _ _ hy1 hy2 (by omega)

theorem pointB (t : Fin cfg0.N) (h0 : ¬t.val % 17 ≤ 15) (h1 : t.val % 17 = 16) (xs0 xs1 : S8x256x128.Idx → EReal) (y : S1x256x1024.Idx) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1 : S1x256x1024.Idx → EReal) y
      = outAt (argQ m c) (argK m c) (argV m c) (argB m c) (batch t) (256 * (grid0.coords t 2).val + (y 1).val) (1024 * (grid0.coords t 1).val + (y 2).val) := by
  have hy1 : (y 1).val < 256 := (y 1).isLt
  have hy2 : (y 2).val < 1024 := (y 2).isLt
  have ht := tile_of t
  by_cases hr : (y 1).val < 16
  · refine (headsB c (grid0.coords t) _ _ _ _ _ _ _ _ _ _ _ _ _ _ _ _ _ _ _ _ _ (blk4 m c t) _ _ xs0 xs1 y hr).trans ?_
    exact tile_eq _ _ _ _ _ _ _ _ (batch t) _ _ (blk0 m c t) (blk1 m c t) (blk2 m c t) (blk3 m c t) (c1_lt t) (c2_lt t) _ _ hy1 hy2 (by omega)
  · refine (restB_zero c (grid0.coords t) _ _ _ _ _ _ _ _ _ _ _ _ _ _ _ _ _ _ _ _ _ _ _ xs0 xs1 y (not_lt.mp hr)).trans ?_
    unfold outAt
    rw [if_neg (by omega)]

theorem flushed_eq (t : Fin cfg0.N) : (dats m 0 c).flushed 5 t = ((cfg0.win 5).blk t).view.read (Elt Ideal) (outM m c) := by
  by_cases h : t.val % 17 = 16
  · rw [Value.flushed5_B m c t (by omega) h]
    funext y
    exact (pointB m c t (by omega) h _ _ y).trans (read5 (outM m c) t y).symm
  · have h' : t.val % 17 ≤ 15 := by omega
    rw [Value.flushed5_A m c t h' h]
    funext y
    exact (pointA m c t h' h y).trans (read5 (outM m c) t y).symm

/-- The kernel's output array after the run. -/
theorem final : (dats m 0 c).arrAt 5 cfg0.N = outM m c :=
  (dats m 0 c).arrAt_eq_of_cover 5 (outM m c) (fun t _ => flushed_eq m c t) (covers5.cover _ (Memref.isWhole_whole _))

end Cert.Proof.Final
-- ==== Proof.Ref.lean ====
module

public import proofs.«01_k».proof.Proof.Final
public import proofs.«01_k».proof.Proof.Gen.ReferenceIdeal.Run

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem
open Cert.Proof.Softplus Cert.Proof.Attn

/-! ## The window sum -/

theorem foldl_add {ι : Type} (g : ι → EReal) (l : List ι) (v : EReal) : l.foldl (fun r n => r + g n) v = v + (l.map g).sum := by
  induction l generalizing v with
  | nil => exact (add_zero v).symm
  | cons a l ih => rw [List.foldl_cons, ih, List.map_cons, List.sum_cons, add_assoc]

section Window

variable {A B C N : ℕ}

/-- The positions of a row-long window. -/
abbrev win (N : ℕ) : Shape := ⟨4, ![1, 1, 1, N]⟩

/-- A position of the window is its last coordinate. -/
def winEquiv (N : ℕ) : (win N).Idx ≃ Fin N where
  toFun i := i 3
  invFun k := fun a => match a with
    | ⟨0, _⟩ => (0 : Fin 1)
    | ⟨1, _⟩ => (0 : Fin 1)
    | ⟨2, _⟩ => (0 : Fin 1)
    | ⟨3, _⟩ => k
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
    | ⟨3, _⟩ => rfl
  right_inv _ := rfl

theorem sum_window (s : ℕ) (f : ℕ → EReal) : (∑ k : Fin N, if s + k.val < N then f (s + k.val) else 0) = ∑ j ∈ Finset.Ico s N, f j := by
  rw [Fin.sum_univ_eq_sum_range (fun k => if s + k < N then f (s + k) else 0), Finset.sum_Ico_eq_sum_range, ← Finset.sum_filter]
  refine Finset.sum_congr (Finset.ext fun k => ?_) fun _ _ => rfl
  rw [Finset.mem_filter, Finset.mem_range, Finset.mem_range]
  omega

/-- The operand at a window position, zero outside the operand. -/
theorem position_eq (x : (⟨4, ![A, B, C, N]⟩ : Shape).Idx → EReal) (b : Fin A) (h : Fin B) (s : Fin N) (q : Fin C)
    (f : ℕ → EReal) (hx : ∀ j : Fin N, x (ix4 b h q j) = f j.val) (v : EReal) (hv : v = 0) (i : (win N).Idx) (P : Fin 4 → ℕ)
    (hP : ∀ a, P a = ((ix4 b h q s : (⟨4, ![A, B, C, N]⟩ : Shape).Idx) a).val * (![1, 1, 1, 1] : Fin 4 → ℕ) a + (i a).val) {inst : Decidable (∀ a : Fin 4, (![0, 0, 0, 0] : Fin 4 → ℕ) a ≤ P a ∧ P a - (![0, 0, 0, 0] : Fin 4 → ℕ) a < (![A, B, C, N] : Fin 4 → ℕ) a)} :
    (if hin : ∀ a : Fin 4, (![0, 0, 0, 0] : Fin 4 → ℕ) a ≤ P a ∧ P a - (![0, 0, 0, 0] : Fin 4 → ℕ) a < (![A, B, C, N] : Fin 4 → ℕ) a then
        x (fun a => ⟨P a - (![0, 0, 0, 0] : Fin 4 → ℕ) a, (hin a).2⟩) else v)
      = if s.val + (i 3).val < N then f (s.val + (i 3).val) else 0 := by
  have i0 : (i 0).val < 1 := (i 0).isLt
  have i1 : (i 1).val < 1 := (i 1).isLt
  have i2 : (i 2).val < 1 := (i 2).isLt
  have e0 : P 0 = b.val * 1 + (i 0).val := hP 0
  have e1 : P 1 = h.val * 1 + (i 1).val := hP 1
  have e2 : P 2 = q.val * 1 + (i 2).val := hP 2
  have e3 : P 3 = s.val * 1 + (i 3).val := hP 3
  by_cases hs : s.val + (i 3).val < N
  · have hin : ∀ a : Fin 4, (![0, 0, 0, 0] : Fin 4 → ℕ) a ≤ P a ∧ P a - (![0, 0, 0, 0] : Fin 4 → ℕ) a < (![A, B, C, N] : Fin 4 → ℕ) a := by
      intro a
      match a with
      | ⟨0, _⟩ => exact ⟨Nat.zero_le _, by show P 0 - 0 < A; have := b.isLt; omega⟩
      | ⟨1, _⟩ => exact ⟨Nat.zero_le _, by show P 1 - 0 < B; have := h.isLt; omega⟩
      | ⟨2, _⟩ => exact ⟨Nat.zero_le _, by show P 2 - 0 < C; have := q.isLt; omega⟩
      | ⟨3, _⟩ => exact ⟨Nat.zero_le _, by show P 3 - 0 < N; omega⟩
    rw [dif_pos hin, if_pos hs]
    refine (congrArg x (funext fun a => Fin.ext ?_)).trans (hx ⟨s.val + (i 3).val, hs⟩)
    match a with
    | ⟨0, _⟩ => show P 0 - 0 = b.val; omega
    | ⟨1, _⟩ => show P 1 - 0 = h.val; omega
    | ⟨2, _⟩ => show P 2 - 0 = q.val; omega
    | ⟨3, _⟩ => show P 3 - 0 = s.val + (i 3).val; omega
  · rw [dif_neg (fun hin => hs (by have h3 : P 3 - 0 < N := (hin 3).2; omega)), if_neg hs, hv]

theorem window_eq {u : Shape} (x : (⟨4, ![A, B, C, N]⟩ : Shape).Idx → EReal) (init : u.Idx → EReal) (h0 : ∀ i, init i = 0) (hi : Fin 4 → ℕ)
    (hw : (⟨4, ![A, B, C, N]⟩ : Shape).ReduceWindows (![1, 1, 1, N] : Fin 4 → ℕ) ![1, 1, 1, 1] ![0, 0, 0, 0] hi ⟨4, ![A, B, C, N]⟩) (hu : 0 < u.numel)
    (b : Fin A) (h : Fin B) (q : Fin C) (s : Fin N) (f : ℕ → EReal) (hx : ∀ j : Fin N, x (ix4 b h q j) = f j.val) :
    (Host.reduceWindowAdd (F := Ideal) (φ := .f32) (s := ⟨4, ![A, B, C, N]⟩) (t := ⟨4, ![A, B, C, N]⟩) ![1, 1, 1, N] ![1, 1, 1, 1] ![0, 0, 0, 0] hi x init hw hu
        : (⟨4, ![A, B, C, N]⟩ : Shape).Idx → EReal) (ix4 b h q s)
      = ∑ j ∈ Finset.Ico s.val N, f j := by
  show Host.reduceWindow (s := ⟨4, ![A, B, C, N]⟩) (t := ⟨4, ![A, B, C, N]⟩) (fun r v : EReal => r + v) ![1, 1, 1, N] ![1, 1, 1, 1] ![0, 0, 0, 0] hi x _ hw _ (ix4 b h q s) = _
  unfold Host.reduceWindow
  refine (foldl_add _ _ _).trans ?_
  rw [← Fin.sum_univ_def]
  rw [h0, zero_add]
  refine (Finset.sum_congr rfl fun n _ => position_eq x b h s q f hx _ rfl ((win N).rowMajor.symm n) _ fun a => rfl).trans ?_
  exact (Equiv.sum_comp (win N).rowMajor.symm (fun i : (win N).Idx => if s.val + (i 3).val < N then f (s.val + (i 3).val) else 0)).trans
    ((Equiv.sum_comp (winEquiv N) (fun k : Fin N => if s.val + k.val < N then f (s.val + k.val) else 0)).trans (sum_window s.val f))

end Window

/-! ## The reference, named piece by piece -/

section Pieces

variable (q k v : FVec Ideal S2x4112x16x128 .f32) (w : FVec Ideal S16 .f32)

/-- The zero of the softplus, as an array. -/
def zeros : FVec Ideal S2x16x4112x4112 .f32 := broadcastInDim S2x16x4112x4112 ![] bcast_S_S2x16x4112x4112 (constant S_ .f32 0x00000000#32)

/-- The logits. -/
def logits : FVec Ideal S2x16x4112x4112 .f32 :=
  addf (mulf (Host.dotGeneral dot_S2x4112x16x128_S2x4112x16x128_S2x16x4112x4112_3_3_1_1_02_02 none q k)
      (broadcastInDim S2x16x4112x4112 ![] bcast_S_S2x16x4112x4112 (constant S_ .f32 0x3DB504F3#32)))
    (broadcastInDim S2x16x4112x4112 ![0, 1, 2, 3] bcast_S1x16x1x1_S2x16x4112x4112_0_1_2_3 (broadcastInDim S1x16x1x1 ![1] bcast_S16_S1x16x1x1_1 w))

/-- The softplus of an array. -/
def softplus (x : FVec Ideal S2x16x4112x4112 .f32) : FVec Ideal S2x16x4112x4112 .f32 :=
  select (cmpf .une (subf x zeros) (subf x zeros)) (addf x zeros)
    (addf (maximumf x zeros) (Host.log1p (Host.exp (Host.negf (Host.absf (subf x zeros))))))

/-- The keys before the query. -/
def mask : IVec S4112x4112 1 :=
  cmpi .slt (broadcastInDim S4112x4112 ![0, 1] bcast_S1x4112_S4112x4112_0_1 (broadcastInDim S1x4112 ![1] bcast_S4112_S1x4112_1 (iotaInDim S4112 32 0)))
    (broadcastInDim S4112x4112 ![0, 1] bcast_S4112x1_S4112x4112_0_1 (broadcastInDim S4112x1 ![0] bcast_S4112_S4112x1_0 (iotaInDim S4112 32 0)))

/-- An array zero outside the mask. -/
def masked (x : FVec Ideal S2x16x4112x4112 .f32) : FVec Ideal S2x16x4112x4112 .f32 :=
  select (broadcastInDim S2x16x4112x4112 ![2, 3] bcast_S4112x4112_S2x16x4112x4112_2_3 mask) x
    (broadcastInDim S2x16x4112x4112 ![] bcast_S_S2x16x4112x4112 (id (constant S_ .f32 0x00000000#32)))

/-- What a key leaves to the keys before it, as a logarithm. -/
def rest (z : FVec Ideal S2x16x4112x4112 .f32) : FVec Ideal S2x16x4112x4112 .f32 := masked (Host.negf (softplus (Host.negf (Host.negf z))))

/-- The sums over the later keys. -/
def suffix (x : FVec Ideal S2x16x4112x4112 .f32) : FVec Ideal S2x16x4112x4112 .f32 :=
  Host.reduceWindowAdd ![1, 1, 1, 4112] ![1, 1, 1, 1] ![0, 0, 0, 0] ![0, 0, 0, 4111] x (broadcastInDim S_ ![] bcast_S_S_ (constant S_ .f32 0x00000000#32))
    reduceWindows_S2x16x4112x4112_S2x16x4112x4112_w1s1p0_0_w1s1p0_0_w1s1p0_0_w4112s1p0_4111 h_S_

/-- The weights. -/
def weights (z : FVec Ideal S2x16x4112x4112 .f32) : FVec Ideal S2x16x4112x4112 .f32 :=
  masked (Host.exp (addf (Host.negf (softplus (Host.negf z))) (subf (suffix (rest z)) (rest z))))

/-- The attention of every head. -/
def heads (a : FVec Ideal S2x16x4112x4112 .f32) : FVec Ideal S2x16x128x4112 .f32 :=
  Host.dotGeneral dot_S2x4112x16x128_S2x16x4112x4112_S2x16x128x4112_1_3_3_2_02_01 none v a

/-- The heads side by side, rows of zeros below. -/
def layout (y : FVec Ideal S2x16x128x4112 .f32) : FVec Ideal S2x4352x2048 .bf16 :=
  truncf .bf16 (shapeCast S2x4352x2048 (pad S2x4352x16x128 ![0, 0, 0, 0] ![0, 240, 0, 0] ![0, 0, 0, 0] (transpose S2x4112x16x128 [0, 3, 1, 2] y transposes_S2x16x128x4112_S2x4112x16x128_0_3_1_2)
    (sitofp .f32 (constantI S_ 32 0#32)) pads_S2x4112x16x128_S2x4352x16x128_000_02400_000_000 h_S_) shapeCasts_S2x4352x16x128_S2x4352x2048) bitsLt_bf16_f32

end Pieces

variable (m : (ℓ : Loc nD τ sig) → Buf (Elt Ideal) ℓ) (c : Dev nD)

theorem res_eq : res_main_v25 m c = layout (heads (m ((c.tc : Thread nD τ).loc main_arg2)) (weights (logits (m ((c.tc : Thread nD τ).loc main_arg0)) (m ((c.tc : Thread nD τ).loc main_arg1)) (m ((c.tc : Thread nD τ).loc main_arg3))))) := by
  unfold res_main_v25
  rfl

/-! ## The pieces at an index -/

section At

variable (q k v : FVec Ideal S2x4112x16x128 .f32) (w : FVec Ideal S16 .f32)

theorem headScale_eq : Ideal.ofBits .f32 0x3DB504F3#32 = headScale := by
  unfold headScale
  simp [Ideal.ofBits, Ideal.ieee, -EReal.coe_mul]
  norm_num

theorem logits_at (b : Fin 2) (h : Fin 16) (p j : Fin 4112) :
    (logits q k w (ix4 b h p j) : EReal) = (∑ d : Fin 128, (q (ix4 b p h d) : EReal) * k (ix4 b j h d)) * headScale + w (ix1 h) := by
  pointwise [logits]
  rw [headScale_eq]

theorem softplus_at (x : FVec Ideal S2x16x4112x4112 .f32) (i : S2x16x4112x4112.Idx) : (softplus x i : EReal) = sp (x i) := by
  pointwise [softplus, zeros]
  exact if_neg fun h => h rfl

theorem masked_at (x : FVec Ideal S2x16x4112x4112 .f32) (b : Fin 2) (h : Fin 16) (p j : Fin 4112) :
    (masked x (ix4 b h p j) : EReal) = if j.val < p.val then (x (ix4 b h p j) : EReal) else 0 := by
  pointwise [masked, mask]
  have hj := j.isLt
  have hp := p.isLt
  have hc := WordCmp.cmpi_slt_ofNat_eq_one_iff (w := 32) (a := j.val) (b := p.val) (by omega) (by omega)
  unfold Scalar.select
  by_cases h : j.val < p.val
  · rw [if_pos h]
    exact if_pos (hc.mpr h)
  · rw [if_neg h]
    exact (if_neg (fun e => h (hc.mp e))).trans Ideal.ofBits_zero_f32

theorem rest_at (z : FVec Ideal S2x16x4112x4112 .f32) (b : Fin 2) (h : Fin 16) (p j : Fin 4112) :
    (rest z (ix4 b h p j) : EReal) = if j.val < p.val then -sp (z (ix4 b h p j)) else 0 := by
  have e : (Host.negf (softplus (Host.negf (Host.negf z))) (ix4 b h p j) : EReal) = -sp (z (ix4 b h p j)) := by
    show -(softplus (Host.negf (Host.negf z)) (ix4 b h p j) : EReal) = _
    rw [softplus_at]
    exact congrArg (fun x => -sp x) (neg_neg (z (ix4 b h p j) : EReal))
  unfold rest
  rw [masked_at, e]

theorem suffix_at (x : FVec Ideal S2x16x4112x4112 .f32) (b : Fin 2) (h : Fin 16) (p s : Fin 4112) (f : ℕ → EReal)
    (hx : ∀ j : Fin 4112, (x (ix4 b h p j) : EReal) = f j.val) : (suffix x (ix4 b h p s) : EReal) = ∑ j ∈ Finset.Ico s.val 4112, f j :=
  window_eq x _ (fun _ => Ideal.ofBits_zero_f32) _ _ _ b h p s f hx

theorem weights_at (z : FVec Ideal S2x16x4112x4112 .f32) (b : Fin 2) (h : Fin 16) (p s : Fin 4112) (Z : ℕ → EReal)
    (hz : ∀ j : Fin 4112, (z (ix4 b h p j) : EReal) = Z j.val) :
    (weights z (ix4 b h p s) : EReal) = if s.val < p.val then Ideal.exp (-sp (-Z s.val) + ((∑ j ∈ Finset.Ico s.val 4112, if j < p.val then -sp (Z j) else 0) - if s.val < p.val then -sp (Z s.val) else 0)) else 0 := by
  have hr : ∀ j : Fin 4112, (rest z (ix4 b h p j) : EReal) = if j.val < p.val then -sp (Z j.val) else 0 := by
    intro j
    rw [rest_at, hz]
  have e : (Host.exp (addf (Host.negf (softplus (Host.negf z))) (subf (suffix (rest z)) (rest z))) (ix4 b h p s) : EReal)
      = Ideal.exp (-sp (-Z s.val) + ((∑ j ∈ Finset.Ico s.val 4112, if j < p.val then -sp (Z j) else 0) - if s.val < p.val then -sp (Z s.val) else 0)) := by
    show Ideal.exp (-(softplus (Host.negf z) (ix4 b h p s) : EReal) + ((suffix (rest z) (ix4 b h p s) : EReal) - (rest z (ix4 b h p s) : EReal))) = _
    rw [softplus_at, suffix_at (rest z) b h p s (fun j => if j < p.val then -sp (Z j) else 0) hr, hr]
    exact congrArg (fun x : EReal => Ideal.exp (-sp (-x) + _)) (hz s)
  unfold weights
  rw [masked_at, e]

theorem heads_at (a : FVec Ideal S2x16x4112x4112 .f32) (b : Fin 2) (h : Fin 16) (d : Fin 128) (p : Fin 4112) :
    (heads v a (ix4 b h d p) : EReal) = ∑ s : Fin 4112, (v (ix4 b s h d) : EReal) * a (ix4 b h p s) := by
  pointwise [heads]

theorem pad_at (f : Fin 16 → Fin 128 → Fin 4112 → EReal) (p h d : ℕ) (h1 : h < 16) (h2 : d < 128) (z : EReal) (hz : z = 0) :
    (if e : p < 4112 ∧ h < 16 ∧ d < 128 then f ⟨h, e.2.1⟩ ⟨d, e.2.2⟩ ⟨p, e.1⟩ else z) = if e : p < 4112 then f ⟨h, h1⟩ ⟨d, h2⟩ ⟨p, e⟩ else 0 := by
  by_cases hp : p < 4112
  · rw [dif_pos hp, dif_pos ⟨hp, h1, h2⟩]
  · rw [dif_neg hp, dif_neg fun e => hp e.1, hz]

theorem layout_at (y : FVec Ideal S2x16x128x4112 .f32) (b : Fin 2) (p : Fin 4352) (n : Fin 2048) :
    (layout y (ix3 b p n) : EReal) = if hp : p.val < 4112 then (y (ix4 b ⟨n.val / 128, by omega⟩ ⟨n.val % 128, by omega⟩ ⟨p.val, hp⟩) : EReal) else 0 := by
  pointwise [layout]
  exact pad_at (fun h d r => (y (ix4 b h d r) : EReal)) p.val (n.val / 128) (n.val % 128) (by omega) (by omega) _ Host.zero_word

theorem value_at (b : Fin 2) (p : Fin 4352) (n : Fin 2048) :
    (layout (heads v (weights (logits q k w))) (ix3 b p n) : EReal) = Final.outAt q k v w b p.val n.val := by
  refine (layout_at _ b p n).trans ?_
  unfold Final.outAt
  by_cases hp : p.val < 4112
  · rw [dif_pos hp, if_pos hp, heads_at]
    have hn : n.val / 128 < 16 := by omega
    have hh : n.val / 128 % 16 = n.val / 128 := Nat.mod_eq_of_lt hn
    have hz : ∀ j : Fin 4112, (logits q k w (ix4 b ⟨n.val / 128, hn⟩ ⟨p.val, hp⟩ j) : EReal) = Final.zRow q k w b (n.val / 128) p.val j.val := by
      intro j
      rw [logits_at]
      unfold Final.zRow
      refine congrArg₂ (· + ·) (congrArg (· * headScale) (Finset.sum_congr rfl fun d _ => ?_)) (congrArg w (congrArg ix1 (Fin.ext hh.symm)))
      have hd := d.isLt
      have hc : ∀ (A : S2x4112x16x128.Idx → EReal) (r : Fin 4112), A (ix4 b r ⟨n.val / 128, hn⟩ d) = Host.padRow A b r.val (128 * (n.val / 128) + d.val) := by
        intro A r
        unfold Host.padRow
        rw [dif_pos r.isLt]
        have e1 : (128 * (n.val / 128) + d.val) / 128 % 16 = n.val / 128 := by omega
        have e2 : (128 * (n.val / 128) + d.val) % 128 = d.val := by omega
        exact congrArg A (congrArg₂ (fun x y => ix4 b r x y) (Fin.ext e1.symm) (Fin.ext e2.symm))
      exact congrArg₂ (· * ·) (hc q ⟨p.val, hp⟩) (hc k j)
    have hw : ∀ s : Fin 4112, (v (ix4 b s ⟨n.val / 128, hn⟩ ⟨n.val % 128, by omega⟩) : EReal) = Host.padRow v b s.val n.val := by
      intro s
      unfold Host.padRow
      rw [dif_pos s.isLt]
      exact congrArg v (congrArg (fun x => ix4 b s x ⟨n.val % 128, by omega⟩) (Fin.ext hh.symm))
    rw [← sums_eq (Final.zRow q k w b (n.val / 128) p.val) (fun j => Host.padRow v b j n.val) p.val 4112 hp.le,
      ← Fin.sum_univ_eq_sum_range (fun s => Host.padRow v b s n.val * (if s < p.val then Ideal.exp (-sp (-Final.zRow q k w b (n.val / 128) p.val s) + ((∑ j ∈ Finset.Ico s 4112, if j < p.val then -sp (Final.zRow q k w b (n.val / 128) p.val j) else 0) - if s < p.val then -sp (Final.zRow q k w b (n.val / 128) p.val s) else 0)) else 0))]
    refine Finset.sum_congr rfl fun s _ => ?_
    exact congrArg₂ (· * ·) (hw s) (weights_at _ b _ _ s _ hz)
  · rw [dif_neg hp, if_neg hp]

/-- The reference's result: the attention of the arguments. -/
theorem value_eq : (layout (heads v (weights (logits q k w))) : S2x4352x2048.Idx → EReal) = Final.outArr q k v w := by
  funext i
  have hi : i = ix3 (i 0) (i 1) (i 2) := by
    funext a
    match a with
    | ⟨0, _⟩ => rfl
    | ⟨1, _⟩ => rfl
    | ⟨2, _⟩ => rfl
  rw [hi]
  exact value_at q k v w (i 0) (i 1) (i 2)

end At

end Cert.Proof.Ref
-- ==== Proof.Rows.lean ====
module

public import Idealize.ShloMosaic.Lib.Pipeline.ValueKit

@[expose] public section

noncomputable section

namespace Cert.Proof.Rows

open Idealize.ShloMosaic Idealize.ShloMosaic.TcCoe

/-! ## The padded rows of two sequences, one below the other -/

/-- Element `n` of row `r` of the 2 × 4352 rows that hold the 4112 rows of each of two sequences: zero from row 4112 of a sequence on. -/
def padRows {N : ℕ} (A : (⟨3, ![2, 4112, N]⟩ : Shape).Idx → EReal) (r : ℕ) (n : Fin N) : EReal :=
  if h : r % 4352 < 4112 then A (ix3 ⟨r / 4352 % 2, Nat.mod_lt _ (by decide)⟩ ⟨r % 4352, h⟩ n) else 0

theorem zero_word : FloatOps.sitofp (F := Ideal) .f32 0#32 = (0 : EReal) := by
  show (((0#32).toInt : ℝ) : EReal) = 0
  rw [BitVec.toInt_zero, Int.cast_zero]
  rfl

theorem padRows_real {N : ℕ} (A : (⟨3, ![2, 4112, N]⟩ : Shape).Idx → EReal) (r : Fin 8704) (n : Fin N) (h : r.val / 4352 < 2 ∧ r.val % 4352 < 4112) :
    padRows A r.val n = A (ix3 ⟨r.val / 4352, h.1⟩ ⟨r.val % 4352, h.2⟩ n) := by
  unfold padRows
  rw [dif_pos h.2]
  exact congrArg (fun b => A (ix3 b _ n)) (Fin.ext (Nat.mod_eq_of_lt h.1))

theorem padRows_zero {N : ℕ} (A : (⟨3, ![2, 4112, N]⟩ : Shape).Idx → EReal) (r : Fin 8704) (n : Fin N) (h : ¬(r.val / 4352 < 2 ∧ r.val % 4352 < 4112)) :
    padRows A r.val n = 0 := by
  unfold padRows
  have := r.isLt
  rw [dif_neg fun h' => h ⟨by omega, h'⟩]

/-- The element of a row of the padded and reshaped array. -/
theorem padRows_of {N : ℕ} (A : (⟨3, ![2, 4112, N]⟩ : Shape).Idx → EReal) (r : Fin 8704) (n : Fin N) (z : EReal) (hz : z = 0)
    {inst : Decidable (r.val / 4352 < 2 ∧ r.val % 4352 < 4112)} :
    (if h : r.val / 4352 < 2 ∧ r.val % 4352 < 4112 then A (ix3 ⟨r.val / 4352, h.1⟩ ⟨r.val % 4352, h.2⟩ n) else z) = padRows A r.val n := by
  by_cases h : r.val / 4352 < 2 ∧ r.val % 4352 < 4112
  · rw [dif_pos h, padRows_real A r n h]
  · rw [dif_neg h, padRows_zero A r n h, hz]

end Cert.Proof.Rows
-- ==== Proof.GateTile.lean ====
module

public import proofs.«01_k».proof.Proof.Rows
public import proofs.«01_k».proof.Proof.Gen.Kernel2Ideal.Value
public import Idealize.ShloMosaic.Lib.StableHlo.ReadAt
public import Idealize.ShloMosaic.Lib.Pipeline.ValueKit
public import Idealize.ShloMosaic.Lib.WholeRead

@[expose] public section

set_option maxRecDepth 16384

noncomputable section

namespace Cert.Proof.GateTile

open Cert.Kernel2Ideal Cert.Kernel2Ideal.Gen Idealize.ShloMosaic Idealize.ShloMosaic.TcCoe Idealize.SL.Sem

/-! ## The stored values at an index -/

/-- The gated value: `c` times its logistic function, times `u`. -/
def gated (c u : EReal) : EReal := c * Ideal.logistic c * u

/-- Element `n` of a normalised row: the row's element over the root of the mean of the squares, scaled. -/
def normed (x g : Fin 2048 → EReal) (n : Fin 2048) : EReal :=
  x n * Ideal.rsqrt (Ideal.div (∑ k, x k * x k) (Ideal.ofBits FTy.f32 1157627904#32) + Ideal.ofBits FTy.f32 897988541#32) * g n

theorem normed_zero (x g : Fin 2048 → EReal) (n : Fin 2048) (h : x n = 0) : normed x g n = 0 := by
  unfold normed
  rw [h, zero_mul, zero_mul]

theorem pay6_at (a : S16x2048.Idx → EReal) (w : S2048x512.Idx → EReal) (r : Fin 8) (n : Fin 512) :
    (k0_pay6 (F := Ideal) a w : S8x512.Idx → EReal) (ix2 r n) = ∑ k : Fin 2048, a (ix2 ⟨r.val, by omega⟩ k) * w (ix2 k n) := by
  pointwise [k0_pay6]

theorem pay7_at (a : S272x2048.Idx → EReal) (w : S2048x512.Idx → EReal) (r : Fin 272) (n : Fin 512) :
    (k0_pay7 (F := Ideal) a w : S272x512.Idx → EReal) (ix2 r n) = ∑ k : Fin 2048, a (ix2 r k) * w (ix2 k n) := by
  pointwise [k0_pay7]

theorem pay9_at (a : S272x2048.Idx → EReal) (w : S2048x512.Idx → EReal) (r : Fin 272) (n : Fin 512) :
    (k0_pay9 (F := Ideal) a w : S272x512.Idx → EReal) (ix2 r n) = ∑ k : Fin 2048, a (ix2 r k) * w (ix2 k n) := by
  pointwise [k0_pay9, k0_pay7]

theorem pay10_at (g : S272x512.Idx → EReal) (w : S1x512.Idx → EReal) (r : Fin 272) (n : Fin 512) :
    (k0_pay10 (F := Ideal) g w : S272x512.Idx → EReal) (ix2 r n) = w (ix2 0 n) * g (ix2 r n) := by
  pointwise [k0_pay10]

theorem pay11_at (g u g1 t : S272x512.Idx → EReal) (w1 w2 b : S1x512.Idx → EReal) (r : Fin 272) (n : Fin 512) :
    (k0_pay11 (F := Ideal) g u g1 t w1 w2 b : S272x512.Idx → EReal) (ix2 r n)
      = gated (t (ix2 r n) + w1 (ix2 0 n) * g1 (ix2 r n) + w2 (ix2 0 n) * g (ix2 r n) + b (ix2 0 n)) (u (ix2 r n)) := by
  pointwise [k0_pay11]
  rfl

theorem pay2_at (g : S272x512.Idx → EReal) (s : Fin 8) (n : Fin 512) :
    (k0_pay2 (F := Ideal) g : S1x8x512.Idx → EReal) (ix3 0 s n) = g (ix2 ⟨24 + s.val, by omega⟩ n) := by
  pointwise [k0_pay2]

theorem pay3_at (x : S1088x2048.Idx → EReal) (g : S1x2048.Idx → EReal) (r : Fin 1088) (n : Fin 2048) :
    (k0_pay3 (F := Ideal) x g : S1088x2048.Idx → EReal) (ix2 r n) = normed (fun k => x (ix2 r k)) (fun k => g (ix2 0 k)) n := by
  pointwise [k0_pay3]
  rfl

theorem pay4_at (x : S8x2048.Idx → EReal) (g : S1x2048.Idx → EReal) (r : Fin 8) (n : Fin 2048) :
    (k0_pay4 (F := Ideal) x g : S8x2048.Idx → EReal) (ix2 r n) = normed (fun k => x (ix2 r k)) (fun k => g (ix2 0 k)) n := by
  pointwise [k0_pay4]
  rfl

/-- The condition under which the rows above a tile are taken as zero. -/
def startOf (p q z : BitVec 32) : BitVec 1 :=
  Scalar.cmpi CmpIPredicate.eq (Scalar.select (Scalar.andi (Scalar.xori (Scalar.cmpi CmpIPredicate.slt q 0#32) (Scalar.cmpi CmpIPredicate.slt p 0#32))
    (Scalar.cmpi CmpIPredicate.ne q z)) (Scalar.addi q p) q) 0#32

theorem pay5_at (v : S8x2048.Idx → EReal) (p q z : BitVec 32) (r : Fin 8) (n : Fin 2048) :
    (k0_pay5 (F := Ideal) v p q z : S16x2048.Idx → EReal) (ix2 ⟨r.val, by omega⟩ n) = Scalar.select (startOf p q z) 0 (v (ix2 r n)) := by
  pointwise [k0_pay5]
  rfl

/-! ## The gate rows of a tile, after the eight rows above it -/

section Tile

variable (h : S1088x2048.Idx → EReal) (hp : S16x2048.Idx → EReal) (wg wu : S2048x512.Idx → EReal) (wc : S8x512.Idx → EReal) (b : S1x512.Idx → EReal)

/-- Row `p` of the eight rows above the tile and the tile's rows. -/
def hrow (p : ℕ) (k : Fin 2048) : EReal :=
  if h8 : p < 8 then hp (ix2 ⟨p, by omega⟩ k) else if ht : p - 8 < 1088 then h (ix2 ⟨p - 8, ht⟩ k) else 0

/-- The gate's row `p`, counted from eight rows above the tile. -/
def gs (p : ℕ) (n : Fin 512) : EReal := ∑ k : Fin 2048, hrow h hp p k * wg (ix2 k n)

/-- What the tile's output holds. -/
def actAt (r : ℕ) (n : Fin 512) : EReal :=
  gated (wc (ix2 0 n) * gs h hp wg (r + 6) n + wc (ix2 1 n) * gs h hp wg (r + 7) n + wc (ix2 2 n) * gs h hp wg (r + 8) n + b (ix2 0 n))
    (∑ k : Fin 2048, hrow h hp (r + 8) k * wu (ix2 k n))

theorem hrow_above (r : Fin 8) (k : Fin 2048) : hrow h hp r.val k = hp (ix2 ⟨r.val, by omega⟩ k) := dif_pos r.isLt

theorem hrow_tile (R : ℕ) (r : Fin 272) (hR : R + 272 ≤ 1088) (k : Fin 2048) : hrow h hp (R + r.val + 8) k = h (ix2 ⟨R + r.val, by omega⟩ k) := by
  unfold hrow
  rw [dif_neg (by omega)]
  exact (dif_pos (by omega)).trans (congrArg (fun x => h (ix2 x k)) (Fin.ext (show R + r.val + 8 - 8 = R + r.val by omega)))

/-- Every piece holds the gate's rows, and the pieces hold the rows before `top`. -/
def Held (L : List (View.Piece (Elt Ideal) S1096x512 .f32)) (top : ℕ) : Prop :=
  (∀ p ∈ L, ∀ x, p.2 x = gs h hp wg ((p.1.emb x) 0).val ((p.1.emb x) 1)) ∧ ∀ y : S1096x512.Idx, (y 0).val < top → ∃ p ∈ L, y ∈ p.1.set

theorem held_nil : Held h hp wg [] 0 :=
  ⟨fun _ hp => absurd hp List.not_mem_nil, fun _ hy => absurd hy (Nat.not_lt_zero _)⟩

theorem held_cons (L : List (View.Piece (Elt Ideal) S1096x512 .f32)) (o K top : ℕ) {inb : ∀ a : Fin 2, (![o, 0] : Fin 2 → ℕ) a + (⟨2, ![K, 512]⟩ : Shape).size a ≤ S1096x512.size a}
    (w : (⟨2, ![K, 512]⟩ : Shape).Idx → EReal) (hL : Held h hp wg L o) (hw : ∀ (r : Fin K) (n : Fin 512), w (ix2 r n) = gs h hp wg (o + r.val) n) (ht : top = o + K) :
    Held h hp wg ((⟨Rect.unit (s := S1096x512) ![o, 0] (⟨2, ![K, 512]⟩ : Shape).size inb, w⟩ : View.Piece (Elt Ideal) S1096x512 .f32) :: L) top := by
  subst ht
  refine ⟨fun p hp x => ?_, fun y hy => ?_⟩
  · rcases List.mem_cons.mp hp with rfl | hp
    · have hx : (x : (⟨2, ![K, 512]⟩ : Shape).Idx) = ix2 (x 0) (x 1) := by
        funext a
        match a with
        | ⟨0, _⟩ => rfl
        | ⟨1, _⟩ => rfl
      refine (congrArg w hx).trans ((hw _ _).trans ?_)
      refine congrArg₂ (gs h _ wg) ?_ (Fin.ext ?_)
      · show o + (x 0).val = o + 1 * (x 0).val
        omega
      · show (x 1).val = 0 + 1 * (x 1).val
        omega
    · exact hL.1 p hp x
  · by_cases hlt : (y 0).val < o
    · obtain ⟨p, hp, hm⟩ := hL.2 y hlt
      exact ⟨p, List.mem_cons_of_mem _ hp, hm⟩
    · refine ⟨_, List.mem_cons_self, (Rect.mem_set_unit (s := S1096x512) (inb := inb)).mpr fun a => ?_⟩
      match a with
      | ⟨0, _⟩ =>
        show o ≤ (y 0).val ∧ (y 0).val < o + K
        omega
      | ⟨1, _⟩ =>
        have h1 : (y 1).val < 512 := (y 1).isLt
        show 0 ≤ (y 1).val ∧ (y 1).val < 0 + 512
        omega

theorem held_load (v : View sig .tc .vmem S1096x512 .f32) (L : List (View.Piece (Elt Ideal) S1096x512 .f32)) (o top : ℕ)
    {inb : ∀ a : Fin 2, (![o, 0] : Fin 2 → ℕ) a + S272x512.size a ≤ S1096x512.size a} (hL : Held h hp wg L top) (ht : o + 272 ≤ top) (r : Fin 272) (n : Fin 512) :
    (v.readCov L (Rect.unit (s := S1096x512) ![o, 0] S272x512.size inb).toLoadRect : S272x512.Idx → EReal) (ix2 r n) = gs h hp wg (o + r.val) n := by
  rw [View.readCov_eq_canon']
  refine (View.canon_apply_of_pieces (Val := Elt Ideal) (S := S1096x512) (e := .f32) (fun y : S1096x512.Idx => gs h hp wg (y 0).val (y 1)) L hL.1 _
    (hL.2 _ ?_)).trans ?_
  · show o + 1 * r.val < top
    omega
  · refine congrArg₂ (gs h hp wg) ?_ (Fin.ext ?_)
    · show o + 1 * r.val = o + r.val
      omega
    · show 0 + 1 * n.val = n.val
      omega

/-! ## The pieces of the output -/

variable (v : View sig .tc .vmem S1096x512 .f32) (h0 h1 h2 h3 : S272x2048.Idx → EReal) (hq : S16x2048.Idx → EReal) (lg lu : S2048x512.Idx → EReal)
  (w0 w1 w2 lb : S1x512.Idx → EReal)

abbrev rows2 : List (View.Piece (Elt Ideal) S1096x512 .f32) :=
  [⟨Rect.unit ![8, 0] S272x512.size inb_S1096x512_S272x512_8_0, k0_pay9 (F := Ideal) h0 lg⟩,
    ⟨Rect.unit ![0, 0] S8x512.size inb_S1096x512_S8x512_0_0, k0_pay6 (F := Ideal) hq lg⟩]

abbrev rows3 : List (View.Piece (Elt Ideal) S1096x512 .f32) :=
  ⟨Rect.unit ![280, 0] S272x512.size inb_S1096x512_S272x512_280_0, k0_pay14 (F := Ideal) h1 lg⟩ :: rows2 h0 hq lg

abbrev rows4 : List (View.Piece (Elt Ideal) S1096x512 .f32) :=
  ⟨Rect.unit ![552, 0] S272x512.size inb_S1096x512_S272x512_552_0, k0_pay19 (F := Ideal) h2 lg⟩ :: rows3 h0 h1 hq lg

abbrev rows5 : List (View.Piece (Elt Ideal) S1096x512 .f32) :=
  ⟨Rect.unit ![824, 0] S272x512.size inb_S1096x512_S272x512_824_0, k0_pay24 (F := Ideal) h3 lg⟩ :: rows4 h0 h1 h2 hq lg

/-- The output's pieces from the loads of the normalised rows, the weights and the taps. -/
abbrev actPieces : List (View.Piece (Elt Ideal) S1088x512 .bf16) :=
  [⟨Rect.unit ![816, 0] S272x512.size inb_S1088x512_S272x512_816_0,
      k0_pay1 (F := Ideal) (k0_pay22 (F := Ideal) h3 lg) (k0_pay23 (F := Ideal) h3 lu)
        (v.readCov (rows5 h0 h1 h2 h3 hq lg) (Rect.unit (s := S1096x512) ![823, 0] S272x512.size inb_S1096x512_S272x512_823_0).toLoadRect)
        (k0_pay25 (F := Ideal) (v.readCov (rows5 h0 h1 h2 h3 hq lg) (Rect.unit (s := S1096x512) ![822, 0] S272x512.size inb_S1096x512_S272x512_822_0).toLoadRect) w0) w1 w2 lb⟩,
    ⟨Rect.unit ![544, 0] S272x512.size inb_S1088x512_S272x512_544_0,
      k0_pay21 (F := Ideal) (k0_pay17 (F := Ideal) h2 lg) (k0_pay18 (F := Ideal) h2 lu)
        (v.readCov (rows4 h0 h1 h2 hq lg) (Rect.unit (s := S1096x512) ![551, 0] S272x512.size inb_S1096x512_S272x512_551_0).toLoadRect)
        (k0_pay20 (F := Ideal) (v.readCov (rows4 h0 h1 h2 hq lg) (Rect.unit (s := S1096x512) ![550, 0] S272x512.size inb_S1096x512_S272x512_550_0).toLoadRect) w0) w1 w2 lb⟩,
    ⟨Rect.unit ![272, 0] S272x512.size inb_S1088x512_S272x512_272_0,
      k0_pay16 (F := Ideal) (k0_pay12 (F := Ideal) h1 lg) (k0_pay13 (F := Ideal) h1 lu)
        (v.readCov (rows3 h0 h1 hq lg) (Rect.unit (s := S1096x512) ![279, 0] S272x512.size inb_S1096x512_S272x512_279_0).toLoadRect)
        (k0_pay15 (F := Ideal) (v.readCov (rows3 h0 h1 hq lg) (Rect.unit (s := S1096x512) ![278, 0] S272x512.size inb_S1096x512_S272x512_278_0).toLoadRect) w0) w1 w2 lb⟩,
    ⟨Rect.unit ![0, 0] S272x512.size inb_S1088x512_S272x512_0_0,
      k0_pay11 (F := Ideal) (k0_pay7 (F := Ideal) h0 lg) (k0_pay8 (F := Ideal) h0 lu)
        (v.readCov (rows2 h0 hq lg) (Rect.unit (s := S1096x512) ![7, 0] S272x512.size inb_S1096x512_S272x512_7_0).toLoadRect)
        (k0_pay10 (F := Ideal) (v.readCov (rows2 h0 hq lg) (Rect.unit (s := S1096x512) ![6, 0] S272x512.size inb_S1096x512_S272x512_6_0).toLoadRect) w0) w1 w2 lb⟩]

/-- The loads hold the rows of the arrays. -/
structure Loads : Prop where
  h0 : ∀ r k, h0 (ix2 r k) = h (ix2 ⟨0 + r.val, by omega⟩ k)
  h1 : ∀ r k, h1 (ix2 r k) = h (ix2 ⟨272 + r.val, by omega⟩ k)
  h2 : ∀ r k, h2 (ix2 r k) = h (ix2 ⟨544 + r.val, by omega⟩ k)
  h3 : ∀ r k, h3 (ix2 r k) = h (ix2 ⟨816 + r.val, by omega⟩ k)
  hq : ∀ r k, hq (ix2 r k) = hp (ix2 r k)
  lg : ∀ k n, lg (ix2 k n) = wg (ix2 k n)
  lu : ∀ k n, lu (ix2 k n) = wu (ix2 k n)
  w0 : ∀ n, w0 (ix2 0 n) = wc (ix2 0 n)
  w1 : ∀ n, w1 (ix2 0 n) = wc (ix2 1 n)
  w2 : ∀ n, w2 (ix2 0 n) = wc (ix2 2 n)
  lb : ∀ n, lb (ix2 0 n) = b (ix2 0 n)

variable {h hp wg wu wc b h0 h1 h2 h3 hq lg lu w0 w1 w2 lb}

/-- The gate rows a chunk computes are the tile's. -/
theorem gate_chunk (f : (S272x2048.Idx → EReal) → (S2048x512.Idx → EReal) → S272x512.Idx → EReal)
    (hf : ∀ a w r n, f a w (ix2 r n) = ∑ k : Fin 2048, a (ix2 r k) * w (ix2 k n)) (R : ℕ) (hR : R + 272 ≤ 1088) (a : S272x2048.Idx → EReal)
    (ha : ∀ (r : Fin 272) k, a (ix2 r k) = h (ix2 ⟨R + r.val, by omega⟩ k)) (w l : S2048x512.Idx → EReal) (hl : ∀ k n, l (ix2 k n) = w (ix2 k n)) (r : Fin 272) (n : Fin 512) :
    f a l (ix2 r n) = ∑ k : Fin 2048, hrow h hp (R + r.val + 8) k * w (ix2 k n) := by
  rw [hf]
  refine Finset.sum_congr rfl fun k _ => ?_
  rw [hl, ha, hrow_tile h hp R r hR k]

theorem held2 (L : Loads h hp wg wu wc b h0 h1 h2 h3 hq lg lu w0 w1 w2 lb) : Held h hp wg (rows2 h0 hq lg) 280 := by
  refine held_cons h hp wg _ 8 272 280 _ (held_cons h hp wg _ 0 8 8 _ (held_nil h hp wg) (fun r n => ?_) rfl) (fun r n => ?_) rfl
  · refine (pay6_at _ _ r n).trans (Finset.sum_congr rfl fun k _ => ?_)
    rw [L.hq, L.lg, Nat.zero_add, hrow_above]
  · refine (gate_chunk (hp := hp) _ pay9_at 0 (by decide) h0 L.h0 wg lg L.lg r n).trans ?_
    exact congrArg (fun p => gs h hp wg p n) (show 0 + r.val + 8 = 8 + r.val by omega)

theorem held3 (L : Loads h hp wg wu wc b h0 h1 h2 h3 hq lg lu w0 w1 w2 lb) : Held h hp wg (rows3 h0 h1 hq lg) 552 :=
  held_cons h hp wg _ 280 272 552 _ (held2 L) (fun r n => (gate_chunk (hp := hp) _ pay9_at 272 (by decide) h1 L.h1 wg lg L.lg r n).trans
    (congrArg (fun p => gs h hp wg p n) (show 272 + r.val + 8 = 280 + r.val by omega))) rfl

theorem held4 (L : Loads h hp wg wu wc b h0 h1 h2 h3 hq lg lu w0 w1 w2 lb) : Held h hp wg (rows4 h0 h1 h2 hq lg) 824 :=
  held_cons h hp wg _ 552 272 824 _ (held3 L) (fun r n => (gate_chunk (hp := hp) _ pay9_at 544 (by decide) h2 L.h2 wg lg L.lg r n).trans
    (congrArg (fun p => gs h hp wg p n) (show 544 + r.val + 8 = 552 + r.val by omega))) rfl

theorem held5 (L : Loads h hp wg wu wc b h0 h1 h2 h3 hq lg lu w0 w1 w2 lb) : Held h hp wg (rows5 h0 h1 h2 h3 hq lg) 1096 :=
  held_cons h hp wg _ 824 272 1096 _ (held4 L) (fun r n => (gate_chunk (hp := hp) _ pay9_at 816 (by decide) h3 L.h3 wg lg L.lg r n).trans
    (congrArg (fun p => gs h hp wg p n) (show 816 + r.val + 8 = 824 + r.val by omega))) rfl

/-- The output rows of a chunk are the tile's. -/
theorem act_rows (R : ℕ) (g u g1 g2 : S272x512.Idx → EReal) (hg : ∀ r n, g (ix2 r n) = gs h hp wg (R + r.val + 8) n)
    (hu : ∀ r n, u (ix2 r n) = ∑ k : Fin 2048, hrow h hp (R + r.val + 8) k * wu (ix2 k n))
    (o1 o2 : ℕ) (e1 : o1 = R + 7) (e2 : o2 = R + 6) (hg1 : ∀ r n, g1 (ix2 r n) = gs h hp wg (o1 + r.val) n) (hg2 : ∀ r n, g2 (ix2 r n) = gs h hp wg (o2 + r.val) n)
    (L : Loads h hp wg wu wc b h0 h1 h2 h3 hq lg lu w0 w1 w2 lb) (r : Fin 272) (n : Fin 512) :
    (k0_pay11 (F := Ideal) g u g1 (k0_pay10 (F := Ideal) g2 w0) w1 w2 lb : S272x512.Idx → EReal) (ix2 r n) = actAt h hp wg wu wc b (R + r.val) n := by
  refine (pay11_at g u g1 _ w1 w2 lb r n).trans ?_
  rw [pay10_at, hg, hu, hg1, hg2, L.w0, L.w1, L.w2, L.lb]
  unfold actAt
  rw [show o1 + r.val = R + r.val + 7 by omega, show o2 + r.val = R + r.val + 6 by omega]

theorem act_chunk (R : ℕ) (inb : ∀ a : Fin 2, (![R, 0] : Fin 2 → ℕ) a + S272x512.size a ≤ S1088x512.size a) (w : S272x512.Idx → EReal)
    (hw : ∀ (r : Fin 272) (n : Fin 512), w (ix2 r n) = actAt h hp wg wu wc b (R + r.val) n) (x : S272x512.Idx) :
    w x = (fun y : S1088x512.Idx => actAt h hp wg wu wc b (y 0).val (y 1)) ((Rect.unit (s := S1088x512) ![R, 0] S272x512.size inb).emb x) := by
  have hx : x = ix2 (x 0) (x 1) := by
    funext a
    match a with
    | ⟨0, _⟩ => rfl
    | ⟨1, _⟩ => rfl
  refine (congrArg w hx).trans ((hw _ _).trans (congrArg₂ (actAt h hp wg wu wc b) ?_ (Fin.ext ?_)))
  · show R + (x 0).val = R + 1 * (x 0).val
    omega
  · show (x 1).val = 0 + 1 * (x 1).val
    omega

theorem act_pieces (L : Loads h hp wg wu wc b h0 h1 h2 h3 hq lg lu w0 w1 w2 lb) :
    ∀ p ∈ actPieces v h0 h1 h2 h3 hq lg lu w0 w1 w2 lb, ∀ x, p.2 x = (fun y : S1088x512.Idx => actAt h hp wg wu wc b (y 0).val (y 1)) (p.1.emb x) := by
  intro p hm x
  rcases List.mem_cons.mp hm with rfl | hm
  · exact act_chunk 816 inb_S1088x512_S272x512_816_0 _ (act_rows 816 _ _ _ _ (gate_chunk _ pay7_at 816 (by decide) h3 L.h3 wg lg L.lg) (gate_chunk _ pay7_at 816 (by decide) h3 L.h3 wu lu L.lu)
      823 822 rfl rfl (held_load h hp wg v _ 823 1096 (held5 L) (by decide)) (held_load h hp wg v _ 822 1096 (held5 L) (by decide)) L) x
  rcases List.mem_cons.mp hm with rfl | hm
  · exact act_chunk 544 inb_S1088x512_S272x512_544_0 _ (act_rows 544 _ _ _ _ (gate_chunk _ pay7_at 544 (by decide) h2 L.h2 wg lg L.lg) (gate_chunk _ pay7_at 544 (by decide) h2 L.h2 wu lu L.lu)
      551 550 rfl rfl (held_load h hp wg v _ 551 824 (held4 L) (by decide)) (held_load h hp wg v _ 550 824 (held4 L) (by decide)) L) x
  rcases List.mem_cons.mp hm with rfl | hm
  · exact act_chunk 272 inb_S1088x512_S272x512_272_0 _ (act_rows 272 _ _ _ _ (gate_chunk _ pay7_at 272 (by decide) h1 L.h1 wg lg L.lg) (gate_chunk _ pay7_at 272 (by decide) h1 L.h1 wu lu L.lu)
      279 278 rfl rfl (held_load h hp wg v _ 279 552 (held3 L) (by decide)) (held_load h hp wg v _ 278 552 (held3 L) (by decide)) L) x
  rcases List.mem_cons.mp hm with rfl | hm
  · exact act_chunk 0 inb_S1088x512_S272x512_0_0 _ (act_rows 0 _ _ _ _ (gate_chunk _ pay7_at 0 (by decide) h0 L.h0 wg lg L.lg) (gate_chunk _ pay7_at 0 (by decide) h0 L.h0 wu lu L.lu)
      7 6 rfl rfl (held_load h hp wg v _ 7 280 (held2 L) (by decide)) (held_load h hp wg v _ 6 280 (held2 L) (by decide)) L) x
  · exact absurd hm List.not_mem_nil

/-- The rows kept of the last chunk. -/
theorem tail_at (L : Loads h hp wg wu wc b h0 h1 h2 h3 hq lg lu w0 w1 w2 lb) (s : Fin 8) (n : Fin 512) :
    (k0_pay2 (F := Ideal) (k0_pay22 (F := Ideal) h3 lg) : S1x8x512.Idx → EReal) (ix3 0 s n) = gs h hp wg (848 + s.val) n := by
  refine (pay2_at _ s n).trans ((gate_chunk (hp := hp) _ pay7_at 816 (by decide) h3 L.h3 wg lg L.lg _ n).trans ?_)
  exact congrArg (fun p => gs h hp wg p n) (show 816 + (24 + s.val) + 8 = 848 + s.val by omega)

end Tile

end Cert.Proof.GateTile
-- ==== Proof.GateCases.lean ====
module

public import proofs.«01_k».proof.Proof.GateTile

@[expose] public section

set_option maxRecDepth 16384

noncomputable section

namespace Cert.Proof.GateCases

open Cert.Kernel2Ideal Cert.Kernel2Ideal.Gen Idealize.ShloMosaic Idealize.ShloMosaic.TcCoe Idealize.SL.Sem
open Cert.Proof.GateTile

/-! ## Loads of a whole array's rows -/

theorem row_load {M N K : ℕ} {e : EltTy} (a : Memref sig .tc .vmem ⟨2, ![M, N]⟩ e) (ha : a.IsWhole) (x : (⟨2, ![M, N]⟩ : Shape).Idx → Elt Ideal e) (R : ℕ)
    (inb : ∀ i : Fin 2, (![R, 0] : Fin 2 → ℕ) i + (⟨2, ![K, N]⟩ : Shape).size i ≤ (⟨2, ![M, N]⟩ : Shape).size i) (r : Fin K) (n : Fin N) (hr : R + r.val < M) :
    View.readAt (Elt Ideal) a.view (Rect.unit (s := ⟨2, ![M, N]⟩) ![R, 0] (⟨2, ![K, N]⟩ : Shape).size inb).toLoadRect (ha.unread x) (ix2 r n)
      = x (ix2 ⟨R + r.val, hr⟩ n) := by
  refine (ha.readAt_unread x _ _).trans (congrArg x (funext fun i => Fin.ext ?_))
  match i with
  | ⟨0, _⟩ =>
    show R + 1 * r.val = R + r.val
    omega
  | ⟨1, _⟩ =>
    show 0 + 1 * n.val = n.val
    omega

theorem whole_load {M N : ℕ} {e : EltTy} (a : Memref sig .tc .vmem ⟨2, ![M, N]⟩ e) (ha : a.IsWhole) (x : (⟨2, ![M, N]⟩ : Shape).Idx → Elt Ideal e)
    (inb : ∀ i : Fin 2, (![0, 0] : Fin 2 → ℕ) i + (⟨2, ![M, N]⟩ : Shape).size i ≤ (⟨2, ![M, N]⟩ : Shape).size i) (r : Fin M) (n : Fin N) :
    View.readAt (Elt Ideal) a.view (Rect.unit (s := ⟨2, ![M, N]⟩) ![0, 0] (⟨2, ![M, N]⟩ : Shape).size inb).toLoadRect (ha.unread x) (ix2 r n) = x (ix2 r n) :=
  (row_load a ha x 0 inb r n (by omega)).trans (congrArg (fun y => x (ix2 y n)) (Fin.ext (Nat.zero_add _)))

theorem whole_load_eq {M N : ℕ} {e : EltTy} (a : Memref sig .tc .vmem ⟨2, ![M, N]⟩ e) (ha : a.IsWhole) (x : (⟨2, ![M, N]⟩ : Shape).Idx → Elt Ideal e)
    (inb : ∀ i : Fin 2, (![0, 0] : Fin 2 → ℕ) i + (⟨2, ![M, N]⟩ : Shape).size i ≤ (⟨2, ![M, N]⟩ : Shape).size i) :
    View.readAt (Elt Ideal) a.view (Rect.unit (s := ⟨2, ![M, N]⟩) ![0, 0] (⟨2, ![M, N]⟩ : Shape).size inb).toLoadRect (ha.unread x) = x := by
  funext y
  have hy : (y : (⟨2, ![M, N]⟩ : Shape).Idx) = ix2 (y 0) (y 1) := by
    funext i
    match i with
    | ⟨0, _⟩ => rfl
    | ⟨1, _⟩ => rfl
  exact (congrArg _ hy).trans ((whole_load a ha x inb (y 0) (y 1)).trans (congrArg x hy.symm))

theorem zero_off : (![0, 0] : Fin 2 → ℕ) = fun _ => 0 := by
  funext a
  match a with
  | ⟨0, _⟩ => rfl
  | ⟨1, _⟩ => rfl

theorem row_cov {M N K : ℕ} {e : EltTy} (v : View sig .tc .vmem ⟨2, ![M, N]⟩ e) (x : (⟨2, ![M, N]⟩ : Shape).Idx → Elt Ideal e) (R : ℕ)
    (inw : ∀ i : Fin 2, (![0, 0] : Fin 2 → ℕ) i + (⟨2, ![M, N]⟩ : Shape).size i ≤ (⟨2, ![M, N]⟩ : Shape).size i)
    (inb : ∀ i : Fin 2, (![R, 0] : Fin 2 → ℕ) i + (⟨2, ![K, N]⟩ : Shape).size i ≤ (⟨2, ![M, N]⟩ : Shape).size i) (r : Fin K) (n : Fin N) (hr : R + r.val < M) :
    v.readCov [(⟨Rect.unit (s := ⟨2, ![M, N]⟩) ![0, 0] (⟨2, ![M, N]⟩ : Shape).size inw, x⟩ : View.Piece (Elt Ideal) ⟨2, ![M, N]⟩ e)]
        (Rect.unit (s := ⟨2, ![M, N]⟩) ![R, 0] (⟨2, ![K, N]⟩ : Shape).size inb).toLoadRect (ix2 r n)
      = x (ix2 ⟨R + r.val, hr⟩ n) := by
  rw [View.readCov_eq_canon']
  refine (congrFun (View.canon_unit_zero (Val := Elt Ideal) (S := ⟨2, ![M, N]⟩) (e := e) zero_off inw x) _).trans (congrArg x (funext fun i => Fin.ext ?_))
  match i with
  | ⟨0, _⟩ =>
    show R + 1 * r.val = R + r.val
    omega
  | ⟨1, _⟩ =>
    show 0 + 1 * n.val = n.val
    omega

theorem zero_off3 : (![0, 0, 0] : Fin 3 → ℕ) = fun _ => 0 := by
  funext a
  match a with
  | ⟨0, _⟩ => rfl
  | ⟨1, _⟩ => rfl
  | ⟨2, _⟩ => rfl

section Run

variable (c : Dev nD) (i : grid0.Coords) (arg2 : Memref sig .tc .vmem S1088x2048 .f32) (harg2 : arg2.IsWhole) (arg3 : Memref sig .tc .vmem S8x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S8x512 .f32) (harg7 : arg7.IsWhole) (arg8 : Memref sig .tc .vmem S1x512 .f32) (harg8 : arg8.IsWhole) (arg9 : Memref sig .tc .vmem S1088x512 .bf16) (harg9 : arg9.IsWhole) (arg10 : Memref sig .tc .vmem S1x8x512 .f32) (harg10 : arg10.IsWhole) (arg11 : Memref sig .tc .vmem S1088x2048 .bf16) (harg11 : arg11.IsWhole) (arg12 : Memref sig .tc .vmem S16x2048 .bf16) (harg12 : arg12.IsWhole) (arg13 : Memref sig .tc .vmem S1096x512 .f32) (harg13 : arg13.IsWhole)
  (x0 : Vec Ideal S1088x2048 .f32) (x1 : Vec Ideal S8x2048 .f32) (x2 : Vec Ideal S1x2048 .f32) (x3 : Vec Ideal S2048x512 .bf16) (x4 : Vec Ideal S2048x512 .bf16) (x5 : Vec Ideal S8x512 .f32) (x6 : Vec Ideal S1x512 .f32)

/-! ## A point after the first of its row of tiles -/

variable (xs0 : Vec Ideal S1088x2048 .bf16) (xs1 : Vec Ideal S16x2048 .bf16)

theorem loadsB : Loads xs0 xs1 x3 x4 x5 x6 (View.readAt (Elt Ideal) arg11.view (Rect.unit (s := S1088x2048) ![0, 0] S272x2048.size inb_S1088x2048_S272x2048_0_0).toLoadRect (harg11.unread xs0)) (View.readAt (Elt Ideal) arg11.view (Rect.unit (s := S1088x2048) ![272, 0] S272x2048.size inb_S1088x2048_S272x2048_272_0).toLoadRect (harg11.unread xs0)) (View.readAt (Elt Ideal) arg11.view (Rect.unit (s := S1088x2048) ![544, 0] S272x2048.size inb_S1088x2048_S272x2048_544_0).toLoadRect (harg11.unread xs0)) (View.readAt (Elt Ideal) arg11.view (Rect.unit (s := S1088x2048) ![816, 0] S272x2048.size inb_S1088x2048_S272x2048_816_0).toLoadRect (harg11.unread xs0)) (View.readAt (Elt Ideal) arg12.view (Rect.unit (s := S16x2048) ![0, 0] S16x2048.size inb_S16x2048_S16x2048_0_0).toLoadRect (harg12.unread xs1)) (View.readAt (Elt Ideal) arg5.view (Rect.unit (s := S2048x512) ![0, 0] S2048x512.size inb_S2048x512_S2048x512_0_0).toLoadRect (harg5.unread x3)) (View.readAt (Elt Ideal) arg6.view (Rect.unit (s := S2048x512) ![0, 0] S2048x512.size inb_S2048x512_S2048x512_0_0).toLoadRect (harg6.unread x4)) (View.readAt (Elt Ideal) arg7.view (Rect.unit (s := S8x512) ![0, 0] S1x512.size inb_S8x512_S1x512_0_0).toLoadRect (harg7.unread x5)) (View.readAt (Elt Ideal) arg7.view (Rect.unit (s := S8x512) ![1, 0] S1x512.size inb_S8x512_S1x512_1_0).toLoadRect (harg7.unread x5)) (View.readAt (Elt Ideal) arg7.view (Rect.unit (s := S8x512) ![2, 0] S1x512.size inb_S8x512_S1x512_2_0).toLoadRect (harg7.unread x5)) (View.readAt (Elt Ideal) arg8.view (Rect.unit (s := S1x512) ![0, 0] S1x512.size inb_S1x512_S1x512_0_0).toLoadRect (harg8.unread x6)) :=
    { h0 := fun r k => row_load arg11 harg11 xs0 0 _ r k _
      h1 := fun r k => row_load arg11 harg11 xs0 272 _ r k _
      h2 := fun r k => row_load arg11 harg11 xs0 544 _ r k _
      h3 := fun r k => row_load arg11 harg11 xs0 816 _ r k _
      hq := fun r k => whole_load arg12 harg12 xs1 _ r k
      lg := fun k n => whole_load arg5 harg5 x3 _ k n
      lu := fun k n => whole_load arg6 harg6 x4 _ k n
      w0 := fun n => row_load arg7 harg7 x5 0 _ 0 n (by decide)
      w1 := fun n => row_load arg7 harg7 x5 1 _ 0 n (by decide)
      w2 := fun n => row_load arg7 harg7 x5 2 _ 0 n (by decide)
      lb := fun n => whole_load arg8 harg8 x6 _ 0 n }

theorem actB (hc0 : ¬cond0_0 i) (r : Fin 1088) (n : Fin 512) :
    (out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 : S1088x512.Idx → EReal) (ix2 r n) = actAt xs0 xs1 x3 x4 x5 x6 r.val n := by
  unfold out0_B_7
  rw [View.read_writes_junk_eq_canon]
  exact View.canon_apply_of_pieces (Val := Elt Ideal) (S := S1088x512) (e := .bf16) (fun y : S1088x512.Idx => actAt xs0 xs1 x3 x4 x5 x6 (y 0).val (y 1)) _
    (act_pieces arg13.view (loadsB (arg5 := arg5) (harg5 := harg5) (arg6 := arg6) (harg6 := harg6) (arg7 := arg7) (harg7 := harg7) (arg8 := arg8) (harg8 := harg8) (arg11 := arg11) (harg11 := harg11) (arg12 := arg12) (harg12 := harg12) x3 x4 x5 x6 xs0 xs1)) (ix2 r n)
    (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 _)

theorem tailB (hc0 : ¬cond0_0 i) (s : Fin 8) (n : Fin 512) :
    (out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 : S1x8x512.Idx → EReal) (ix3 0 s n) = gs xs0 xs1 x3 (848 + s.val) n := by
  unfold out0_B_8
  rw [View.read_writes_junk_eq_canon]
  refine (congrFun (View.canon_unit_zero (Val := Elt Ideal) (S := S1x8x512) (e := .f32) zero_off3 inb_S1x8x512_S1x8x512_0_0_0 _) (ix3 0 s n)).trans ?_
  exact tail_at (loadsB (arg5 := arg5) (harg5 := harg5) (arg6 := arg6) (harg6 := harg6) (arg7 := arg7) (harg7 := harg7) (arg8 := arg8) (harg8 := harg8) (arg11 := arg11) (harg11 := harg11) (arg12 := arg12) (harg12 := harg12) x3 x4 x5 x6 xs0 xs1) s n

/-! ## The first point of a row of tiles -/

/-- The tile's normalised rows as the point stores them. -/
abbrev hA : Vec Ideal S1088x2048 .bf16 := k0_pay3 (F := Ideal) x0 x2

/-- The normalised rows above the tile as the point stores them. -/
abbrev qA : Vec Ideal S16x2048 .bf16 := k0_pay5 (F := Ideal) (k0_pay4 (F := Ideal) x1 x2) 4#32 (Scalar.remsi (BitVec.ofNat 32 (i 0).val) 4#32) 0#32

theorem loadsA : Loads (hA x0 x2) (qA i x1 x2) x3 x4 x5 x6 (arg11.view.readCov [(⟨Rect.unit ![0, 0] S1088x2048.size inb_S1088x2048_S1088x2048_0_0, hA x0 x2⟩ : View.Piece (Elt Ideal) S1088x2048 .bf16)] (Rect.unit (s := S1088x2048) ![0, 0] S272x2048.size inb_S1088x2048_S272x2048_0_0).toLoadRect) (arg11.view.readCov [(⟨Rect.unit ![0, 0] S1088x2048.size inb_S1088x2048_S1088x2048_0_0, hA x0 x2⟩ : View.Piece (Elt Ideal) S1088x2048 .bf16)] (Rect.unit (s := S1088x2048) ![272, 0] S272x2048.size inb_S1088x2048_S272x2048_272_0).toLoadRect) (arg11.view.readCov [(⟨Rect.unit ![0, 0] S1088x2048.size inb_S1088x2048_S1088x2048_0_0, hA x0 x2⟩ : View.Piece (Elt Ideal) S1088x2048 .bf16)] (Rect.unit (s := S1088x2048) ![544, 0] S272x2048.size inb_S1088x2048_S272x2048_544_0).toLoadRect) (arg11.view.readCov [(⟨Rect.unit ![0, 0] S1088x2048.size inb_S1088x2048_S1088x2048_0_0, hA x0 x2⟩ : View.Piece (Elt Ideal) S1088x2048 .bf16)] (Rect.unit (s := S1088x2048) ![816, 0] S272x2048.size inb_S1088x2048_S272x2048_816_0).toLoadRect) (arg12.view.readCov [(⟨Rect.unit ![0, 0] S16x2048.size inb_S16x2048_S16x2048_0_0, qA i x1 x2⟩ : View.Piece (Elt Ideal) S16x2048 .bf16)] (Rect.unit (s := S16x2048) ![0, 0] S16x2048.size inb_S16x2048_S16x2048_0_0).toLoadRect) (View.readAt (Elt Ideal) arg5.view (Rect.unit (s := S2048x512) ![0, 0] S2048x512.size inb_S2048x512_S2048x512_0_0).toLoadRect (harg5.unread x3)) (View.readAt (Elt Ideal) arg6.view (Rect.unit (s := S2048x512) ![0, 0] S2048x512.size inb_S2048x512_S2048x512_0_0).toLoadRect (harg6.unread x4)) (View.readAt (Elt Ideal) arg7.view (Rect.unit (s := S8x512) ![0, 0] S1x512.size inb_S8x512_S1x512_0_0).toLoadRect (harg7.unread x5)) (View.readAt (Elt Ideal) arg7.view (Rect.unit (s := S8x512) ![1, 0] S1x512.size inb_S8x512_S1x512_1_0).toLoadRect (harg7.unread x5)) (View.readAt (Elt Ideal) arg7.view (Rect.unit (s := S8x512) ![2, 0] S1x512.size inb_S8x512_S1x512_2_0).toLoadRect (harg7.unread x5)) (View.readAt (Elt Ideal) arg8.view (Rect.unit (s := S1x512) ![0, 0] S1x512.size inb_S1x512_S1x512_0_0).toLoadRect (harg8.unread x6)) :=
    { h0 := fun r k => row_cov arg11.view _ 0 _ _ r k _
      h1 := fun r k => row_cov arg11.view _ 272 _ _ r k _
      h2 := fun r k => row_cov arg11.view _ 544 _ _ r k _
      h3 := fun r k => row_cov arg11.view _ 816 _ _ r k _
      hq := fun r k => (row_cov arg12.view _ 0 _ _ r k (by omega)).trans (congrArg (fun y => qA i x1 x2 (ix2 y k)) (Fin.ext (Nat.zero_add _)))
      lg := fun k n => whole_load arg5 harg5 x3 _ k n
      lu := fun k n => whole_load arg6 harg6 x4 _ k n
      w0 := fun n => row_load arg7 harg7 x5 0 _ 0 n (by decide)
      w1 := fun n => row_load arg7 harg7 x5 1 _ 0 n (by decide)
      w2 := fun n => row_load arg7 harg7 x5 2 _ 0 n (by decide)
      lb := fun n => whole_load arg8 harg8 x6 _ 0 n }

/-- The point's loads of its rows, of the rows above them and of the scales. -/
abbrev l0 : Vec Ideal S1088x2048 .f32 := View.readAt (Elt Ideal) arg2.view (Rect.unit (s := S1088x2048) ![0, 0] S1088x2048.size inb_S1088x2048_S1088x2048_0_0).toLoadRect (harg2.unread x0)
abbrev l1 : Vec Ideal S8x2048 .f32 := View.readAt (Elt Ideal) arg3.view (Rect.unit (s := S8x2048) ![0, 0] S8x2048.size inb_S8x2048_S8x2048_0_0).toLoadRect (harg3.unread x1)
abbrev l2 : Vec Ideal S1x2048 .f32 := View.readAt (Elt Ideal) arg4.view (Rect.unit (s := S1x2048) ![0, 0] S1x2048.size inb_S1x2048_S1x2048_0_0).toLoadRect (harg4.unread x2)

theorem hA_loads : hA (l0 arg2 harg2 x0) (l2 arg4 harg4 x2) = hA x0 x2 :=
  congrArg₂ (fun a g => hA a g) (whole_load_eq arg2 harg2 x0 _) (whole_load_eq arg4 harg4 x2 _)

theorem qA_loads : qA i (l1 arg3 harg3 x1) (l2 arg4 harg4 x2) = qA i x1 x2 :=
  congrArg₂ (fun a g => qA i a g) (whole_load_eq arg3 harg3 x1 _) (whole_load_eq arg4 harg4 x2 _)

theorem actA (hc0 : cond0_0 i) (r : Fin 1088) (n : Fin 512) :
    (out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 : S1088x512.Idx → EReal) (ix2 r n) = actAt (hA x0 x2) (qA i x1 x2) x3 x4 x5 x6 r.val n := by
  rw [← hA_loads arg2 harg2 arg4 harg4 x0 x2, ← qA_loads i arg3 harg3 arg4 harg4 x1 x2]
  unfold out0_A_7
  rw [View.read_writes_junk_eq_canon]
  exact View.canon_apply_of_pieces (Val := Elt Ideal) (S := S1088x512) (e := .bf16) (fun y : S1088x512.Idx => actAt (hA (l0 arg2 harg2 x0) (l2 arg4 harg4 x2)) (qA i (l1 arg3 harg3 x1) (l2 arg4 harg4 x2)) x3 x4 x5 x6 (y 0).val (y 1)) _
    (act_pieces arg13.view (loadsA (i := i) (arg5 := arg5) (harg5 := harg5) (arg6 := arg6) (harg6 := harg6) (arg7 := arg7) (harg7 := harg7) (arg8 := arg8) (harg8 := harg8) (arg11 := arg11) (arg12 := arg12) (l0 arg2 harg2 x0) (l1 arg3 harg3 x1) (l2 arg4 harg4 x2) x3 x4 x5 x6)) (ix2 r n)
    (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 _)

theorem tailA (hc0 : cond0_0 i) (s : Fin 8) (n : Fin 512) :
    (out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 : S1x8x512.Idx → EReal) (ix3 0 s n) = gs (hA x0 x2) (qA i x1 x2) x3 (848 + s.val) n := by
  rw [← hA_loads arg2 harg2 arg4 harg4 x0 x2, ← qA_loads i arg3 harg3 arg4 harg4 x1 x2]
  unfold out0_A_8
  rw [View.read_writes_junk_eq_canon]
  refine (congrFun (View.canon_unit_zero (Val := Elt Ideal) (S := S1x8x512) (e := .f32) zero_off3 inb_S1x8x512_S1x8x512_0_0_0 _) (ix3 0 s n)).trans ?_
  exact tail_at (loadsA (i := i) (arg5 := arg5) (harg5 := harg5) (arg6 := arg6) (harg6 := harg6) (arg7 := arg7) (harg7 := harg7) (arg8 := arg8) (harg8 := harg8) (arg11 := arg11) (arg12 := arg12) (l0 arg2 harg2 x0) (l1 arg3 harg3 x1) (l2 arg4 harg4 x2) x3 x4 x5 x6) s n

theorem scratchA0 (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = hA x0 x2 := by
  refine Eq.trans ?_ (hA_loads arg2 harg2 arg4 harg4 x0 x2)
  unfold sout0_A_0
  rw [View.read_writes_junk_eq_canon]
  exact View.canon_unit_zero (Val := Elt Ideal) (S := S1088x2048) (e := .bf16) zero_off inb_S1088x2048_S1088x2048_0_0 (hA (l0 arg2 harg2 x0) (l2 arg4 harg4 x2))

theorem scratchA1 (hc0 : cond0_0 i) : sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = qA i x1 x2 := by
  refine Eq.trans ?_ (qA_loads i arg3 harg3 arg4 harg4 x1 x2)
  unfold sout0_A_1
  rw [View.read_writes_junk_eq_canon]
  exact View.canon_unit_zero (Val := Elt Ideal) (S := S16x2048) (e := .bf16) zero_off inb_S16x2048_S16x2048_0_0 (qA i (l1 arg3 harg3 x1) (l2 arg4 harg4 x2))

end Run

end Cert.Proof.GateCases
-- ==== Proof.GateHost.lean ====
module

public import proofs.«01_k».proof.Proof.GateCases
public import Idealize.ShloMosaic.Lib.Routing.OpsSet

@[expose] public section

set_option maxRecDepth 16384

noncomputable section

namespace Cert.Proof.GateHost

open Cert.Kernel2Ideal Cert.Kernel2Ideal.Gen Idealize.ShloMosaic Idealize.ShloMosaic.TcCoe Idealize.SL.Sem
open Cert.Proof.Rows

variable (m : (ℓ : Loc nD τ sig) → Buf (Elt Ideal) ℓ) (c : Dev nD)

/-! ## The arguments as launched, and the arrays of the windows -/

abbrev argX : S2x4112x2048.Idx → EReal := m ((c : Thread nD τ).loc main_arg0)
abbrev argG : S2048.Idx → EReal := m ((c : Thread nD τ).loc main_arg1)
abbrev argWg : S2048x5632.Idx → EReal := m ((c : Thread nD τ).loc main_arg2)
abbrev argWu : S2048x5632.Idx → EReal := m ((c : Thread nD τ).loc main_arg3)
abbrev argWc : S3x5632.Idx → EReal := m ((c : Thread nD τ).loc main_arg4)
abbrev argB : S5632.Idx → EReal := m ((c : Thread nD τ).loc main_arg5)

theorem rows_x (r : Fin 8704) (n : Fin 2048) : (V m c main_v1 : S8704x2048.Idx → EReal) (ix2 r n) = padRows (argX m c) r.val n := by
  unfold V
  after_reads_at
  exact padRows_of (argX m c) r n _ zero_word

theorem gate_weights (k : Fin 2048) (n : Fin 5632) : (V m c main_v2 : S2048x5632.Idx → EReal) (ix2 k n) = argWg m c (ix2 k n) := by
  unfold V
  after_reads_at

theorem up_weights (k : Fin 2048) (n : Fin 5632) : (V m c main_v3 : S2048x5632.Idx → EReal) (ix2 k n) = argWu m c (ix2 k n) := by
  unfold V
  after_reads_at

theorem scales (k : Fin 2048) : (V m c main_v7 : S1x2048.Idx → EReal) (ix2 0 k) = argG m c (ix1 k) := by
  unfold V
  after_reads_at

theorem bias (n : Fin 5632) : (V m c main_v8 : S1x5632.Idx → EReal) (ix2 0 n) = argB m c (ix1 n) := by
  unfold V
  after_reads_at

/-- Update (`d`, `n`) of the taps' scatter lands at row `d`, column `n`. -/
theorem lands (idx : S1.Idx → BitVec 32) (hi : ∀ j, idx j = 0#32) (k : S3x5632.Idx) (r : Fin 8) (n : Fin 5632) :
    scatter_S8x5632_S1_S3x5632_01_n_0_0.resultIdx? k idx = some (ix2 r n) ↔ (k 0).val = r.val ∧ (k 1).val = n.val := by
  have h0 : scatter_S8x5632_S1_S3x5632_01_n_0_0.start k idx 0 = 0 := by
    show (idx _).toInt = 0
    rw [hi]
    rfl
  have h1 : scatter_S8x5632_S1_S3x5632_01_n_0_0.start k idx 1 = 0 := rfl
  have w0 : scatter_S8x5632_S1_S3x5632_01_n_0_0.window k 0 = (k 0).val := rfl
  have w1 : scatter_S8x5632_S1_S3x5632_01_n_0_0.window k 1 = (k 1).val := rfl
  have e0 : scatter_S8x5632_S1_S3x5632_01_n_0_0.start k idx 0 + (scatter_S8x5632_S1_S3x5632_01_n_0_0.window k 0 : Int) = (r.val : Int) ↔ (k 0).val = r.val := by
    rw [h0, w0]
    omega
  have e1 : scatter_S8x5632_S1_S3x5632_01_n_0_0.start k idx 1 + (scatter_S8x5632_S1_S3x5632_01_n_0_0.window k 1 : Int) = (n.val : Int) ↔ (k 1).val = n.val := by
    rw [h1, w1]
    omega
  exact (Routing.resultIdx?_ix2 (R := 8) (C := 5632) _ k idx r n).trans (and_congr e0 e1)

theorem taps (d : Fin 3) (n : Fin 5632) : (V m c main_v6 : S8x5632.Idx → EReal) (ix2 ⟨d.val, by omega⟩ n) = argWc m c (ix2 d n) := by
  unfold V
  after_reads_at
  refine Routing.scatter_set_hit _ _ _ _ _ _ (fun k hk => ?_) (ix2 d n) ((lands _ (fun _ => rfl) _ _ _).mpr ⟨rfl, rfl⟩)
  have h := (lands _ (fun _ => rfl) _ _ _).mp hk
  refine congrArg (argWc m c) (funext fun a => Fin.ext ?_)
  match a with
  | ⟨0, _⟩ => exact h.1
  | ⟨1, _⟩ => exact h.2

end Cert.Proof.GateHost
-- ==== Proof.Gate.lean ====
module

public import proofs.«01_k».proof.Proof.GateHost

@[expose] public section

set_option maxRecDepth 16384

noncomputable section

namespace Cert.Proof.Gate

open Cert.Kernel2Ideal Cert.Kernel2Ideal.Gen Idealize.ShloMosaic Idealize.ShloMosaic.TcCoe Idealize.SL.Sem
open Cert.Proof.Rows Cert.Proof.GateTile Cert.Proof.GateCases Cert.Proof.GateHost

/-! ## What the call computes -/

/-- Element `k` of the normalised row `r` of the padded rows. -/
def nrow (x : S2x4112x2048.Idx → EReal) (g : S2048.Idx → EReal) (r : ℕ) (k : Fin 2048) : EReal :=
  normed (fun k => padRows x r k) (fun k => g (ix1 k)) k

/-- Element `n` of the product of the normalised row `r` with the weights `w`. -/
def prow (x : S2x4112x2048.Idx → EReal) (g : S2048.Idx → EReal) (w : S2048x5632.Idx → EReal) (r : ℕ) (n : Fin 5632) : EReal :=
  ∑ k : Fin 2048, nrow x g r k * w (ix2 k n)

/-- Element `k` of the normalised row `d` above row `r`, zero above the first row of a sequence. -/
def above (x : S2x4112x2048.Idx → EReal) (g : S2048.Idx → EReal) (r d : ℕ) (k : Fin 2048) : EReal :=
  if r % 4352 < d then 0 else nrow x g (r - d) k

/-- The gate row `d` above row `r`, zero above the first row of a sequence. -/
def shifted (x : S2x4112x2048.Idx → EReal) (g : S2048.Idx → EReal) (w : S2048x5632.Idx → EReal) (r d : ℕ) (n : Fin 5632) : EReal :=
  if r % 4352 < d then 0 else prow x g w (r - d) n

/-- The call's first result. -/
def actArr (x : S2x4112x2048.Idx → EReal) (g : S2048.Idx → EReal) (wg wu : S2048x5632.Idx → EReal) (wc : S3x5632.Idx → EReal) (b : S5632.Idx → EReal) (i : S8704x5632.Idx) : EReal :=
  gated (wc (ix2 0 (i 1)) * shifted x g wg (i 0).val 2 (i 1) + wc (ix2 1 (i 1)) * shifted x g wg (i 0).val 1 (i 1) + wc (ix2 2 (i 1)) * shifted x g wg (i 0).val 0 (i 1) + b (ix1 (i 1)))
    (prow x g wu (i 0).val (i 1))

/-- The call's second result: of each 1088 gate rows the eight from row 840. -/
def tailArr (x : S2x4112x2048.Idx → EReal) (g : S2048.Idx → EReal) (wg : S2048x5632.Idx → EReal) (i : S8x8x5632.Idx) : EReal :=
  prow x g wg (1088 * (i 0).val + 840 + (i 1).val) (i 2)

theorem shifted_eq (x : S2x4112x2048.Idx → EReal) (g : S2048.Idx → EReal) (w : S2048x5632.Idx → EReal) (r d : ℕ) (n : Fin 5632) :
    ∑ k : Fin 2048, above x g r d k * w (ix2 k n) = shifted x g w r d n := by
  unfold shifted above
  by_cases h : r % 4352 < d
  · rw [if_pos h]
    exact Finset.sum_eq_zero fun k _ => by rw [if_pos h, zero_mul]
  · rw [if_neg h]
    exact Finset.sum_congr rfl fun k _ => by rw [if_neg h]

theorem shifted_zero (x : S2x4112x2048.Idx → EReal) (g : S2048.Idx → EReal) (w : S2048x5632.Idx → EReal) (r : ℕ) (n : Fin 5632) :
    shifted x g w r 0 n = prow x g w r n := if_neg (Nat.not_lt_zero _)

/-! ## The blocks of a grid point -/

theorem coord0 : ∀ t : Fin cfg0.N, (grid0.coords t 0).val = t.val / 11 :=
  (by decide +kernel : ∀ t : Fin grid0.N, (grid0.coords t 0).val = t.val / 11)

theorem coord1 : ∀ t : Fin cfg0.N, (grid0.coords t 1).val = t.val % 11 :=
  (by decide +kernel : ∀ t : Fin grid0.N, (grid0.coords t 1).val = t.val % 11)

theorem t_lt (t : Fin cfg0.N) : t.val < 88 := Nat.lt_of_lt_of_eq t.isLt N_0

theorem row_lt (t : Fin cfg0.N) : t.val / 11 < 8 := by
  have := t_lt t
  omega

/-- Row `r` of the tile of a grid point. -/
abbrev rowAt (t : Fin cfg0.N) (r : Fin 1088) : Fin 8704 := ⟨1088 * (t.val / 11) + r.val, by have := row_lt t; omega⟩

/-- Column `n` of the tile of a grid point. -/
abbrev colAt (t : Fin cfg0.N) (n : Fin 512) : Fin 5632 := ⟨512 * (t.val % 11) + n.val, by omega⟩

/-- Row `s` of the eight rows above the tile, those of the first tile the tile's own first rows. -/
abbrev preAt (t : Fin cfg0.N) (s : Fin 8) : Fin 8704 := ⟨8 * (136 * (t.val / 11) - 1) + s.val, by have := row_lt t; omega⟩

theorem index0 : ∀ t : Fin cfg0.N, win0_0.index t (0 : Fin 2) = t.val / 11 ∧ win0_0.index t (1 : Fin 2) = 0 :=
  (by decide +kernel : ∀ t : Fin grid0.N, win0_0.index t (0 : Fin 2) = t.val / 11 ∧ win0_0.index t (1 : Fin 2) = 0)

theorem index1 : ∀ t : Fin cfg0.N, win0_1.index t (0 : Fin 2) = 136 * (t.val / 11) - 1 ∧ win0_1.index t (1 : Fin 2) = 0 :=
  (by decide +kernel : ∀ t : Fin grid0.N, win0_1.index t (0 : Fin 2) = 136 * (t.val / 11) - 1 ∧ win0_1.index t (1 : Fin 2) = 0)

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index3 : ∀ t : Fin cfg0.N, win0_3.index t (0 : Fin 2) = 0 ∧ win0_3.index t (1 : Fin 2) = t.val % 11 :=
  (by decide +kernel : ∀ t : Fin grid0.N, win0_3.index t (0 : Fin 2) = 0 ∧ win0_3.index t (1 : Fin 2) = t.val % 11)

theorem index4 : ∀ t : Fin cfg0.N, win0_4.index t (0 : Fin 2) = 0 ∧ win0_4.index t (1 : Fin 2) = t.val % 11 :=
  (by decide +kernel : ∀ t : Fin grid0.N, win0_4.index t (0 : Fin 2) = 0 ∧ win0_4.index t (1 : Fin 2) = t.val % 11)

theorem index5 : ∀ t : Fin cfg0.N, win0_5.index t (0 : Fin 2) = 0 ∧ win0_5.index t (1 : Fin 2) = t.val % 11 :=
  (by decide +kernel : ∀ t : Fin grid0.N, win0_5.index t (0 : Fin 2) = 0 ∧ win0_5.index t (1 : Fin 2) = t.val % 11)

theorem index6 : ∀ t : Fin cfg0.N, win0_6.index t (0 : Fin 2) = 0 ∧ win0_6.index t (1 : Fin 2) = t.val % 11 :=
  (by decide +kernel : ∀ t : Fin grid0.N, win0_6.index t (0 : Fin 2) = 0 ∧ win0_6.index t (1 : Fin 2) = t.val % 11)

theorem index7 : ∀ t : Fin cfg0.N, win0_7.index t (0 : Fin 2) = t.val / 11 ∧ win0_7.index t (1 : Fin 2) = t.val % 11 :=
  (by decide +kernel : ∀ t : Fin grid0.N, win0_7.index t (0 : Fin 2) = t.val / 11 ∧ win0_7.index t (1 : Fin 2) = t.val % 11)

theorem index8 : ∀ t : Fin cfg0.N, win0_8.index t (0 : Fin 3) = t.val / 11 ∧ win0_8.index t (1 : Fin 3) = 0 ∧ win0_8.index t (2 : Fin 3) = t.val % 11 :=
  (by decide +kernel : ∀ t : Fin grid0.N, win0_8.index t (0 : Fin 3) = t.val / 11 ∧ win0_8.index t (1 : Fin 3) = 0 ∧ win0_8.index t (2 : Fin 3) = t.val % 11)

theorem emb0 (t : Fin cfg0.N) (r : Fin 1088) (k : Fin 2048) : ((cfg0.win 0).blk t).view.emb (ix2 r k) = (ix2 (rowAt t r) k : S8704x2048.Idx) := by
  obtain ⟨e0, e1⟩ := index0 t
  funext a
  refine Fin.ext ?_
  match a with
  | ⟨0, _⟩ =>
    show win0_0.index t (0 : Fin 2) * 1088 + 1 * r.val = 1088 * (t.val / 11) + r.val
    omega
  | ⟨1, _⟩ =>
    show win0_0.index t (1 : Fin 2) * 2048 + 1 * k.val = k.val
    omega

theorem emb1 (t : Fin cfg0.N) (s : Fin 8) (k : Fin 2048) : ((cfg0.win 1).blk t).view.emb (ix2 s k) = (ix2 (preAt t s) k : S8704x2048.Idx) := by
  obtain ⟨e0, e1⟩ := index1 t
  funext a
  refine Fin.ext ?_
  match a with
  | ⟨0, _⟩ =>
    show win0_1.index t (0 : Fin 2) * 8 + 1 * s.val = 8 * (136 * (t.val / 11) - 1) + s.val
    omega
  | ⟨1, _⟩ =>
    show win0_1.index t (1 : Fin 2) * 2048 + 1 * k.val = k.val
    omega

theorem emb2 (t : Fin cfg0.N) (s : Fin 1) (k : Fin 2048) : ((cfg0.win 2).blk t).view.emb (ix2 s k) = (ix2 s k : S1x2048.Idx) := by
  obtain ⟨e0, e1⟩ := index2 t
  funext a
  refine Fin.ext ?_
  match a with
  | ⟨0, _⟩ =>
    show win0_2.index t (0 : Fin 2) * 1 + 1 * s.val = s.val
    omega
  | ⟨1, _⟩ =>
    show win0_2.index t (1 : Fin 2) * 2048 + 1 * k.val = k.val
    omega

theorem emb3 (t : Fin cfg0.N) (k : Fin 2048) (n : Fin 512) : ((cfg0.win 3).blk t).view.emb (ix2 k n) = (ix2 k (colAt t n) : S2048x5632.Idx) := by
  obtain ⟨e0, e1⟩ := index3 t
  funext a
  refine Fin.ext ?_
  match a with
  | ⟨0, _⟩ =>
    show win0_3.index t (0 : Fin 2) * 2048 + 1 * k.val = k.val
    omega
  | ⟨1, _⟩ =>
    show win0_3.index t (1 : Fin 2) * 512 + 1 * n.val = 512 * (t.val % 11) + n.val
    omega

theorem emb4 (t : Fin cfg0.N) (k : Fin 2048) (n : Fin 512) : ((cfg0.win 4).blk t).view.emb (ix2 k n) = (ix2 k (colAt t n) : S2048x5632.Idx) := by
  obtain ⟨e0, e1⟩ := index4 t
  funext a
  refine Fin.ext ?_
  match a with
  | ⟨0, _⟩ =>
    show win0_4.index t (0 : Fin 2) * 2048 + 1 * k.val = k.val
    omega
  | ⟨1, _⟩ =>
    show win0_4.index t (1 : Fin 2) * 512 + 1 * n.val = 512 * (t.val % 11) + n.val
    omega

theorem emb5 (t : Fin cfg0.N) (k : Fin 8) (n : Fin 512) : ((cfg0.win 5).blk t).view.emb (ix2 k n) = (ix2 k (colAt t n) : S8x5632.Idx) := by
  obtain ⟨e0, e1⟩ := index5 t
  funext a
  refine Fin.ext ?_
  match a with
  | ⟨0, _⟩ =>
    show win0_5.index t (0 : Fin 2) * 8 + 1 * k.val = k.val
    omega
  | ⟨1, _⟩ =>
    show win0_5.index t (1 : Fin 2) * 512 + 1 * n.val = 512 * (t.val % 11) + n.val
    omega

theorem emb6 (t : Fin cfg0.N) (k : Fin 1) (n : Fin 512) : ((cfg0.win 6).blk t).view.emb (ix2 k n) = (ix2 k (colAt t n) : S1x5632.Idx) := by
  obtain ⟨e0, e1⟩ := index6 t
  funext a
  refine Fin.ext ?_
  match a with
  | ⟨0, _⟩ =>
    show win0_6.index t (0 : Fin 2) * 1 + 1 * k.val = k.val
    omega
  | ⟨1, _⟩ =>
    show win0_6.index t (1 : Fin 2) * 512 + 1 * n.val = 512 * (t.val % 11) + n.val
    omega

theorem emb7 (t : Fin cfg0.N) (r : Fin 1088) (n : Fin 512) : ((cfg0.win 7).blk t).view.emb (ix2 r n) = (ix2 (rowAt t r) (colAt t n) : S8704x5632.Idx) := by
  obtain ⟨e0, e1⟩ := index7 t
  funext a
  refine Fin.ext ?_
  match a with
  | ⟨0, _⟩ =>
    show win0_7.index t (0 : Fin 2) * 1088 + 1 * r.val = 1088 * (t.val / 11) + r.val
    omega
  | ⟨1, _⟩ =>
    show win0_7.index t (1 : Fin 2) * 512 + 1 * n.val = 512 * (t.val % 11) + n.val
    omega

theorem emb8 (t : Fin cfg0.N) (z : Fin 1) (s : Fin 8) (n : Fin 512) : ((cfg0.win 8).blk t).view.emb (ix3 z s n) = (ix3 ⟨t.val / 11, row_lt t⟩ s (colAt t n) : S8x8x5632.Idx) := by
  obtain ⟨e0, e1, e2⟩ := index8 t
  funext a
  refine Fin.ext ?_
  match a with
  | ⟨0, _⟩ =>
    show win0_8.index t (0 : Fin 3) * 1 + 1 * z.val = t.val / 11
    omega
  | ⟨1, _⟩ =>
    show win0_8.index t (1 : Fin 3) * 8 + 1 * s.val = s.val
    omega
  | ⟨2, _⟩ =>
    show win0_8.index t (2 : Fin 3) * 512 + 1 * n.val = 512 * (t.val % 11) + n.val
    omega

theorem read0 (A : S8704x2048.Idx → EReal) (t : Fin cfg0.N) (r : Fin 1088) (k : Fin 2048) :
    (((cfg0.win 0).blk t).view.read (Elt Ideal) A : S1088x2048.Idx → EReal) (ix2 r k) = A (ix2 (rowAt t r) k) := congrArg A (emb0 t r k)

theorem read1 (A : S8704x2048.Idx → EReal) (t : Fin cfg0.N) (s : Fin 8) (k : Fin 2048) :
    (((cfg0.win 1).blk t).view.read (Elt Ideal) A : S8x2048.Idx → EReal) (ix2 s k) = A (ix2 (preAt t s) k) := congrArg A (emb1 t s k)

theorem read2 (A : S1x2048.Idx → EReal) (t : Fin cfg0.N) (s : Fin 1) (k : Fin 2048) :
    (((cfg0.win 2).blk t).view.read (Elt Ideal) A : S1x2048.Idx → EReal) (ix2 s k) = A (ix2 s k) := congrArg A (emb2 t s k)

theorem read3 (A : S2048x5632.Idx → EReal) (t : Fin cfg0.N) (k : Fin 2048) (n : Fin 512) :
    (((cfg0.win 3).blk t).view.read (Elt Ideal) A : S2048x512.Idx → EReal) (ix2 k n) = A (ix2 k (colAt t n)) := congrArg A (emb3 t k n)

theorem read4 (A : S2048x5632.Idx → EReal) (t : Fin cfg0.N) (k : Fin 2048) (n : Fin 512) :
    (((cfg0.win 4).blk t).view.read (Elt Ideal) A : S2048x512.Idx → EReal) (ix2 k n) = A (ix2 k (colAt t n)) := congrArg A (emb4 t k n)

theorem read5 (A : S8x5632.Idx → EReal) (t : Fin cfg0.N) (k : Fin 8) (n : Fin 512) :
    (((cfg0.win 5).blk t).view.read (Elt Ideal) A : S8x512.Idx → EReal) (ix2 k n) = A (ix2 k (colAt t n)) := congrArg A (emb5 t k n)

theorem read6 (A : S1x5632.Idx → EReal) (t : Fin cfg0.N) (k : Fin 1) (n : Fin 512) :
    (((cfg0.win 6).blk t).view.read (Elt Ideal) A : S1x512.Idx → EReal) (ix2 k n) = A (ix2 k (colAt t n)) := congrArg A (emb6 t k n)

variable (m : (ℓ : Loc nD τ sig) → Buf (Elt Ideal) ℓ) (c : Dev nD)

theorem blk0 (t : Fin cfg0.N) (r : Fin 1088) (k : Fin 2048) : (iblk m c 0 t : S1088x2048.Idx → EReal) (ix2 r k) = padRows (argX m c) (rowAt t r).val k :=
  (read0 _ t r k).trans (rows_x m c _ _)

theorem blk1 (t : Fin cfg0.N) (s : Fin 8) (k : Fin 2048) : (iblk m c 1 t : S8x2048.Idx → EReal) (ix2 s k) = padRows (argX m c) (preAt t s).val k :=
  (read1 _ t s k).trans (rows_x m c _ _)

theorem blk2 (t : Fin cfg0.N) (k : Fin 2048) : (iblk m c 2 t : S1x2048.Idx → EReal) (ix2 0 k) = argG m c (ix1 k) :=
  (read2 _ t 0 k).trans (scales m c k)

theorem blk3 (t : Fin cfg0.N) (k : Fin 2048) (n : Fin 512) : (iblk m c 3 t : S2048x512.Idx → EReal) (ix2 k n) = argWg m c (ix2 k (colAt t n)) :=
  (read3 _ t k n).trans (gate_weights m c _ _)

theorem blk4 (t : Fin cfg0.N) (k : Fin 2048) (n : Fin 512) : (iblk m c 4 t : S2048x512.Idx → EReal) (ix2 k n) = argWu m c (ix2 k (colAt t n)) :=
  (read4 _ t k n).trans (up_weights m c _ _)

theorem blk5 (t : Fin cfg0.N) (d : Fin 3) (n : Fin 512) : (iblk m c 5 t : S8x512.Idx → EReal) (ix2 ⟨d.val, by omega⟩ n) = argWc m c (ix2 d (colAt t n)) :=
  (read5 _ t _ n).trans (taps m c d _)

theorem blk6 (t : Fin cfg0.N) (n : Fin 512) : (iblk m c 6 t : S1x512.Idx → EReal) (ix2 0 n) = argB m c (ix1 (colAt t n)) :=
  (read6 _ t 0 n).trans (bias m c _)

/-! ## The normalised rows kept between points -/

/-- The normalised rows of a tile and, for the eight before them, what the kernel takes the rows above the tile to be. -/
def Keeps (t : Fin cfg0.N) (h : S1088x2048.Idx → EReal) (q : S16x2048.Idx → EReal) : Prop :=
  (∀ r k, h (ix2 r k) = nrow (argX m c) (argG m c) (1088 * (t.val / 11) + r.val) k)
    ∧ ∀ (s : Fin 8) k, q (ix2 ⟨s.val, by omega⟩ k) = if t.val / 11 % 4 = 0 then 0 else nrow (argX m c) (argG m c) (1088 * (t.val / 11) + s.val - 8) k

theorem start_iff : ∀ t : Fin cfg0.N, startOf 4#32 (Scalar.remsi (BitVec.ofNat 32 (grid0.coords t 0).val) 4#32) 0#32 = if t.val / 11 % 4 = 0 then 1#1 else 0#1 :=
  (by decide +kernel : ∀ t : Fin grid0.N, startOf 4#32 (Scalar.remsi (BitVec.ofNat 32 (grid0.coords t 0).val) 4#32) 0#32 = if t.val / 11 % 4 = 0 then 1#1 else 0#1)

theorem hA_at (x0 : S1088x2048.Idx → EReal) (x2 : S1x2048.Idx → EReal) (t : Fin cfg0.N) (h0 : ∀ r k, x0 (ix2 r k) = padRows (argX m c) (rowAt t r).val k)
    (h2 : ∀ k, x2 (ix2 0 k) = argG m c (ix1 k)) (r : Fin 1088) (k : Fin 2048) :
    (hA x0 x2 : S1088x2048.Idx → EReal) (ix2 r k) = nrow (argX m c) (argG m c) (1088 * (t.val / 11) + r.val) k :=
  (pay3_at x0 x2 r k).trans (congrArg₂ (fun a b => normed a b k) (funext fun k => h0 r k) (funext fun k => h2 k))

theorem qA_at (x1 : S8x2048.Idx → EReal) (x2 : S1x2048.Idx → EReal) (t : Fin cfg0.N) (h1 : ∀ s k, x1 (ix2 s k) = padRows (argX m c) (preAt t s).val k)
    (h2 : ∀ k, x2 (ix2 0 k) = argG m c (ix1 k)) (s : Fin 8) (k : Fin 2048) :
    (qA (grid0.coords t) x1 x2 : S16x2048.Idx → EReal) (ix2 ⟨s.val, by omega⟩ k)
      = if t.val / 11 % 4 = 0 then 0 else nrow (argX m c) (argG m c) (1088 * (t.val / 11) + s.val - 8) k := by
  refine (pay5_at _ _ _ _ s k).trans ?_
  rw [start_iff]
  by_cases e : t.val / 11 % 4 = 0
  · rw [if_pos e, if_pos e]
    exact if_pos rfl
  · rw [if_neg e, if_neg e]
    refine (if_neg (by decide)).trans ((pay4_at x1 x2 s k).trans ?_)
    refine congrArg₂ (fun a b => normed a b k) (funext fun k => (h1 s k).trans ?_) (funext fun k => h2 k)
    exact congrArg (fun p => padRows (argX m c) p k) (show 8 * (136 * (t.val / 11) - 1) + s.val = 1088 * (t.val / 11) + s.val - 8 by omega)

/-- What the two kept scratch arrays hold after a point. -/
abbrev keptH (t : Fin cfg0.N) : S1088x2048.Idx → EReal := (outsAt0 m c t.val t.isLt).2.2.1
abbrev keptQ (t : Fin cfg0.N) : S16x2048.Idx → EReal := (outsAt0 m c t.val t.isLt).2.2.2

theorem keptH_A (t : Fin cfg0.N) (h : t.val % 11 = 0) : keptH m c t = hA (iblk m c 0 t) (iblk m c 2 t) := by
  unfold keptH
  rw [outsAt0_A m c t h]
  dsimp only
  have e := scratchA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h)
  exact e

theorem keptQ_A (t : Fin cfg0.N) (h : t.val % 11 = 0) : keptQ m c t = qA (grid0.coords t) (iblk m c 1 t) (iblk m c 2 t) := by
  unfold keptQ
  rw [outsAt0_A m c t h]
  dsimp only
  have e := scratchA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h)
  exact e

/-- The point before. -/
abbrev before (t : Fin cfg0.N) : Fin cfg0.N := ⟨t.val - 1, Nat.lt_of_le_of_lt (Nat.sub_le _ _) t.isLt⟩

theorem keptH_B (t : Fin cfg0.N) (h : ¬t.val % 11 = 0) : keptH m c t = keptH m c (before t) := by
  unfold keptH
  rw [outsAt0_B m c t h]
  rfl

theorem keptQ_B (t : Fin cfg0.N) (h : ¬t.val % 11 = 0) : keptQ m c t = keptQ m c (before t) := by
  unfold keptQ
  rw [outsAt0_B m c t h]
  rfl

theorem keeps (n : ℕ) : ∀ hn : n < cfg0.N, Keeps m c ⟨n, hn⟩ (keptH m c ⟨n, hn⟩) (keptQ m c ⟨n, hn⟩) := by
  induction n with
  | zero =>
    intro hn
    rw [keptH_A m c ⟨0, hn⟩ rfl, keptQ_A m c ⟨0, hn⟩ rfl]
    exact ⟨fun r k => hA_at m c _ _ _ (blk0 m c _) (blk2 m c _) r k, fun s k => qA_at m c _ _ _ (blk1 m c _) (blk2 m c _) s k⟩
  | succ n ih =>
    intro hn
    by_cases e : (n + 1) % 11 = 0
    · rw [keptH_A m c ⟨n + 1, hn⟩ e, keptQ_A m c ⟨n + 1, hn⟩ e]
      exact ⟨fun r k => hA_at m c _ _ _ (blk0 m c _) (blk2 m c _) r k, fun s k => qA_at m c _ _ _ (blk1 m c _) (blk2 m c _) s k⟩
    · rw [keptH_B m c ⟨n + 1, hn⟩ e, keptQ_B m c ⟨n + 1, hn⟩ e]
      have i := ih (Nat.lt_of_succ_lt hn)
      have hd : (n + 1) / 11 = n / 11 := by omega
      unfold Keeps at i ⊢
      dsimp only at i ⊢
      rw [hd]
      exact i

/-! ## The output blocks -/

theorem act_kept (t : Fin cfg0.N) (r : Fin 1088) (n : Fin 512) :
    ((outsAt0 m c t.val t.isLt).1 : S1088x512.Idx → EReal) (ix2 r n) = actAt (keptH m c t) (keptQ m c t) (iblk m c 3 t) (iblk m c 4 t) (iblk m c 5 t) (iblk m c 6 t) r.val n := by
  by_cases h : t.val % 11 = 0
  · rw [keptH_A m c t h, keptQ_A m c t h, outsAt0_A m c t h]
    dsimp only
    have e := actA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) r n
    exact e
  · rw [keptH_B m c t h, keptQ_B m c t h, outsAt0_B m c t h]
    dsimp only
    have e := actB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (keptH m c (before t)) (keptQ m c (before t)) (fun h' => h ((hcond0_0 t).mp h')) r n
    exact e

theorem tail_kept (t : Fin cfg0.N) (s : Fin 8) (n : Fin 512) :
    ((outsAt0 m c t.val t.isLt).2.1 : S1x8x512.Idx → EReal) (ix3 0 s n) = gs (keptH m c t) (keptQ m c t) (iblk m c 3 t) (848 + s.val) n := by
  by_cases h : t.val % 11 = 0
  · rw [keptH_A m c t h, keptQ_A m c t h, outsAt0_A m c t h]
    dsimp only
    have e := tailA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h) s n
    exact e
  · rw [keptH_B m c t h, keptQ_B m c t h, outsAt0_B m c t h]
    dsimp only
    have e := tailB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (keptH m c (before t)) (keptQ m c (before t)) (fun h' => h ((hcond0_0 t).mp h')) s n
    exact e

/-- The kept rows, from eight rows above the tile on, are the normalised rows, zero above the first row of a sequence. -/
theorem hrow_eq (t : Fin cfg0.N) (h : S1088x2048.Idx → EReal) (q : S16x2048.Idx → EReal) (H : Keeps m c t h q) (r : Fin 1088) (p d : ℕ) (hd : d ≤ 8) (hp : p + d = r.val + 8) (k : Fin 2048) :
    hrow h q p k = above (argX m c) (argG m c) (rowAt t r).val d k := by
  have ht := row_lt t
  have hr := r.isLt
  unfold hrow above
  show _ = if (1088 * (t.val / 11) + r.val) % 4352 < d then 0 else nrow (argX m c) (argG m c) (1088 * (t.val / 11) + r.val - d) k
  by_cases e : p < 8
  · rw [dif_pos e]
    refine (H.2 ⟨p, e⟩ k).trans ?_
    by_cases z : t.val / 11 % 4 = 0
    · rw [if_pos z, if_pos (by omega)]
    · rw [if_neg z, if_neg (by omega)]
      exact congrArg (fun x => nrow (argX m c) (argG m c) x k) (show 1088 * (t.val / 11) + p - 8 = 1088 * (t.val / 11) + r.val - d by omega)
  · rw [dif_neg e, dif_pos (by omega), if_neg (by omega)]
    refine (H.1 _ k).trans ?_
    exact congrArg (fun x => nrow (argX m c) (argG m c) x k) (show 1088 * (t.val / 11) + (p - 8) = 1088 * (t.val / 11) + r.val - d by omega)

theorem gs_eq (t : Fin cfg0.N) (h : S1088x2048.Idx → EReal) (q : S16x2048.Idx → EReal) (H : Keeps m c t h q) (w : S2048x512.Idx → EReal) (W : S2048x5632.Idx → EReal)
    (n : Fin 512) (hw : ∀ k, w (ix2 k n) = W (ix2 k (colAt t n))) (r : Fin 1088) (p d : ℕ) (hd : d ≤ 8) (hp : p + d = r.val + 8) :
    ∑ k : Fin 2048, hrow h q p k * w (ix2 k n) = shifted (argX m c) (argG m c) W (rowAt t r).val d (colAt t n) := by
  rw [← shifted_eq]
  exact Finset.sum_congr rfl fun k _ => congrArg₂ (· * ·) (hrow_eq m c t h q H r p d hd hp k) (hw k)

theorem act_point (t : Fin cfg0.N) (r : Fin 1088) (n : Fin 512) :
    ((outsAt0 m c t.val t.isLt).1 : S1088x512.Idx → EReal) (ix2 r n)
      = actArr (argX m c) (argG m c) (argWg m c) (argWu m c) (argWc m c) (argB m c) (ix2 (rowAt t r) (colAt t n)) := by
  have H := keeps m c t.val t.isLt
  have G := fun p d hd hp => gs_eq m c t _ _ H (iblk m c 3 t) (argWg m c) n (fun k => blk3 m c t k n) r p d hd hp
  refine (act_kept m c t r n).trans ?_
  unfold actAt
  refine congrArg₂ gated (congrArg₂ (· + ·) (congrArg₂ (· + ·) (congrArg₂ (· + ·) (congrArg₂ (· * ·) (blk5 m c t 0 n) (G (r.val + 6) 2 (by decide) (by omega)))
    (congrArg₂ (· * ·) (blk5 m c t 1 n) (G (r.val + 7) 1 (by decide) (by omega)))) (congrArg₂ (· * ·) (blk5 m c t 2 n) (G (r.val + 8) 0 (by decide) (by omega)))) (blk6 m c t n)) ?_
  exact (gs_eq m c t _ _ H (iblk m c 4 t) (argWu m c) n (fun k => blk4 m c t k n) r (r.val + 8) 0 (by decide) (by omega)).trans (shifted_zero _ _ _ _ _)

theorem tail_point (t : Fin cfg0.N) (s : Fin 8) (n : Fin 512) :
    ((outsAt0 m c t.val t.isLt).2.1 : S1x8x512.Idx → EReal) (ix3 0 s n)
      = tailArr (argX m c) (argG m c) (argWg m c) (ix3 ⟨t.val / 11, row_lt t⟩ s (colAt t n)) := by
  have H := keeps m c t.val t.isLt
  refine (tail_kept m c t s n).trans ?_
  refine (gs_eq m c t _ _ H (iblk m c 3 t) (argWg m c) n (fun k => blk3 m c t k n) ⟨840 + s.val, by omega⟩ (848 + s.val) 0 (by decide) (by show _ = 840 + s.val + 8; omega)).trans ?_
  refine (shifted_zero _ _ _ _ _).trans ?_
  exact congrArg (fun p => prow (argX m c) (argG m c) (argWg m c) p (colAt t n)) (show 1088 * (t.val / 11) + (840 + s.val) = 1088 * (t.val / 11) + 840 + s.val by omega)

/-! ## The output arrays -/

theorem flushed7_eq (t : Fin cfg0.N) :
    (dats m 0 c).flushed 7 t = ((cfg0.win 7).blk t).view.read (Elt Ideal) (actArr (argX m c) (argG m c) (argWg m c) (argWu m c) (argWc m c) (argB m c)) := by
  rw [Value.flushed7 m c t]
  funext y
  have hy : (y : S1088x512.Idx) = ix2 (y 0) (y 1) := by
    funext a
    match a with
    | ⟨0, _⟩ => rfl
    | ⟨1, _⟩ => rfl
  rw [hy]
  exact (act_point m c t (y 0) (y 1)).trans (congrArg (actArr (argX m c) (argG m c) (argWg m c) (argWu m c) (argWc m c) (argB m c)) (emb7 t (y 0) (y 1))).symm

theorem flushed8_eq (t : Fin cfg0.N) :
    (dats m 0 c).flushed 8 t = ((cfg0.win 8).blk t).view.read (Elt Ideal) (tailArr (argX m c) (argG m c) (argWg m c)) := by
  rw [Value.flushed8 m c t]
  funext y
  have hy : (y : S1x8x512.Idx) = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [hy]
  exact (tail_point m c t (y 1) (y 2)).trans (congrArg (tailArr (argX m c) (argG m c) (argWg m c)) (emb8 t 0 (y 1) (y 2))).symm

theorem covers7 : (cfg0.win 7).Covers := by decide +kernel

theorem covers8 : (cfg0.win 8).Covers := by decide +kernel

/-- The kernel's first output array after the run. -/
theorem final7 : (dats m 0 c).arrAt 7 cfg0.N = actArr (argX m c) (argG m c) (argWg m c) (argWu m c) (argWc m c) (argB m c) :=
  (dats m 0 c).arrAt_eq_of_cover 7 _ (fun t _ => flushed7_eq m c t) (covers7.cover _ (Memref.isWhole_whole _))

/-- The kernel's second output array after the run. -/
theorem final8 : (dats m 0 c).arrAt 8 cfg0.N = tailArr (argX m c) (argG m c) (argWg m c) :=
  (dats m 0 c).arrAt_eq_of_cover 8 _ (fun t _ => flushed8_eq m c t) (covers8.cover _ (Memref.isWhole_whole _))

end Cert.Proof.Gate
-- ==== Proof.GateRef.lean ====
module

public import proofs.«01_k».proof.Proof.Gate
public import proofs.«01_k».proof.Proof.Gen.Reference2Ideal.Run

@[expose] public section

set_option maxRecDepth 16384

noncomputable section

namespace Cert.Proof.GateRef

open Cert.Reference2Ideal Cert.Reference2Ideal.Gen Idealize.ShloMosaic Idealize.ShloMosaic.TcCoe Idealize.SL.Sem
open Cert.Proof.Rows Cert.Proof.GateTile Cert.Proof.Gate

/-! ## The reference's arrays, by name -/

/-- The normalised rows of both sequences. -/
def normR (x : Vec Ideal S2x4112x2048 .f32) (g : Vec Ideal S2048 .f32) : Vec Ideal S2x4112x2048 .f32 :=
  mulf (mulf x (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf x x) (constant (F := Ideal) S_ .f32 0x00000000#32) reducesTo_S2x4112x2048_S2x4112_d2 h_S_)) (broadcastInDim S2x4112x1 ![] bcast_S_S2x4112x1 (constant (F := Ideal) S_ .f32 0x45000000#32))) (broadcastInDim S2x4112x1 ![] bcast_S_S2x4112x1 (constant (F := Ideal) S_ .f32 0x358637BD#32)))))) (broadcastInDim S2x4112x2048 ![0, 1, 2] bcast_S1x1x2048_S2x4112x2048_0_1_2 (broadcastInDim S1x1x2048 ![2] bcast_S2048_S1x1x2048_2 g))

/-- The product of the rows with a weight matrix. -/
def dotR (h : Vec Ideal S2x4112x2048 .f32) (w : Vec Ideal S2048x5632 .f32) : Vec Ideal S2x4112x5632 .f32 :=
  Host.dotGeneral (F := Ideal) (φ₁ := .f32) (φ₂ := .f32) dot_S2x4112x2048_S2048x5632_S2x4112x5632_2_0_01_1_n_n none h w

/-- The gate rows with two rows of zeros before each sequence. -/
def fullR (G : Vec Ideal S2x4112x5632 .f32) : Vec Ideal S2x4114x5632 .f32 :=
  concatenate S2x4114x5632 1 [⟨S2x2x5632, (broadcastInDim S2x2x5632 ![] bcast_S_S2x2x5632 (constant (F := Ideal) S_ .f32 0x00000000#32))⟩, ⟨S2x4112x5632, G⟩] concatenates_S2x2x5632_S2x4112x5632_S2x4114x5632_d1

/-- The three taps over the gate rows, and the bias. -/
def convR (f : Vec Ideal S2x4114x5632 .f32) (wc : Vec Ideal S3x5632 .f32) (b : Vec Ideal S5632 .f32) : Vec Ideal S2x4112x5632 .f32 :=
  addf (F := Ideal) (φ := .f32) (addf (F := Ideal) (φ := .f32) (addf (F := Ideal) (φ := .f32) (mulf (F := Ideal) (φ := .f32) (broadcastInDim S2x4112x5632 ![0, 1, 2] bcast_S1x1x5632_S2x4112x5632_0_1_2 (broadcastInDim S1x1x5632 ![2] bcast_S5632_S1x1x5632_2 (shapeCast S5632 (extractStridedSlice S1x5632 ![0, 0] wc slices_S3x5632_S1x5632_0_0) shapeCasts_S1x5632_S5632))) (extractStridedSlice S2x4112x5632 ![0, 0, 0] f slices_S2x4114x5632_S2x4112x5632_0_0_0)) (mulf (F := Ideal) (φ := .f32) (broadcastInDim S2x4112x5632 ![0, 1, 2] bcast_S1x1x5632_S2x4112x5632_0_1_2 (broadcastInDim S1x1x5632 ![2] bcast_S5632_S1x1x5632_2 (shapeCast S5632 (extractStridedSlice S1x5632 ![1, 0] wc slices_S3x5632_S1x5632_1_0) shapeCasts_S1x5632_S5632))) (extractStridedSlice S2x4112x5632 ![0, 1, 0] f slices_S2x4114x5632_S2x4112x5632_0_1_0))) (mulf (F := Ideal) (φ := .f32) (broadcastInDim S2x4112x5632 ![0, 1, 2] bcast_S1x1x5632_S2x4112x5632_0_1_2 (broadcastInDim S1x1x5632 ![2] bcast_S5632_S1x1x5632_2 (shapeCast S5632 (extractStridedSlice S1x5632 ![2, 0] wc slices_S3x5632_S1x5632_2_0) shapeCasts_S1x5632_S5632))) (extractStridedSlice S2x4112x5632 ![0, 2, 0] f slices_S2x4114x5632_S2x4112x5632_0_2_0))) (broadcastInDim S2x4112x5632 ![0, 1, 2] bcast_S1x1x5632_S2x4112x5632_0_1_2 (broadcastInDim S1x1x5632 ![2] bcast_S5632_S1x1x5632_2 b))

/-- An array times its logistic function, times a second array. -/
def gatedR (v u : Vec Ideal S2x4112x5632 .f32) : Vec Ideal S2x4112x5632 .f32 :=
  mulf (mulf v (Host.divf (broadcastInDim S2x4112x5632 ![] bcast_S_S2x4112x5632 (constant (F := Ideal) S_ .f32 0x3F800000#32)) (addf (broadcastInDim S2x4112x5632 ![] bcast_S_S2x4112x5632 (constant (F := Ideal) S_ .f32 0x3F800000#32)) (Host.exp (Host.negf v))))) u

/-- The padded rows, one sequence below the other. -/
def padR (v : Vec Ideal S2x4112x5632 .f32) : Vec Ideal S8704x5632 .f32 :=
  shapeCast S8704x5632 (pad S2x4352x5632 ![0, 0, 0] ![0, 240, 0] ![0, 0, 0] v (sitofp (F := Ideal) .f32 (constantI S_ 32 0#32)) pads_S2x4112x5632_S2x4352x5632_000_02400_000 h_S_) shapeCasts_S2x4352x5632_S8704x5632

/-- Of each 1088 rows the eight from row 840. -/
def tailR (v : Vec Ideal S8704x5632 .f32) : Vec Ideal S8x8x5632 .f32 :=
  extractStridedSlice S8x8x5632 ![0, 840, 0] (shapeCast S8x1088x5632 v shapeCasts_S8704x5632_S8x1088x5632) slices_S8x1088x5632_S8x8x5632_0_840_0

theorem res_eq (m : (ℓ : Loc nD τ sig) → Buf (Elt Ideal) ℓ) (c : Dev nD) :
    Value.res_main_v44 m c = truncf (F := Ideal) .bf16 (padR (gatedR
      (convR (fullR (dotR (normR (m ((c.tc : Thread nD τ).loc main_arg0)) (m ((c.tc : Thread nD τ).loc main_arg1))) (m ((c.tc : Thread nD τ).loc main_arg2)))) (m ((c.tc : Thread nD τ).loc main_arg4)) (m ((c.tc : Thread nD τ).loc main_arg5)))
      (dotR (normR (m ((c.tc : Thread nD τ).loc main_arg0)) (m ((c.tc : Thread nD τ).loc main_arg1))) (m ((c.tc : Thread nD τ).loc main_arg3))))) bitsLt_bf16_f32 := by
  unfold Value.res_main_v44
  rfl

/-! ## Their elements -/

theorem normR_at (x : Vec Ideal S2x4112x2048 .f32) (g : Vec Ideal S2048 .f32) (b : Fin 2) (t : Fin 4112) (k : Fin 2048) :
    normR x g (ix3 b t k) = normed (fun k => x (ix3 b t k)) (fun k => g (ix1 k)) k := by
  unfold normed
  pointwise [normR]

theorem dotR_at (h : Vec Ideal S2x4112x2048 .f32) (w : Vec Ideal S2048x5632 .f32) (b : Fin 2) (t : Fin 4112) (n : Fin 5632) :
    dotR h w (ix3 b t n) = ∑ k : Fin 2048, h (ix3 b t k) * w (ix2 k n) := by
  pointwise [dotR]

theorem fullR_at (G : Vec Ideal S2x4112x5632 .f32) (b : Fin 2) (t : Fin 4114) (n : Fin 5632) :
    fullR G (ix3 b t n) = if h : t.val < 2 then 0 else G (ix3 b ⟨t.val - 2, by omega⟩ n) := by
  pointwise [fullR]

theorem convR_at (f : Vec Ideal S2x4114x5632 .f32) (wc : Vec Ideal S3x5632 .f32) (b : Vec Ideal S5632 .f32) (s : Fin 2) (t : Fin 4112) (n : Fin 5632) :
    convR f wc b (ix3 s t n) = wc (ix2 0 n) * f (ix3 s ⟨t.val, by omega⟩ n) + wc (ix2 1 n) * f (ix3 s ⟨1 + t.val, by omega⟩ n) + wc (ix2 2 n) * f (ix3 s ⟨2 + t.val, by omega⟩ n) + b (ix1 n) := by
  pointwise [convR]

theorem gatedR_at (v u : Vec Ideal S2x4112x5632 .f32) (b : Fin 2) (t : Fin 4112) (n : Fin 5632) :
    gatedR v u (ix3 b t n) = gated (v (ix3 b t n)) (u (ix3 b t n)) := by
  unfold gated
  pointwise [gatedR]
  rfl

theorem padR_at (v : Vec Ideal S2x4112x5632 .f32) (r : Fin 8704) (n : Fin 5632) : padR v (ix2 r n) = padRows v r.val n := by
  pointwise [padR]
  exact padRows_of v r n _ zero_word

theorem tailR_at (v : Vec Ideal S8704x5632 .f32) (i : Fin 8) (s : Fin 8) (n : Fin 5632) :
    tailR v (ix3 i s n) = v (ix2 ⟨1088 * i.val + 840 + s.val, by omega⟩ n) := by
  pointwise [tailR]
  exact congrArg (fun r => v (ix2 r n)) (Fin.ext (by show i.val * 1088 + (840 + s.val) = 1088 * i.val + 840 + s.val; omega))

/-! ## Both results -/

section
variable (x : Vec Ideal S2x4112x2048 .f32) (g : Vec Ideal S2048 .f32) (wg wu w : Vec Ideal S2048x5632 .f32) (wc : Vec Ideal S3x5632 .f32) (b : Vec Ideal S5632 .f32)

/-- The products of the padded rows are the padded products. -/
theorem prow_eq (r : ℕ) (n : Fin 5632) : prow x g w r n = padRows (dotR (normR x g) w) r n := by
  unfold prow nrow padRows
  by_cases h : r % 4352 < 4112
  · rw [dif_pos h, dotR_at]
    refine Finset.sum_congr rfl fun k _ => ?_
    rw [normR_at]
    refine congrArg (fun z => normed z (fun k => g (ix1 k)) k * w (ix2 k n)) (funext fun k => ?_)
    exact dif_pos h
  · rw [dif_neg h]
    refine Finset.sum_eq_zero fun k _ => ?_
    rw [normed_zero _ _ _ (dif_neg h), zero_mul]

/-- A shifted gate row is the row of the lengthened gate rows. -/
theorem shifted_full (r d : ℕ) (hd : d ≤ 2) (n : Fin 5632) (h : r % 4352 < 4112) :
    shifted x g w r d n = fullR (dotR (normR x g) w) (ix3 ⟨r / 4352 % 2, Nat.mod_lt _ (by decide)⟩ ⟨2 - d + r % 4352, by omega⟩ n) := by
  rw [fullR_at]
  unfold shifted
  by_cases e : r % 4352 < d
  · rw [if_pos e, dif_pos (show 2 - d + r % 4352 < 2 by omega)]
  · rw [if_neg e, dif_neg (show ¬2 - d + r % 4352 < 2 by omega), prow_eq]
    unfold padRows
    have e1 : (r - d) % 4352 = 2 - d + r % 4352 - 2 := by omega
    have e2 : (r - d) / 4352 = r / 4352 := by omega
    rw [dif_pos (by omega)]
    congr 2
    · exact Fin.ext (congrArg (· % 2) e2)
    · exact Fin.ext e1

theorem act_at (r : Fin 8704) (n : Fin 5632) :
    padR (gatedR (convR (fullR (dotR (normR x g) wg)) wc b) (dotR (normR x g) wu)) (ix2 r n) = actArr x g wg wu wc b (ix2 r n) := by
  rw [padR_at]
  show _ = gated (wc (ix2 0 n) * shifted x g wg r.val 2 n + wc (ix2 1 n) * shifted x g wg r.val 1 n + wc (ix2 2 n) * shifted x g wg r.val 0 n + b (ix1 n)) (prow x g wu r.val n)
  rw [prow_eq]
  unfold padRows
  by_cases h : r.val % 4352 < 4112
  · rw [dif_pos h, dif_pos h, gatedR_at, convR_at, shifted_full x g wg _ 2 (by decide) n h, shifted_full x g wg _ 1 (by decide) n h, shifted_full x g wg _ 0 (by decide) n h]
    have e : (⟨r.val % 4352, by omega⟩ : Fin 4114) = ⟨2 - 2 + r.val % 4352, by omega⟩ := Fin.ext (Nat.zero_add _).symm
    exact congrArg (fun t => gated (wc (ix2 0 n) * fullR (dotR (normR x g) wg) (ix3 _ t n) + _ + _ + _) _) e
  · rw [dif_neg h, dif_neg h]
    exact (mul_zero _).symm

theorem act_eq (i : S8704x5632.Idx) : padR (gatedR (convR (fullR (dotR (normR x g) wg)) wc b) (dotR (normR x g) wu)) i = actArr x g wg wu wc b i := by
  have hi : i = ix2 (i 0) (i 1) := by
    funext a
    match a with
    | ⟨0, _⟩ => rfl
    | ⟨1, _⟩ => rfl
  rw [hi]
  exact act_at x g wg wu wc b (i 0) (i 1)

theorem tail_eq (i : S8x8x5632.Idx) : tailR (padR (dotR (normR x g) w)) i = tailArr x g w i := by
  have hi : i = ix3 (i 0) (i 1) (i 2) := by
    funext a
    match a with
    | ⟨0, _⟩ => rfl
    | ⟨1, _⟩ => rfl
    | ⟨2, _⟩ => rfl
  rw [hi]
  exact (tailR_at _ _ _ _).trans ((padR_at _ _ _).trans (prow_eq x g w _ _).symm)

end

end Cert.Proof.GateRef
-- ==== Proof.Down.lean ====
module

public import proofs.«01_k».proof.Proof.Rows
public import proofs.«01_k».proof.Proof.Gen.Kernel3Ideal.Value
public import proofs.«01_k».proof.Proof.Gen.Reference3Ideal.Run
public import Idealize.ShloMosaic.Lib.StableHlo.ReadAt
public import Idealize.ShloMosaic.Lib.Pipeline.ValueKit

@[expose] public section

set_option maxRecDepth 16384

noncomputable section

namespace Cert.Proof.Down

open Cert.Kernel3Ideal Cert.Kernel3Ideal.Gen Idealize.ShloMosaic Idealize.ShloMosaic.TcCoe Idealize.SL.Sem
open Cert.Proof.Rows

variable (m : (ℓ : Loc nD τ sig) → Buf (Elt Ideal) ℓ) (c : Dev nD)

/-! ## The arguments as launched, and the arrays of the windows -/

abbrev argA : S2x4112x5632.Idx → EReal := m ((c : Thread nD τ).loc main_arg0)
abbrev argW : S5632x2048.Idx → EReal := m ((c : Thread nD τ).loc main_arg1)
abbrev argX : S2x4112x2048.Idx → EReal := m ((c : Thread nD τ).loc main_arg2)

theorem rows_act (r : Fin 8704) (n : Fin 5632) :
    (V m c main_v2 : S8704x5632.Idx → EReal) (ix2 r n) = padRows (argA m c) r.val n := by
  unfold V
  after_reads_at
  exact padRows_of (argA m c) r n _ zero_word

theorem rows_x (r : Fin 8704) (n : Fin 2048) :
    (V m c main_v5 : S8704x2048.Idx → EReal) (ix2 r n) = padRows (argX m c) r.val n := by
  unfold V
  after_reads_at
  exact padRows_of (argX m c) r n _ zero_word

theorem weights (r : Fin 5632) (n : Fin 2048) :
    (V m c main_v3 : S5632x2048.Idx → EReal) (ix2 r n) = argW m c (ix2 r n) := by
  unfold V
  after_reads_at

/-! ## The blocks of a grid point -/

theorem c0_lt (t : Fin cfg0.N) : (grid0.coords t 0).val < 8 := (grid0.coords t 0).isLt
theorem c1_lt (t : Fin cfg0.N) : (grid0.coords t 1).val < 4 := (grid0.coords t 1).isLt

/-- Row `r` of the tile of a grid point. -/
abbrev rowAt (t : Fin cfg0.N) (r : Fin 1088) : Fin 8704 := ⟨1088 * (grid0.coords t 0).val + r.val, by have := c0_lt t; omega⟩

/-- Column `n` of the tile of a grid point. -/
abbrev colAt (t : Fin cfg0.N) (n : Fin 512) : Fin 2048 := ⟨512 * (grid0.coords t 1).val + n.val, by have := c1_lt t; omega⟩

theorem index0 : ∀ t : Fin cfg0.N, win0_0.index t (0 : Fin 2) = (grid0.coords t 0).val ∧ win0_0.index t (1 : Fin 2) = 0 :=
  (by decide +kernel : ∀ t : Fin grid0.N, win0_0.index t (0 : Fin 2) = (grid0.coords t 0).val ∧ win0_0.index t (1 : Fin 2) = 0)

theorem index1 : ∀ t : Fin cfg0.N, win0_1.index t (0 : Fin 2) = 0 ∧ win0_1.index t (1 : Fin 2) = (grid0.coords t 1).val :=
  (by decide +kernel : ∀ t : Fin grid0.N, win0_1.index t (0 : Fin 2) = 0 ∧ win0_1.index t (1 : Fin 2) = (grid0.coords t 1).val)

theorem index2 : ∀ t : Fin cfg0.N, win0_2.index t (0 : Fin 2) = (grid0.coords t 0).val ∧ win0_2.index t (1 : Fin 2) = (grid0.coords t 1).val :=
  (by decide +kernel : ∀ t : Fin grid0.N, win0_2.index t (0 : Fin 2) = (grid0.coords t 0).val ∧ win0_2.index t (1 : Fin 2) = (grid0.coords t 1).val)

theorem index3 : ∀ t : Fin cfg0.N, win0_3.index t (0 : Fin 2) = (grid0.coords t 0).val ∧ win0_3.index t (1 : Fin 2) = (grid0.coords t 1).val :=
  (by decide +kernel : ∀ t : Fin grid0.N, win0_3.index t (0 : Fin 2) = (grid0.coords t 0).val ∧ win0_3.index t (1 : Fin 2) = (grid0.coords t 1).val)

theorem emb0 (t : Fin cfg0.N) (r : Fin 1088) (k : Fin 5632) : ((cfg0.win 0).blk t).view.emb (ix2 r k) = (ix2 (rowAt t r) k : S8704x5632.Idx) := by
  obtain ⟨e0, e1⟩ := index0 t
  funext a
  refine Fin.ext ?_
  match a with
  | ⟨0, _⟩ =>
    show win0_0.index t (0 : Fin 2) * 1088 + 1 * r.val = 1088 * (grid0.coords t 0).val + r.val
    omega
  | ⟨1, _⟩ =>
    show win0_0.index t (1 : Fin 2) * 5632 + 1 * k.val = k.val
    omega

theorem emb1 (t : Fin cfg0.N) (k : Fin 5632) (n : Fin 512) : ((cfg0.win 1).blk t).view.emb (ix2 k n) = (ix2 k (colAt t n) : S5632x2048.Idx) := by
  obtain ⟨e0, e1⟩ := index1 t
  funext a
  refine Fin.ext ?_
  match a with
  | ⟨0, _⟩ =>
    show win0_1.index t (0 : Fin 2) * 5632 + 1 * k.val = k.val
    omega
  | ⟨1, _⟩ =>
    show win0_1.index t (1 : Fin 2) * 512 + 1 * n.val = 512 * (grid0.coords t 1).val + n.val
    omega

theorem emb2 (t : Fin cfg0.N) (r : Fin 1088) (n : Fin 512) : ((cfg0.win 2).blk t).view.emb (ix2 r n) = (ix2 (rowAt t r) (colAt t n) : S8704x2048.Idx) := by
  obtain ⟨e0, e1⟩ := index2 t
  funext a
  refine Fin.ext ?_
  match a with
  | ⟨0, _⟩ =>
    show win0_2.index t (0 : Fin 2) * 1088 + 1 * r.val = 1088 * (grid0.coords t 0).val + r.val
    omega
  | ⟨1, _⟩ =>
    show win0_2.index t (1 : Fin 2) * 512 + 1 * n.val = 512 * (grid0.coords t 1).val + n.val
    omega

theorem emb3 (t : Fin cfg0.N) (r : Fin 1088) (n : Fin 512) : ((cfg0.win 3).blk t).view.emb (ix2 r n) = (ix2 (rowAt t r) (colAt t n) : S8704x2048.Idx) := by
  obtain ⟨e0, e1⟩ := index3 t
  funext a
  refine Fin.ext ?_
  match a with
  | ⟨0, _⟩ =>
    show win0_3.index t (0 : Fin 2) * 1088 + 1 * r.val = 1088 * (grid0.coords t 0).val + r.val
    omega
  | ⟨1, _⟩ =>
    show win0_3.index t (1 : Fin 2) * 512 + 1 * n.val = 512 * (grid0.coords t 1).val + n.val
    omega

theorem read0 (A : S8704x5632.Idx → EReal) (B : S2x4112x5632.Idx → EReal) (h : ∀ r n, A (ix2 r n) = padRows B r.val n) (t : Fin cfg0.N) (r : Fin 1088) (k : Fin 5632) :
    (((cfg0.win 0).blk t).view.read (Elt Ideal) A : S1088x5632.Idx → EReal) (ix2 r k) = padRows B (rowAt t r).val k :=
  (congrArg A (emb0 t r k)).trans (h _ _)

theorem read1 (A B : S5632x2048.Idx → EReal) (h : ∀ r n, A (ix2 r n) = B (ix2 r n)) (t : Fin cfg0.N) (k : Fin 5632) (n : Fin 512) :
    (((cfg0.win 1).blk t).view.read (Elt Ideal) A : S5632x512.Idx → EReal) (ix2 k n) = B (ix2 k (colAt t n)) :=
  (congrArg A (emb1 t k n)).trans (h _ _)

theorem read2 (A : S8704x2048.Idx → EReal) (B : S2x4112x2048.Idx → EReal) (h : ∀ r n, A (ix2 r n) = padRows B r.val n) (t : Fin cfg0.N) (r : Fin 1088) (n : Fin 512) :
    (((cfg0.win 2).blk t).view.read (Elt Ideal) A : S1088x512.Idx → EReal) (ix2 r n) = padRows B (rowAt t r).val (colAt t n) :=
  (congrArg A (emb2 t r n)).trans (h _ _)

theorem blk0 (t : Fin cfg0.N) (r : Fin 1088) (k : Fin 5632) :
    (iblk m c 0 t : S1088x5632.Idx → EReal) (ix2 r k) = padRows (argA m c) (rowAt t r).val k := read0 _ _ (rows_act m c) t r k

theorem blk1 (t : Fin cfg0.N) (k : Fin 5632) (n : Fin 512) :
    (iblk m c 1 t : S5632x512.Idx → EReal) (ix2 k n) = argW m c (ix2 k (colAt t n)) := read1 _ _ (weights m c) t k n

theorem blk2 (t : Fin cfg0.N) (r : Fin 1088) (n : Fin 512) :
    (iblk m c 2 t : S1088x512.Idx → EReal) (ix2 r n) = padRows (argX m c) (rowAt t r).val (colAt t n) := read2 _ _ (rows_x m c) t r n

/-! ## The output block -/

section Tile

variable (x0 : S1088x5632.Idx → EReal) (x1 : S5632x512.Idx → EReal) (x2 : S1088x512.Idx → EReal)

/-- What a tile holds at row `r`, column `n`. -/
def tileAt (r : Fin 1088) (n : Fin 512) : EReal := x2 (ix2 r n) + ∑ k : Fin 5632, x0 (ix2 r k) * x1 (ix2 k n)

theorem pay1_at (v : S272x512.Idx → EReal) (a : S272x5632.Idx → EReal) (w : S5632x512.Idx → EReal) (r : Fin 272) (n : Fin 512) :
    (k0_pay1 (F := Ideal) v a w : S272x512.Idx → EReal) (ix2 r n) = v (ix2 r n) + ∑ k : Fin 5632, a (ix2 r k) * w (ix2 k n) := by
  pointwise [k0_pay1]

theorem pay2_at (v : S272x512.Idx → EReal) (a : S272x5632.Idx → EReal) (w : S5632x512.Idx → EReal) (r : Fin 272) (n : Fin 512) :
    (k0_pay2 (F := Ideal) v a w : S272x512.Idx → EReal) (ix2 r n) = v (ix2 r n) + ∑ k : Fin 5632, a (ix2 r k) * w (ix2 k n) := by
  pointwise [k0_pay2]

theorem pay3_at (v : S272x512.Idx → EReal) (a : S272x5632.Idx → EReal) (w : S5632x512.Idx → EReal) (r : Fin 272) (n : Fin 512) :
    (k0_pay3 (F := Ideal) v a w : S272x512.Idx → EReal) (ix2 r n) = v (ix2 r n) + ∑ k : Fin 5632, a (ix2 r k) * w (ix2 k n) := by
  pointwise [k0_pay3]

theorem pay4_at (v : S272x512.Idx → EReal) (a : S272x5632.Idx → EReal) (w : S5632x512.Idx → EReal) (r : Fin 272) (n : Fin 512) :
    (k0_pay4 (F := Ideal) v a w : S272x512.Idx → EReal) (ix2 r n) = v (ix2 r n) + ∑ k : Fin 5632, a (ix2 r k) * w (ix2 k n) := by
  pointwise [k0_pay4]

/-- The rows a chunk of a tile computes from the loads of its rows are the tile's. -/
theorem chunk (R : ℕ) (hR : R + 272 ≤ 1088) {i1 : ∀ a : Fin 2, (![R, 0] : Fin 2 → ℕ) a + S272x512.size a ≤ S1088x512.size a}
    {i0 : ∀ a : Fin 2, (![R, 0] : Fin 2 → ℕ) a + S272x5632.size a ≤ S1088x5632.size a}
    (f : (S272x512.Idx → EReal) → (S272x5632.Idx → EReal) → (S5632x512.Idx → EReal) → S272x512.Idx → EReal)
    (hf : ∀ v a w r n, f v a w (ix2 r n) = v (ix2 r n) + ∑ k : Fin 5632, a (ix2 r k) * w (ix2 k n)) (x : S272x512.Idx) :
    f (View.ld (Val := Elt Ideal) (e' := .f32) x2 (Rect.unit (s := S1088x512) ![R, 0] S272x512.size i1))
        (View.ld (Val := Elt Ideal) (e' := .bf16) x0 (Rect.unit (s := S1088x5632) ![R, 0] S272x5632.size i0))
        (View.ld (Val := Elt Ideal) (e' := .bf16) x1 r0_2) x
      = (fun y : S1088x512.Idx => tileAt x0 x1 x2 (y 0) (y 1)) ((Rect.unit (s := S1088x512) ![R, 0] S272x512.size i1).emb x) := by
  have hx : x = ix2 (x 0) (x 1) := by
    funext a
    match a with
    | ⟨0, _⟩ => rfl
    | ⟨1, _⟩ => rfl
  have hr : (x 0).val < 272 := (x 0).isLt
  have h0 : ((Rect.unit (s := S1088x512) ![R, 0] S272x512.size i1).emb x) 0 = (⟨R + (x 0).val, by omega⟩ : Fin 1088) :=
    Fin.ext (show R + 1 * (x 0).val = R + (x 0).val by omega)
  have h1 : ((Rect.unit (s := S1088x512) ![R, 0] S272x512.size i1).emb x) 1 = (x 1 : Fin 512) :=
    Fin.ext (show 0 + 1 * (x 1).val = (x 1).val by omega)
  have e2 : View.ld (Val := Elt Ideal) (e' := .f32) x2 (Rect.unit (s := S1088x512) ![R, 0] S272x512.size i1) (ix2 (x 0) (x 1))
      = x2 (ix2 ⟨R + (x 0).val, by omega⟩ (x 1)) := by
    refine View.ld_unit_apply_of _ _ _ _ _ _ fun a => ?_
    match a with
    | ⟨0, _⟩ => rfl
    | ⟨1, _⟩ => exact (Nat.zero_add _).symm
  have e0 : ∀ k : Fin 5632, View.ld (Val := Elt Ideal) (e' := .bf16) x0 (Rect.unit (s := S1088x5632) ![R, 0] S272x5632.size i0) (ix2 (x 0) k)
      = x0 (ix2 ⟨R + (x 0).val, by omega⟩ k) := by
    intro k
    refine View.ld_unit_apply_of _ _ _ _ _ _ fun a => ?_
    match a with
    | ⟨0, _⟩ => rfl
    | ⟨1, _⟩ => exact (Nat.zero_add _).symm
  have e1 : View.ld (Val := Elt Ideal) (e' := .bf16) x1 r0_2 = x1 :=
    View.ld_unit_zero (by funext a; match a with | ⟨0, _⟩ => rfl | ⟨1, _⟩ => rfl) _ _
  show _ = tileAt x0 x1 x2 _ _
  rw [h0, h1, e1]
  refine ((congrArg (f _ _ _) hx).trans (hf _ _ _ _ _)).trans ?_
  unfold tileAt
  refine congrArg₂ (· + ·) e2 (Finset.sum_congr rfl fun k _ => ?_)
  rw [e0]

theorem out_at (r : Fin 1088) (n : Fin 512) : (out0_3 (F := Ideal) x0 x1 x2 : S1088x512.Idx → EReal) (ix2 r n) = tileAt x0 x1 x2 r n := by
  refine View.canon_apply_of_pieces (Val := Elt Ideal) (S := S1088x512) (e := .f32) (fun y : S1088x512.Idx => tileAt x0 x1 x2 (y 0) (y 1)) _ (fun p hp x => ?_) (ix2 r n) (cover0_3 _ _ _ _ _)
  rcases List.mem_cons.mp hp with rfl | hp
  · exact chunk x0 x1 x2 816 (by decide) _ pay1_at x
  rcases List.mem_cons.mp hp with rfl | hp
  · exact chunk x0 x1 x2 544 (by decide) _ pay4_at x
  rcases List.mem_cons.mp hp with rfl | hp
  · exact chunk x0 x1 x2 272 (by decide) _ pay3_at x
  rcases List.mem_cons.mp hp with rfl | hp
  · exact chunk x0 x1 x2 0 (by decide) _ pay2_at x
  · exact absurd hp List.not_mem_nil

end Tile

/-! ## The output array -/

/-- The padded rows of the sum of the input and the product with the weights. -/
def outArr (a : S2x4112x5632.Idx → EReal) (w : S5632x2048.Idx → EReal) (x : S2x4112x2048.Idx → EReal) (i : S8704x2048.Idx) : EReal :=
  padRows x (i 0).val (i 1) + ∑ k : Fin 5632, padRows a (i 0).val k * w (ix2 k (i 1))

theorem covers3 : (cfg0.win 3).Covers := by decide +kernel

theorem point (t : Fin cfg0.N) (r : Fin 1088) (n : Fin 512) :
    (out0_3 (F := Ideal) (iblk m c 0 t) (iblk m c 1 t) (iblk m c 2 t) : S1088x512.Idx → EReal) (ix2 r n)
      = outArr (argA m c) (argW m c) (argX m c) (ix2 (rowAt t r) (colAt t n)) := by
  refine (out_at _ _ _ r n).trans ?_
  unfold tileAt
  refine congrArg₂ (· + ·) (blk2 m c t r n) (Finset.sum_congr rfl fun k _ => ?_)
  exact congrArg₂ (· * ·) (blk0 m c t r k) (blk1 m c t k n)

theorem flushed_eq (t : Fin cfg0.N) :
    (dats m 0 c).flushed 3 t = ((cfg0.win 3).blk t).view.read (Elt Ideal) (outArr (argA m c) (argW m c) (argX m c)) := by
  rw [Value.flushed3 m c t]
  funext y
  have hy : (y : S1088x512.Idx) = ix2 (y 0) (y 1) := by
    funext a
    match a with
    | ⟨0, _⟩ => rfl
    | ⟨1, _⟩ => rfl
  rw [hy]
  exact (point m c t (y 0) (y 1)).trans (congrArg (outArr (argA m c) (argW m c) (argX m c)) (emb3 t (y 0) (y 1))).symm

/-- The kernel's output array after the run. -/
theorem final : (dats m 0 c).arrAt 3 cfg0.N = outArr (argA m c) (argW m c) (argX m c) :=
  (dats m 0 c).arrAt_eq_of_cover 3 _ (fun t _ => flushed_eq m c t) (covers3.cover _ (Memref.isWhole_whole _))

/-! ## The reference -/

theorem out_real (a : S2x4112x5632.Idx → EReal) (w : S5632x2048.Idx → EReal) (x : S2x4112x2048.Idx → EReal) (r : Fin 8704) (n : Fin 2048) :
    outArr a w x (ix2 r n) = if h : r.val / 4352 < 2 ∧ r.val % 4352 < 4112
      then x (ix3 ⟨r.val / 4352, h.1⟩ ⟨r.val % 4352, h.2⟩ n) + ∑ k : Fin 5632, a (ix3 ⟨r.val / 4352, h.1⟩ ⟨r.val % 4352, h.2⟩ k) * w (ix2 k n) else 0 := by
  show padRows x r.val n + ∑ k : Fin 5632, padRows a r.val k * w (ix2 k n) = _
  by_cases h : r.val / 4352 < 2 ∧ r.val % 4352 < 4112
  · rw [dif_pos h, padRows_real x r n h]
    refine congrArg₂ (· + ·) rfl (Finset.sum_congr rfl fun k _ => ?_)
    rw [padRows_real a r k h]
  · rw [dif_neg h, padRows_zero x r n h]
    refine (zero_add _).trans (Finset.sum_eq_zero fun k _ => ?_)
    rw [padRows_zero a r k h, zero_mul]

theorem reference (a : Cert.Reference3Ideal.S2x4112x5632.Idx → EReal) (w : Cert.Reference3Ideal.S5632x2048.Idx → EReal)
    (x : Cert.Reference3Ideal.S2x4112x2048.Idx → EReal) :
    (shapeCast (α := EReal) _ (pad Cert.Reference3Ideal.S2x4352x2048 ![0, 0, 0] ![0, 240, 0] ![0, 0, 0]
        (addf (F := Ideal) (φ := .f32) x (Host.dotGeneral (F := Ideal) (φ₁ := .f32) (φ₂ := .f32) Cert.Reference3Ideal.dot_S2x4112x5632_S5632x2048_S2x4112x2048_2_0_01_1_n_n none a w))
        (sitofp (F := Ideal) .f32 (constantI Cert.Reference3Ideal.S_ 32 0#32)) Cert.Reference3Ideal.Gen.pads_S2x4112x2048_S2x4352x2048_000_02400_000 Cert.Reference3Ideal.Gen.h_S_)
      Cert.Reference3Ideal.Gen.shapeCasts_S2x4352x2048_S8704x2048 : Cert.Reference3Ideal.S8704x2048.Idx → EReal) = outArr a w x := by
  funext i
  have hi : i = ix2 (i 0) (i 1) := by
    funext a
    match a with
    | ⟨0, _⟩ => rfl
    | ⟨1, _⟩ => rfl
  rw [hi]
  refine Eq.trans ?_ (out_real a w x (i 0) (i 1)).symm
  generalize i 0 = r
  generalize i 1 = n
  pointwise []
  rw [zero_word]

end Cert.Proof.Down
-- ==== Proof.Chunks.lean ====
module

public import proofs.«01_k».proof.Proof.Rows
public import Idealize.ShloMosaic.Lib.Pipeline.ValueKit
public import Idealize.ShloMosaic.Lib.WholeRead

@[expose] public section

set_option maxRecDepth 16384

noncomputable section

namespace Cert.Proof.Chunks

open Idealize.ShloMosaic Idealize.ShloMosaic.TcCoe Idealize.SL.Sem

variable {sig : RefSig} {M N K C : ℕ} {e : EltTy}

/-! ## Loads of a whole array's rows -/

theorem row_load (a : Memref sig .tc .vmem ⟨2, ![M, N]⟩ e) (ha : a.IsWhole) (x : (⟨2, ![M, N]⟩ : Shape).Idx → Elt Ideal e) (R : ℕ)
    (inb : ∀ i : Fin 2, (![R, 0] : Fin 2 → ℕ) i + (⟨2, ![K, N]⟩ : Shape).size i ≤ (⟨2, ![M, N]⟩ : Shape).size i) (r : Fin K) (n : Fin N) (hr : R + r.val < M) :
    View.readAt (Elt Ideal) a.view (Rect.unit (s := ⟨2, ![M, N]⟩) ![R, 0] (⟨2, ![K, N]⟩ : Shape).size inb).toLoadRect (ha.unread x) (ix2 r n)
      = x (ix2 ⟨R + r.val, hr⟩ n) := by
  refine (ha.readAt_unread x _ _).trans (congrArg x (funext fun i => Fin.ext ?_))
  match i with
  | ⟨0, _⟩ =>
    show R + 1 * r.val = R + r.val
    omega
  | ⟨1, _⟩ =>
    show 0 + 1 * n.val = n.val
    omega

theorem whole_load (a : Memref sig .tc .vmem ⟨2, ![M, N]⟩ e) (ha : a.IsWhole) (x : (⟨2, ![M, N]⟩ : Shape).Idx → Elt Ideal e)
    (inb : ∀ i : Fin 2, (![0, 0] : Fin 2 → ℕ) i + (⟨2, ![M, N]⟩ : Shape).size i ≤ (⟨2, ![M, N]⟩ : Shape).size i) (r : Fin M) (n : Fin N) :
    View.readAt (Elt Ideal) a.view (Rect.unit (s := ⟨2, ![M, N]⟩) ![0, 0] (⟨2, ![M, N]⟩ : Shape).size inb).toLoadRect (ha.unread x) (ix2 r n) = x (ix2 r n) :=
  (row_load a ha x 0 inb r n (by omega)).trans (congrArg (fun y => x (ix2 y n)) (Fin.ext (Nat.zero_add _)))

/-! ## Pieces of an array -/

/-- The value just stored is what a load of the same rows gives. -/
theorem own_load (v : View sig .tc .vmem ⟨2, ![M, N]⟩ e) (R : ℕ)
    (inb : ∀ i : Fin 2, (![R, 0] : Fin 2 → ℕ) i + (⟨2, ![K, N]⟩ : Shape).size i ≤ (⟨2, ![M, N]⟩ : Shape).size i) (w : (⟨2, ![K, N]⟩ : Shape).Idx → Elt Ideal e)
    (L : List (View.Piece (Elt Ideal) ⟨2, ![M, N]⟩ e)) :
    v.readCov ((⟨Rect.unit (s := ⟨2, ![M, N]⟩) ![R, 0] (⟨2, ![K, N]⟩ : Shape).size inb, w⟩ : View.Piece (Elt Ideal) ⟨2, ![M, N]⟩ e) :: L)
        (Rect.unit (s := ⟨2, ![M, N]⟩) ![R, 0] (⟨2, ![K, N]⟩ : Shape).size inb).toLoadRect = w :=
  View.readCov_cons_toLoadRect (Val := Elt Ideal) v (Rect.unit (s := ⟨2, ![M, N]⟩) ![R, 0] (⟨2, ![K, N]⟩ : Shape).size inb) w L

/-- A stored value is a function `G` of the array's index, if it is at the rows and the columns it is stored at. -/
theorem piece_at (G : ℕ → ℕ → EReal) (R O : ℕ)
    (inb : ∀ i : Fin 2, (![R, O] : Fin 2 → ℕ) i + (⟨2, ![K, C]⟩ : Shape).size i ≤ (⟨2, ![M, N]⟩ : Shape).size i) (w : (⟨2, ![K, C]⟩ : Shape).Idx → EReal)
    (hw : ∀ (r : Fin K) (n : Fin C), w (ix2 r n) = G (R + r.val) (O + n.val)) (x : (⟨2, ![K, C]⟩ : Shape).Idx) :
    w x = (fun y : (⟨2, ![M, N]⟩ : Shape).Idx => G (y 0).val (y 1).val) ((Rect.unit (s := ⟨2, ![M, N]⟩) ![R, O] (⟨2, ![K, C]⟩ : Shape).size inb).emb x) := by
  have hx : x = ix2 (x 0) (x 1) := by
    funext a
    match a with
    | ⟨0, _⟩ => rfl
    | ⟨1, _⟩ => rfl
  refine (congrArg w hx).trans ((hw _ _).trans (congrArg₂ G ?_ ?_))
  · show R + (x 0).val = R + 1 * (x 0).val
    omega
  · show O + (x 1).val = O + 1 * (x 1).val
    omega

end Cert.Proof.Chunks
-- ==== Proof.GluTile.lean ====
module

public import proofs.«01_k».proof.Proof.Chunks
public import proofs.«01_k».proof.Proof.GateTile
public import proofs.«01_k».proof.Proof.Gen.Kernel4Ideal.Value
public import Idealize.ShloMosaic.Lib.StableHlo.ReadAt

@[expose] public section

set_option maxRecDepth 16384

noncomputable section

namespace Cert.Proof.GluTile

open Cert.Kernel4Ideal Cert.Kernel4Ideal.Gen Idealize.ShloMosaic Idealize.ShloMosaic.TcCoe Idealize.SL.Sem
open Cert.Proof.Chunks
open Cert.Proof.GateTile (normed normed_zero)

/-! ## The stored values at an index -/

/-- The gated linear unit: `a` times the logistic function of `g`. -/
def glu (a g : EReal) : EReal := a * Ideal.logistic g

theorem pay4_at (x : S272x2048.Idx → EReal) (g : S1x2048.Idx → EReal) (r : Fin 272) (k : Fin 2048) :
    (k0_pay4 (F := Ideal) x g : S272x2048.Idx → EReal) (ix2 r k) = normed (fun k => x (ix2 r k)) (fun k => g (ix2 0 k)) k := by
  pointwise [k0_pay4]
  rfl

theorem pay9_at (x : S272x2048.Idx → EReal) (g : S1x2048.Idx → EReal) (r : Fin 272) (k : Fin 2048) :
    (k0_pay9 (F := Ideal) (k0_pay6 (F := Ideal) x) (k0_pay7 (F := Ideal) g) (k0_pay8 (F := Ideal) x) : S272x2048.Idx → EReal) (ix2 r k) = normed (fun k => x (ix2 r k)) (fun k => g (ix2 0 k)) k := by
  pointwise [k0_pay9, k0_pay6, k0_pay7, k0_pay8]
  rfl

theorem pay14_at (x : S272x2048.Idx → EReal) (g : S1x2048.Idx → EReal) (r : Fin 272) (k : Fin 2048) :
    (k0_pay14 (F := Ideal) (k0_pay11 (F := Ideal) x) (k0_pay12 (F := Ideal) g) (k0_pay13 (F := Ideal) x) : S272x2048.Idx → EReal) (ix2 r k) = normed (fun k => x (ix2 r k)) (fun k => g (ix2 0 k)) k := by
  pointwise [k0_pay14, k0_pay11, k0_pay12, k0_pay13]
  rfl

theorem pay1_at (x : S272x2048.Idx → EReal) (g : S1x2048.Idx → EReal) (r : Fin 272) (k : Fin 2048) :
    (k0_pay1 (F := Ideal) (k0_pay16 (F := Ideal) x g) : S272x2048.Idx → EReal) (ix2 r k) = normed (fun k => x (ix2 r k)) (fun k => g (ix2 0 k)) k := by
  pointwise [k0_pay1, k0_pay16]
  rfl

theorem pay5_at (h : S272x2048.Idx → EReal) (a g : S2048x512.Idx → EReal) (r : Fin 272) (n : Fin 512) :
    (k0_pay5 (F := Ideal) h a g : S272x512.Idx → EReal) (ix2 r n) = glu (∑ k : Fin 2048, h (ix2 r k) * a (ix2 k n)) (∑ k : Fin 2048, h (ix2 r k) * g (ix2 k n)) := by
  pointwise [k0_pay5]
  rfl

theorem pay10_at (h : S272x2048.Idx → EReal) (a g : S2048x512.Idx → EReal) (r : Fin 272) (n : Fin 512) :
    (k0_pay10 (F := Ideal) h a g : S272x512.Idx → EReal) (ix2 r n) = glu (∑ k : Fin 2048, h (ix2 r k) * a (ix2 k n)) (∑ k : Fin 2048, h (ix2 r k) * g (ix2 k n)) := by
  pointwise [k0_pay10]
  rfl

theorem pay15_at (h : S272x2048.Idx → EReal) (a g : S2048x512.Idx → EReal) (r : Fin 272) (n : Fin 512) :
    (k0_pay15 (F := Ideal) h a g : S272x512.Idx → EReal) (ix2 r n) = glu (∑ k : Fin 2048, h (ix2 r k) * a (ix2 k n)) (∑ k : Fin 2048, h (ix2 r k) * g (ix2 k n)) := by
  pointwise [k0_pay15]
  rfl

theorem pay2_at (h : S272x2048.Idx → EReal) (a g : S2048x512.Idx → EReal) (r : Fin 272) (n : Fin 512) :
    (k0_pay2 (F := Ideal) h a g : S272x512.Idx → EReal) (ix2 r n) = glu (∑ k : Fin 2048, h (ix2 r k) * a (ix2 k n)) (∑ k : Fin 2048, h (ix2 r k) * g (ix2 k n)) := by
  pointwise [k0_pay2]
  rfl

theorem pay17_at (h : S272x2048.Idx → EReal) (a g : S2048x512.Idx → EReal) (r : Fin 272) (n : Fin 512) :
    (k0_pay17 (F := Ideal) h a g : S272x512.Idx → EReal) (ix2 r n) = glu (∑ k : Fin 2048, h (ix2 r k) * a (ix2 k n)) (∑ k : Fin 2048, h (ix2 r k) * g (ix2 k n)) := by
  pointwise [k0_pay17]
  rfl

theorem pay18_at (h : S272x2048.Idx → EReal) (a g : S2048x512.Idx → EReal) (r : Fin 272) (n : Fin 512) :
    (k0_pay18 (F := Ideal) h a g : S272x512.Idx → EReal) (ix2 r n) = glu (∑ k : Fin 2048, h (ix2 r k) * a (ix2 k n)) (∑ k : Fin 2048, h (ix2 r k) * g (ix2 k n)) := by
  pointwise [k0_pay18]
  rfl

theorem pay19_at (h : S272x2048.Idx → EReal) (a g : S2048x512.Idx → EReal) (r : Fin 272) (n : Fin 512) :
    (k0_pay19 (F := Ideal) h a g : S272x512.Idx → EReal) (ix2 r n) = glu (∑ k : Fin 2048, h (ix2 r k) * a (ix2 k n)) (∑ k : Fin 2048, h (ix2 r k) * g (ix2 k n)) := by
  pointwise [k0_pay19]
  rfl

theorem pay3_at (h : S272x2048.Idx → EReal) (a g : S2048x512.Idx → EReal) (r : Fin 272) (n : Fin 512) :
    (k0_pay3 (F := Ideal) h a g : S272x512.Idx → EReal) (ix2 r n) = glu (∑ k : Fin 2048, h (ix2 r k) * a (ix2 k n)) (∑ k : Fin 2048, h (ix2 r k) * g (ix2 k n)) := by
  pointwise [k0_pay3]
  rfl

end Cert.Proof.GluTile
-- ==== Proof.GluCases.lean ====
module

public import proofs.«01_k».proof.Proof.GluTile

@[expose] public section

set_option maxRecDepth 16384

noncomputable section

namespace Cert.Proof.GluCases

open Cert.Kernel4Ideal Cert.Kernel4Ideal.Gen Idealize.ShloMosaic Idealize.ShloMosaic.TcCoe Idealize.SL.Sem
open Cert.Proof.Chunks Cert.Proof.GluTile
open Cert.Proof.GateTile (normed normed_zero)

/-! ## What a grid point leaves, from its blocks -/

/-- The tile's normalised rows. -/
def hA (x : S1088x2048.Idx → EReal) (g : S1x2048.Idx → EReal) (p q : ℕ) : EReal :=
  if h : p < 1088 ∧ q < 2048 then normed (fun k => x (ix2 ⟨p, h.1⟩ k)) (fun k => g (ix2 0 k)) ⟨q, h.2⟩ else 0

/-- The tile's output from its normalised rows `h`. -/
def gA (h : ℕ → ℕ → EReal) (a g : S2048x512.Idx → EReal) (p q : ℕ) : EReal :=
  if hq : q < 512 then glu (∑ k : Fin 2048, h p k.val * a (ix2 k ⟨q, hq⟩)) (∑ k : Fin 2048, h p k.val * g (ix2 k ⟨q, hq⟩)) else 0

/-- A chunk's normalised rows from the loads of its rows and of the scales. -/
theorem norm_chunk (R : ℕ) (hR : R + 272 ≤ 1088) (x : S1088x2048.Idx → EReal) (g : S1x2048.Idx → EReal) (lx : S272x2048.Idx → EReal) (lg : S1x2048.Idx → EReal)
    (hx : ∀ (r : Fin 272) (k : Fin 2048), lx (ix2 r k) = x (ix2 ⟨R + r.val, by omega⟩ k)) (hg : ∀ k : Fin 2048, lg (ix2 0 k) = g (ix2 0 k))
    (w : S272x2048.Idx → EReal) (hw : ∀ r k, w (ix2 r k) = normed (fun k => lx (ix2 r k)) (fun k => lg (ix2 0 k)) k) (r : Fin 272) (k : Fin 2048) :
    w (ix2 r k) = hA x g (R + r.val) (0 + k.val) := by
  have hr := r.isLt
  have hk := k.isLt
  unfold hA
  rw [dif_pos ⟨by omega, by omega⟩, hw]
  congr 1
  · exact funext fun k => hx r k
  · exact funext hg
  · exact Fin.ext (Nat.zero_add _).symm

/-- A chunk's output from the loads of its normalised rows and of the weights. -/
theorem glu_chunk (R : ℕ) (H : ℕ → ℕ → EReal) (a g la lg : S2048x512.Idx → EReal) (h : S272x2048.Idx → EReal)
    (hh : ∀ (r : Fin 272) (k : Fin 2048), h (ix2 r k) = H (R + r.val) (0 + k.val)) (ha : ∀ k n, la (ix2 k n) = a (ix2 k n)) (hg : ∀ k n, lg (ix2 k n) = g (ix2 k n))
    (w : S272x512.Idx → EReal) (hw : ∀ r n, w (ix2 r n) = glu (∑ k : Fin 2048, h (ix2 r k) * la (ix2 k n)) (∑ k : Fin 2048, h (ix2 r k) * lg (ix2 k n)))
    (r : Fin 272) (n : Fin 512) : w (ix2 r n) = gA H a g (R + r.val) (0 + n.val) := by
  have hn := n.isLt
  unfold gA
  rw [dif_pos (by omega), hw]
  have e : (⟨0 + n.val, by omega⟩ : Fin 512) = n := Fin.ext (Nat.zero_add _)
  rw [e]
  refine congrArg₂ glu (Finset.sum_congr rfl fun k _ => ?_) (Finset.sum_congr rfl fun k _ => ?_)
  · rw [hh, ha, Nat.zero_add]
  · rw [hh, hg, Nat.zero_add]

section Run

variable (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1088x512 .f32) (harg6 : arg6.IsWhole) (arg7 : Memref sig .tc .vmem S1088x2048 .bf16) (harg7 : arg7.IsWhole)
  (x0 : Vec Ideal S1088x2048 .f32) (x1 : Vec Ideal S1x2048 .f32) (x2 : Vec Ideal S2048x512 .bf16) (x3 : Vec Ideal S2048x512 .bf16)

/-! ## A point after the first of its row of tiles -/

variable (xs0 : Vec Ideal S1088x2048 .bf16)

/-- The kept rows by their indices. -/
def kept (p q : ℕ) : EReal := if h : p < 1088 ∧ q < 2048 then (xs0 : S1088x2048.Idx → EReal) (ix2 ⟨p, h.1⟩ ⟨q, h.2⟩) else 0

theorem kept_load (R : ℕ) (hR : R + 272 ≤ 1088) (inb : ∀ i : Fin 2, (![R, 0] : Fin 2 → ℕ) i + S272x2048.size i ≤ S1088x2048.size i) (r : Fin 272) (k : Fin 2048) :
    (View.readAt (Elt Ideal) arg7.view (Rect.unit (s := S1088x2048) ![R, 0] S272x2048.size inb).toLoadRect (harg7.unread xs0) : S272x2048.Idx → EReal) (ix2 r k)
      = kept xs0 (R + r.val) (0 + k.val) := by
  have hr := r.isLt
  have hk := k.isLt
  unfold kept
  rw [dif_pos ⟨by omega, by omega⟩]
  refine (row_load arg7 harg7 xs0 R inb r k (by omega)).trans (congrArg (fun q => xs0 (ix2 _ q)) (Fin.ext (Nat.zero_add _).symm))

theorem outB (hc0 : ¬cond0_0 i) (hc1 : cond0_1 i) (r : Fin 1088) (n : Fin 512) :
    (out0_B_4 (F := Ideal) c i arg2 harg2 arg3 harg3 arg4 harg4 arg5 harg5 arg6 harg6 arg7 harg7 hc0 hc1 x0 x1 x2 x3 xs0 : S1088x512.Idx → EReal) (ix2 r n) = gA (kept xs0) x2 x3 r.val n.val := by
  unfold out0_B_4
  rw [View.read_writes_junk_eq_canon]
  refine View.canon_apply_of_pieces (Val := Elt Ideal) (S := S1088x512) (e := .f32) (fun y : S1088x512.Idx => gA (kept xs0) x2 x3 (y 0).val (y 1).val) _
    (?_) (ix2 r n)
    (cover0_B_4 c i arg2 harg2 arg3 harg3 arg4 harg4 arg5 harg5 arg6 harg6 arg7 harg7 hc0 hc1 x0 x1 x2 x3 xs0 _)
  intro p hm x
  rcases List.mem_cons.mp hm with rfl | hm
  · exact piece_at _ 816 0 inb_S1088x512_S272x512_816_0 _ (glu_chunk 816 _ x2 x3 _ _ _ (kept_load arg7 harg7 xs0 816 (by decide) _) (whole_load arg4 harg4 x2 _) (whole_load arg5 harg5 x3 _) _ (pay3_at _ _ _)) x
  rcases List.mem_cons.mp hm with rfl | hm
  · exact piece_at _ 544 0 inb_S1088x512_S272x512_544_0 _ (glu_chunk 544 _ x2 x3 _ _ _ (kept_load arg7 harg7 xs0 544 (by decide) _) (whole_load arg4 harg4 x2 _) (whole_load arg5 harg5 x3 _) _ (pay19_at _ _ _)) x
  rcases List.mem_cons.mp hm with rfl | hm
  · exact piece_at _ 272 0 inb_S1088x512_S272x512_272_0 _ (glu_chunk 272 _ x2 x3 _ _ _ (kept_load arg7 harg7 xs0 272 (by decide) _) (whole_load arg4 harg4 x2 _) (whole_load arg5 harg5 x3 _) _ (pay18_at _ _ _)) x
  rcases List.mem_cons.mp hm with rfl | hm
  · exact piece_at _ 0 0 inb_S1088x512_S272x512_0_0 _ (glu_chunk 0 _ x2 x3 _ _ _ (kept_load arg7 harg7 xs0 0 (by decide) _) (whole_load arg4 harg4 x2 _) (whole_load arg5 harg5 x3 _) _ (pay17_at _ _ _)) x
  · exact absurd hm List.not_mem_nil

/-! ## The first point of a row of tiles -/

theorem norm_load (R : ℕ) (hR : R + 272 ≤ 1088) (inb : ∀ i : Fin 2, (![R, 0] : Fin 2 → ℕ) i + S272x2048.size i ≤ S1088x2048.size i)
    (inb' : ∀ i : Fin 2, (![0, 0] : Fin 2 → ℕ) i + S1x2048.size i ≤ S1x2048.size i) (w : S272x2048.Idx → EReal)
    (hw : ∀ r k, w (ix2 r k) = normed (fun k => (View.readAt (Elt Ideal) arg2.view (Rect.unit (s := S1088x2048) ![R, 0] S272x2048.size inb).toLoadRect (harg2.unread x0) : S272x2048.Idx → EReal) (ix2 r k))
      (fun k => (View.readAt (Elt Ideal) arg3.view (Rect.unit (s := S1x2048) ![0, 0] S1x2048.size inb').toLoadRect (harg3.unread x1) : S1x2048.Idx → EReal) (ix2 0 k)) k) (r : Fin 272) (k : Fin 2048) :
    w (ix2 r k) = hA x0 x1 (R + r.val) (0 + k.val) :=
  norm_chunk R hR x0 x1 _ _ (fun r k => row_load arg2 harg2 x0 R inb r k _) (fun k => whole_load arg3 harg3 x1 inb' 0 k) w hw r k

theorem scratchA (hc0 : cond0_0 i) (hc1 : ¬cond0_1 i) (r : Fin 1088) (k : Fin 2048) :
    (sout0_A_0 (F := Ideal) c i arg2 harg2 arg3 harg3 arg4 harg4 arg5 harg5 arg6 harg6 arg7 harg7 hc0 hc1 x0 x1 x2 x3 : S1088x2048.Idx → EReal) (ix2 r k) = hA x0 x1 r.val k.val := by
  unfold sout0_A_0
  rw [View.read_writes_junk_eq_canon]
  refine View.canon_apply_of_pieces (Val := Elt Ideal) (S := S1088x2048) (e := .bf16) (fun y : S1088x2048.Idx => hA x0 x1 (y 0).val (y 1).val) _
    (?_) (ix2 r k) (scover0_A_0 c i arg2 harg2 arg3 harg3 arg4 harg4 arg5 harg5 arg6 harg6 arg7 harg7 hc0 hc1 x0 x1 x2 x3 _)
  intro p hm x
  rcases List.mem_cons.mp hm with rfl | hm
  · exact piece_at _ 816 0 inb_S1088x2048_S272x2048_816_0 _ (norm_load arg2 harg2 arg3 harg3 x0 x1 816 (by decide) _ _ _ (pay1_at _ _)) x
  rcases List.mem_cons.mp hm with rfl | hm
  · exact piece_at _ 544 0 inb_S1088x2048_S272x2048_544_0 _ (norm_load arg2 harg2 arg3 harg3 x0 x1 544 (by decide) _ _ _ (pay14_at _ _)) x
  rcases List.mem_cons.mp hm with rfl | hm
  · exact piece_at _ 272 0 inb_S1088x2048_S272x2048_272_0 _ (norm_load arg2 harg2 arg3 harg3 x0 x1 272 (by decide) _ _ _ (pay9_at _ _)) x
  rcases List.mem_cons.mp hm with rfl | hm
  · exact piece_at _ 0 0 inb_S1088x2048_S272x2048_0_0 _ (norm_load arg2 harg2 arg3 harg3 x0 x1 0 (by decide) _ _ _ (pay4_at _ _)) x
  · exact absurd hm List.not_mem_nil

theorem outA (hc0 : cond0_0 i) (hc1 : ¬cond0_1 i) (r : Fin 1088) (n : Fin 512) :
    (out0_A_4 (F := Ideal) c i arg2 harg2 arg3 harg3 arg4 harg4 arg5 harg5 arg6 harg6 arg7 harg7 hc0 hc1 x0 x1 x2 x3 : S1088x512.Idx → EReal) (ix2 r n) = gA (hA x0 x1) x2 x3 r.val n.val := by
  unfold out0_A_4
  rw [View.read_writes_junk_eq_canon]
  refine View.canon_apply_of_pieces (Val := Elt Ideal) (S := S1088x512) (e := .f32) (fun y : S1088x512.Idx => gA (hA x0 x1) x2 x3 (y 0).val (y 1).val) _
    (?_) (ix2 r n) (cover0_A_4 c i arg2 harg2 arg3 harg3 arg4 harg4 arg5 harg5 arg6 harg6 arg7 harg7 hc0 hc1 x0 x1 x2 x3 _)
  intro p hm x
  rcases List.mem_cons.mp hm with rfl | hm
  · refine piece_at _ 816 0 inb_S1088x512_S272x512_816_0 _ (glu_chunk 816 (hA x0 x1) x2 x3 _ _ _ (fun r k => ?_) (whole_load arg4 harg4 x2 _) (whole_load arg5 harg5 x3 _) _ (pay2_at _ _ _)) x
    exact (congrFun (own_load arg7.view 816 inb_S1088x2048_S272x2048_816_0 _ _) (ix2 r k)).trans (norm_load arg2 harg2 arg3 harg3 x0 x1 816 (by decide) _ _ _ (pay1_at _ _) r k)
  rcases List.mem_cons.mp hm with rfl | hm
  · refine piece_at _ 544 0 inb_S1088x512_S272x512_544_0 _ (glu_chunk 544 (hA x0 x1) x2 x3 _ _ _ (fun r k => ?_) (whole_load arg4 harg4 x2 _) (whole_load arg5 harg5 x3 _) _ (pay15_at _ _ _)) x
    exact (congrFun (own_load arg7.view 544 inb_S1088x2048_S272x2048_544_0 _ _) (ix2 r k)).trans (norm_load arg2 harg2 arg3 harg3 x0 x1 544 (by decide) _ _ _ (pay14_at _ _) r k)
  rcases List.mem_cons.mp hm with rfl | hm
  · refine piece_at _ 272 0 inb_S1088x512_S272x512_272_0 _ (glu_chunk 272 (hA x0 x1) x2 x3 _ _ _ (fun r k => ?_) (whole_load arg4 harg4 x2 _) (whole_load arg5 harg5 x3 _) _ (pay10_at _ _ _)) x
    exact (congrFun (own_load arg7.view 272 inb_S1088x2048_S272x2048_272_0 _ _) (ix2 r k)).trans (norm_load arg2 harg2 arg3 harg3 x0 x1 272 (by decide) _ _ _ (pay9_at _ _) r k)
  rcases List.mem_cons.mp hm with rfl | hm
  · refine piece_at _ 0 0 inb_S1088x512_S272x512_0_0 _ (glu_chunk 0 (hA x0 x1) x2 x3 _ _ _ (fun r k => ?_) (whole_load arg4 harg4 x2 _) (whole_load arg5 harg5 x3 _) _ (pay5_at _ _ _)) x
    exact (congrFun (own_load arg7.view 0 inb_S1088x2048_S272x2048_0_0 _ _) (ix2 r k)).trans (norm_load arg2 harg2 arg3 harg3 x0 x1 0 (by decide) _ _ _ (pay4_at _ _) r k)
  · exact absurd hm List.not_mem_nil

end Run

end Cert.Proof.GluCases
-- ==== Proof.Glu.lean ====
module

public import proofs.«01_k».proof.Proof.GluCases
public import Idealize.ShloMosaic.Lib.Routing.OpsSet

@[expose] public section

set_option maxRecDepth 16384

noncomputable section

namespace Cert.Proof.Glu

open Cert.Kernel4Ideal Cert.Kernel4Ideal.Gen Idealize.ShloMosaic Idealize.ShloMosaic.TcCoe Idealize.SL.Sem
open Cert.Proof.Rows Cert.Proof.GluTile Cert.Proof.GluCases
open Cert.Proof.GateTile (normed normed_zero)

/-! ## What the call computes -/

/-- Element `n` of the product of the normalised row `r` of the padded rows with the columns of `w` from `o` on. -/
def prow (x : S2x4112x2048.Idx → EReal) (g : S2048.Idx → EReal) (w : S2048x4096.Idx → EReal) (r o : ℕ) (ho : o + 2048 ≤ 4096) (n : Fin 2048) : EReal :=
  ∑ k : Fin 2048, normed (fun k => padRows x r k) (fun k => g (ix1 k)) k * w (ix2 k ⟨o + n.val, by omega⟩)

/-- The call's result: the gated linear unit of the rows' two products. -/
def outArr (x : S2x4112x2048.Idx → EReal) (g : S2048.Idx → EReal) (w : S2048x4096.Idx → EReal) (i : S8704x2048.Idx) : EReal :=
  glu (prow x g w (i 0).val 0 (by decide) (i 1)) (prow x g w (i 0).val 2048 (by decide) (i 1))

/-! ## The arguments as launched, and the arrays of the windows -/

section Host

variable (m : (ℓ : Loc nD τ sig) → Buf (Elt Ideal) ℓ) (c : Dev nD)

abbrev argX : S2x4112x2048.Idx → EReal := m ((c : Thread nD τ).loc main_arg0)
abbrev argG : S2048.Idx → EReal := m ((c : Thread nD τ).loc main_arg1)
abbrev argW : S2048x4096.Idx → EReal := m ((c : Thread nD τ).loc main_arg2)

theorem rows_x (r : Fin 8704) (n : Fin 2048) : (V m c main_v1 : S8704x2048.Idx → EReal) (ix2 r n) = padRows (argX m c) r.val n := by
  unfold V
  after_reads_at
  exact padRows_of (argX m c) r n _ zero_word

theorem scales (k : Fin 2048) : (V m c main_v5 : S1x2048.Idx → EReal) (ix2 0 k) = argG m c (ix1 k) := by
  unfold V
  after_reads_at

theorem left_weights (k n : Fin 2048) : (V m c main_v3 : S2048x2048.Idx → EReal) (ix2 k n) = argW m c (ix2 k ⟨0 + n.val, by omega⟩) := by
  unfold V
  after_reads_at

theorem right_weights (k n : Fin 2048) : (V m c main_v4 : S2048x2048.Idx → EReal) (ix2 k n) = argW m c (ix2 k ⟨2048 + n.val, by omega⟩) := by
  unfold V
  after_reads_at

end Host

/-! ## The blocks of a grid point -/

theorem t_lt (t : Fin cfg0.N) : t.val < 32 := Nat.lt_of_lt_of_eq t.isLt N_0

theorem row_lt (t : Fin cfg0.N) : t.val / 4 < 8 := by
  have := t_lt t
  omega

/-- Row `r` of the tile of a grid point. -/
abbrev rowAt (t : Fin cfg0.N) (r : Fin 1088) : Fin 8704 := ⟨1088 * (t.val / 4) + r.val, by have := row_lt t; omega⟩

/-- Column `n` of the tile of a grid point. -/
abbrev colAt (t : Fin cfg0.N) (n : Fin 512) : Fin 2048 := ⟨512 * (t.val % 4) + n.val, by omega⟩

theorem index0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)

theorem index3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)

theorem index4 : ∀ t : Fin cfg0.N, win0_4.index t (0 : Fin 2) = t.val / 4 ∧ win0_4.index t (1 : Fin 2) = t.val % 4 :=
  (by decide +kernel : ∀ t : Fin grid0.N, win0_4.index t (0 : Fin 2) = t.val / 4 ∧ win0_4.index t (1 : Fin 2) = t.val % 4)

theorem emb0 (t : Fin cfg0.N) (r : Fin 1088) (k : Fin 2048) : ((cfg0.win 0).blk t).view.emb (ix2 r k) = (ix2 (rowAt t r) k : S8704x2048.Idx) := by
  obtain ⟨e0, e1⟩ := index0 t
  funext a
  refine Fin.ext ?_
  match a with
  | ⟨0, _⟩ =>
    show win0_0.index t (0 : Fin 2) * 1088 + 1 * r.val = 1088 * (t.val / 4) + r.val
    omega
  | ⟨1, _⟩ =>
    show win0_0.index t (1 : Fin 2) * 2048 + 1 * k.val = k.val
    omega

theorem emb1 (t : Fin cfg0.N) (r : Fin 1) (k : Fin 2048) : ((cfg0.win 1).blk t).view.emb (ix2 r k) = (ix2 r k : S1x2048.Idx) := by
  obtain ⟨e0, e1⟩ := index1 t
  funext a
  refine Fin.ext ?_
  match a with
  | ⟨0, _⟩ =>
    show win0_1.index t (0 : Fin 2) * 1 + 1 * r.val = r.val
    omega
  | ⟨1, _⟩ =>
    show win0_1.index t (1 : Fin 2) * 2048 + 1 * k.val = k.val
    omega

theorem emb2 (t : Fin cfg0.N) (r : Fin 2048) (k : Fin 512) : ((cfg0.win 2).blk t).view.emb (ix2 r k) = (ix2 r (colAt t k) : S2048x2048.Idx) := by
  obtain ⟨e0, e1⟩ := index2 t
  funext a
  refine Fin.ext ?_
  match a with
  | ⟨0, _⟩ =>
    show win0_2.index t (0 : Fin 2) * 2048 + 1 * r.val = r.val
    omega
  | ⟨1, _⟩ =>
    show win0_2.index t (1 : Fin 2) * 512 + 1 * k.val = 512 * (t.val % 4) + k.val
    omega

theorem emb3 (t : Fin cfg0.N) (r : Fin 2048) (k : Fin 512) : ((cfg0.win 3).blk t).view.emb (ix2 r k) = (ix2 r (colAt t k) : S2048x2048.Idx) := by
  obtain ⟨e0, e1⟩ := index3 t
  funext a
  refine Fin.ext ?_
  match a with
  | ⟨0, _⟩ =>
    show win0_3.index t (0 : Fin 2) * 2048 + 1 * r.val = r.val
    omega
  | ⟨1, _⟩ =>
    show win0_3.index t (1 : Fin 2) * 512 + 1 * k.val = 512 * (t.val % 4) + k.val
    omega

theorem emb4 (t : Fin cfg0.N) (r : Fin 1088) (k : Fin 512) : ((cfg0.win 4).blk t).view.emb (ix2 r k) = (ix2 (rowAt t r) (colAt t k) : S8704x2048.Idx) := by
  obtain ⟨e0, e1⟩ := index4 t
  funext a
  refine Fin.ext ?_
  match a with
  | ⟨0, _⟩ =>
    show win0_4.index t (0 : Fin 2) * 1088 + 1 * r.val = 1088 * (t.val / 4) + r.val
    omega
  | ⟨1, _⟩ =>
    show win0_4.index t (1 : Fin 2) * 512 + 1 * k.val = 512 * (t.val % 4) + k.val
    omega

theorem read0 (A : S8704x2048.Idx → EReal) (t : Fin cfg0.N) (r : Fin 1088) (k : Fin 2048) :
    (((cfg0.win 0).blk t).view.read (Elt Ideal) A : S1088x2048.Idx → EReal) (ix2 r k) = A (ix2 (rowAt t r) k) := congrArg A (emb0 t r k)

theorem read1 (A : S1x2048.Idx → EReal) (t : Fin cfg0.N) (r : Fin 1) (k : Fin 2048) :
    (((cfg0.win 1).blk t).view.read (Elt Ideal) A : S1x2048.Idx → EReal) (ix2 r k) = A (ix2 r k) := congrArg A (emb1 t r k)

theorem read2 (A : S2048x2048.Idx → EReal) (t : Fin cfg0.N) (r : Fin 2048) (k : Fin 512) :
    (((cfg0.win 2).blk t).view.read (Elt Ideal) A : S2048x512.Idx → EReal) (ix2 r k) = A (ix2 r (colAt t k)) := congrArg A (emb2 t r k)

theorem read3 (A : S2048x2048.Idx → EReal) (t : Fin cfg0.N) (r : Fin 2048) (k : Fin 512) :
    (((cfg0.win 3).blk t).view.read (Elt Ideal) A : S2048x512.Idx → EReal) (ix2 r k) = A (ix2 r (colAt t k)) := congrArg A (emb3 t r k)

variable (m : (ℓ : Loc nD τ sig) → Buf (Elt Ideal) ℓ) (c : Dev nD)

theorem blk0 (t : Fin cfg0.N) (r : Fin 1088) (k : Fin 2048) : (iblk m c 0 t : S1088x2048.Idx → EReal) (ix2 r k) = padRows (argX m c) (rowAt t r).val k :=
  (read0 _ t r k).trans (rows_x m c _ _)

theorem blk1 (t : Fin cfg0.N) (k : Fin 2048) : (iblk m c 1 t : S1x2048.Idx → EReal) (ix2 0 k) = argG m c (ix1 k) :=
  (read1 _ t 0 k).trans (scales m c k)

theorem blk2 (t : Fin cfg0.N) (k : Fin 2048) (n : Fin 512) : (iblk m c 2 t : S2048x512.Idx → EReal) (ix2 k n) = argW m c (ix2 k ⟨0 + (colAt t n).val, by omega⟩) :=
  (read2 _ t k n).trans (left_weights m c _ _)

theorem blk3 (t : Fin cfg0.N) (k : Fin 2048) (n : Fin 512) : (iblk m c 3 t : S2048x512.Idx → EReal) (ix2 k n) = argW m c (ix2 k ⟨2048 + (colAt t n).val, by omega⟩) :=
  (read3 _ t k n).trans (right_weights m c _ _)

/-! ## The normalised rows kept between points -/

/-- What the kept scratch array holds after a point. -/
abbrev keptH (t : Fin cfg0.N) : S1088x2048.Idx → EReal := (outsAt0 m c t.val t.isLt).2

/-- The tile's normalised rows. -/
theorem rows_norm (t : Fin cfg0.N) (r : Fin 1088) (k : Fin 2048) :
    hA (iblk m c 0 t) (iblk m c 1 t) r.val k.val = normed (fun k => padRows (argX m c) (1088 * (t.val / 4) + r.val) k) (fun k => argG m c (ix1 k)) k := by
  unfold hA
  rw [dif_pos ⟨r.isLt, k.isLt⟩]
  exact congrArg₂ (fun a b => normed a b k) (funext fun k => blk0 m c t r k) (funext fun k => blk1 m c t k)

theorem keptH_A (t : Fin cfg0.N) (h0 : t.val % 4 = 0) (h1 : ¬1 ≤ t.val % 4) (r : Fin 1088) (k : Fin 2048) : keptH m c t (ix2 r k) = hA (iblk m c 0 t) (iblk m c 1 t) r.val k.val := by
  unfold keptH
  rw [outsAt0_A m c t h0 h1]
  dsimp only
  have e := scratchA c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h0) (fun h => h1 ((hcond0_1 t).mp h)) r k
  exact e

/-- The point before. -/
abbrev before (t : Fin cfg0.N) : Fin cfg0.N := ⟨t.val - 1, Nat.lt_of_le_of_lt (Nat.sub_le _ _) t.isLt⟩

theorem keptH_B (t : Fin cfg0.N) (h0 : ¬t.val % 4 = 0) (h1 : 1 ≤ t.val % 4) : keptH m c t = keptH m c (before t) := by
  unfold keptH
  rw [outsAt0_B m c t h0 h1]
  rfl

/-- After every point the kept rows are the tile's normalised rows. -/
theorem keeps (n : ℕ) : ∀ (hn : n < cfg0.N) (r : Fin 1088) (k : Fin 2048),
    keptH m c ⟨n, hn⟩ (ix2 r k) = normed (fun k => padRows (argX m c) (1088 * (n / 4) + r.val) k) (fun k => argG m c (ix1 k)) k := by
  induction n with
  | zero =>
    intro hn r k
    exact (keptH_A m c ⟨0, hn⟩ rfl (show ¬1 ≤ 0 % 4 by decide) r k).trans (rows_norm m c ⟨0, hn⟩ r k)
  | succ n ih =>
    intro hn r k
    by_cases e : (n + 1) % 4 = 0
    · exact (keptH_A m c ⟨n + 1, hn⟩ e (by show ¬1 ≤ (n + 1) % 4; omega) r k).trans (rows_norm m c ⟨n + 1, hn⟩ r k)
    · rw [keptH_B m c ⟨n + 1, hn⟩ e (by show 1 ≤ (n + 1) % 4; omega)]
      have hd : (n + 1) / 4 = n / 4 := by omega
      rw [hd]
      exact ih (Nat.lt_of_succ_lt hn) r k

/-! ## The output blocks -/

/-- The tile's output from rows that are its normalised rows. -/
theorem out_rows (t : Fin cfg0.N) (h : ℕ → ℕ → EReal) (r : Fin 1088) (n : Fin 512)
    (hh : ∀ k : Fin 2048, h r.val k.val = normed (fun k => padRows (argX m c) (1088 * (t.val / 4) + r.val) k) (fun k => argG m c (ix1 k)) k) :
    gA h (iblk m c 2 t) (iblk m c 3 t) r.val n.val = outArr (argX m c) (argG m c) (argW m c) (ix2 (rowAt t r) (colAt t n)) := by
  unfold gA
  rw [dif_pos n.isLt]
  refine congrArg₂ glu (Finset.sum_congr rfl fun k _ => ?_) (Finset.sum_congr rfl fun k _ => ?_)
  · exact congrArg₂ (· * ·) (hh k) (blk2 m c t k n)
  · exact congrArg₂ (· * ·) (hh k) (blk3 m c t k n)

theorem out_point (t : Fin cfg0.N) (r : Fin 1088) (n : Fin 512) :
    ((outsAt0 m c t.val t.isLt).1 : S1088x512.Idx → EReal) (ix2 r n) = outArr (argX m c) (argG m c) (argW m c) (ix2 (rowAt t r) (colAt t n)) := by
  by_cases h : t.val % 4 = 0
  · have h1 : ¬1 ≤ t.val % 4 := by omega
    refine Eq.trans ?_ (out_rows m c t (hA (iblk m c 0 t) (iblk m c 1 t)) r n (rows_norm m c t r))
    rw [outsAt0_A m c t h h1]
    dsimp only
    have e := outA c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) ((hcond0_0 t).mpr h) (fun h => h1 ((hcond0_1 t).mp h)) r n
    exact e
  · have h1 : 1 ≤ t.val % 4 := by omega
    refine Eq.trans ?_ (out_rows m c t (kept (keptH m c (before t))) r n (fun k => ?_))
    · rw [outsAt0_B m c t h h1]
      dsimp only
      have e := outB c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (keptH m c (before t)) (fun h' => h ((hcond0_0 t).mp h')) ((hcond0_1 t).mpr h1) r n
      exact e
    · unfold kept
      rw [dif_pos ⟨r.isLt, k.isLt⟩]
      rw [← keptH_B m c t h h1]
      exact keeps m c t.val t.isLt r k

/-! ## The output array -/

theorem flushed_eq (t : Fin cfg0.N) :
    (dats m 0 c).flushed 4 t = ((cfg0.win 4).blk t).view.read (Elt Ideal) (outArr (argX m c) (argG m c) (argW m c)) := by
  rw [Value.flushed4 m c t]
  funext y
  have hy : (y : S1088x512.Idx) = ix2 (y 0) (y 1) := by
    funext a
    match a with
    | ⟨0, _⟩ => rfl
    | ⟨1, _⟩ => rfl
  rw [hy]
  exact (out_point m c t (y 0) (y 1)).trans (congrArg (outArr (argX m c) (argG m c) (argW m c)) (emb4 t (y 0) (y 1))).symm

theorem covers : (cfg0.win 4).Covers := by decide +kernel

/-- The kernel's output array after the run. -/
theorem final : (dats m 0 c).arrAt 4 cfg0.N = outArr (argX m c) (argG m c) (argW m c) :=
  (dats m 0 c).arrAt_eq_of_cover 4 _ (fun t _ => flushed_eq m c t) (covers.cover _ (Memref.isWhole_whole _))

end Cert.Proof.Glu
-- ==== Proof.GluRef.lean ====
module

public import proofs.«01_k».proof.Proof.Glu
public import proofs.«01_k».proof.Proof.Gen.Reference4Ideal.Run

@[expose] public section

set_option maxRecDepth 16384

noncomputable section

namespace Cert.Proof.GluRef

open Cert.Reference4Ideal Cert.Reference4Ideal.Gen Idealize.ShloMosaic Idealize.ShloMosaic.TcCoe Idealize.SL.Sem
open Cert.Proof.Rows Cert.Proof.GluTile Cert.Proof.Glu
open Cert.Proof.GateTile (normed normed_zero)

/-! ## The reference's arrays, by name -/

/-- The normalised rows of both sequences. -/
def normR (x : Vec Ideal S2x4112x2048 .f32) (g : Vec Ideal S2048 .f32) : Vec Ideal S2x4112x2048 .f32 :=
  mulf (mulf x (broadcastInDim S2x4112x2048 ![0, 1, 2] bcast_S2x4112x1_S2x4112x2048_0_1_2 (Host.rsqrt (addf (Host.divf (broadcastInDim S2x4112x1 ![0, 1] bcast_S2x4112_S2x4112x1_0_1 (Host.reduceAdd (mulf x x) (constant (F := Ideal) S_ .f32 0x00000000#32) reducesTo_S2x4112x2048_S2x4112_d2 h_S_)) (broadcastInDim S2x4112x1 ![] bcast_S_S2x4112x1 (constant (F := Ideal) S_ .f32 0x45000000#32))) (broadcastInDim S2x4112x1 ![] bcast_S_S2x4112x1 (constant (F := Ideal) S_ .f32 0x358637BD#32)))))) (broadcastInDim S2x4112x2048 ![0, 1, 2] bcast_S1x1x2048_S2x4112x2048_0_1_2 (broadcastInDim S1x1x2048 ![2] bcast_S2048_S1x1x2048_2 g))

/-- The product of the rows with the weights. -/
def dotR (h : Vec Ideal S2x4112x2048 .f32) (w : Vec Ideal S2048x4096 .f32) : Vec Ideal S2x4112x4096 .f32 :=
  Host.dotGeneral (F := Ideal) (φ₁ := .f32) (φ₂ := .f32) dot_S2x4112x2048_S2048x4096_S2x4112x4096_2_0_01_1_n_n none h w

/-- The first half of the columns times the logistic function of the second half. -/
def gluR (p : Vec Ideal S2x4112x4096 .f32) : Vec Ideal S2x4112x2048 .f32 :=
  mulf (F := Ideal) (φ := .f32) (extractStridedSlice S2x4112x2048 ![0, 0, 0] p slices_S2x4112x4096_S2x4112x2048_0_0_0) (Host.divf (broadcastInDim S2x4112x2048 ![] bcast_S_S2x4112x2048 (constant (F := Ideal) S_ .f32 0x3F800000#32)) (addf (F := Ideal) (φ := .f32) (broadcastInDim S2x4112x2048 ![] bcast_S_S2x4112x2048 (constant (F := Ideal) S_ .f32 0x3F800000#32)) (Host.exp (Host.negf (F := Ideal) (φ := .f32) (extractStridedSlice S2x4112x2048 ![0, 0, 2048] p slices_S2x4112x4096_S2x4112x2048_0_0_2048)))))

/-- The padded rows, one sequence below the other. -/
def padR (v : Vec Ideal S2x4112x2048 .f32) : Vec Ideal S8704x2048 .f32 :=
  shapeCast S8704x2048 (pad S2x4352x2048 ![0, 0, 0] ![0, 240, 0] ![0, 0, 0] v (sitofp (F := Ideal) .f32 (constantI S_ 32 0#32)) pads_S2x4112x2048_S2x4352x2048_000_02400_000 h_S_) shapeCasts_S2x4352x2048_S8704x2048

/-! ## Their elements -/

theorem normR_at (x : Vec Ideal S2x4112x2048 .f32) (g : Vec Ideal S2048 .f32) (b : Fin 2) (t : Fin 4112) (k : Fin 2048) :
    normR x g (ix3 b t k) = normed (fun k => x (ix3 b t k)) (fun k => g (ix1 k)) k := by
  unfold normed
  pointwise [normR]

theorem dotR_at (h : Vec Ideal S2x4112x2048 .f32) (w : Vec Ideal S2048x4096 .f32) (b : Fin 2) (t : Fin 4112) (n : Fin 4096) :
    dotR h w (ix3 b t n) = ∑ k : Fin 2048, h (ix3 b t k) * w (ix2 k n) := by
  pointwise [dotR]

theorem gluR_at (p : Vec Ideal S2x4112x4096 .f32) (b : Fin 2) (t : Fin 4112) (n : Fin 2048) :
    gluR p (ix3 b t n) = glu (p (ix3 b t ⟨0 + n.val, by omega⟩)) (p (ix3 b t ⟨2048 + n.val, by omega⟩)) := by
  unfold glu
  pointwise [gluR]
  rfl

theorem padR_at (v : Vec Ideal S2x4112x2048 .f32) (r : Fin 8704) (n : Fin 2048) : padR v (ix2 r n) = padRows v r.val n := by
  pointwise [padR]
  exact padRows_of v r n _ zero_word

/-! ## The result -/

section
variable (x : Vec Ideal S2x4112x2048 .f32) (g : Vec Ideal S2048 .f32) (w : Vec Ideal S2048x4096 .f32)

/-- The products of a padded row are the reference's. -/
theorem prow_real (r o : ℕ) (ho : o + 2048 ≤ 4096) (n : Fin 2048) (h : r % 4352 < 4112) :
    prow x g w r o ho n = dotR (normR x g) w (ix3 ⟨r / 4352 % 2, Nat.mod_lt _ (by decide)⟩ ⟨r % 4352, h⟩ ⟨o + n.val, by omega⟩) := by
  unfold prow
  rw [dotR_at]
  refine Finset.sum_congr rfl fun k _ => ?_
  rw [normR_at]
  refine congrArg (fun z => normed z (fun k => g (ix1 k)) k * w (ix2 k _)) (funext fun k => ?_)
  exact dif_pos h

/-- The products of a row of zeros are zero. -/
theorem prow_zero (r o : ℕ) (ho : o + 2048 ≤ 4096) (n : Fin 2048) (h : ¬r % 4352 < 4112) : prow x g w r o ho n = 0 := by
  unfold prow
  refine Finset.sum_eq_zero fun k _ => ?_
  rw [normed_zero _ _ _ (dif_neg h), zero_mul]

theorem out_at (r : Fin 8704) (n : Fin 2048) : padR (gluR (dotR (normR x g) w)) (ix2 r n) = outArr x g w (ix2 r n) := by
  rw [padR_at]
  show _ = glu (prow x g w r.val 0 (by decide) n) (prow x g w r.val 2048 (by decide) n)
  unfold padRows
  by_cases h : r.val % 4352 < 4112
  · rw [dif_pos h, gluR_at, prow_real x g w _ _ _ _ h, prow_real x g w _ _ _ _ h]
  · rw [dif_neg h, prow_zero x g w _ _ _ _ h]
    exact (zero_mul _).symm

theorem out_eq (i : S8704x2048.Idx) : padR (gluR (dotR (normR x g) w)) i = outArr x g w i := by
  have hi : i = ix2 (i 0) (i 1) := by
    funext a
    match a with
    | ⟨0, _⟩ => rfl
    | ⟨1, _⟩ => rfl
  rw [hi]
  exact out_at x g w (i 0) (i 1)

end

end Cert.Proof.GluRef
-- ==== Proof.KvTile.lean ====
module

public import proofs.«01_k».proof.Proof.Chunks
public import proofs.«01_k».proof.Proof.GateTile
public import proofs.«01_k».proof.Proof.Gen.Kernel5Ideal.Value
public import Idealize.ShloMosaic.Lib.StableHlo.ReadAt

@[expose] public section

set_option maxRecDepth 16384

noncomputable section

namespace Cert.Proof.KvTile

open Cert.Kernel5Ideal Cert.Kernel5Ideal.Gen Idealize.ShloMosaic Idealize.ShloMosaic.TcCoe Idealize.SL.Sem
open Cert.Proof.GateTile (normed normed_zero)

/-! ## The key heads -/

/-- Lane `n` of a normalised head: the lane over the root of the mean of the squares, scaled. -/
def headed (p g : Fin 128 → EReal) (n : Fin 128) : EReal :=
  p n * Ideal.rsqrt (Ideal.div (∑ k, p k * p k) (Ideal.ofBits FTy.f32 1124073472#32) + Ideal.ofBits FTy.f32 897988541#32) * g n

theorem headed_zero (p g : Fin 128 → EReal) (n : Fin 128) (h : p n = 0) : headed p g n = 0 := by
  unfold headed
  rw [h, zero_mul, zero_mul]

/-- The lanes from column `O` on of the product of a chunk's row with the weights, normalised. -/
def headOf (h : S272x2048.Idx → EReal) (a : S2048x512.Idx → EReal) (gk : S1x128.Idx → EReal) (O : ℕ) (hO : O + 128 ≤ 512) (r : Fin 272) (n : Fin 128) : EReal :=
  headed (fun n => ∑ k : Fin 2048, h (ix2 r k) * a (ix2 k ⟨O + n.val, by omega⟩)) (fun n => gk (ix2 0 n)) n

theorem headOf_first (h : S272x2048.Idx → EReal) (a : S2048x512.Idx → EReal) (gk : S1x128.Idx → EReal) (r : Fin 272) (n : Fin 128) :
    headed (fun n => ∑ k : Fin 2048, h (ix2 r k) * a (ix2 k ⟨n.val, by omega⟩)) (fun n => gk (ix2 0 n)) n = headOf h a gk 0 (by decide) r n := by
  unfold headOf
  simp only [Nat.zero_add]

/-! ## The stored normalised rows and values at an index -/

theorem normA_0 (x : S272x2048.Idx → EReal) (g : S1x2048.Idx → EReal) (r : Fin 272) (k : Fin 2048) :
    ((k0_pay13 (F := Ideal) x g) : S272x2048.Idx → EReal) (ix2 r k) = normed (fun k => x (ix2 r k)) (fun k => g (ix2 0 k)) k := by
  pointwise [k0_pay13]
  rfl

theorem vA_0 (h : S272x2048.Idx → EReal) (b : S2048x512.Idx → EReal) (r : Fin 272) (n : Fin 512) :
    ((k0_pay31 (F := Ideal) (k0_pay15 (F := Ideal) h b)) : S1x272x512.Idx → EReal) (ix3 0 r n) = ∑ k : Fin 2048, h (ix2 r k) * b (ix2 k n) := by
  pointwise [k0_pay31, k0_pay15]

theorem vbA_0 (h : S272x2048.Idx → EReal) (b : S2048x512.Idx → EReal) (r : Fin 272) (n : Fin 512) :
    ((k0_pay32 (F := Ideal) (k0_pay15 (F := Ideal) h b)) : S272x512.Idx → EReal) (ix2 r n) = ∑ k : Fin 2048, h (ix2 r k) * b (ix2 k n) := by
  pointwise [k0_pay32, k0_pay15]

theorem normA_272 (x : S272x2048.Idx → EReal) (g : S1x2048.Idx → EReal) (r : Fin 272) (k : Fin 2048) :
    ((k0_pay34 (F := Ideal) (k0_pay33 (F := Ideal) x) g) : S272x2048.Idx → EReal) (ix2 r k) = normed (fun k => x (ix2 r k)) (fun k => g (ix2 0 k)) k := by
  pointwise [k0_pay34, k0_pay33]
  rfl

theorem vA_272 (h : S272x2048.Idx → EReal) (b : S2048x512.Idx → EReal) (r : Fin 272) (n : Fin 512) :
    ((k0_pay52 (F := Ideal) (k0_pay36 (F := Ideal) h b)) : S1x272x512.Idx → EReal) (ix3 0 r n) = ∑ k : Fin 2048, h (ix2 r k) * b (ix2 k n) := by
  pointwise [k0_pay52, k0_pay36]

theorem vbA_272 (h : S272x2048.Idx → EReal) (b : S2048x512.Idx → EReal) (r : Fin 272) (n : Fin 512) :
    ((k0_pay53 (F := Ideal) (k0_pay36 (F := Ideal) h b)) : S272x512.Idx → EReal) (ix2 r n) = ∑ k : Fin 2048, h (ix2 r k) * b (ix2 k n) := by
  pointwise [k0_pay53, k0_pay36]

theorem normA_544 (x : S272x2048.Idx → EReal) (g : S1x2048.Idx → EReal) (r : Fin 272) (k : Fin 2048) :
    ((k0_pay58 (F := Ideal) (k0_pay54 (F := Ideal) x) (k0_pay55 (F := Ideal) g) (k0_pay56 (F := Ideal) x) (k0_pay57 (F := Ideal))) : S272x2048.Idx → EReal) (ix2 r k) = normed (fun k => x (ix2 r k)) (fun k => g (ix2 0 k)) k := by
  pointwise [k0_pay58, k0_pay54, k0_pay55, k0_pay56, k0_pay57]
  rfl

theorem vA_544 (h : S272x2048.Idx → EReal) (b : S2048x512.Idx → EReal) (r : Fin 272) (n : Fin 512) :
    ((k0_pay76 (F := Ideal) (k0_pay60 (F := Ideal) h b)) : S1x272x512.Idx → EReal) (ix3 0 r n) = ∑ k : Fin 2048, h (ix2 r k) * b (ix2 k n) := by
  pointwise [k0_pay76, k0_pay60]

theorem vbA_544 (h : S272x2048.Idx → EReal) (b : S2048x512.Idx → EReal) (r : Fin 272) (n : Fin 512) :
    ((k0_pay77 (F := Ideal) (k0_pay60 (F := Ideal) h b)) : S272x512.Idx → EReal) (ix2 r n) = ∑ k : Fin 2048, h (ix2 r k) * b (ix2 k n) := by
  pointwise [k0_pay77, k0_pay60]

theorem normA_816 (x : S272x2048.Idx → EReal) (g : S1x2048.Idx → EReal) (r : Fin 272) (k : Fin 2048) :
    ((k0_pay80 (F := Ideal) (k0_pay78 (F := Ideal) g) (k0_pay79 (F := Ideal) x)) : S272x2048.Idx → EReal) (ix2 r k) = normed (fun k => x (ix2 r k)) (fun k => g (ix2 0 k)) k := by
  pointwise [k0_pay80, k0_pay78, k0_pay79]
  rfl

theorem vA_816 (h : S272x2048.Idx → EReal) (b : S2048x512.Idx → EReal) (r : Fin 272) (n : Fin 512) :
    ((k0_pay5 (F := Ideal) (k0_pay82 (F := Ideal) h b)) : S1x272x512.Idx → EReal) (ix3 0 r n) = ∑ k : Fin 2048, h (ix2 r k) * b (ix2 k n) := by
  pointwise [k0_pay5, k0_pay82]

theorem vbA_816 (h : S272x2048.Idx → EReal) (b : S2048x512.Idx → EReal) (r : Fin 272) (n : Fin 512) :
    ((k0_pay6 (F := Ideal) (k0_pay82 (F := Ideal) h b)) : S272x512.Idx → EReal) (ix2 r n) = ∑ k : Fin 2048, h (ix2 r k) * b (ix2 k n) := by
  pointwise [k0_pay6, k0_pay82]

theorem vB_0 (h : S272x2048.Idx → EReal) (b : S2048x512.Idx → EReal) (r : Fin 272) (n : Fin 512) :
    ((k0_pay109 (F := Ideal) (k0_pay93 (F := Ideal) h b)) : S1x272x512.Idx → EReal) (ix3 0 r n) = ∑ k : Fin 2048, h (ix2 r k) * b (ix2 k n) := by
  pointwise [k0_pay109, k0_pay93]

theorem vbB_0 (h : S272x2048.Idx → EReal) (b : S2048x512.Idx → EReal) (r : Fin 272) (n : Fin 512) :
    ((k0_pay110 (F := Ideal) (k0_pay93 (F := Ideal) h b)) : S272x512.Idx → EReal) (ix2 r n) = ∑ k : Fin 2048, h (ix2 r k) * b (ix2 k n) := by
  pointwise [k0_pay110, k0_pay93]

theorem vB_272 (h : S272x2048.Idx → EReal) (b : S2048x512.Idx → EReal) (r : Fin 272) (n : Fin 512) :
    ((k0_pay128 (F := Ideal) (k0_pay112 (F := Ideal) h b)) : S1x272x512.Idx → EReal) (ix3 0 r n) = ∑ k : Fin 2048, h (ix2 r k) * b (ix2 k n) := by
  pointwise [k0_pay128, k0_pay112]

theorem vbB_272 (h : S272x2048.Idx → EReal) (b : S2048x512.Idx → EReal) (r : Fin 272) (n : Fin 512) :
    ((k0_pay129 (F := Ideal) (k0_pay112 (F := Ideal) h b)) : S272x512.Idx → EReal) (ix2 r n) = ∑ k : Fin 2048, h (ix2 r k) * b (ix2 k n) := by
  pointwise [k0_pay129, k0_pay112]

theorem vB_544 (h : S272x2048.Idx → EReal) (b : S2048x512.Idx → EReal) (r : Fin 272) (n : Fin 512) :
    ((k0_pay149 (F := Ideal) (k0_pay132 (F := Ideal) h (k0_pay131 (F := Ideal) b) (constant (F := Ideal) S272x512 .f32 0x00000000#32))) : S1x272x512.Idx → EReal) (ix3 0 r n) = ∑ k : Fin 2048, h (ix2 r k) * b (ix2 k n) := by
  pointwise [k0_pay149, k0_pay132, k0_pay131]

theorem vbB_544 (h : S272x2048.Idx → EReal) (b : S2048x512.Idx → EReal) (r : Fin 272) (n : Fin 512) :
    ((k0_pay150 (F := Ideal) (k0_pay132 (F := Ideal) h (k0_pay131 (F := Ideal) b) (constant (F := Ideal) S272x512 .f32 0x00000000#32))) : S272x512.Idx → EReal) (ix2 r n) = ∑ k : Fin 2048, h (ix2 r k) * b (ix2 k n) := by
  pointwise [k0_pay150, k0_pay132, k0_pay131]

theorem vB_816 (h : S272x2048.Idx → EReal) (b : S2048x512.Idx → EReal) (r : Fin 272) (n : Fin 512) :
    ((k0_pay11 (F := Ideal) (k0_pay152 (F := Ideal) h b)) : S1x272x512.Idx → EReal) (ix3 0 r n) = ∑ k : Fin 2048, h (ix2 r k) * b (ix2 k n) := by
  pointwise [k0_pay11, k0_pay152]

theorem vbB_816 (h : S272x2048.Idx → EReal) (b : S2048x512.Idx → EReal) (r : Fin 272) (n : Fin 512) :
    ((k0_pay12 (F := Ideal) (k0_pay152 (F := Ideal) h b)) : S272x512.Idx → EReal) (ix2 r n) = ∑ k : Fin 2048, h (ix2 r k) * b (ix2 k n) := by
  pointwise [k0_pay12, k0_pay152]

end Cert.Proof.KvTile
-- ==== Proof.KvTiles.lean ====
module

public import proofs.«01_k».proof.Proof.GluCases
public import proofs.«01_k».proof.Proof.KvTile

@[expose] public section

set_option maxRecDepth 16384

noncomputable section

namespace Cert.Proof.KvTiles

open Cert.Kernel5Ideal Cert.Kernel5Ideal.Gen Idealize.ShloMosaic Idealize.ShloMosaic.TcCoe Idealize.SL.Sem
open Cert.Proof.Chunks Cert.Proof.KvTile
open Cert.Proof.GateTile (normed normed_zero)
open Cert.Proof.GluCases (hA kept norm_chunk)

/-! ## Pieces of a block with a leading axis of one -/

/-- A stored value is a function `G` of the row and the column, if it is at the rows and the columns it is stored at. -/
theorem piece_at3 {M N K C : ℕ} (G : ℕ → ℕ → EReal) (R O : ℕ)
    (inb : ∀ i : Fin 3, (![0, R, O] : Fin 3 → ℕ) i + (⟨3, ![1, K, C]⟩ : Shape).size i ≤ (⟨3, ![1, M, N]⟩ : Shape).size i) (w : (⟨3, ![1, K, C]⟩ : Shape).Idx → EReal)
    (hw : ∀ (r : Fin K) (n : Fin C), w (ix3 0 r n) = G (R + r.val) (O + n.val)) (x : (⟨3, ![1, K, C]⟩ : Shape).Idx) :
    w x = (fun y : (⟨3, ![1, M, N]⟩ : Shape).Idx => G (y 1).val (y 2).val) ((Rect.unit (s := ⟨3, ![1, M, N]⟩) ![0, R, O] (⟨3, ![1, K, C]⟩ : Shape).size inb).emb x) := by
  have hx : x = ix3 0 (x 1) (x 2) := by
    funext a
    match a with
    | ⟨0, _⟩ =>
      have h : (x 0).val < 1 := (x 0).isLt
      exact Fin.ext (show (x 0).val = 0 by omega)
    | ⟨1, _⟩ => rfl
    | ⟨2, _⟩ => rfl
  refine (congrArg w hx).trans ((hw _ _).trans (congrArg₂ G ?_ ?_))
  · show R + (x 1).val = R + 1 * (x 1).val
    omega
  · show O + (x 2).val = O + 1 * (x 2).val
    omega

/-! ## A tile's keys and values, from its normalised rows -/

/-- The tile's keys from its normalised rows `h`: each run of 128 columns of the product is a head, and is normalised. -/
def keyA (h : ℕ → ℕ → EReal) (a : S2048x512.Idx → EReal) (gk : S1x128.Idx → EReal) (p q : ℕ) : EReal :=
  if hq : q < 512 then
    headed (fun n => ∑ k : Fin 2048, h p k.val * a (ix2 k ⟨128 * (q / 128) + n.val, by omega⟩)) (fun n => gk (ix2 0 n)) ⟨q % 128, Nat.mod_lt _ (by decide)⟩
  else 0

/-- The tile's values from its normalised rows `h`. -/
def valA (h : ℕ → ℕ → EReal) (b : S2048x512.Idx → EReal) (p q : ℕ) : EReal :=
  if hq : q < 512 then ∑ k : Fin 2048, h p k.val * b (ix2 k ⟨q, hq⟩) else 0

theorem key_chunk (R O : ℕ) (hO : O + 128 ≤ 512) (hd : O % 128 = 0) (H : ℕ → ℕ → EReal) (a la : S2048x512.Idx → EReal) (gk lg : S1x128.Idx → EReal) (h : S272x2048.Idx → EReal)
    (hh : ∀ (r : Fin 272) (k : Fin 2048), h (ix2 r k) = H (R + r.val) (0 + k.val)) (ha : ∀ k n, la (ix2 k n) = a (ix2 k n)) (hg : ∀ n, lg (ix2 0 n) = gk (ix2 0 n))
    (r : Fin 272) (n : Fin 128) : headOf h la lg O hO r n = keyA H a gk (R + r.val) (O + n.val) := by
  have hn := n.isLt
  unfold headOf keyA
  rw [dif_pos (by omega)]
  have e : (⟨(O + n.val) % 128, Nat.mod_lt _ (by decide)⟩ : Fin 128) = n := Fin.ext (by show (O + n.val) % 128 = n.val; omega)
  rw [e]
  refine congrArg₂ (fun p g => headed p g n) (funext fun j => Finset.sum_congr rfl fun k _ => ?_) (funext hg)
  rw [hh, ha, Nat.zero_add]
  refine congrArg (fun q => H _ _ * a (ix2 k q)) (Fin.ext ?_)
  show O + j.val = 128 * ((O + n.val) / 128) + j.val
  omega

theorem val_chunk (R : ℕ) (H : ℕ → ℕ → EReal) (b lb : S2048x512.Idx → EReal) (h : S272x2048.Idx → EReal)
    (hh : ∀ (r : Fin 272) (k : Fin 2048), h (ix2 r k) = H (R + r.val) (0 + k.val)) (hb : ∀ k n, lb (ix2 k n) = b (ix2 k n)) (r : Fin 272) (n : Fin 512) :
    ∑ k : Fin 2048, h (ix2 r k) * lb (ix2 k n) = valA H b (R + r.val) (0 + n.val) := by
  have hn := n.isLt
  unfold valA
  rw [dif_pos (by omega)]
  have e : (⟨0 + n.val, by omega⟩ : Fin 512) = n := Fin.ext (Nat.zero_add _)
  rw [e]
  refine Finset.sum_congr rfl fun k _ => ?_
  rw [hh, hb, Nat.zero_add]

/-! ## Loads of the kept rows -/

theorem kept_load (arg11 : Memref sig .tc .vmem S1088x2048 .bf16) (harg11 : arg11.IsWhole) (xs0 : Vec Ideal S1088x2048 .bf16) (R : ℕ) (hR : R + 272 ≤ 1088)
    (inb : ∀ i : Fin 2, (![R, 0] : Fin 2 → ℕ) i + S272x2048.size i ≤ S1088x2048.size i) (r : Fin 272) (k : Fin 2048) :
    (View.readAt (Elt Ideal) arg11.view (Rect.unit (s := S1088x2048) ![R, 0] S272x2048.size inb).toLoadRect (harg11.unread xs0) : S272x2048.Idx → EReal) (ix2 r k)
      = kept xs0 (R + r.val) (0 + k.val) := by
  have hr := r.isLt
  have hk := k.isLt
  unfold kept
  rw [dif_pos ⟨by omega, by omega⟩]
  refine (row_load arg11 harg11 xs0 R inb r k (by omega)).trans (congrArg (fun q => xs0 (ix2 _ q)) (Fin.ext (Nat.zero_add _).symm))

theorem norm_load (arg2 : Memref sig .tc .vmem S1088x2048 .f32) (harg2 : arg2.IsWhole) (arg3 : Memref sig .tc .vmem S1x2048 .f32) (harg3 : arg3.IsWhole)
    (x0 : Vec Ideal S1088x2048 .f32) (x1 : Vec Ideal S1x2048 .f32) (R : ℕ) (hR : R + 272 ≤ 1088) (inb : ∀ i : Fin 2, (![R, 0] : Fin 2 → ℕ) i + S272x2048.size i ≤ S1088x2048.size i)
    (inb' : ∀ i : Fin 2, (![0, 0] : Fin 2 → ℕ) i + S1x2048.size i ≤ S1x2048.size i) (w : S272x2048.Idx → EReal)
    (hw : ∀ r k, w (ix2 r k) = normed (fun k => (View.readAt (Elt Ideal) arg2.view (Rect.unit (s := S1088x2048) ![R, 0] S272x2048.size inb).toLoadRect (harg2.unread x0) : S272x2048.Idx → EReal) (ix2 r k))
      (fun k => (View.readAt (Elt Ideal) arg3.view (Rect.unit (s := S1x2048) ![0, 0] S1x2048.size inb').toLoadRect (harg3.unread x1) : S1x2048.Idx → EReal) (ix2 0 k)) k) (r : Fin 272) (k : Fin 2048) :
    w (ix2 r k) = hA x0 x1 (R + r.val) (0 + k.val) :=
  norm_chunk R hR x0 x1 _ _ (fun r k => row_load arg2 harg2 x0 R inb r k _) (fun k => whole_load arg3 harg3 x1 inb' 0 k) w hw r k

/-- The rows just stored, loaded again. -/
theorem stored_load (arg11 : Memref sig .tc .vmem S1088x2048 .bf16) (R : ℕ) (inb : ∀ i : Fin 2, (![R, 0] : Fin 2 → ℕ) i + S272x2048.size i ≤ S1088x2048.size i)
    (w : S272x2048.Idx → EReal) (L : List (View.Piece (Elt Ideal) S1088x2048 .bf16)) (H : ℕ → ℕ → EReal) (hw : ∀ (r : Fin 272) (k : Fin 2048), w (ix2 r k) = H (R + r.val) (0 + k.val))
    (r : Fin 272) (k : Fin 2048) :
    (arg11.view.readCov ((⟨Rect.unit (s := S1088x2048) ![R, 0] S272x2048.size inb, w⟩ : View.Piece (Elt Ideal) S1088x2048 .bf16) :: L)
      (Rect.unit (s := S1088x2048) ![R, 0] S272x2048.size inb).toLoadRect : S272x2048.Idx → EReal) (ix2 r k) = H (R + r.val) (0 + k.val) :=
  (congrFun (own_load arg11.view R inb w L) (ix2 r k)).trans (hw r k)

end Cert.Proof.KvTiles
-- ==== Proof.KvKeysA.lean ====
module

public import proofs.«01_k».proof.Proof.KvTile

@[expose] public section

set_option maxRecDepth 16384

noncomputable section

namespace Cert.Proof.KvKeysA

open Cert.Kernel5Ideal Cert.Kernel5Ideal.Gen Idealize.ShloMosaic Idealize.ShloMosaic.TcCoe Idealize.SL.Sem
open Cert.Proof.GateTile (normed normed_zero)
open Cert.Proof.KvTile

/-! ## The stored keys at an index, at the first point of a row of tiles -/

theorem kA_0_0 (h : S272x2048.Idx → EReal) (a : S2048x512.Idx → EReal) (gk : S1x128.Idx → EReal) (r : Fin 272) (n : Fin 128) :
    ((k0_pay23 (F := Ideal) (k0_pay16 (F := Ideal) gk) (k0_pay17 (F := Ideal) h a) (k0_pay18 (F := Ideal) h a)) : S1x272x128.Idx → EReal) (ix3 0 r n) = headOf h a gk 0 (by decide) r n := by
  refine Eq.trans ?_ (headOf_first h a gk r n)
  pointwise [k0_pay23, k0_pay16, k0_pay17, k0_pay18, k0_pay19, k0_pay14]
  rfl

theorem kbA_0_0 (h : S272x2048.Idx → EReal) (a : S2048x512.Idx → EReal) (gk : S1x128.Idx → EReal) (r : Fin 272) (n : Fin 128) :
    ((k0_pay24 (F := Ideal) (k0_pay19 (F := Ideal) (k0_pay16 (F := Ideal) gk) (k0_pay17 (F := Ideal) h a) (k0_pay18 (F := Ideal) h a))) : S272x128.Idx → EReal) (ix2 r n) = headOf h a gk 0 (by decide) r n := by
  refine Eq.trans ?_ (headOf_first h a gk r n)
  pointwise [k0_pay24, k0_pay19, k0_pay16, k0_pay17, k0_pay18, k0_pay14]
  rfl

theorem kA_0_128 (h : S272x2048.Idx → EReal) (a : S2048x512.Idx → EReal) (gk : S1x128.Idx → EReal) (r : Fin 272) (n : Fin 128) :
    ((k0_pay25 (F := Ideal) (k0_pay20 (F := Ideal) (k0_pay14 (F := Ideal) h a) (k0_pay16 (F := Ideal) gk))) : S1x272x128.Idx → EReal) (ix3 0 r n) = headOf h a gk 128 (by decide) r n := by
  pointwise [k0_pay25, k0_pay20, k0_pay14, k0_pay16]
  rfl

theorem kbA_0_128 (h : S272x2048.Idx → EReal) (a : S2048x512.Idx → EReal) (gk : S1x128.Idx → EReal) (r : Fin 272) (n : Fin 128) :
    ((k0_pay26 (F := Ideal) (k0_pay20 (F := Ideal) (k0_pay14 (F := Ideal) h a) (k0_pay16 (F := Ideal) gk))) : S272x128.Idx → EReal) (ix2 r n) = headOf h a gk 128 (by decide) r n := by
  pointwise [k0_pay26, k0_pay20, k0_pay14, k0_pay16]
  rfl

theorem kA_0_256 (h : S272x2048.Idx → EReal) (a : S2048x512.Idx → EReal) (gk : S1x128.Idx → EReal) (r : Fin 272) (n : Fin 128) :
    ((k0_pay27 (F := Ideal) (k0_pay21 (F := Ideal) (k0_pay14 (F := Ideal) h a) (k0_pay16 (F := Ideal) gk))) : S1x272x128.Idx → EReal) (ix3 0 r n) = headOf h a gk 256 (by decide) r n := by
  pointwise [k0_pay27, k0_pay21, k0_pay14, k0_pay16]
  rfl

theorem kbA_0_256 (h : S272x2048.Idx → EReal) (a : S2048x512.Idx → EReal) (gk : S1x128.Idx → EReal) (r : Fin 272) (n : Fin 128) :
    ((k0_pay28 (F := Ideal) (k0_pay21 (F := Ideal) (k0_pay14 (F := Ideal) h a) (k0_pay16 (F := Ideal) gk))) : S272x128.Idx → EReal) (ix2 r n) = headOf h a gk 256 (by decide) r n := by
  pointwise [k0_pay28, k0_pay21, k0_pay14, k0_pay16]
  rfl

theorem kA_0_384 (h : S272x2048.Idx → EReal) (a : S2048x512.Idx → EReal) (gk : S1x128.Idx → EReal) (r : Fin 272) (n : Fin 128) :
    ((k0_pay29 (F := Ideal) (k0_pay22 (F := Ideal) (k0_pay14 (F := Ideal) h a) (k0_pay16 (F := Ideal) gk))) : S1x272x128.Idx → EReal) (ix3 0 r n) = headOf h a gk 384 (by decide) r n := by
  pointwise [k0_pay29, k0_pay22, k0_pay14, k0_pay16]
  rfl

theorem kbA_0_384 (h : S272x2048.Idx → EReal) (a : S2048x512.Idx → EReal) (gk : S1x128.Idx → EReal) (r : Fin 272) (n : Fin 128) :
    ((k0_pay30 (F := Ideal) (k0_pay22 (F := Ideal) (k0_pay14 (F := Ideal) h a) (k0_pay16 (F := Ideal) gk))) : S272x128.Idx → EReal) (ix2 r n) = headOf h a gk 384 (by decide) r n := by
  pointwise [k0_pay30, k0_pay22, k0_pay14, k0_pay16]
  rfl

theorem kA_272_0 (h : S272x2048.Idx → EReal) (a : S2048x512.Idx → EReal) (gk : S1x128.Idx → EReal) (r : Fin 272) (n : Fin 128) :
    ((k0_pay44 (F := Ideal) (k0_pay38 (F := Ideal) h a gk)) : S1x272x128.Idx → EReal) (ix3 0 r n) = headOf h a gk 0 (by decide) r n := by
  refine Eq.trans ?_ (headOf_first h a gk r n)
  pointwise [k0_pay44, k0_pay38, k0_pay35, k0_pay37]
  rfl

theorem kbA_272_0 (h : S272x2048.Idx → EReal) (a : S2048x512.Idx → EReal) (gk : S1x128.Idx → EReal) (r : Fin 272) (n : Fin 128) :
    ((k0_pay45 (F := Ideal) (k0_pay38 (F := Ideal) h a gk)) : S272x128.Idx → EReal) (ix2 r n) = headOf h a gk 0 (by decide) r n := by
  refine Eq.trans ?_ (headOf_first h a gk r n)
  pointwise [k0_pay45, k0_pay38, k0_pay35, k0_pay37]
  rfl

theorem kA_272_128 (h : S272x2048.Idx → EReal) (a : S2048x512.Idx → EReal) (gk : S1x128.Idx → EReal) (r : Fin 272) (n : Fin 128) :
    ((k0_pay46 (F := Ideal) (k0_pay41 (F := Ideal) (k0_pay37 (F := Ideal) gk) (k0_pay39 (F := Ideal) h a) (k0_pay40 (F := Ideal) h a))) : S1x272x128.Idx → EReal) (ix3 0 r n) = headOf h a gk 128 (by decide) r n := by
  pointwise [k0_pay46, k0_pay41, k0_pay37, k0_pay39, k0_pay40, k0_pay35]
  rfl

theorem kbA_272_128 (h : S272x2048.Idx → EReal) (a : S2048x512.Idx → EReal) (gk : S1x128.Idx → EReal) (r : Fin 272) (n : Fin 128) :
    ((k0_pay47 (F := Ideal) (k0_pay41 (F := Ideal) (k0_pay37 (F := Ideal) gk) (k0_pay39 (F := Ideal) h a) (k0_pay40 (F := Ideal) h a))) : S272x128.Idx → EReal) (ix2 r n) = headOf h a gk 128 (by decide) r n := by
  pointwise [k0_pay47, k0_pay41, k0_pay37, k0_pay39, k0_pay40, k0_pay35]
  rfl

theorem kA_272_256 (h : S272x2048.Idx → EReal) (a : S2048x512.Idx → EReal) (gk : S1x128.Idx → EReal) (r : Fin 272) (n : Fin 128) :
    ((k0_pay48 (F := Ideal) (k0_pay42 (F := Ideal) (k0_pay35 (F := Ideal) h a) (k0_pay37 (F := Ideal) gk))) : S1x272x128.Idx → EReal) (ix3 0 r n) = headOf h a gk 256 (by decide) r n := by
  pointwise [k0_pay48, k0_pay42, k0_pay35, k0_pay37]
  rfl

theorem kbA_272_256 (h : S272x2048.Idx → EReal) (a : S2048x512.Idx → EReal) (gk : S1x128.Idx → EReal) (r : Fin 272) (n : Fin 128) :
    ((k0_pay49 (F := Ideal) (k0_pay42 (F := Ideal) (k0_pay35 (F := Ideal) h a) (k0_pay37 (F := Ideal) gk))) : S272x128.Idx → EReal) (ix2 r n) = headOf h a gk 256 (by decide) r n := by
  pointwise [k0_pay49, k0_pay42, k0_pay35, k0_pay37]
  rfl

theorem kA_272_384 (h : S272x2048.Idx → EReal) (a : S2048x512.Idx → EReal) (gk : S1x128.Idx → EReal) (r : Fin 272) (n : Fin 128) :
    ((k0_pay50 (F := Ideal) (k0_pay43 (F := Ideal) (k0_pay35 (F := Ideal) h a) (k0_pay37 (F := Ideal) gk))) : S1x272x128.Idx → EReal) (ix3 0 r n) = headOf h a gk 384 (by decide) r n := by
  pointwise [k0_pay50, k0_pay43, k0_pay35, k0_pay37]
  rfl

theorem kbA_272_384 (h : S272x2048.Idx → EReal) (a : S2048x512.Idx → EReal) (gk : S1x128.Idx → EReal) (r : Fin 272) (n : Fin 128) :
    ((k0_pay51 (F := Ideal) (k0_pay43 (F := Ideal) (k0_pay35 (F := Ideal) h a) (k0_pay37 (F := Ideal) gk))) : S272x128.Idx → EReal) (ix2 r n) = headOf h a gk 384 (by decide) r n := by
  pointwise [k0_pay51, k0_pay43, k0_pay35, k0_pay37]
  rfl

theorem kA_544_0 (h : S272x2048.Idx → EReal) (a : S2048x512.Idx → EReal) (gk : S1x128.Idx → EReal) (r : Fin 272) (n : Fin 128) :
    ((k0_pay68 (F := Ideal) (k0_pay62 (F := Ideal) h a gk)) : S1x272x128.Idx → EReal) (ix3 0 r n) = headOf h a gk 0 (by decide) r n := by
  refine Eq.trans ?_ (headOf_first h a gk r n)
  pointwise [k0_pay68, k0_pay62, k0_pay59, k0_pay61]
  rfl

theorem kbA_544_0 (h : S272x2048.Idx → EReal) (a : S2048x512.Idx → EReal) (gk : S1x128.Idx → EReal) (r : Fin 272) (n : Fin 128) :
    ((k0_pay69 (F := Ideal) (k0_pay62 (F := Ideal) h a gk)) : S272x128.Idx → EReal) (ix2 r n) = headOf h a gk 0 (by decide) r n := by
  refine Eq.trans ?_ (headOf_first h a gk r n)
  pointwise [k0_pay69, k0_pay62, k0_pay59, k0_pay61]
  rfl

theorem kA_544_128 (h : S272x2048.Idx → EReal) (a : S2048x512.Idx → EReal) (gk : S1x128.Idx → EReal) (r : Fin 272) (n : Fin 128) :
    ((k0_pay70 (F := Ideal) (k0_pay61 (F := Ideal) gk) (k0_pay63 (F := Ideal) h a) (k0_pay64 (F := Ideal) h a) (Scalar.ofBits (F := Ideal) .f32 0x358637BD#32)) : S1x272x128.Idx → EReal) (ix3 0 r n) = headOf h a gk 128 (by decide) r n := by
  pointwise [k0_pay70, k0_pay61, k0_pay63, k0_pay64, k0_pay65, k0_pay59]
  rfl

theorem kbA_544_128 (h : S272x2048.Idx → EReal) (a : S2048x512.Idx → EReal) (gk : S1x128.Idx → EReal) (r : Fin 272) (n : Fin 128) :
    ((k0_pay71 (F := Ideal) (k0_pay61 (F := Ideal) gk) (k0_pay63 (F := Ideal) h a) (k0_pay64 (F := Ideal) h a) (Scalar.ofBits (F := Ideal) .f32 0x358637BD#32)) : S272x128.Idx → EReal) (ix2 r n) = headOf h a gk 128 (by decide) r n := by
  pointwise [k0_pay71, k0_pay61, k0_pay63, k0_pay64, k0_pay65, k0_pay59]
  rfl

theorem kA_544_256 (h : S272x2048.Idx → EReal) (a : S2048x512.Idx → EReal) (gk : S1x128.Idx → EReal) (r : Fin 272) (n : Fin 128) :
    ((k0_pay72 (F := Ideal) (k0_pay66 (F := Ideal) (k0_pay59 (F := Ideal) h a) (k0_pay61 (F := Ideal) gk))) : S1x272x128.Idx → EReal) (ix3 0 r n) = headOf h a gk 256 (by decide) r n := by
  pointwise [k0_pay72, k0_pay66, k0_pay59, k0_pay61]
  rfl

theorem kbA_544_256 (h : S272x2048.Idx → EReal) (a : S2048x512.Idx → EReal) (gk : S1x128.Idx → EReal) (r : Fin 272) (n : Fin 128) :
    ((k0_pay73 (F := Ideal) (k0_pay66 (F := Ideal) (k0_pay59 (F := Ideal) h a) (k0_pay61 (F := Ideal) gk))) : S272x128.Idx → EReal) (ix2 r n) = headOf h a gk 256 (by decide) r n := by
  pointwise [k0_pay73, k0_pay66, k0_pay59, k0_pay61]
  rfl

theorem kA_544_384 (h : S272x2048.Idx → EReal) (a : S2048x512.Idx → EReal) (gk : S1x128.Idx → EReal) (r : Fin 272) (n : Fin 128) :
    ((k0_pay74 (F := Ideal) (k0_pay67 (F := Ideal) (k0_pay59 (F := Ideal) h a) (k0_pay61 (F := Ideal) gk))) : S1x272x128.Idx → EReal) (ix3 0 r n) = headOf h a gk 384 (by decide) r n := by
  pointwise [k0_pay74, k0_pay67, k0_pay59, k0_pay61]
  rfl

theorem kbA_544_384 (h : S272x2048.Idx → EReal) (a : S2048x512.Idx → EReal) (gk : S1x128.Idx → EReal) (r : Fin 272) (n : Fin 128) :
    ((k0_pay75 (F := Ideal) (k0_pay67 (F := Ideal) (k0_pay59 (F := Ideal) h a) (k0_pay61 (F := Ideal) gk))) : S272x128.Idx → EReal) (ix2 r n) = headOf h a gk 384 (by decide) r n := by
  pointwise [k0_pay75, k0_pay67, k0_pay59, k0_pay61]
  rfl

theorem kA_816_0 (h : S272x2048.Idx → EReal) (a : S2048x512.Idx → EReal) (gk : S1x128.Idx → EReal) (r : Fin 272) (n : Fin 128) :
    ((k0_pay88 (F := Ideal) (k0_pay84 (F := Ideal) h a gk)) : S1x272x128.Idx → EReal) (ix3 0 r n) = headOf h a gk 0 (by decide) r n := by
  refine Eq.trans ?_ (headOf_first h a gk r n)
  pointwise [k0_pay88, k0_pay84, k0_pay81, k0_pay83]
  rfl

theorem kbA_816_0 (h : S272x2048.Idx → EReal) (a : S2048x512.Idx → EReal) (gk : S1x128.Idx → EReal) (r : Fin 272) (n : Fin 128) :
    ((k0_pay89 (F := Ideal) (k0_pay84 (F := Ideal) h a gk)) : S272x128.Idx → EReal) (ix2 r n) = headOf h a gk 0 (by decide) r n := by
  refine Eq.trans ?_ (headOf_first h a gk r n)
  pointwise [k0_pay89, k0_pay84, k0_pay81, k0_pay83]
  rfl

theorem kA_816_128 (h : S272x2048.Idx → EReal) (a : S2048x512.Idx → EReal) (gk : S1x128.Idx → EReal) (r : Fin 272) (n : Fin 128) :
    ((k0_pay90 (F := Ideal) (k0_pay85 (F := Ideal) h a gk)) : S1x272x128.Idx → EReal) (ix3 0 r n) = headOf h a gk 128 (by decide) r n := by
  pointwise [k0_pay90, k0_pay85, k0_pay81, k0_pay83]
  rfl

theorem kbA_816_128 (h : S272x2048.Idx → EReal) (a : S2048x512.Idx → EReal) (gk : S1x128.Idx → EReal) (r : Fin 272) (n : Fin 128) :
    ((k0_pay91 (F := Ideal) (k0_pay85 (F := Ideal) h a gk)) : S272x128.Idx → EReal) (ix2 r n) = headOf h a gk 128 (by decide) r n := by
  pointwise [k0_pay91, k0_pay85, k0_pay81, k0_pay83]
  rfl

theorem kA_816_256 (h : S272x2048.Idx → EReal) (a : S2048x512.Idx → EReal) (gk : S1x128.Idx → EReal) (r : Fin 272) (n : Fin 128) :
    ((k0_pay1 (F := Ideal) (k0_pay86 (F := Ideal) (k0_pay81 (F := Ideal) h a) (k0_pay83 (F := Ideal) gk))) : S1x272x128.Idx → EReal) (ix3 0 r n) = headOf h a gk 256 (by decide) r n := by
  pointwise [k0_pay1, k0_pay86, k0_pay81, k0_pay83]
  rfl

theorem kbA_816_256 (h : S272x2048.Idx → EReal) (a : S2048x512.Idx → EReal) (gk : S1x128.Idx → EReal) (r : Fin 272) (n : Fin 128) :
    ((k0_pay2 (F := Ideal) (k0_pay86 (F := Ideal) (k0_pay81 (F := Ideal) h a) (k0_pay83 (F := Ideal) gk))) : S272x128.Idx → EReal) (ix2 r n) = headOf h a gk 256 (by decide) r n := by
  pointwise [k0_pay2, k0_pay86, k0_pay81, k0_pay83]
  rfl

theorem kA_816_384 (h : S272x2048.Idx → EReal) (a : S2048x512.Idx → EReal) (gk : S1x128.Idx → EReal) (r : Fin 272) (n : Fin 128) :
    ((k0_pay3 (F := Ideal) (k0_pay87 (F := Ideal) (k0_pay81 (F := Ideal) h a) (k0_pay83 (F := Ideal) gk))) : S1x272x128.Idx → EReal) (ix3 0 r n) = headOf h a gk 384 (by decide) r n := by
  pointwise [k0_pay3, k0_pay87, k0_pay81, k0_pay83]
  rfl

theorem kbA_816_384 (h : S272x2048.Idx → EReal) (a : S2048x512.Idx → EReal) (gk : S1x128.Idx → EReal) (r : Fin 272) (n : Fin 128) :
    ((k0_pay4 (F := Ideal) (k0_pay87 (F := Ideal) (k0_pay81 (F := Ideal) h a) (k0_pay83 (F := Ideal) gk))) : S272x128.Idx → EReal) (ix2 r n) = headOf h a gk 384 (by decide) r n := by
  pointwise [k0_pay4, k0_pay87, k0_pay81, k0_pay83]
  rfl

end Cert.Proof.KvKeysA
-- ==== Proof.KvCasesA.lean ====
module

public import proofs.«01_k».proof.Proof.KvTiles
public import proofs.«01_k».proof.Proof.KvKeysA

@[expose] public section

set_option maxRecDepth 16384

noncomputable section

namespace Cert.Proof.KvCasesA

open Cert.Kernel5Ideal Cert.Kernel5Ideal.Gen Idealize.ShloMosaic Idealize.ShloMosaic.TcCoe Idealize.SL.Sem
open Cert.Proof.Chunks Cert.Proof.KvTile Cert.Proof.KvTiles Cert.Proof.KvKeysA
open Cert.Proof.GateTile (normed normed_zero)
open Cert.Proof.GluCases (hA kept norm_chunk)

/-! ## What the first point of a row of tiles leaves, from its blocks -/

variable (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x128 .f32) (harg6 : arg6.IsWhole) (arg7 : Memref sig .tc .vmem S1x1088x512 .f32) (harg7 : arg7.IsWhole) (arg8 : Memref sig .tc .vmem S1x1088x512 .f32) (harg8 : arg8.IsWhole) (arg9 : Memref sig .tc .vmem S1088x512 .bf16) (harg9 : arg9.IsWhole) (arg10 : Memref sig .tc .vmem S1088x512 .bf16) (harg10 : arg10.IsWhole) (arg11 : Memref sig .tc .vmem S1088x2048 .bf16) (harg11 : arg11.IsWhole)
  (x0 : Vec Ideal S1088x2048 .f32) (x1 : Vec Ideal S1x2048 .f32) (x2 : Vec Ideal S2048x512 .bf16) (x3 : Vec Ideal S2048x512 .bf16) (x4 : Vec Ideal S1x128 .f32)

theorem scratch (hc0 : cond0_0 i) (hc1 : ¬cond0_1 i) (r : Fin 1088) (k : Fin 2048) :
    (sout0_A_0 (F := Ideal) c i arg2 harg2 arg3 harg3 arg4 harg4 arg5 harg5 arg6 harg6 arg7 harg7 arg8 harg8 arg9 harg9 arg10 harg10 arg11 harg11 hc0 hc1 x0 x1 x2 x3 x4 : S1088x2048.Idx → EReal) (ix2 r k) = hA x0 x1 r.val k.val := by
  unfold sout0_A_0
  rw [View.read_writes_junk_eq_canon]
  refine View.canon_apply_of_pieces (Val := Elt Ideal) (S := S1088x2048) (e := .bf16) (fun y : S1088x2048.Idx => hA x0 x1 (y 0).val (y 1).val) _
    (?_) (ix2 r k) (scover0_A_0 c i arg2 harg2 arg3 harg3 arg4 harg4 arg5 harg5 arg6 harg6 arg7 harg7 arg8 harg8 arg9 harg9 arg10 harg10 arg11 harg11 hc0 hc1 x0 x1 x2 x3 x4 _)
  intro p hm x
  rcases List.mem_cons.mp hm with rfl | hm
  · exact piece_at _ 816 0 inb_S1088x2048_S272x2048_816_0 _ (norm_load arg2 harg2 arg3 harg3 x0 x1 816 (by decide) _ _ _ (normA_816 _ _)) x
  rcases List.mem_cons.mp hm with rfl | hm
  · exact piece_at _ 544 0 inb_S1088x2048_S272x2048_544_0 _ (norm_load arg2 harg2 arg3 harg3 x0 x1 544 (by decide) _ _ _ (normA_544 _ _)) x
  rcases List.mem_cons.mp hm with rfl | hm
  · exact piece_at _ 272 0 inb_S1088x2048_S272x2048_272_0 _ (norm_load arg2 harg2 arg3 harg3 x0 x1 272 (by decide) _ _ _ (normA_272 _ _)) x
  rcases List.mem_cons.mp hm with rfl | hm
  · exact piece_at _ 0 0 inb_S1088x2048_S272x2048_0_0 _ (norm_load arg2 harg2 arg3 harg3 x0 x1 0 (by decide) _ _ _ (normA_0 _ _)) x
  · exact absurd hm List.not_mem_nil

theorem keys (hc0 : cond0_0 i) (hc1 : ¬cond0_1 i) (r : Fin 1088) (n : Fin 512) :
    (out0_A_5 (F := Ideal) c i arg2 harg2 arg3 harg3 arg4 harg4 arg5 harg5 arg6 harg6 arg7 harg7 arg8 harg8 arg9 harg9 arg10 harg10 arg11 harg11 hc0 hc1 x0 x1 x2 x3 x4 : S1x1088x512.Idx → EReal) (ix3 0 r n) = keyA (hA x0 x1) x2 x4 r.val n.val := by
  unfold out0_A_5
  rw [View.read_writes_junk_eq_canon]
  refine View.canon_apply_of_pieces (Val := Elt Ideal) (S := S1x1088x512) (e := .f32) (fun y : S1x1088x512.Idx => keyA (hA x0 x1) x2 x4 (y 1).val (y 2).val) _
    (?_) (ix3 0 r n) (cover0_A_5 c i arg2 harg2 arg3 harg3 arg4 harg4 arg5 harg5 arg6 harg6 arg7 harg7 arg8 harg8 arg9 harg9 arg10 harg10 arg11 harg11 hc0 hc1 x0 x1 x2 x3 x4 _)
  intro p hm x
  rcases List.mem_cons.mp hm with rfl | hm
  · exact piece_at3 _ 816 384 inb_S1x1088x512_S1x272x128_0_816_384 _ (fun r n => (kA_816_384 _ _ _ r n).trans (key_chunk 816 384 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at3 _ 816 256 inb_S1x1088x512_S1x272x128_0_816_256 _ (fun r n => (kA_816_256 _ _ _ r n).trans (key_chunk 816 256 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at3 _ 816 128 inb_S1x1088x512_S1x272x128_0_816_128 _ (fun r n => (kA_816_128 _ _ _ r n).trans (key_chunk 816 128 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at3 _ 816 0 inb_S1x1088x512_S1x272x128_0_816_0 _ (fun r n => (kA_816_0 _ _ _ r n).trans (key_chunk 816 0 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at3 _ 544 384 inb_S1x1088x512_S1x272x128_0_544_384 _ (fun r n => (kA_544_384 _ _ _ r n).trans (key_chunk 544 384 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at3 _ 544 256 inb_S1x1088x512_S1x272x128_0_544_256 _ (fun r n => (kA_544_256 _ _ _ r n).trans (key_chunk 544 256 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at3 _ 544 128 inb_S1x1088x512_S1x272x128_0_544_128 _ (fun r n => (kA_544_128 _ _ _ r n).trans (key_chunk 544 128 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at3 _ 544 0 inb_S1x1088x512_S1x272x128_0_544_0 _ (fun r n => (kA_544_0 _ _ _ r n).trans (key_chunk 544 0 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at3 _ 272 384 inb_S1x1088x512_S1x272x128_0_272_384 _ (fun r n => (kA_272_384 _ _ _ r n).trans (key_chunk 272 384 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at3 _ 272 256 inb_S1x1088x512_S1x272x128_0_272_256 _ (fun r n => (kA_272_256 _ _ _ r n).trans (key_chunk 272 256 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at3 _ 272 128 inb_S1x1088x512_S1x272x128_0_272_128 _ (fun r n => (kA_272_128 _ _ _ r n).trans (key_chunk 272 128 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at3 _ 272 0 inb_S1x1088x512_S1x272x128_0_272_0 _ (fun r n => (kA_272_0 _ _ _ r n).trans (key_chunk 272 0 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at3 _ 0 384 inb_S1x1088x512_S1x272x128_0_0_384 _ (fun r n => (kA_0_384 _ _ _ r n).trans (key_chunk 0 384 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at3 _ 0 256 inb_S1x1088x512_S1x272x128_0_0_256 _ (fun r n => (kA_0_256 _ _ _ r n).trans (key_chunk 0 256 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at3 _ 0 128 inb_S1x1088x512_S1x272x128_0_0_128 _ (fun r n => (kA_0_128 _ _ _ r n).trans (key_chunk 0 128 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at3 _ 0 0 inb_S1x1088x512_S1x272x128_0_0_0 _ (fun r n => (kA_0_0 _ _ _ r n).trans (key_chunk 0 0 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  · exact absurd hm List.not_mem_nil

theorem vals (hc0 : cond0_0 i) (hc1 : ¬cond0_1 i) (r : Fin 1088) (n : Fin 512) :
    (out0_A_6 (F := Ideal) c i arg2 harg2 arg3 harg3 arg4 harg4 arg5 harg5 arg6 harg6 arg7 harg7 arg8 harg8 arg9 harg9 arg10 harg10 arg11 harg11 hc0 hc1 x0 x1 x2 x3 x4 : S1x1088x512.Idx → EReal) (ix3 0 r n) = valA (hA x0 x1) x3 r.val n.val := by
  unfold out0_A_6
  rw [View.read_writes_junk_eq_canon]
  refine View.canon_apply_of_pieces (Val := Elt Ideal) (S := S1x1088x512) (e := .f32) (fun y : S1x1088x512.Idx => valA (hA x0 x1) x3 (y 1).val (y 2).val) _
    (?_) (ix3 0 r n) (cover0_A_6 c i arg2 harg2 arg3 harg3 arg4 harg4 arg5 harg5 arg6 harg6 arg7 harg7 arg8 harg8 arg9 harg9 arg10 harg10 arg11 harg11 hc0 hc1 x0 x1 x2 x3 x4 _)
  intro p hm x
  rcases List.mem_cons.mp hm with rfl | hm
  · exact piece_at3 _ 816 0 inb_S1x1088x512_S1x272x512_0_816_0 _ (fun r n => (vA_816 _ _ r n).trans (val_chunk 816 (hA x0 x1) x3 _ _ (stored_load arg11 816 inb_S1088x2048_S272x2048_816_0 _ _ _ (norm_load arg2 harg2 arg3 harg3 x0 x1 816 (by decide) _ _ _ (normA_816 _ _))) (whole_load arg5 harg5 x3 _) r n)) x
  rcases List.mem_cons.mp hm with rfl | hm
  · exact piece_at3 _ 544 0 inb_S1x1088x512_S1x272x512_0_544_0 _ (fun r n => (vA_544 _ _ r n).trans (val_chunk 544 (hA x0 x1) x3 _ _ (stored_load arg11 544 inb_S1088x2048_S272x2048_544_0 _ _ _ (norm_load arg2 harg2 arg3 harg3 x0 x1 544 (by decide) _ _ _ (normA_544 _ _))) (whole_load arg5 harg5 x3 _) r n)) x
  rcases List.mem_cons.mp hm with rfl | hm
  · exact piece_at3 _ 272 0 inb_S1x1088x512_S1x272x512_0_272_0 _ (fun r n => (vA_272 _ _ r n).trans (val_chunk 272 (hA x0 x1) x3 _ _ (stored_load arg11 272 inb_S1088x2048_S272x2048_272_0 _ _ _ (norm_load arg2 harg2 arg3 harg3 x0 x1 272 (by decide) _ _ _ (normA_272 _ _))) (whole_load arg5 harg5 x3 _) r n)) x
  rcases List.mem_cons.mp hm with rfl | hm
  · exact piece_at3 _ 0 0 inb_S1x1088x512_S1x272x512_0_0_0 _ (fun r n => (vA_0 _ _ r n).trans (val_chunk 0 (hA x0 x1) x3 _ _ (stored_load arg11 0 inb_S1088x2048_S272x2048_0_0 _ _ _ (norm_load arg2 harg2 arg3 harg3 x0 x1 0 (by decide) _ _ _ (normA_0 _ _))) (whole_load arg5 harg5 x3 _) r n)) x
  · exact absurd hm List.not_mem_nil

theorem keyRows (hc0 : cond0_0 i) (hc1 : ¬cond0_1 i) (r : Fin 1088) (n : Fin 512) :
    (out0_A_7 (F := Ideal) c i arg2 harg2 arg3 harg3 arg4 harg4 arg5 harg5 arg6 harg6 arg7 harg7 arg8 harg8 arg9 harg9 arg10 harg10 arg11 harg11 hc0 hc1 x0 x1 x2 x3 x4 : S1088x512.Idx → EReal) (ix2 r n) = keyA (hA x0 x1) x2 x4 r.val n.val := by
  unfold out0_A_7
  rw [View.read_writes_junk_eq_canon]
  refine View.canon_apply_of_pieces (Val := Elt Ideal) (S := S1088x512) (e := .bf16) (fun y : S1088x512.Idx => keyA (hA x0 x1) x2 x4 (y 0).val (y 1).val) _
    (?_) (ix2 r n) (cover0_A_7 c i arg2 harg2 arg3 harg3 arg4 harg4 arg5 harg5 arg6 harg6 arg7 harg7 arg8 harg8 arg9 harg9 arg10 harg10 arg11 harg11 hc0 hc1 x0 x1 x2 x3 x4 _)
  intro p hm x
  rcases List.mem_cons.mp hm with rfl | hm
  · exact piece_at _ 816 384 inb_S1088x512_S272x128_816_384 _ (fun r n => (kbA_816_384 _ _ _ r n).trans (key_chunk 816 384 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at _ 816 256 inb_S1088x512_S272x128_816_256 _ (fun r n => (kbA_816_256 _ _ _ r n).trans (key_chunk 816 256 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at _ 816 128 inb_S1088x512_S272x128_816_128 _ (fun r n => (kbA_816_128 _ _ _ r n).trans (key_chunk 816 128 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at _ 816 0 inb_S1088x512_S272x128_816_0 _ (fun r n => (kbA_816_0 _ _ _ r n).trans (key_chunk 816 0 (by decide) (by decide) (hA x0 x1) x2 _ x4 _ _ (stored_load arg11 816 inb_S1088x2048_S272x2048_816_0 _ _ _ (norm_load arg2 harg2 arg3 harg3 x0 x1 816 (by decide) _ _ _ (normA_816 _ _))) (whole_load arg4 harg4 x2 _) (whole_load arg6 harg6 x4 _ 0) r n)) x
  rcases List.mem_cons.mp hm with rfl | hm
  · exact piece_at _ 544 384 inb_S1088x512_S272x128_544_384 _ (fun r n => (kbA_544_384 _ _ _ r n).trans (key_chunk 544 384 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at _ 544 256 inb_S1088x512_S272x128_544_256 _ (fun r n => (kbA_544_256 _ _ _ r n).trans (key_chunk 544 256 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at _ 544 128 inb_S1088x512_S272x128_544_128 _ (fun r n => (kbA_544_128 _ _ _ r n).trans (key_chunk 544 128 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at _ 544 0 inb_S1088x512_S272x128_544_0 _ (fun r n => (kbA_544_0 _ _ _ r n).trans (key_chunk 544 0 (by decide) (by decide) (hA x0 x1) x2 _ x4 _ _ (stored_load arg11 544 inb_S1088x2048_S272x2048_544_0 _ _ _ (norm_load arg2 harg2 arg3 harg3 x0 x1 544 (by decide) _ _ _ (normA_544 _ _))) (whole_load arg4 harg4 x2 _) (whole_load arg6 harg6 x4 _ 0) r n)) x
  rcases List.mem_cons.mp hm with rfl | hm
  · exact piece_at _ 272 384 inb_S1088x512_S272x128_272_384 _ (fun r n => (kbA_272_384 _ _ _ r n).trans (key_chunk 272 384 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at _ 272 256 inb_S1088x512_S272x128_272_256 _ (fun r n => (kbA_272_256 _ _ _ r n).trans (key_chunk 272 256 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at _ 272 128 inb_S1088x512_S272x128_272_128 _ (fun r n => (kbA_272_128 _ _ _ r n).trans (key_chunk 272 128 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at _ 272 0 inb_S1088x512_S272x128_272_0 _ (fun r n => (kbA_272_0 _ _ _ r n).trans (key_chunk 272 0 (by decide) (by decide) (hA x0 x1) x2 _ x4 _ _ (stored_load arg11 272 inb_S1088x2048_S272x2048_272_0 _ _ _ (norm_load arg2 harg2 arg3 harg3 x0 x1 272 (by decide) _ _ _ (normA_272 _ _))) (whole_load arg4 harg4 x2 _) (whole_load arg6 harg6 x4 _ 0) r n)) x
  rcases List.mem_cons.mp hm with rfl | hm
  · exact piece_at _ 0 384 inb_S1088x512_S272x128_0_384 _ (fun r n => (kbA_0_384 _ _ _ r n).trans (key_chunk 0 384 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at _ 0 256 inb_S1088x512_S272x128_0_256 _ (fun r n => (kbA_0_256 _ _ _ r n).trans (key_chunk 0 256 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at _ 0 128 inb_S1088x512_S272x128_0_128 _ (fun r n => (kbA_0_128 _ _ _ r n).trans (key_chunk 0 128 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  rcases List.mem_cons.mp hm with rfl | hm
  · exact piece_at _ 0 0 inb_S1088x512_S272x128_0_0 _ (fun r n => (kbA_0_0 _ _ _ r n).trans (key_chunk 0 0 (by decide) (by decide) (hA x0 x1) x2 _ x4 _ _ (stored_load arg11 0 inb_S1088x2048_S272x2048_0_0 _ _ _ (norm_load arg2 harg2 arg3 harg3 x0 x1 0 (by decide) _ _ _ (normA_0 _ _))) (whole_load arg4 harg4 x2 _) (whole_load arg6 harg6 x4 _ 0) r n)) x
  · exact absurd hm List.not_mem_nil

theorem valRows (hc0 : cond0_0 i) (hc1 : ¬cond0_1 i) (r : Fin 1088) (n : Fin 512) :
    (out0_A_8 (F := Ideal) c i arg2 harg2 arg3 harg3 arg4 harg4 arg5 harg5 arg6 harg6 arg7 harg7 arg8 harg8 arg9 harg9 arg10 harg10 arg11 harg11 hc0 hc1 x0 x1 x2 x3 x4 : S1088x512.Idx → EReal) (ix2 r n) = valA (hA x0 x1) x3 r.val n.val := by
  unfold out0_A_8
  rw [View.read_writes_junk_eq_canon]
  refine View.canon_apply_of_pieces (Val := Elt Ideal) (S := S1088x512) (e := .bf16) (fun y : S1088x512.Idx => valA (hA x0 x1) x3 (y 0).val (y 1).val) _
    (?_) (ix2 r n) (cover0_A_8 c i arg2 harg2 arg3 harg3 arg4 harg4 arg5 harg5 arg6 harg6 arg7 harg7 arg8 harg8 arg9 harg9 arg10 harg10 arg11 harg11 hc0 hc1 x0 x1 x2 x3 x4 _)
  intro p hm x
  rcases List.mem_cons.mp hm with rfl | hm
  · exact piece_at _ 816 0 inb_S1088x512_S272x512_816_0 _ (fun r n => (vbA_816 _ _ r n).trans (val_chunk 816 (hA x0 x1) x3 _ _ (stored_load arg11 816 inb_S1088x2048_S272x2048_816_0 _ _ _ (norm_load arg2 harg2 arg3 harg3 x0 x1 816 (by decide) _ _ _ (normA_816 _ _))) (whole_load arg5 harg5 x3 _) r n)) x
  rcases List.mem_cons.mp hm with rfl | hm
  · exact piece_at _ 544 0 inb_S1088x512_S272x512_544_0 _ (fun r n => (vbA_544 _ _ r n).trans (val_chunk 544 (hA x0 x1) x3 _ _ (stored_load arg11 544 inb_S1088x2048_S272x2048_544_0 _ _ _ (norm_load arg2 harg2 arg3 harg3 x0 x1 544 (by decide) _ _ _ (normA_544 _ _))) (whole_load arg5 harg5 x3 _) r n)) x
  rcases List.mem_cons.mp hm with rfl | hm
  · exact piece_at _ 272 0 inb_S1088x512_S272x512_272_0 _ (fun r n => (vbA_272 _ _ r n).trans (val_chunk 272 (hA x0 x1) x3 _ _ (stored_load arg11 272 inb_S1088x2048_S272x2048_272_0 _ _ _ (norm_load arg2 harg2 arg3 harg3 x0 x1 272 (by decide) _ _ _ (normA_272 _ _))) (whole_load arg5 harg5 x3 _) r n)) x
  rcases List.mem_cons.mp hm with rfl | hm
  · exact piece_at _ 0 0 inb_S1088x512_S272x512_0_0 _ (fun r n => (vbA_0 _ _ r n).trans (val_chunk 0 (hA x0 x1) x3 _ _ (stored_load arg11 0 inb_S1088x2048_S272x2048_0_0 _ _ _ (norm_load arg2 harg2 arg3 harg3 x0 x1 0 (by decide) _ _ _ (normA_0 _ _))) (whole_load arg5 harg5 x3 _) r n)) x
  · exact absurd hm List.not_mem_nil

end Cert.Proof.KvCasesA
-- ==== Proof.KvKeysB.lean ====
module

public import proofs.«01_k».proof.Proof.KvTile

@[expose] public section

set_option maxRecDepth 16384

noncomputable section

namespace Cert.Proof.KvKeysB

open Cert.Kernel5Ideal Cert.Kernel5Ideal.Gen Idealize.ShloMosaic Idealize.ShloMosaic.TcCoe Idealize.SL.Sem
open Cert.Proof.GateTile (normed normed_zero)
open Cert.Proof.KvTile

/-! ## The stored keys at an index, at a point after the first of its row of tiles -/

theorem kB_0_0 (h : S272x2048.Idx → EReal) (a : S2048x512.Idx → EReal) (gk : S1x128.Idx → EReal) (r : Fin 272) (n : Fin 128) :
    ((k0_pay101 (F := Ideal) (k0_pay95 (F := Ideal) h a gk)) : S1x272x128.Idx → EReal) (ix3 0 r n) = headOf h a gk 0 (by decide) r n := by
  refine Eq.trans ?_ (headOf_first h a gk r n)
  pointwise [k0_pay101, k0_pay95, k0_pay92, k0_pay94]
  rfl

theorem kbB_0_0 (h : S272x2048.Idx → EReal) (a : S2048x512.Idx → EReal) (gk : S1x128.Idx → EReal) (r : Fin 272) (n : Fin 128) :
    ((k0_pay102 (F := Ideal) (k0_pay95 (F := Ideal) h a gk)) : S272x128.Idx → EReal) (ix2 r n) = headOf h a gk 0 (by decide) r n := by
  refine Eq.trans ?_ (headOf_first h a gk r n)
  pointwise [k0_pay102, k0_pay95, k0_pay92, k0_pay94]
  rfl

theorem kB_0_128 (h : S272x2048.Idx → EReal) (a : S2048x512.Idx → EReal) (gk : S1x128.Idx → EReal) (r : Fin 272) (n : Fin 128) :
    ((k0_pay103 (F := Ideal) (k0_pay96 (F := Ideal) h a gk)) : S1x272x128.Idx → EReal) (ix3 0 r n) = headOf h a gk 128 (by decide) r n := by
  pointwise [k0_pay103, k0_pay96, k0_pay92, k0_pay94]
  rfl

theorem kbB_0_128 (h : S272x2048.Idx → EReal) (a : S2048x512.Idx → EReal) (gk : S1x128.Idx → EReal) (r : Fin 272) (n : Fin 128) :
    ((k0_pay104 (F := Ideal) (k0_pay96 (F := Ideal) h a gk)) : S272x128.Idx → EReal) (ix2 r n) = headOf h a gk 128 (by decide) r n := by
  pointwise [k0_pay104, k0_pay96, k0_pay92, k0_pay94]
  rfl

theorem kB_0_256 (h : S272x2048.Idx → EReal) (a : S2048x512.Idx → EReal) (gk : S1x128.Idx → EReal) (r : Fin 272) (n : Fin 128) :
    ((k0_pay105 (F := Ideal) (k0_pay94 (F := Ideal) gk) (k0_pay97 (F := Ideal) h a) (k0_pay98 (F := Ideal) h a) (Scalar.ofBits (F := Ideal) .f32 0x358637BD#32)) : S1x272x128.Idx → EReal) (ix3 0 r n) = headOf h a gk 256 (by decide) r n := by
  pointwise [k0_pay105, k0_pay94, k0_pay97, k0_pay98, k0_pay99, k0_pay92]
  rfl

theorem kbB_0_256 (h : S272x2048.Idx → EReal) (a : S2048x512.Idx → EReal) (gk : S1x128.Idx → EReal) (r : Fin 272) (n : Fin 128) :
    ((k0_pay106 (F := Ideal) (k0_pay94 (F := Ideal) gk) (k0_pay97 (F := Ideal) h a) (k0_pay98 (F := Ideal) h a) (Scalar.ofBits (F := Ideal) .f32 0x358637BD#32)) : S272x128.Idx → EReal) (ix2 r n) = headOf h a gk 256 (by decide) r n := by
  pointwise [k0_pay106, k0_pay94, k0_pay97, k0_pay98, k0_pay99, k0_pay92]
  rfl

theorem kB_0_384 (h : S272x2048.Idx → EReal) (a : S2048x512.Idx → EReal) (gk : S1x128.Idx → EReal) (r : Fin 272) (n : Fin 128) :
    ((k0_pay107 (F := Ideal) (k0_pay100 (F := Ideal) (k0_pay92 (F := Ideal) h a) (k0_pay94 (F := Ideal) gk))) : S1x272x128.Idx → EReal) (ix3 0 r n) = headOf h a gk 384 (by decide) r n := by
  pointwise [k0_pay107, k0_pay100, k0_pay92, k0_pay94]
  rfl

theorem kbB_0_384 (h : S272x2048.Idx → EReal) (a : S2048x512.Idx → EReal) (gk : S1x128.Idx → EReal) (r : Fin 272) (n : Fin 128) :
    ((k0_pay108 (F := Ideal) (k0_pay100 (F := Ideal) (k0_pay92 (F := Ideal) h a) (k0_pay94 (F := Ideal) gk))) : S272x128.Idx → EReal) (ix2 r n) = headOf h a gk 384 (by decide) r n := by
  pointwise [k0_pay108, k0_pay100, k0_pay92, k0_pay94]
  rfl

theorem kB_272_0 (h : S272x2048.Idx → EReal) (a : S2048x512.Idx → EReal) (gk : S1x128.Idx → EReal) (r : Fin 272) (n : Fin 128) :
    ((k0_pay120 (F := Ideal) (k0_pay114 (F := Ideal) h a gk)) : S1x272x128.Idx → EReal) (ix3 0 r n) = headOf h a gk 0 (by decide) r n := by
  refine Eq.trans ?_ (headOf_first h a gk r n)
  pointwise [k0_pay120, k0_pay114, k0_pay111, k0_pay113]
  rfl

theorem kbB_272_0 (h : S272x2048.Idx → EReal) (a : S2048x512.Idx → EReal) (gk : S1x128.Idx → EReal) (r : Fin 272) (n : Fin 128) :
    ((k0_pay121 (F := Ideal) (k0_pay114 (F := Ideal) h a gk)) : S272x128.Idx → EReal) (ix2 r n) = headOf h a gk 0 (by decide) r n := by
  refine Eq.trans ?_ (headOf_first h a gk r n)
  pointwise [k0_pay121, k0_pay114, k0_pay111, k0_pay113]
  rfl

theorem kB_272_128 (h : S272x2048.Idx → EReal) (a : S2048x512.Idx → EReal) (gk : S1x128.Idx → EReal) (r : Fin 272) (n : Fin 128) :
    ((k0_pay122 (F := Ideal) (k0_pay117 (F := Ideal) (k0_pay113 (F := Ideal) gk) (k0_pay115 (F := Ideal) h a) (k0_pay116 (F := Ideal) h a))) : S1x272x128.Idx → EReal) (ix3 0 r n) = headOf h a gk 128 (by decide) r n := by
  pointwise [k0_pay122, k0_pay117, k0_pay113, k0_pay115, k0_pay116, k0_pay111]
  rfl

theorem kbB_272_128 (h : S272x2048.Idx → EReal) (a : S2048x512.Idx → EReal) (gk : S1x128.Idx → EReal) (r : Fin 272) (n : Fin 128) :
    ((k0_pay123 (F := Ideal) (k0_pay117 (F := Ideal) (k0_pay113 (F := Ideal) gk) (k0_pay115 (F := Ideal) h a) (k0_pay116 (F := Ideal) h a))) : S272x128.Idx → EReal) (ix2 r n) = headOf h a gk 128 (by decide) r n := by
  pointwise [k0_pay123, k0_pay117, k0_pay113, k0_pay115, k0_pay116, k0_pay111]
  rfl

theorem kB_272_256 (h : S272x2048.Idx → EReal) (a : S2048x512.Idx → EReal) (gk : S1x128.Idx → EReal) (r : Fin 272) (n : Fin 128) :
    ((k0_pay124 (F := Ideal) (k0_pay118 (F := Ideal) (k0_pay111 (F := Ideal) h a) (k0_pay113 (F := Ideal) gk))) : S1x272x128.Idx → EReal) (ix3 0 r n) = headOf h a gk 256 (by decide) r n := by
  pointwise [k0_pay124, k0_pay118, k0_pay111, k0_pay113]
  rfl

theorem kbB_272_256 (h : S272x2048.Idx → EReal) (a : S2048x512.Idx → EReal) (gk : S1x128.Idx → EReal) (r : Fin 272) (n : Fin 128) :
    ((k0_pay125 (F := Ideal) (k0_pay118 (F := Ideal) (k0_pay111 (F := Ideal) h a) (k0_pay113 (F := Ideal) gk))) : S272x128.Idx → EReal) (ix2 r n) = headOf h a gk 256 (by decide) r n := by
  pointwise [k0_pay125, k0_pay118, k0_pay111, k0_pay113]
  rfl

theorem kB_272_384 (h : S272x2048.Idx → EReal) (a : S2048x512.Idx → EReal) (gk : S1x128.Idx → EReal) (r : Fin 272) (n : Fin 128) :
    ((k0_pay126 (F := Ideal) (k0_pay119 (F := Ideal) (k0_pay111 (F := Ideal) h a) (k0_pay113 (F := Ideal) gk))) : S1x272x128.Idx → EReal) (ix3 0 r n) = headOf h a gk 384 (by decide) r n := by
  pointwise [k0_pay126, k0_pay119, k0_pay111, k0_pay113]
  rfl

theorem kbB_272_384 (h : S272x2048.Idx → EReal) (a : S2048x512.Idx → EReal) (gk : S1x128.Idx → EReal) (r : Fin 272) (n : Fin 128) :
    ((k0_pay127 (F := Ideal) (k0_pay119 (F := Ideal) (k0_pay111 (F := Ideal) h a) (k0_pay113 (F := Ideal) gk))) : S272x128.Idx → EReal) (ix2 r n) = headOf h a gk 384 (by decide) r n := by
  pointwise [k0_pay127, k0_pay119, k0_pay111, k0_pay113]
  rfl

theorem kB_544_0 (h : S272x2048.Idx → EReal) (a : S2048x512.Idx → EReal) (gk : S1x128.Idx → EReal) (r : Fin 272) (n : Fin 128) :
    ((k0_pay141 (F := Ideal) (k0_pay134 (F := Ideal) (k0_pay130 (F := Ideal) h a) gk)) : S1x272x128.Idx → EReal) (ix3 0 r n) = headOf h a gk 0 (by decide) r n := by
  refine Eq.trans ?_ (headOf_first h a gk r n)
  pointwise [k0_pay141, k0_pay134, k0_pay130, k0_pay133]
  rfl

theorem kbB_544_0 (h : S272x2048.Idx → EReal) (a : S2048x512.Idx → EReal) (gk : S1x128.Idx → EReal) (r : Fin 272) (n : Fin 128) :
    ((k0_pay142 (F := Ideal) (k0_pay134 (F := Ideal) (k0_pay130 (F := Ideal) h a) gk)) : S272x128.Idx → EReal) (ix2 r n) = headOf h a gk 0 (by decide) r n := by
  refine Eq.trans ?_ (headOf_first h a gk r n)
  pointwise [k0_pay142, k0_pay134, k0_pay130, k0_pay133]
  rfl

theorem kB_544_128 (h : S272x2048.Idx → EReal) (a : S2048x512.Idx → EReal) (gk : S1x128.Idx → EReal) (r : Fin 272) (n : Fin 128) :
    ((k0_pay143 (F := Ideal) (k0_pay135 (F := Ideal) (k0_pay130 (F := Ideal) h a) gk)) : S1x272x128.Idx → EReal) (ix3 0 r n) = headOf h a gk 128 (by decide) r n := by
  pointwise [k0_pay143, k0_pay135, k0_pay130, k0_pay133]
  rfl

theorem kbB_544_128 (h : S272x2048.Idx → EReal) (a : S2048x512.Idx → EReal) (gk : S1x128.Idx → EReal) (r : Fin 272) (n : Fin 128) :
    ((k0_pay144 (F := Ideal) (k0_pay135 (F := Ideal) (k0_pay130 (F := Ideal) h a) gk)) : S272x128.Idx → EReal) (ix2 r n) = headOf h a gk 128 (by decide) r n := by
  pointwise [k0_pay144, k0_pay135, k0_pay130, k0_pay133]
  rfl

theorem kB_544_256 (h : S272x2048.Idx → EReal) (a : S2048x512.Idx → EReal) (gk : S1x128.Idx → EReal) (r : Fin 272) (n : Fin 128) :
    ((k0_pay145 (F := Ideal) (k0_pay136 (F := Ideal) (k0_pay130 (F := Ideal) h a) gk)) : S1x272x128.Idx → EReal) (ix3 0 r n) = headOf h a gk 256 (by decide) r n := by
  pointwise [k0_pay145, k0_pay136, k0_pay130, k0_pay133]
  rfl

theorem kbB_544_256 (h : S272x2048.Idx → EReal) (a : S2048x512.Idx → EReal) (gk : S1x128.Idx → EReal) (r : Fin 272) (n : Fin 128) :
    ((k0_pay146 (F := Ideal) (k0_pay136 (F := Ideal) (k0_pay130 (F := Ideal) h a) gk)) : S272x128.Idx → EReal) (ix2 r n) = headOf h a gk 256 (by decide) r n := by
  pointwise [k0_pay146, k0_pay136, k0_pay130, k0_pay133]
  rfl

theorem kB_544_384 (h : S272x2048.Idx → EReal) (a : S2048x512.Idx → EReal) (gk : S1x128.Idx → EReal) (r : Fin 272) (n : Fin 128) :
    ((k0_pay147 (F := Ideal) (k0_pay133 (F := Ideal) gk) (k0_pay137 (F := Ideal) (k0_pay130 (F := Ideal) h a)) (k0_pay138 (F := Ideal) (k0_pay130 (F := Ideal) h a)) (k0_pay139 (F := Ideal))) : S1x272x128.Idx → EReal) (ix3 0 r n) = headOf h a gk 384 (by decide) r n := by
  pointwise [k0_pay147, k0_pay133, k0_pay137, k0_pay130, k0_pay138, k0_pay139, k0_pay140]
  rfl

theorem kbB_544_384 (h : S272x2048.Idx → EReal) (a : S2048x512.Idx → EReal) (gk : S1x128.Idx → EReal) (r : Fin 272) (n : Fin 128) :
    ((k0_pay148 (F := Ideal) (k0_pay133 (F := Ideal) gk) (k0_pay137 (F := Ideal) (k0_pay130 (F := Ideal) h a)) (k0_pay138 (F := Ideal) (k0_pay130 (F := Ideal) h a)) (k0_pay139 (F := Ideal))) : S272x128.Idx → EReal) (ix2 r n) = headOf h a gk 384 (by decide) r n := by
  pointwise [k0_pay148, k0_pay133, k0_pay137, k0_pay130, k0_pay138, k0_pay139, k0_pay140]
  rfl

theorem kB_816_0 (h : S272x2048.Idx → EReal) (a : S2048x512.Idx → EReal) (gk : S1x128.Idx → EReal) (r : Fin 272) (n : Fin 128) :
    ((k0_pay158 (F := Ideal) (k0_pay154 (F := Ideal) h a gk)) : S1x272x128.Idx → EReal) (ix3 0 r n) = headOf h a gk 0 (by decide) r n := by
  refine Eq.trans ?_ (headOf_first h a gk r n)
  pointwise [k0_pay158, k0_pay154, k0_pay151, k0_pay153]
  rfl

theorem kbB_816_0 (h : S272x2048.Idx → EReal) (a : S2048x512.Idx → EReal) (gk : S1x128.Idx → EReal) (r : Fin 272) (n : Fin 128) :
    ((k0_pay159 (F := Ideal) (k0_pay154 (F := Ideal) h a gk)) : S272x128.Idx → EReal) (ix2 r n) = headOf h a gk 0 (by decide) r n := by
  refine Eq.trans ?_ (headOf_first h a gk r n)
  pointwise [k0_pay159, k0_pay154, k0_pay151, k0_pay153]
  rfl

theorem kB_816_128 (h : S272x2048.Idx → EReal) (a : S2048x512.Idx → EReal) (gk : S1x128.Idx → EReal) (r : Fin 272) (n : Fin 128) :
    ((k0_pay160 (F := Ideal) (k0_pay155 (F := Ideal) h a gk)) : S1x272x128.Idx → EReal) (ix3 0 r n) = headOf h a gk 128 (by decide) r n := by
  pointwise [k0_pay160, k0_pay155, k0_pay151, k0_pay153]
  rfl

theorem kbB_816_128 (h : S272x2048.Idx → EReal) (a : S2048x512.Idx → EReal) (gk : S1x128.Idx → EReal) (r : Fin 272) (n : Fin 128) :
    ((k0_pay161 (F := Ideal) (k0_pay155 (F := Ideal) h a gk)) : S272x128.Idx → EReal) (ix2 r n) = headOf h a gk 128 (by decide) r n := by
  pointwise [k0_pay161, k0_pay155, k0_pay151, k0_pay153]
  rfl

theorem kB_816_256 (h : S272x2048.Idx → EReal) (a : S2048x512.Idx → EReal) (gk : S1x128.Idx → EReal) (r : Fin 272) (n : Fin 128) :
    ((k0_pay7 (F := Ideal) (k0_pay156 (F := Ideal) (k0_pay151 (F := Ideal) h a) (k0_pay153 (F := Ideal) gk))) : S1x272x128.Idx → EReal) (ix3 0 r n) = headOf h a gk 256 (by decide) r n := by
  pointwise [k0_pay7, k0_pay156, k0_pay151, k0_pay153]
  rfl

theorem kbB_816_256 (h : S272x2048.Idx → EReal) (a : S2048x512.Idx → EReal) (gk : S1x128.Idx → EReal) (r : Fin 272) (n : Fin 128) :
    ((k0_pay8 (F := Ideal) (k0_pay156 (F := Ideal) (k0_pay151 (F := Ideal) h a) (k0_pay153 (F := Ideal) gk))) : S272x128.Idx → EReal) (ix2 r n) = headOf h a gk 256 (by decide) r n := by
  pointwise [k0_pay8, k0_pay156, k0_pay151, k0_pay153]
  rfl

theorem kB_816_384 (h : S272x2048.Idx → EReal) (a : S2048x512.Idx → EReal) (gk : S1x128.Idx → EReal) (r : Fin 272) (n : Fin 128) :
    ((k0_pay9 (F := Ideal) (k0_pay157 (F := Ideal) (k0_pay151 (F := Ideal) h a) (k0_pay153 (F := Ideal) gk))) : S1x272x128.Idx → EReal) (ix3 0 r n) = headOf h a gk 384 (by decide) r n := by
  pointwise [k0_pay9, k0_pay157, k0_pay151, k0_pay153]
  rfl

theorem kbB_816_384 (h : S272x2048.Idx → EReal) (a : S2048x512.Idx → EReal) (gk : S1x128.Idx → EReal) (r : Fin 272) (n : Fin 128) :
    ((k0_pay10 (F := Ideal) (k0_pay157 (F := Ideal) (k0_pay151 (F := Ideal) h a) (k0_pay153 (F := Ideal) gk))) : S272x128.Idx → EReal) (ix2 r n) = headOf h a gk 384 (by decide) r n := by
  pointwise [k0_pay10, k0_pay157, k0_pay151, k0_pay153]
  rfl

end Cert.Proof.KvKeysB
-- ==== Proof.KvCasesB.lean ====
module

public import proofs.«01_k».proof.Proof.KvTiles
public import proofs.«01_k».proof.Proof.KvKeysB

@[expose] public section

set_option maxRecDepth 16384

noncomputable section

namespace Cert.Proof.KvCasesB

open Cert.Kernel5Ideal Cert.Kernel5Ideal.Gen Idealize.ShloMosaic Idealize.ShloMosaic.TcCoe Idealize.SL.Sem
open Cert.Proof.Chunks Cert.Proof.KvTile Cert.Proof.KvTiles Cert.Proof.KvKeysB
open Cert.Proof.GateTile (normed normed_zero)
open Cert.Proof.GluCases (hA kept norm_chunk)

/-! ## What a point after the first of its row of tiles leaves, from its blocks -/

variable (c : Dev nD) (i : grid0.Coords) (arg2 : Memref sig .tc .vmem S1088x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x128 .f32) (harg6 : arg6.IsWhole) (arg7 : Memref sig .tc .vmem S1x1088x512 .f32) (harg7 : arg7.IsWhole) (arg8 : Memref sig .tc .vmem S1x1088x512 .f32) (harg8 : arg8.IsWhole) (arg9 : Memref sig .tc .vmem S1088x512 .bf16) (harg9 : arg9.IsWhole) (arg10 : Memref sig .tc .vmem S1088x512 .bf16) (harg10 : arg10.IsWhole) (arg11 : Memref sig .tc .vmem S1088x2048 .bf16) (harg11 : arg11.IsWhole)
  (x0 : Vec Ideal S1088x2048 .f32) (x1 : Vec Ideal S1x2048 .f32) (x2 : Vec Ideal S2048x512 .bf16) (x3 : Vec Ideal S2048x512 .bf16) (x4 : Vec Ideal S1x128 .f32)
  (xs0 : Vec Ideal S1088x2048 .bf16)

theorem keys (hc0 : ¬cond0_0 i) (hc1 : cond0_1 i) (r : Fin 1088) (n : Fin 512) :
    (out0_B_5 (F := Ideal) c i arg2 harg2 arg3 harg3 arg4 harg4 arg5 harg5 arg6 harg6 arg7 harg7 arg8 harg8 arg9 harg9 arg10 harg10 arg11 harg11 hc0 hc1 x0 x1 x2 x3 x4 xs0 : S1x1088x512.Idx → EReal) (ix3 0 r n) = keyA (kept xs0) x2 x4 r.val n.val := by
  unfold out0_B_5
  rw [View.read_writes_junk_eq_canon]
  refine View.canon_apply_of_pieces (Val := Elt Ideal) (S := S1x1088x512) (e := .f32) (fun y : S1x1088x512.Idx => keyA (kept xs0) x2 x4 (y 1).val (y 2).val) _
    (?_) (ix3 0 r n) (cover0_B_5 c i arg2 harg2 arg3 harg3 arg4 harg4 arg5 harg5 arg6 harg6 arg7 harg7 arg8 harg8 arg9 harg9 arg10 harg10 arg11 harg11 hc0 hc1 x0 x1 x2 x3 x4 xs0 _)
  intro p hm x
  rcases List.mem_cons.mp hm with rfl | hm
  · exact piece_at3 _ 816 384 inb_S1x1088x512_S1x272x128_0_816_384 _ (fun r n => (kB_816_384 _ _ _ r n).trans (key_chunk 816 384 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at3 _ 816 256 inb_S1x1088x512_S1x272x128_0_816_256 _ (fun r n => (kB_816_256 _ _ _ r n).trans (key_chunk 816 256 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at3 _ 816 128 inb_S1x1088x512_S1x272x128_0_816_128 _ (fun r n => (kB_816_128 _ _ _ r n).trans (key_chunk 816 128 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at3 _ 816 0 inb_S1x1088x512_S1x272x128_0_816_0 _ (fun r n => (kB_816_0 _ _ _ r n).trans (key_chunk 816 0 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at3 _ 544 384 inb_S1x1088x512_S1x272x128_0_544_384 _ (fun r n => (kB_544_384 _ _ _ r n).trans (key_chunk 544 384 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at3 _ 544 256 inb_S1x1088x512_S1x272x128_0_544_256 _ (fun r n => (kB_544_256 _ _ _ r n).trans (key_chunk 544 256 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at3 _ 544 128 inb_S1x1088x512_S1x272x128_0_544_128 _ (fun r n => (kB_544_128 _ _ _ r n).trans (key_chunk 544 128 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at3 _ 544 0 inb_S1x1088x512_S1x272x128_0_544_0 _ (fun r n => (kB_544_0 _ _ _ r n).trans (key_chunk 544 0 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at3 _ 272 384 inb_S1x1088x512_S1x272x128_0_272_384 _ (fun r n => (kB_272_384 _ _ _ r n).trans (key_chunk 272 384 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at3 _ 272 256 inb_S1x1088x512_S1x272x128_0_272_256 _ (fun r n => (kB_272_256 _ _ _ r n).trans (key_chunk 272 256 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at3 _ 272 128 inb_S1x1088x512_S1x272x128_0_272_128 _ (fun r n => (kB_272_128 _ _ _ r n).trans (key_chunk 272 128 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at3 _ 272 0 inb_S1x1088x512_S1x272x128_0_272_0 _ (fun r n => (kB_272_0 _ _ _ r n).trans (key_chunk 272 0 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at3 _ 0 384 inb_S1x1088x512_S1x272x128_0_0_384 _ (fun r n => (kB_0_384 _ _ _ r n).trans (key_chunk 0 384 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at3 _ 0 256 inb_S1x1088x512_S1x272x128_0_0_256 _ (fun r n => (kB_0_256 _ _ _ r n).trans (key_chunk 0 256 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at3 _ 0 128 inb_S1x1088x512_S1x272x128_0_0_128 _ (fun r n => (kB_0_128 _ _ _ r n).trans (key_chunk 0 128 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at3 _ 0 0 inb_S1x1088x512_S1x272x128_0_0_0 _ (fun r n => (kB_0_0 _ _ _ r n).trans (key_chunk 0 0 (by decide) (by decide) (kept xs0) x2 _ x4 _ _ (kept_load arg11 harg11 xs0 0 (by decide) _) (whole_load arg4 harg4 x2 _) (whole_load arg6 harg6 x4 _ 0) r n)) x
  · exact absurd hm List.not_mem_nil

theorem vals (hc0 : ¬cond0_0 i) (hc1 : cond0_1 i) (r : Fin 1088) (n : Fin 512) :
    (out0_B_6 (F := Ideal) c i arg2 harg2 arg3 harg3 arg4 harg4 arg5 harg5 arg6 harg6 arg7 harg7 arg8 harg8 arg9 harg9 arg10 harg10 arg11 harg11 hc0 hc1 x0 x1 x2 x3 x4 xs0 : S1x1088x512.Idx → EReal) (ix3 0 r n) = valA (kept xs0) x3 r.val n.val := by
  unfold out0_B_6
  rw [View.read_writes_junk_eq_canon]
  refine View.canon_apply_of_pieces (Val := Elt Ideal) (S := S1x1088x512) (e := .f32) (fun y : S1x1088x512.Idx => valA (kept xs0) x3 (y 1).val (y 2).val) _
    (?_) (ix3 0 r n) (cover0_B_6 c i arg2 harg2 arg3 harg3 arg4 harg4 arg5 harg5 arg6 harg6 arg7 harg7 arg8 harg8 arg9 harg9 arg10 harg10 arg11 harg11 hc0 hc1 x0 x1 x2 x3 x4 xs0 _)
  intro p hm x
  rcases List.mem_cons.mp hm with rfl | hm
  · exact piece_at3 _ 816 0 inb_S1x1088x512_S1x272x512_0_816_0 _ (fun r n => (vB_816 _ _ r n).trans (val_chunk 816 (kept xs0) x3 _ _ (kept_load arg11 harg11 xs0 816 (by decide) _) (whole_load arg5 harg5 x3 _) r n)) x
  rcases List.mem_cons.mp hm with rfl | hm
  · exact piece_at3 _ 544 0 inb_S1x1088x512_S1x272x512_0_544_0 _ (fun r n => (vB_544 _ _ r n).trans (val_chunk 544 (kept xs0) x3 _ _ (kept_load arg11 harg11 xs0 544 (by decide) _) (whole_load arg5 harg5 x3 _) r n)) x
  rcases List.mem_cons.mp hm with rfl | hm
  · exact piece_at3 _ 272 0 inb_S1x1088x512_S1x272x512_0_272_0 _ (fun r n => (vB_272 _ _ r n).trans (val_chunk 272 (kept xs0) x3 _ _ (kept_load arg11 harg11 xs0 272 (by decide) _) (whole_load arg5 harg5 x3 _) r n)) x
  rcases List.mem_cons.mp hm with rfl | hm
  · exact piece_at3 _ 0 0 inb_S1x1088x512_S1x272x512_0_0_0 _ (fun r n => (vB_0 _ _ r n).trans (val_chunk 0 (kept xs0) x3 _ _ (kept_load arg11 harg11 xs0 0 (by decide) _) (whole_load arg5 harg5 x3 _) r n)) x
  · exact absurd hm List.not_mem_nil

theorem keyRows (hc0 : ¬cond0_0 i) (hc1 : cond0_1 i) (r : Fin 1088) (n : Fin 512) :
    (out0_B_7 (F := Ideal) c i arg2 harg2 arg3 harg3 arg4 harg4 arg5 harg5 arg6 harg6 arg7 harg7 arg8 harg8 arg9 harg9 arg10 harg10 arg11 harg11 hc0 hc1 x0 x1 x2 x3 x4 xs0 : S1088x512.Idx → EReal) (ix2 r n) = keyA (kept xs0) x2 x4 r.val n.val := by
  unfold out0_B_7
  rw [View.read_writes_junk_eq_canon]
  refine View.canon_apply_of_pieces (Val := Elt Ideal) (S := S1088x512) (e := .bf16) (fun y : S1088x512.Idx => keyA (kept xs0) x2 x4 (y 0).val (y 1).val) _
    (?_) (ix2 r n) (cover0_B_7 c i arg2 harg2 arg3 harg3 arg4 harg4 arg5 harg5 arg6 harg6 arg7 harg7 arg8 harg8 arg9 harg9 arg10 harg10 arg11 harg11 hc0 hc1 x0 x1 x2 x3 x4 xs0 _)
  intro p hm x
  rcases List.mem_cons.mp hm with rfl | hm
  · exact piece_at _ 816 384 inb_S1088x512_S272x128_816_384 _ (fun r n => (kbB_816_384 _ _ _ r n).trans (key_chunk 816 384 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at _ 816 256 inb_S1088x512_S272x128_816_256 _ (fun r n => (kbB_816_256 _ _ _ r n).trans (key_chunk 816 256 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at _ 816 128 inb_S1088x512_S272x128_816_128 _ (fun r n => (kbB_816_128 _ _ _ r n).trans (key_chunk 816 128 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at _ 816 0 inb_S1088x512_S272x128_816_0 _ (fun r n => (kbB_816_0 _ _ _ r n).trans (key_chunk 816 0 (by decide) (by decide) (kept xs0) x2 _ x4 _ _ (kept_load arg11 harg11 xs0 816 (by decide) _) (whole_load arg4 harg4 x2 _) (whole_load arg6 harg6 x4 _ 0) r n)) x
  rcases List.mem_cons.mp hm with rfl | hm
  · exact piece_at _ 544 384 inb_S1088x512_S272x128_544_384 _ (fun r n => (kbB_544_384 _ _ _ r n).trans (key_chunk 544 384 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at _ 544 256 inb_S1088x512_S272x128_544_256 _ (fun r n => (kbB_544_256 _ _ _ r n).trans (key_chunk 544 256 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at _ 544 128 inb_S1088x512_S272x128_544_128 _ (fun r n => (kbB_544_128 _ _ _ r n).trans (key_chunk 544 128 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at _ 544 0 inb_S1088x512_S272x128_544_0 _ (fun r n => (kbB_544_0 _ _ _ r n).trans (key_chunk 544 0 (by decide) (by decide) (kept xs0) x2 _ x4 _ _ (kept_load arg11 harg11 xs0 544 (by decide) _) (whole_load arg4 harg4 x2 _) (whole_load arg6 harg6 x4 _ 0) r n)) x
  rcases List.mem_cons.mp hm with rfl | hm
  · exact piece_at _ 272 384 inb_S1088x512_S272x128_272_384 _ (fun r n => (kbB_272_384 _ _ _ r n).trans (key_chunk 272 384 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at _ 272 256 inb_S1088x512_S272x128_272_256 _ (fun r n => (kbB_272_256 _ _ _ r n).trans (key_chunk 272 256 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at _ 272 128 inb_S1088x512_S272x128_272_128 _ (fun r n => (kbB_272_128 _ _ _ r n).trans (key_chunk 272 128 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at _ 272 0 inb_S1088x512_S272x128_272_0 _ (fun r n => (kbB_272_0 _ _ _ r n).trans (key_chunk 272 0 (by decide) (by decide) (kept xs0) x2 _ x4 _ _ (kept_load arg11 harg11 xs0 272 (by decide) _) (whole_load arg4 harg4 x2 _) (whole_load arg6 harg6 x4 _ 0) r n)) x
  rcases List.mem_cons.mp hm with rfl | hm
  · exact piece_at _ 0 384 inb_S1088x512_S272x128_0_384 _ (fun r n => (kbB_0_384 _ _ _ r n).trans (key_chunk 0 384 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at _ 0 256 inb_S1088x512_S272x128_0_256 _ (fun r n => (kbB_0_256 _ _ _ r n).trans (key_chunk 0 256 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at _ 0 128 inb_S1088x512_S272x128_0_128 _ (fun r n => (kbB_0_128 _ _ _ r n).trans (key_chunk 0 128 (by decide) (by decide) (kept xs0) x2 _ x4 _ _ (kept_load arg11 harg11 xs0 0 (by decide) _) (whole_load arg4 harg4 x2 _) (whole_load arg6 harg6 x4 _ 0) r n)) x
  rcases List.mem_cons.mp hm with rfl | hm
  · exact piece_at _ 0 0 inb_S1088x512_S272x128_0_0 _ (fun r n => (kbB_0_0 _ _ _ r n).trans (key_chunk 0 0 (by decide) (by decide) (kept xs0) x2 _ x4 _ _ (kept_load arg11 harg11 xs0 0 (by decide) _) (whole_load arg4 harg4 x2 _) (whole_load arg6 harg6 x4 _ 0) r n)) x
  · exact absurd hm List.not_mem_nil

theorem valRows (hc0 : ¬cond0_0 i) (hc1 : cond0_1 i) (r : Fin 1088) (n : Fin 512) :
    (out0_B_8 (F := Ideal) c i arg2 harg2 arg3 harg3 arg4 harg4 arg5 harg5 arg6 harg6 arg7 harg7 arg8 harg8 arg9 harg9 arg10 harg10 arg11 harg11 hc0 hc1 x0 x1 x2 x3 x4 xs0 : S1088x512.Idx → EReal) (ix2 r n) = valA (kept xs0) x3 r.val n.val := by
  unfold out0_B_8
  rw [View.read_writes_junk_eq_canon]
  refine View.canon_apply_of_pieces (Val := Elt Ideal) (S := S1088x512) (e := .bf16) (fun y : S1088x512.Idx => valA (kept xs0) x3 (y 0).val (y 1).val) _
    (?_) (ix2 r n) (cover0_B_8 c i arg2 harg2 arg3 harg3 arg4 harg4 arg5 harg5 arg6 harg6 arg7 harg7 arg8 harg8 arg9 harg9 arg10 harg10 arg11 harg11 hc0 hc1 x0 x1 x2 x3 x4 xs0 _)
  intro p hm x
  rcases List.mem_cons.mp hm with rfl | hm
  · exact piece_at _ 816 0 inb_S1088x512_S272x512_816_0 _ (fun r n => (vbB_816 _ _ r n).trans (val_chunk 816 (kept xs0) x3 _ _ (kept_load arg11 harg11 xs0 816 (by decide) _) (whole_load arg5 harg5 x3 _) r n)) x
  rcases List.mem_cons.mp hm with rfl | hm
  · exact piece_at _ 544 0 inb_S1088x512_S272x512_544_0 _ (fun r n => (vbB_544 _ _ r n).trans (val_chunk 544 (kept xs0) x3 _ _ (kept_load arg11 harg11 xs0 544 (by decide) _) (whole_load arg5 harg5 x3 _) r n)) x
  rcases List.mem_cons.mp hm with rfl | hm
  · exact piece_at _ 272 0 inb_S1088x512_S272x512_272_0 _ (fun r n => (vbB_272 _ _ r n).trans (val_chunk 272 (kept xs0) x3 _ _ (kept_load arg11 harg11 xs0 272 (by decide) _) (whole_load arg5 harg5 x3 _) r n)) x
  rcases List.mem_cons.mp hm with rfl | hm
  · exact piece_at _ 0 0 inb_S1088x512_S272x512_0_0 _ (fun r n => (vbB_0 _ _ r n).trans (val_chunk 0 (kept xs0) x3 _ _ (kept_load arg11 harg11 xs0 0 (by decide) _) (whole_load arg5 harg5 x3 _) r n)) x
  · exact absurd hm List.not_mem_nil

end Cert.Proof.KvCasesB
-- ==== Proof.Kv.lean ====
module

public import proofs.«01_k».proof.Proof.Glu
public import proofs.«01_k».proof.Proof.KvCasesA
public import proofs.«01_k».proof.Proof.KvCasesB

@[expose] public section

set_option maxRecDepth 16384

noncomputable section

namespace Cert.Proof.Kv

open Cert.Kernel5Ideal Cert.Kernel5Ideal.Gen Idealize.ShloMosaic Idealize.ShloMosaic.TcCoe Idealize.SL.Sem
open Cert.Proof.Rows Cert.Proof.KvTile Cert.Proof.KvTiles
open Cert.Proof.GateTile (normed normed_zero)
open Cert.Proof.GluCases (hA kept)
open Cert.Proof.Glu (prow)

/-! ## What the call computes -/

/-- Key `n` of row `r` of the padded rows: its head is the run of 128 columns of the product that `n` lies in. -/
def krow (x : S2x4112x2048.Idx → EReal) (g : S2048.Idx → EReal) (w : S2048x4096.Idx → EReal) (gk : S128.Idx → EReal) (r : ℕ) (n : Fin 2048) : EReal :=
  headed (fun j => prow x g w r 0 (by decide) ⟨128 * (n.val / 128) + j.val, by omega⟩) (fun j => gk (ix1 j)) ⟨n.val % 128, Nat.mod_lt _ (by decide)⟩

/-- Value `n` of row `r` of the padded rows. -/
def vrow (x : S2x4112x2048.Idx → EReal) (g : S2048.Idx → EReal) (w : S2048x4096.Idx → EReal) (r : ℕ) (n : Fin 2048) : EReal := prow x g w r 2048 (by decide) n

/-- A function of the padded rows on the rows of the two sequences. -/
def seqArr (f : ℕ → Fin 2048 → EReal) (i : S2x4112x2048.Idx) : EReal := f (4352 * (i 0).val + (i 1).val) (i 2)

/-- A function of the padded rows, as an array. -/
def rowArr (f : ℕ → Fin 2048 → EReal) (i : S8704x2048.Idx) : EReal := f (i 0).val (i 1)

/-! ## The arguments as launched, and the arrays of the windows -/

section Host

variable (m : (ℓ : Loc nD τ sig) → Buf (Elt Ideal) ℓ) (c : Dev nD)

abbrev argX : S2x4112x2048.Idx → EReal := m ((c : Thread nD τ).loc main_arg0)
abbrev argG : S2048.Idx → EReal := m ((c : Thread nD τ).loc main_arg1)
abbrev argW : S2048x4096.Idx → EReal := m ((c : Thread nD τ).loc main_arg2)
abbrev argK : S128.Idx → EReal := m ((c : Thread nD τ).loc main_arg3)

theorem rows_x (r : Fin 8704) (n : Fin 2048) : (V m c main_v1 : S8704x2048.Idx → EReal) (ix2 r n) = padRows (argX m c) r.val n := by
  unfold V
  after_reads_at
  exact padRows_of (argX m c) r n _ zero_word

theorem scales (k : Fin 2048) : (V m c main_v5 : S1x2048.Idx → EReal) (ix2 0 k) = argG m c (ix1 k) := by
  unfold V
  after_reads_at

theorem key_scales (k : Fin 128) : (V m c main_v6 : S1x128.Idx → EReal) (ix2 0 k) = argK m c (ix1 k) := by
  unfold V
  after_reads_at

theorem key_weights (k n : Fin 2048) : (V m c main_v3 : S2048x2048.Idx → EReal) (ix2 k n) = argW m c (ix2 k ⟨0 + n.val, by omega⟩) := by
  unfold V
  after_reads_at

theorem value_weights (k n : Fin 2048) : (V m c main_v4 : S2048x2048.Idx → EReal) (ix2 k n) = argW m c (ix2 k ⟨2048 + n.val, by omega⟩) := by
  unfold V
  after_reads_at

end Host

/-! ## The blocks of a grid point -/

theorem t_lt (t : Fin cfg0.N) : t.val < 32 := Nat.lt_of_lt_of_eq t.isLt N_0

theorem row_lt (t : Fin cfg0.N) : t.val / 4 < 8 := by
  have := t_lt t
  omega

/-- Row `r` of the tile of a grid point. -/
abbrev rowAt (t : Fin cfg0.N) (r : Fin 1088) : Fin 8704 := ⟨1088 * (t.val / 4) + r.val, by have := row_lt t; omega⟩

/-- Column `n` of the tile of a grid point. -/
abbrev colAt (t : Fin cfg0.N) (n : Fin 512) : Fin 2048 := ⟨512 * (t.val % 4) + n.val, by omega⟩

theorem index0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)

theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)

theorem index3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)

theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem index5 : ∀ t : Fin cfg0.N, win0_5.index t (0 : Fin 3) = t.val / 16 ∧ win0_5.index t (1 : Fin 3) = t.val / 4 % 4 ∧ win0_5.index t (2 : Fin 3) = t.val % 4 :=
  (by decide +kernel : ∀ t : Fin grid0.N, win0_5.index t (0 : Fin 3) = t.val / 16 ∧ win0_5.index t (1 : Fin 3) = t.val / 4 % 4 ∧ win0_5.index t (2 : Fin 3) = t.val % 4)

theorem index6 : ∀ t : Fin cfg0.N, win0_6.index t (0 : Fin 3) = t.val / 16 ∧ win0_6.index t (1 : Fin 3) = t.val / 4 % 4 ∧ win0_6.index t (2 : Fin 3) = t.val % 4 :=
  (by decide +kernel : ∀ t : Fin grid0.N, win0_6.index t (0 : Fin 3) = t.val / 16 ∧ win0_6.index t (1 : Fin 3) = t.val / 4 % 4 ∧ win0_6.index t (2 : Fin 3) = t.val % 4)

theorem index7 : ∀ t : Fin cfg0.N, win0_7.index t (0 : Fin 2) = t.val / 4 ∧ win0_7.index t (1 : Fin 2) = t.val % 4 :=
  (by decide +kernel : ∀ t : Fin grid0.N, win0_7.index t (0 : Fin 2) = t.val / 4 ∧ win0_7.index t (1 : Fin 2) = t.val % 4)

theorem index8 : ∀ t : Fin cfg0.N, win0_8.index t (0 : Fin 2) = t.val / 4 ∧ win0_8.index t (1 : Fin 2) = t.val % 4 :=
  (by decide +kernel : ∀ t : Fin grid0.N, win0_8.index t (0 : Fin 2) = t.val / 4 ∧ win0_8.index t (1 : Fin 2) = t.val % 4)

theorem emb0 (t : Fin cfg0.N) (r : Fin 1088) (k : Fin 2048) : ((cfg0.win 0).blk t).view.emb (ix2 r k) = (ix2 (rowAt t r) k : S8704x2048.Idx) := by
  obtain ⟨e0, e1⟩ := index0 t
  funext a
  refine Fin.ext ?_
  match a with
  | ⟨0, _⟩ =>
    show win0_0.index t (0 : Fin 2) * 1088 + 1 * r.val = 1088 * (t.val / 4) + r.val
    omega
  | ⟨1, _⟩ =>
    show win0_0.index t (1 : Fin 2) * 2048 + 1 * k.val = k.val
    omega

theorem emb1 (t : Fin cfg0.N) (r : Fin 1) (k : Fin 2048) : ((cfg0.win 1).blk t).view.emb (ix2 r k) = (ix2 r k : S1x2048.Idx) := by
  obtain ⟨e0, e1⟩ := index1 t
  funext a
  refine Fin.ext ?_
  match a with
  | ⟨0, _⟩ =>
    show win0_1.index t (0 : Fin 2) * 1 + 1 * r.val = r.val
    omega
  | ⟨1, _⟩ =>
    show win0_1.index t (1 : Fin 2) * 2048 + 1 * k.val = k.val
    omega

theorem emb2 (t : Fin cfg0.N) (r : Fin 2048) (k : Fin 512) : ((cfg0.win 2).blk t).view.emb (ix2 r k) = (ix2 r (colAt t k) : S2048x2048.Idx) := by
  obtain ⟨e0, e1⟩ := index2 t
  funext a
  refine Fin.ext ?_
  match a with
  | ⟨0, _⟩ =>
    show win0_2.index t (0 : Fin 2) * 2048 + 1 * r.val = r.val
    omega
  | ⟨1, _⟩ =>
    show win0_2.index t (1 : Fin 2) * 512 + 1 * k.val = 512 * (t.val % 4) + k.val
    omega

theorem emb3 (t : Fin cfg0.N) (r : Fin 2048) (k : Fin 512) : ((cfg0.win 3).blk t).view.emb (ix2 r k) = (ix2 r (colAt t k) : S2048x2048.Idx) := by
  obtain ⟨e0, e1⟩ := index3 t
  funext a
  refine Fin.ext ?_
  match a with
  | ⟨0, _⟩ =>
    show win0_3.index t (0 : Fin 2) * 2048 + 1 * r.val = r.val
    omega
  | ⟨1, _⟩ =>
    show win0_3.index t (1 : Fin 2) * 512 + 1 * k.val = 512 * (t.val % 4) + k.val
    omega

theorem emb4 (t : Fin cfg0.N) (r : Fin 1) (k : Fin 128) : ((cfg0.win 4).blk t).view.emb (ix2 r k) = (ix2 r k : S1x128.Idx) := by
  obtain ⟨e0, e1⟩ := index4 t
  funext a
  refine Fin.ext ?_
  match a with
  | ⟨0, _⟩ =>
    show win0_4.index t (0 : Fin 2) * 1 + 1 * r.val = r.val
    omega
  | ⟨1, _⟩ =>
    show win0_4.index t (1 : Fin 2) * 128 + 1 * k.val = k.val
    omega

theorem emb7 (t : Fin cfg0.N) (r : Fin 1088) (k : Fin 512) : ((cfg0.win 7).blk t).view.emb (ix2 r k) = (ix2 (rowAt t r) (colAt t k) : S8704x2048.Idx) := by
  obtain ⟨e0, e1⟩ := index7 t
  funext a
  refine Fin.ext ?_
  match a with
  | ⟨0, _⟩ =>
    show win0_7.index t (0 : Fin 2) * 1088 + 1 * r.val = 1088 * (t.val / 4) + r.val
    omega
  | ⟨1, _⟩ =>
    show win0_7.index t (1 : Fin 2) * 512 + 1 * k.val = 512 * (t.val % 4) + k.val
    omega

theorem emb8 (t : Fin cfg0.N) (r : Fin 1088) (k : Fin 512) : ((cfg0.win 8).blk t).view.emb (ix2 r k) = (ix2 (rowAt t r) (colAt t k) : S8704x2048.Idx) := by
  obtain ⟨e0, e1⟩ := index8 t
  funext a
  refine Fin.ext ?_
  match a with
  | ⟨0, _⟩ =>
    show win0_8.index t (0 : Fin 2) * 1088 + 1 * r.val = 1088 * (t.val / 4) + r.val
    omega
  | ⟨1, _⟩ =>
    show win0_8.index t (1 : Fin 2) * 512 + 1 * k.val = 512 * (t.val % 4) + k.val
    omega

theorem read0 (A : S8704x2048.Idx → EReal) (t : Fin cfg0.N) (r : Fin 1088) (k : Fin 2048) :
    (((cfg0.win 0).blk t).view.read (Elt Ideal) A : S1088x2048.Idx → EReal) (ix2 r k) = A (ix2 (rowAt t r) k) := congrArg A (emb0 t r k)

theorem read1 (A : S1x2048.Idx → EReal) (t : Fin cfg0.N) (r : Fin 1) (k : Fin 2048) :
    (((cfg0.win 1).blk t).view.read (Elt Ideal) A : S1x2048.Idx → EReal) (ix2 r k) = A (ix2 r k) := congrArg A (emb1 t r k)

theorem read2 (A : S2048x2048.Idx → EReal) (t : Fin cfg0.N) (r : Fin 2048) (k : Fin 512) :
    (((cfg0.win 2).blk t).view.read (Elt Ideal) A : S2048x512.Idx → EReal) (ix2 r k) = A (ix2 r (colAt t k)) := congrArg A (emb2 t r k)

theorem read3 (A : S2048x2048.Idx → EReal) (t : Fin cfg0.N) (r : Fin 2048) (k : Fin 512) :
    (((cfg0.win 3).blk t).view.read (Elt Ideal) A : S2048x512.Idx → EReal) (ix2 r k) = A (ix2 r (colAt t k)) := congrArg A (emb3 t r k)

theorem read4 (A : S1x128.Idx → EReal) (t : Fin cfg0.N) (r : Fin 1) (k : Fin 128) :
    (((cfg0.win 4).blk t).view.read (Elt Ideal) A : S1x128.Idx → EReal) (ix2 r k) = A (ix2 r k) := congrArg A (emb4 t r k)

variable (m : (ℓ : Loc nD τ sig) → Buf (Elt Ideal) ℓ) (c : Dev nD)

theorem blk0 (t : Fin cfg0.N) (r : Fin 1088) (k : Fin 2048) : (iblk m c 0 t : S1088x2048.Idx → EReal) (ix2 r k) = padRows (argX m c) (rowAt t r).val k :=
  (read0 _ t r k).trans (rows_x m c _ _)

theorem blk1 (t : Fin cfg0.N) (k : Fin 2048) : (iblk m c 1 t : S1x2048.Idx → EReal) (ix2 0 k) = argG m c (ix1 k) :=
  (read1 _ t 0 k).trans (scales m c k)

theorem blk2 (t : Fin cfg0.N) (k : Fin 2048) (n : Fin 512) : (iblk m c 2 t : S2048x512.Idx → EReal) (ix2 k n) = argW m c (ix2 k ⟨0 + (colAt t n).val, by omega⟩) :=
  (read2 _ t k n).trans (key_weights m c _ _)

theorem blk3 (t : Fin cfg0.N) (k : Fin 2048) (n : Fin 512) : (iblk m c 3 t : S2048x512.Idx → EReal) (ix2 k n) = argW m c (ix2 k ⟨2048 + (colAt t n).val, by omega⟩) :=
  (read3 _ t k n).trans (value_weights m c _ _)

theorem blk4 (t : Fin cfg0.N) (k : Fin 128) : (iblk m c 4 t : S1x128.Idx → EReal) (ix2 0 k) = argK m c (ix1 k) :=
  (read4 _ t 0 k).trans (key_scales m c k)

/-! ## The normalised rows kept between points -/

/-- What the kept scratch array holds after a point. -/
abbrev keptH (t : Fin cfg0.N) : S1088x2048.Idx → EReal := (outsAt0 m c t.val t.isLt).2.2.2.2

/-- The tile's normalised rows. -/
theorem rows_norm (t : Fin cfg0.N) (r : Fin 1088) (k : Fin 2048) :
    hA (iblk m c 0 t) (iblk m c 1 t) r.val k.val = normed (fun k => padRows (argX m c) (1088 * (t.val / 4) + r.val) k) (fun k => argG m c (ix1 k)) k := by
  unfold hA
  rw [dif_pos ⟨r.isLt, k.isLt⟩]
  exact congrArg₂ (fun a b => normed a b k) (funext fun k => blk0 m c t r k) (funext fun k => blk1 m c t k)

theorem keptH_A (t : Fin cfg0.N) (h0 : t.val % 4 = 0) (h1 : ¬1 ≤ t.val % 4) (r : Fin 1088) (k : Fin 2048) : keptH m c t (ix2 r k) = hA (iblk m c 0 t) (iblk m c 1 t) r.val k.val := by
  unfold keptH
  rw [outsAt0_A m c t h0 h1]
  dsimp only
  have e := KvCasesA.scratch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) ((hcond0_0 t).mpr h0) (fun h => h1 ((hcond0_1 t).mp h)) r k
  exact e

/-- The point before. -/
abbrev before (t : Fin cfg0.N) : Fin cfg0.N := ⟨t.val - 1, Nat.lt_of_le_of_lt (Nat.sub_le _ _) t.isLt⟩

theorem keptH_B (t : Fin cfg0.N) (h0 : ¬t.val % 4 = 0) (h1 : 1 ≤ t.val % 4) : keptH m c t = keptH m c (before t) := by
  unfold keptH
  rw [outsAt0_B m c t h0 h1]
  rfl

/-- After every point the kept rows are the tile's normalised rows. -/
theorem keeps (n : ℕ) : ∀ (hn : n < cfg0.N) (r : Fin 1088) (k : Fin 2048),
    keptH m c ⟨n, hn⟩ (ix2 r k) = normed (fun k => padRows (argX m c) (1088 * (n / 4) + r.val) k) (fun k => argG m c (ix1 k)) k := by
  induction n with
  | zero =>
    intro hn r k
    exact (keptH_A m c ⟨0, hn⟩ rfl (show ¬1 ≤ 0 % 4 by decide) r k).trans (rows_norm m c ⟨0, hn⟩ r k)
  | succ n ih =>
    intro hn r k
    by_cases e : (n + 1) % 4 = 0
    · exact (keptH_A m c ⟨n + 1, hn⟩ e (by show ¬1 ≤ (n + 1) % 4; omega) r k).trans (rows_norm m c ⟨n + 1, hn⟩ r k)
    · rw [keptH_B m c ⟨n + 1, hn⟩ e (by show 1 ≤ (n + 1) % 4; omega)]
      have hd : (n + 1) / 4 = n / 4 := by omega
      rw [hd]
      exact ih (Nat.lt_of_succ_lt hn) r k

/-! ## The output blocks -/

/-- The tile's keys from rows that are its normalised rows. -/
theorem key_rows (t : Fin cfg0.N) (h : ℕ → ℕ → EReal) (r : Fin 1088) (n : Fin 512)
    (hh : ∀ k : Fin 2048, h r.val k.val = normed (fun k => padRows (argX m c) (1088 * (t.val / 4) + r.val) k) (fun k => argG m c (ix1 k)) k) :
    keyA h (iblk m c 2 t) (iblk m c 4 t) r.val n.val = krow (argX m c) (argG m c) (argW m c) (argK m c) (1088 * (t.val / 4) + r.val) (colAt t n) := by
  unfold keyA krow prow
  rw [dif_pos n.isLt]
  have e : (⟨n.val % 128, Nat.mod_lt _ (by decide)⟩ : Fin 128) = ⟨(colAt t n).val % 128, Nat.mod_lt _ (by decide)⟩ :=
    Fin.ext (by show n.val % 128 = (512 * (t.val % 4) + n.val) % 128; omega)
  rw [e]
  refine congrArg₂ (fun p g => headed p g _) (funext fun j => Finset.sum_congr rfl fun k _ => ?_) (funext fun j => blk4 m c t j)
  refine congrArg₂ (· * ·) (hh k) ((blk2 m c t k _).trans (congrArg (fun q => argW m c (ix2 k q)) (Fin.ext ?_)))
  show 0 + (512 * (t.val % 4) + (128 * (n.val / 128) + j.val)) = 0 + (128 * ((512 * (t.val % 4) + n.val) / 128) + j.val)
  omega

/-- The tile's values from rows that are its normalised rows. -/
theorem val_rows (t : Fin cfg0.N) (h : ℕ → ℕ → EReal) (r : Fin 1088) (n : Fin 512)
    (hh : ∀ k : Fin 2048, h r.val k.val = normed (fun k => padRows (argX m c) (1088 * (t.val / 4) + r.val) k) (fun k => argG m c (ix1 k)) k) :
    valA h (iblk m c 3 t) r.val n.val = vrow (argX m c) (argG m c) (argW m c) (1088 * (t.val / 4) + r.val) (colAt t n) := by
  unfold valA vrow prow
  rw [dif_pos n.isLt]
  exact Finset.sum_congr rfl fun k _ => congrArg₂ (· * ·) (hh k) (blk3 m c t k n)

/-- The rows a later point of a row of tiles reads are the tile's normalised rows. -/
theorem kept_rows (t : Fin cfg0.N) (h : ¬t.val % 4 = 0) (h1 : 1 ≤ t.val % 4) (r : Fin 1088) (k : Fin 2048) :
    kept (keptH m c (before t)) r.val k.val = normed (fun k => padRows (argX m c) (1088 * (t.val / 4) + r.val) k) (fun k => argG m c (ix1 k)) k := by
  unfold kept
  rw [dif_pos ⟨r.isLt, k.isLt⟩]
  rw [← keptH_B m c t h h1]
  exact keeps m c t.val t.isLt r k

theorem keys_point (t : Fin cfg0.N) (r : Fin 1088) (n : Fin 512) :
    ((outsAt0 m c t.val t.isLt).1 : S1x1088x512.Idx → EReal) (ix3 0 r n) = krow (argX m c) (argG m c) (argW m c) (argK m c) (1088 * (t.val / 4) + r.val) (colAt t n) := by
  by_cases h : t.val % 4 = 0
  · have h1 : ¬1 ≤ t.val % 4 := by omega
    refine Eq.trans ?_ (key_rows m c t (hA (iblk m c 0 t) (iblk m c 1 t)) r n (rows_norm m c t r))
    rw [outsAt0_A m c t h h1]
    dsimp only
    have e := KvCasesA.keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) ((hcond0_0 t).mpr h) (fun h => h1 ((hcond0_1 t).mp h)) r n
    exact e
  · have h1 : 1 ≤ t.val % 4 := by omega
    refine Eq.trans ?_ (key_rows m c t (kept (keptH m c (before t))) r n (kept_rows m c t h h1 r))
    rw [outsAt0_B m c t h h1]
    dsimp only
    have e := KvCasesB.keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (keptH m c (before t)) (fun h' => h ((hcond0_0 t).mp h')) ((hcond0_1 t).mpr h1) r n
    exact e

theorem vals_point (t : Fin cfg0.N) (r : Fin 1088) (n : Fin 512) :
    ((outsAt0 m c t.val t.isLt).2.1 : S1x1088x512.Idx → EReal) (ix3 0 r n) = vrow (argX m c) (argG m c) (argW m c) (1088 * (t.val / 4) + r.val) (colAt t n) := by
  by_cases h : t.val % 4 = 0
  · have h1 : ¬1 ≤ t.val % 4 := by omega
    refine Eq.trans ?_ (val_rows m c t (hA (iblk m c 0 t) (iblk m c 1 t)) r n (rows_norm m c t r))
    rw [outsAt0_A m c t h h1]
    dsimp only
    have e := KvCasesA.vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) ((hcond0_0 t).mpr h) (fun h => h1 ((hcond0_1 t).mp h)) r n
    exact e
  · have h1 : 1 ≤ t.val % 4 := by omega
    refine Eq.trans ?_ (val_rows m c t (kept (keptH m c (before t))) r n (kept_rows m c t h h1 r))
    rw [outsAt0_B m c t h h1]
    dsimp only
    have e := KvCasesB.vals c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (keptH m c (before t)) (fun h' => h ((hcond0_0 t).mp h')) ((hcond0_1 t).mpr h1) r n
    exact e

theorem keyRows_point (t : Fin cfg0.N) (r : Fin 1088) (n : Fin 512) :
    ((outsAt0 m c t.val t.isLt).2.2.1 : S1088x512.Idx → EReal) (ix2 r n) = krow (argX m c) (argG m c) (argW m c) (argK m c) (1088 * (t.val / 4) + r.val) (colAt t n) := by
  by_cases h : t.val % 4 = 0
  · have h1 : ¬1 ≤ t.val % 4 := by omega
    refine Eq.trans ?_ (key_rows m c t (hA (iblk m c 0 t) (iblk m c 1 t)) r n (rows_norm m c t r))
    rw [outsAt0_A m c t h h1]
    dsimp only
    have e := KvCasesA.keyRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) ((hcond0_0 t).mpr h) (fun h => h1 ((hcond0_1 t).mp h)) r n
    exact e
  · have h1 : 1 ≤ t.val % 4 := by omega
    refine Eq.trans ?_ (key_rows m c t (kept (keptH m c (before t))) r n (kept_rows m c t h h1 r))
    rw [outsAt0_B m c t h h1]
    dsimp only
    have e := KvCasesB.keyRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (keptH m c (before t)) (fun h' => h ((hcond0_0 t).mp h')) ((hcond0_1 t).mpr h1) r n
    exact e

theorem valRows_point (t : Fin cfg0.N) (r : Fin 1088) (n : Fin 512) :
    ((outsAt0 m c t.val t.isLt).2.2.2.1 : S1088x512.Idx → EReal) (ix2 r n) = vrow (argX m c) (argG m c) (argW m c) (1088 * (t.val / 4) + r.val) (colAt t n) := by
  by_cases h : t.val % 4 = 0
  · have h1 : ¬1 ≤ t.val % 4 := by omega
    refine Eq.trans ?_ (val_rows m c t (hA (iblk m c 0 t) (iblk m c 1 t)) r n (rows_norm m c t r))
    rw [outsAt0_A m c t h h1]
    dsimp only
    have e := KvCasesA.valRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) ((hcond0_0 t).mpr h) (fun h => h1 ((hcond0_1 t).mp h)) r n
    exact e
  · have h1 : 1 ≤ t.val % 4 := by omega
    refine Eq.trans ?_ (val_rows m c t (kept (keptH m c (before t))) r n (kept_rows m c t h h1 r))
    rw [outsAt0_B m c t h h1]
    dsimp only
    have e := KvCasesB.valRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (keptH m c (before t)) (fun h' => h ((hcond0_0 t).mp h')) ((hcond0_1 t).mpr h1) r n
    exact e

/-! ## The output arrays -/

theorem keys_flushed (t : Fin cfg0.N) :
    (dats m 0 c).flushed 5 t = ((cfg0.win 5).blk t).view.read (Elt Ideal) (seqArr (krow (argX m c) (argG m c) (argW m c) (argK m c))) := by
  rw [Value.flushed5 m c t]
  funext y
  obtain ⟨e0, e1, e2⟩ := index5 t
  have h0 : (y (0 : Fin 3)).val < 1 := Nat.lt_of_lt_of_le (y (0 : Fin 3)).isLt ((cfg0.win 5).xsize_le (grid0.coords t) (0 : Fin 3))
  have h1 : (y (1 : Fin 3)).val < 1088 := Nat.lt_of_lt_of_le (y (1 : Fin 3)).isLt ((cfg0.win 5).xsize_le (grid0.coords t) (1 : Fin 3))
  have h2 : (y (2 : Fin 3)).val < 512 := Nat.lt_of_lt_of_le (y (2 : Fin 3)).isLt ((cfg0.win 5).xsize_le (grid0.coords t) (2 : Fin 3))
  have hy : (cfg0.win 5).xinj (grid0.coords t) y = (ix3 0 ⟨(y (1 : Fin 3)).val, h1⟩ ⟨(y (2 : Fin 3)).val, h2⟩ : S1x1088x512.Idx) := by
    funext a
    match a with
    | ⟨0, _⟩ => exact Fin.ext (show (y (0 : Fin 3)).val = 0 by omega)
    | ⟨1, _⟩ => rfl
    | ⟨2, _⟩ => rfl
  refine (congrArg ((outsAt0 m c t.val t.isLt).1 : S1x1088x512.Idx → EReal) hy).trans ((keys_point m c t _ _).trans ?_)
  refine congrArg₂ (krow (argX m c) (argG m c) (argW m c) (argK m c)) ?_ (Fin.ext ?_)
  · show 1088 * (t.val / 4) + (y (1 : Fin 3)).val
      = 4352 * (win0_5.index t (0 : Fin 3) * 1 + 1 * (y (0 : Fin 3)).val) + (win0_5.index t (1 : Fin 3) * 1088 + 1 * (y (1 : Fin 3)).val)
    omega
  · show 512 * (t.val % 4) + (y (2 : Fin 3)).val = win0_5.index t (2 : Fin 3) * 512 + 1 * (y (2 : Fin 3)).val
    omega

theorem keys_covers : (cfg0.win 5).Covers := by decide +kernel

theorem keys_final : (dats m 0 c).arrAt 5 cfg0.N = seqArr (krow (argX m c) (argG m c) (argW m c) (argK m c)) :=
  (dats m 0 c).arrAt_eq_of_cover 5 _ (fun t _ => keys_flushed m c t) (keys_covers.cover _ (Memref.isWhole_whole _))

theorem vals_flushed (t : Fin cfg0.N) :
    (dats m 0 c).flushed 6 t = ((cfg0.win 6).blk t).view.read (Elt Ideal) (seqArr (vrow (argX m c) (argG m c) (argW m c))) := by
  rw [Value.flushed6 m c t]
  funext y
  obtain ⟨e0, e1, e2⟩ := index6 t
  have h0 : (y (0 : Fin 3)).val < 1 := Nat.lt_of_lt_of_le (y (0 : Fin 3)).isLt ((cfg0.win 6).xsize_le (grid0.coords t) (0 : Fin 3))
  have h1 : (y (1 : Fin 3)).val < 1088 := Nat.lt_of_lt_of_le (y (1 : Fin 3)).isLt ((cfg0.win 6).xsize_le (grid0.coords t) (1 : Fin 3))
  have h2 : (y (2 : Fin 3)).val < 512 := Nat.lt_of_lt_of_le (y (2 : Fin 3)).isLt ((cfg0.win 6).xsize_le (grid0.coords t) (2 : Fin 3))
  have hy : (cfg0.win 6).xinj (grid0.coords t) y = (ix3 0 ⟨(y (1 : Fin 3)).val, h1⟩ ⟨(y (2 : Fin 3)).val, h2⟩ : S1x1088x512.Idx) := by
    funext a
    match a with
    | ⟨0, _⟩ => exact Fin.ext (show (y (0 : Fin 3)).val = 0 by omega)
    | ⟨1, _⟩ => rfl
    | ⟨2, _⟩ => rfl
  refine (congrArg ((outsAt0 m c t.val t.isLt).2.1 : S1x1088x512.Idx → EReal) hy).trans ((vals_point m c t _ _).trans ?_)
  refine congrArg₂ (vrow (argX m c) (argG m c) (argW m c)) ?_ (Fin.ext ?_)
  · show 1088 * (t.val / 4) + (y (1 : Fin 3)).val
      = 4352 * (win0_6.index t (0 : Fin 3) * 1 + 1 * (y (0 : Fin 3)).val) + (win0_6.index t (1 : Fin 3) * 1088 + 1 * (y (1 : Fin 3)).val)
    omega
  · show 512 * (t.val % 4) + (y (2 : Fin 3)).val = win0_6.index t (2 : Fin 3) * 512 + 1 * (y (2 : Fin 3)).val
    omega

theorem vals_covers : (cfg0.win 6).Covers := by decide +kernel

theorem vals_final : (dats m 0 c).arrAt 6 cfg0.N = seqArr (vrow (argX m c) (argG m c) (argW m c)) :=
  (dats m 0 c).arrAt_eq_of_cover 6 _ (fun t _ => vals_flushed m c t) (vals_covers.cover _ (Memref.isWhole_whole _))

theorem keyRows_flushed (t : Fin cfg0.N) :
    (dats m 0 c).flushed 7 t = ((cfg0.win 7).blk t).view.read (Elt Ideal) (rowArr (krow (argX m c) (argG m c) (argW m c) (argK m c))) := by
  rw [Value.flushed7 m c t]
  funext y
  have hy : (y : S1088x512.Idx) = ix2 (y 0) (y 1) := by
    funext a
    match a with
    | ⟨0, _⟩ => rfl
    | ⟨1, _⟩ => rfl
  rw [hy]
  exact (keyRows_point m c t (y 0) (y 1)).trans (congrArg (rowArr (krow (argX m c) (argG m c) (argW m c) (argK m c))) (emb7 t (y 0) (y 1))).symm

theorem keyRows_covers : (cfg0.win 7).Covers := by decide +kernel

theorem keyRows_final : (dats m 0 c).arrAt 7 cfg0.N = rowArr (krow (argX m c) (argG m c) (argW m c) (argK m c)) :=
  (dats m 0 c).arrAt_eq_of_cover 7 _ (fun t _ => keyRows_flushed m c t) (keyRows_covers.cover _ (Memref.isWhole_whole _))

theorem valRows_flushed (t : Fin cfg0.N) :
    (dats m 0 c).flushed 8 t = ((cfg0.win 8).blk t).view.read (Elt Ideal) (rowArr (vrow (argX m c) (argG m c) (argW m c))) := by
  rw [Value.flushed8 m c t]
  funext y
  have hy : (y : S1088x512.Idx) = ix2 (y 0) (y 1) := by
    funext a
    match a with
    | ⟨0, _⟩ => rfl
    | ⟨1, _⟩ => rfl
  rw [hy]
  exact (valRows_point m c t (y 0) (y 1)).trans (congrArg (rowArr (vrow (argX m c) (argG m c) (argW m c))) (emb8 t (y 0) (y 1))).symm

theorem valRows_covers : (cfg0.win 8).Covers := by decide +kernel

theorem valRows_final : (dats m 0 c).arrAt 8 cfg0.N = rowArr (vrow (argX m c) (argG m c) (argW m c)) :=
  (dats m 0 c).arrAt_eq_of_cover 8 _ (fun t _ => valRows_flushed m c t) (valRows_covers.cover _ (Memref.isWhole_whole _))

end Cert.Proof.Kv
-- ==== Proof.KvRef.lean ====
module

public import proofs.«01_k».proof.Proof.Kv
public import proofs.«01_k».proof.Proof.GluRef
public import proofs.«01_k».proof.Proof.Gen.Reference5Ideal.Run

@[expose] public section

set_option maxRecDepth 16384

noncomputable section

namespace Cert.Proof.KvRef

open Cert.Reference5Ideal Cert.Reference5Ideal.Gen Idealize.ShloMosaic Idealize.ShloMosaic.TcCoe Idealize.SL.Sem
open Cert.Proof.Rows Cert.Proof.KvTile Cert.Proof.Kv
open Cert.Proof.Glu (prow)
open Cert.Proof.GluRef (normR dotR padR padR_at prow_real prow_zero)

/-! ## The reference's arrays, by name -/

/-- The first half of the product's columns, as heads. -/
def splitR (p : Vec Ideal S2x4112x4096 .f32) : Vec Ideal S2x4112x16x128 .f32 :=
  shapeCast S2x4112x16x128 (extractStridedSlice S2x4112x2048 ![0, 0, 0] p slices_S2x4112x4096_S2x4112x2048_0_0_0) shapeCasts_S2x4112x2048_S2x4112x16x128

/-- The normalised heads. -/
def headsR (h : Vec Ideal S2x4112x16x128 .f32) (gk : Vec Ideal S128 .f32) : Vec Ideal S2x4112x16x128 .f32 :=
  mulf (mulf h (broadcastInDim S2x4112x16x128 ![0, 1, 2, 3] bcast_S2x4112x16x1_S2x4112x16x128_0_1_2_3 (Host.rsqrt (addf (Host.divf (broadcastInDim S2x4112x16x1 ![0, 1, 2] bcast_S2x4112x16_S2x4112x16x1_0_1_2 (Host.reduceAdd (mulf h h) (constant (F := Ideal) S_ .f32 0x00000000#32) reducesTo_S2x4112x16x128_S2x4112x16_d3 h_S_)) (broadcastInDim S2x4112x16x1 ![] bcast_S_S2x4112x16x1 (constant (F := Ideal) S_ .f32 0x43000000#32))) (broadcastInDim S2x4112x16x1 ![] bcast_S_S2x4112x16x1 (constant (F := Ideal) S_ .f32 0x358637BD#32)))))) (broadcastInDim S2x4112x16x128 ![0, 1, 2, 3] bcast_S1x1x1x128_S2x4112x16x128_0_1_2_3 (broadcastInDim S1x1x1x128 ![3] bcast_S128_S1x1x1x128_3 gk))

/-- The heads side by side. -/
def joinR (h : Vec Ideal S2x4112x16x128 .f32) : Vec Ideal S2x4112x2048 .f32 := shapeCast S2x4112x2048 h shapeCasts_S2x4112x16x128_S2x4112x2048

/-- The keys, from the product with the weights. -/
def keysR (p : Vec Ideal S2x4112x4096 .f32) (gk : Vec Ideal S128 .f32) : Vec Ideal S2x4112x2048 .f32 := joinR (headsR (splitR p) gk)

/-- The values: the second half of the product's columns. -/
def valsR (p : Vec Ideal S2x4112x4096 .f32) : Vec Ideal S2x4112x2048 .f32 := extractStridedSlice S2x4112x2048 ![0, 0, 2048] p slices_S2x4112x4096_S2x4112x2048_0_0_2048

/-! ## Their elements -/

theorem splitR_at (p : Vec Ideal S2x4112x4096 .f32) (b : Fin 2) (t : Fin 4112) (s : Fin 16) (j : Fin 128) :
    splitR p (ix4 b t s j) = p (ix3 b t ⟨0 + (128 * s.val + j.val), by omega⟩) := by
  pointwise [splitR]
  exact congrArg (fun u => p (ix3 b t u)) (Fin.ext (by dsimp only; omega))

theorem headsR_at (h : Vec Ideal S2x4112x16x128 .f32) (gk : Vec Ideal S128 .f32) (b : Fin 2) (t : Fin 4112) (s : Fin 16) (j : Fin 128) :
    headsR h gk (ix4 b t s j) = headed (fun j => h (ix4 b t s j)) (fun j => gk (ix1 j)) j := by
  unfold headed
  pointwise [headsR]

theorem joinR_at (h : Vec Ideal S2x4112x16x128 .f32) (b : Fin 2) (t : Fin 4112) (n : Fin 2048) :
    joinR h (ix3 b t n) = h (ix4 b t ⟨n.val / 128, by omega⟩ ⟨n.val % 128, Nat.mod_lt _ (by decide)⟩) := by
  pointwise [joinR]

theorem valsR_at (p : Vec Ideal S2x4112x4096 .f32) (b : Fin 2) (t : Fin 4112) (n : Fin 2048) : valsR p (ix3 b t n) = p (ix3 b t ⟨2048 + n.val, by omega⟩) := by
  pointwise [valsR]

/-! ## The results -/

section
variable (x : Vec Ideal S2x4112x2048 .f32) (g : Vec Ideal S2048 .f32) (w : Vec Ideal S2048x4096 .f32) (gk : Vec Ideal S128 .f32)

/-- The keys of a row of a sequence are the reference's. -/
theorem krow_real (r : ℕ) (n : Fin 2048) (h : r % 4352 < 4112) :
    krow x g w gk r n = keysR (dotR (normR x g) w) gk (ix3 ⟨r / 4352 % 2, Nat.mod_lt _ (by decide)⟩ ⟨r % 4352, h⟩ n) := by
  unfold krow keysR
  rw [joinR_at, headsR_at]
  exact congrArg (fun p => headed p (fun j => gk (ix1 j)) _) (funext fun j => (prow_real x g w r 0 (by decide) _ h).trans (splitR_at (dotR (normR x g) w) ⟨r / 4352 % 2, Nat.mod_lt _ (by decide)⟩ ⟨r % 4352, h⟩ ⟨n.val / 128, by omega⟩ j).symm)

/-- The keys of a row of zeros are zero. -/
theorem krow_zero (r : ℕ) (n : Fin 2048) (h : ¬r % 4352 < 4112) : krow x g w gk r n = 0 :=
  headed_zero _ _ _ (prow_zero x g w r 0 (by decide) _ h)

theorem vrow_real (r : ℕ) (n : Fin 2048) (h : r % 4352 < 4112) :
    vrow x g w r n = valsR (dotR (normR x g) w) (ix3 ⟨r / 4352 % 2, Nat.mod_lt _ (by decide)⟩ ⟨r % 4352, h⟩ n) :=
  (prow_real x g w r 2048 (by decide) n h).trans (valsR_at _ _ _ _).symm

theorem vrow_zero (r : ℕ) (n : Fin 2048) (h : ¬r % 4352 < 4112) : vrow x g w r n = 0 := prow_zero x g w r 2048 (by decide) n h

/-- An array of rows of both sequences is a function of the padded rows, if it is at every row of a sequence. -/
theorem seq_eq (a : Vec Ideal S2x4112x2048 .f32) (f : ℕ → Fin 2048 → EReal)
    (hf : ∀ (r : ℕ) (n : Fin 2048) (h : r % 4352 < 4112), f r n = a (ix3 ⟨r / 4352 % 2, Nat.mod_lt _ (by decide)⟩ ⟨r % 4352, h⟩ n)) (i : S2x4112x2048.Idx) : a i = seqArr f i := by
  have h0 : (i 0).val < 2 := (i 0).isLt
  have h1 : (i 1).val < 4112 := (i 1).isLt
  have h : (4352 * (i 0).val + (i 1).val) % 4352 < 4112 := by omega
  refine Eq.trans (congrArg a (funext fun k => ?_)) (hf (4352 * (i 0).val + (i 1).val) (i 2) h).symm
  match k with
  | ⟨0, _⟩ => exact Fin.ext (show (i 0).val = (4352 * (i 0).val + (i 1).val) / 4352 % 2 by omega)
  | ⟨1, _⟩ => exact Fin.ext (show (i 1).val = (4352 * (i 0).val + (i 1).val) % 4352 by omega)
  | ⟨2, _⟩ => rfl

/-- The same on the padded rows, where the function is zero on the rows between. -/
theorem rows_eq (a : Vec Ideal S2x4112x2048 .f32) (f : ℕ → Fin 2048 → EReal)
    (hf : ∀ (r : ℕ) (n : Fin 2048) (h : r % 4352 < 4112), f r n = a (ix3 ⟨r / 4352 % 2, Nat.mod_lt _ (by decide)⟩ ⟨r % 4352, h⟩ n))
    (hz : ∀ (r : ℕ) (n : Fin 2048), ¬r % 4352 < 4112 → f r n = 0) (i : S8704x2048.Idx) : padR a i = rowArr f i := by
  have hi : i = ix2 (i 0) (i 1) := by
    funext k
    match k with
    | ⟨0, _⟩ => rfl
    | ⟨1, _⟩ => rfl
  refine (congrArg (padR a) hi).trans ((padR_at a (i 0) (i 1)).trans ?_)
  unfold padRows rowArr
  by_cases h : (i 0).val % 4352 < 4112
  · rw [dif_pos h]
    exact (hf _ _ h).symm
  · rw [dif_neg h]
    exact (hz _ _ h).symm

theorem keys_eq (i : S2x4112x2048.Idx) : keysR (dotR (normR x g) w) gk i = seqArr (krow x g w gk) i := seq_eq _ _ (krow_real x g w gk) i

theorem vals_eq (i : S2x4112x2048.Idx) : valsR (dotR (normR x g) w) i = seqArr (vrow x g w) i := seq_eq _ _ (vrow_real x g w) i

theorem keyRows_eq (i : S8704x2048.Idx) : padR (keysR (dotR (normR x g) w) gk) i = rowArr (krow x g w gk) i :=
  rows_eq _ _ (krow_real x g w gk) (krow_zero x g w gk) i

theorem valRows_eq (i : S8704x2048.Idx) : padR (valsR (dotR (normR x g) w)) i = rowArr (vrow x g w) i := rows_eq _ _ (vrow_real x g w) (vrow_zero x g w) i

end

end Cert.Proof.KvRef
-- ==== Proof.Claims.lean ====
module

public import proofs.«01_k».proof.Defs
public import proofs.«01_k».proof.Proof.Ref
public import proofs.«01_k».proof.Proof.GateRef
public import proofs.«01_k».proof.Proof.Down
public import proofs.«01_k».proof.Proof.GluRef
public import proofs.«01_k».proof.Proof.KvRef
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import Idealize.ShloMosaic.Lib.Quiescent

@[expose] public section

noncomputable section

namespace Cert.Proof.Claims

open Idealize.ShloMosaic Idealize.ShloMosaic.TcCoe Idealize.SL.Sem

/-! ## The attention -/

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The two named constants have the values the table gives them. -/
theorem preserves : Cert.preserves_Kernel_KernelIdeal :=
  ⟨IdealRules.named_const.statement Cert.KernelIdeal.κ "q_scale" .f32 0x3E0293EE#32 (((11863283 / 134217728) * (Real.log 2)⁻¹ : ℝ) : EReal) rfl,
    IdealRules.named_const.statement Cert.KernelIdeal.κ "log2e" .f32 0x3FB8AA3B#32 (((Real.log 2)⁻¹ : ℝ) : EReal) rfl⟩

/-- The kernel and the reference end with the attention of the same arguments. -/
theorem algebraic : Cert.algebraic_KernelIdeal_ReferenceIdeal := by
  intro m ρ m' ρ' _ hagree
  refine ⟨fun c => Final.outM m c, ?_, ?_⟩
  · refine (θ_run Cert.KernelIdeal.defs _ _).mono (fun _ h c => ⟨(h c).1.trans (Final.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Ref.res_eq, (hagree c).1, (hagree c).2.1, (hagree c).2.2.1, (hagree c).2.2.2]
    exact Ref.value_eq _ _ _ _

/-! ## The gate and up products of the feed-forward part -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

theorem preserves2 : Cert.preserves_Kernel2_Kernel2Ideal := trivial

/-- The kernel and the reference end with the same activations and the same gate rows of the same arguments. -/
theorem algebraic2 : Cert.algebraic_Kernel2Ideal_Reference2Ideal := by
  intro m ρ m' ρ' _ hagree
  refine ⟨fun c => Gate.actArr (GateHost.argX m c) (GateHost.argG m c) (GateHost.argWg m c) (GateHost.argWu m c) (GateHost.argWc m c) (GateHost.argB m c),
    fun c => Gate.tailArr (GateHost.argX m c) (GateHost.argG m c) (GateHost.argWg m c), ?_, ?_⟩
  · refine (θ_run Cert.Kernel2Ideal.defs _ _).mono (fun _ h c => ⟨(h c).1.trans (Gate.final7 m c), (h c).2.1.trans (Gate.final8 m c), (h c).2.2⟩)
      (Cert.Kernel2Ideal.Value.run_blocks (F := Ideal) m ρ)
  · refine (θ_run Cert.Reference2Ideal.defs _ _).mono (fun _ h c => ⟨(h c).1.trans ?_, (h c).2.1.trans ?_, (h c).2.2⟩)
      (Cert.Reference2Ideal.Value.run (F := Ideal) m' ρ')
    · rw [GateRef.res_eq, (hagree c).1, (hagree c).2.1, (hagree c).2.2.1, (hagree c).2.2.2.1, (hagree c).2.2.2.2.1, (hagree c).2.2.2.2.2]
      exact funext fun i => GateRef.act_eq _ _ _ _ _ _ i
    · rw [(hagree c).1, (hagree c).2.1, (hagree c).2.2.1]
      exact funext fun i => GateRef.tail_eq _ _ _ i

/-! ## The down product of the feed-forward part -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

theorem preserves3 : Cert.preserves_Kernel3_Kernel3Ideal := trivial

/-- The kernel and the reference end with the same padded rows of the same arguments. -/
theorem algebraic3 : Cert.algebraic_Kernel3Ideal_Reference3Ideal := by
  intro m ρ m' ρ' _ hagree
  refine ⟨fun c => Down.outArr (Down.argA m c) (Down.argW m c) (Down.argX m c), ?_, ?_⟩
  · refine (θ_run Cert.Kernel3Ideal.defs _ _).mono (fun _ h c => ⟨(h c).1.trans (Down.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    rw [(hagree c).1, (hagree c).2.1, (hagree c).2.2]
    exact Down.reference _ _ _

/-! ## The gated linear unit of the convolution module -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

theorem preserves4 : Cert.preserves_Kernel4_Kernel4Ideal := trivial

/-- The kernel and the reference end with the same gated rows of the same arguments. -/
theorem algebraic4 : Cert.algebraic_Kernel4Ideal_Reference4Ideal := by
  intro m ρ m' ρ' _ hagree
  refine ⟨fun c => Glu.outArr (Glu.argX m c) (Glu.argG m c) (Glu.argW m c), ?_, ?_⟩
  · refine (θ_run Cert.Kernel4Ideal.defs _ _).mono (fun _ h c => ⟨(h c).1.trans (Glu.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [(hagree c).1, (hagree c).2.1, (hagree c).2.2]
    exact funext fun i => GluRef.out_eq _ _ _ i

/-! ## The projection of keys and values -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run m ρ)

theorem preserves5 : Cert.preserves_Kernel5_Kernel5Ideal := trivial

/-- The kernel and the reference end with the same keys and values of the same arguments, and the same padded rows of both. -/
theorem algebraic5 : Cert.algebraic_Kernel5Ideal_Reference5Ideal := by
  intro m ρ m' ρ' _ hagree
  refine ⟨fun c => Kv.seqArr (Kv.krow (Kv.argX m c) (Kv.argG m c) (Kv.argW m c) (Kv.argK m c)), fun c => Kv.seqArr (Kv.vrow (Kv.argX m c) (Kv.argG m c) (Kv.argW m c)),
    fun c => Kv.rowArr (Kv.krow (Kv.argX m c) (Kv.argG m c) (Kv.argW m c) (Kv.argK m c)), fun c => Kv.rowArr (Kv.vrow (Kv.argX m c) (Kv.argG m c) (Kv.argW m c)), ?_, ?_⟩
  · refine (θ_run Cert.Kernel5Ideal.defs _ _).mono (fun _ h c => ⟨(h c).1.trans (Kv.keys_final m c), (h c).2.1.trans (Kv.vals_final m c),
      (h c).2.2.1.trans (Kv.keyRows_final m c), (h c).2.2.2.1.trans (Kv.valRows_final m c), (h c).2.2.2.2⟩)
      (Cert.Kernel5Ideal.Value.run_blocks (F := Ideal) m ρ)
  · refine (θ_run Cert.Reference5Ideal.defs _ _).mono (fun _ h c => ⟨(h c).1.trans ?_, (h c).2.1.trans ?_, (h c).2.2.1.trans ?_, (h c).2.2.2.1.trans ?_,
      (h c).2.2.2.2⟩) (Cert.Reference5Ideal.Value.run (F := Ideal) m' ρ')
    · rw [(hagree c).1, (hagree c).2.1, (hagree c).2.2.1, (hagree c).2.2.2]
      exact funext fun i => KvRef.keys_eq _ _ _ _ i
    · rw [(hagree c).1, (hagree c).2.1, (hagree c).2.2.1]
      exact funext fun i => KvRef.vals_eq _ _ _ i
    · rw [(hagree c).1, (hagree c).2.1, (hagree c).2.2.1, (hagree c).2.2.2]
      exact funext fun i => KvRef.keyRows_eq _ _ _ _ i
    · rw [(hagree c).1, (hagree c).2.1, (hagree c).2.2.1]
      exact funext fun i => KvRef.valRows_eq _ _ _ i

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Claims.frame_kernel, Claims.frame_ideal, Claims.frame_reference,
  Claims.frame_kernel2, Claims.frame_ideal2, Claims.frame_reference2,
  Claims.frame_kernel3, Claims.frame_ideal3, Claims.frame_reference3,
  Claims.frame_kernel4, Claims.frame_ideal4, Claims.frame_reference4,
  Claims.frame_kernel5, Claims.frame_ideal5, Claims.frame_reference5,
  Claims.preserves, Claims.algebraic, Claims.preserves2, Claims.algebraic2, Claims.preserves3, Claims.algebraic3,
  Claims.preserves4, Claims.algebraic4, Claims.preserves5, Claims.algebraic5⟩

end Cert.Proof

end
